-- ==== Defs.lean ====
def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishRefIdeal (m : (ℓ : Loc Cert.FinishRefIdeal.nD Cert.FinishRefIdeal.τ Cert.FinishRefIdeal.sig) → Buf (Elt Ideal) ℓ) : Prop :=
  True

def Pre_FinishS (m : (ℓ : Loc Cert.FinishS.nD Cert.FinishS.τ Cert.FinishS.sig) → Buf (Elt Bits) ℓ) : Prop :=
  True

def Pre_FinishSIdeal (m : (ℓ : Loc Cert.FinishSIdeal.nD Cert.FinishSIdeal.τ Cert.FinishSIdeal.sig) → Buf (Elt Ideal) ℓ) : Prop :=
  True

def Pre_FinishSRefIdeal (m : (ℓ : Loc Cert.FinishSRefIdeal.nD Cert.FinishSRefIdeal.τ Cert.FinishSRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_LruS (m : (ℓ : Loc Cert.LruS.nD Cert.LruS.τ Cert.LruS.sig) → Buf (Elt Bits) ℓ) : Prop :=
  True

def Pre_LruSIdeal (m : (ℓ : Loc Cert.LruSIdeal.nD Cert.LruSIdeal.τ Cert.LruSIdeal.sig) → Buf (Elt Ideal) ℓ) : Prop :=
  True

def Pre_LruSRefIdeal (m : (ℓ : Loc Cert.LruSRefIdeal.nD Cert.LruSRefIdeal.τ Cert.LruSRefIdeal.sig) → Buf (Elt Ideal) ℓ) : Prop :=
  True

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6)
      ∧ r.2.mem ((c.tc : Thread Cert.Finish.nD Cert.Finish.τ).loc Cert.Finish.main_arg7) = m ((c.tc : Thread Cert.Finish.nD Cert.Finish.τ).loc Cert.Finish.main_arg7)
      ∧ r.2.mem ((c.tc : Thread Cert.Finish.nD Cert.Finish.τ).loc Cert.Finish.main_arg8) = m ((c.tc : Thread Cert.Finish.nD Cert.Finish.τ).loc Cert.Finish.main_arg8)
      ∧ r.2.mem ((c.tc : Thread Cert.Finish.nD Cert.Finish.τ).loc Cert.Finish.main_arg9) = m ((c.tc : Thread Cert.Finish.nD Cert.Finish.τ).loc Cert.Finish.main_arg9))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
      ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9))
      ∧ r.2.sem = fun _ => 0)

def quiescent_FinishRefIdeal [hFinishRefIdeal : Cert.FinishRefIdeal.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3)
      ∧ r.2.mem ((c.tc : Thread Cert.FinishRefIdeal.nD Cert.FinishRefIdeal.τ).loc Cert.FinishRefIdeal.main_arg4) = m ((c.tc : Thread Cert.FinishRefIdeal.nD Cert.FinishRefIdeal.τ).loc Cert.FinishRefIdeal.main_arg4)
      ∧ r.2.mem ((c.tc : Thread Cert.FinishRefIdeal.nD Cert.FinishRefIdeal.τ).loc Cert.FinishRefIdeal.main_arg5) = m ((c.tc : Thread Cert.FinishRefIdeal.nD Cert.FinishRefIdeal.τ).loc Cert.FinishRefIdeal.main_arg5)
      ∧ r.2.mem ((c.tc : Thread Cert.FinishRefIdeal.nD Cert.FinishRefIdeal.τ).loc Cert.FinishRefIdeal.main_arg6) = m ((c.tc : Thread Cert.FinishRefIdeal.nD Cert.FinishRefIdeal.τ).loc Cert.FinishRefIdeal.main_arg6)
      ∧ r.2.mem ((c.tc : Thread Cert.FinishRefIdeal.nD Cert.FinishRefIdeal.τ).loc Cert.FinishRefIdeal.main_arg7) = m ((c.tc : Thread Cert.FinishRefIdeal.nD Cert.FinishRefIdeal.τ).loc Cert.FinishRefIdeal.main_arg7)
      ∧ r.2.mem ((c.tc : Thread Cert.FinishRefIdeal.nD Cert.FinishRefIdeal.τ).loc Cert.FinishRefIdeal.main_arg8) = m ((c.tc : Thread Cert.FinishRefIdeal.nD Cert.FinishRefIdeal.τ).loc Cert.FinishRefIdeal.main_arg8)
      ∧ r.2.mem ((c.tc : Thread Cert.FinishRefIdeal.nD Cert.FinishRefIdeal.τ).loc Cert.FinishRefIdeal.main_arg9) = m ((c.tc : Thread Cert.FinishRefIdeal.nD Cert.FinishRefIdeal.τ).loc Cert.FinishRefIdeal.main_arg9))
      ∧ r.2.sem = fun _ => 0)

def quiescent_FinishS [hFinishS : Cert.FinishS.Facts] : Prop :=
  ∀ (m : (ℓ : Loc Cert.FinishS.nD Cert.FinishS.τ Cert.FinishS.sig) → Buf (Elt Bits) ℓ) (g : Dev Cert.FinishS.nD → PrngReg), Pre_FinishS m →
    θ_run (Cert.FinishS.defs (F := Bits)) (onTc (τ := Cert.FinishS.τ) (Cert.FinishS.main (F := Bits))) ⟨m, fun _ => 0, g⟩ (fun r => (∀ c : Dev Cert.FinishS.nD,
      r.2.mem ((c.tc : Thread Cert.FinishS.nD Cert.FinishS.τ).loc Cert.FinishS.main_arg0) = m ((c.tc : Thread Cert.FinishS.nD Cert.FinishS.τ).loc Cert.FinishS.main_arg0)
      ∧ r.2.mem ((c.tc : Thread Cert.FinishS.nD Cert.FinishS.τ).loc Cert.FinishS.main_arg1) = m ((c.tc : Thread Cert.FinishS.nD Cert.FinishS.τ).loc Cert.FinishS.main_arg1)
      ∧ r.2.mem ((c.tc : Thread Cert.FinishS.nD Cert.FinishS.τ).loc Cert.FinishS.main_arg2) = m ((c.tc : Thread Cert.FinishS.nD Cert.FinishS.τ).loc Cert.FinishS.main_arg2)
      ∧ r.2.mem ((c.tc : Thread Cert.FinishS.nD Cert.FinishS.τ).loc Cert.FinishS.main_arg3) = m ((c.tc : Thread Cert.FinishS.nD Cert.FinishS.τ).loc Cert.FinishS.main_arg3)
      ∧ r.2.mem ((c.tc : Thread Cert.FinishS.nD Cert.FinishS.τ).loc Cert.FinishS.main_arg4) = m ((c.tc : Thread Cert.FinishS.nD Cert.FinishS.τ).loc Cert.FinishS.main_arg4)
      ∧ r.2.mem ((c.tc : Thread Cert.FinishS.nD Cert.FinishS.τ).loc Cert.FinishS.main_arg5) = m ((c.tc : Thread Cert.FinishS.nD Cert.FinishS.τ).loc Cert.FinishS.main_arg5)
      ∧ r.2.mem ((c.tc : Thread Cert.FinishS.nD Cert.FinishS.τ).loc Cert.FinishS.main_arg6) = m ((c.tc : Thread Cert.FinishS.nD Cert.FinishS.τ).loc Cert.FinishS.main_arg6)
      ∧ r.2.mem ((c.tc : Thread Cert.FinishS.nD Cert.FinishS.τ).loc Cert.FinishS.main_arg7) = m ((c.tc : Thread Cert.FinishS.nD Cert.FinishS.τ).loc Cert.FinishS.main_arg7)
      ∧ r.2.mem ((c.tc : Thread Cert.FinishS.nD Cert.FinishS.τ).loc Cert.FinishS.main_arg8) = m ((c.tc : Thread Cert.FinishS.nD Cert.FinishS.τ).loc Cert.FinishS.main_arg8)
      ∧ r.2.mem ((c.tc : Thread Cert.FinishS.nD Cert.FinishS.τ).loc Cert.FinishS.main_arg9) = m ((c.tc : Thread Cert.FinishS.nD Cert.FinishS.τ).loc Cert.FinishS.main_arg9))
      ∧ r.2.sem = fun _ => 0)

def quiescent_FinishSIdeal [hFinishSIdeal : Cert.FinishSIdeal.Facts] : Prop :=
  ∀ (m : (ℓ : Loc Cert.FinishSIdeal.nD Cert.FinishSIdeal.τ Cert.FinishSIdeal.sig) → Buf (Elt Ideal) ℓ) (g : Dev Cert.FinishSIdeal.nD → PrngReg), Pre_FinishSIdeal m →
    θ_run (Cert.FinishSIdeal.defs (F := Ideal)) (onTc (τ := Cert.FinishSIdeal.τ) (Cert.FinishSIdeal.main (F := Ideal))) ⟨m, fun _ => 0, g⟩ (fun r => (∀ c : Dev Cert.FinishSIdeal.nD,
      r.2.mem ((c.tc : Thread Cert.FinishSIdeal.nD Cert.FinishSIdeal.τ).loc Cert.FinishSIdeal.main_arg0) = m ((c.tc : Thread Cert.FinishSIdeal.nD Cert.FinishSIdeal.τ).loc Cert.FinishSIdeal.main_arg0)
      ∧ r.2.mem ((c.tc : Thread Cert.FinishSIdeal.nD Cert.FinishSIdeal.τ).loc Cert.FinishSIdeal.main_arg1) = m ((c.tc : Thread Cert.FinishSIdeal.nD Cert.FinishSIdeal.τ).loc Cert.FinishSIdeal.main_arg1)
      ∧ r.2.mem ((c.tc : Thread Cert.FinishSIdeal.nD Cert.FinishSIdeal.τ).loc Cert.FinishSIdeal.main_arg2) = m ((c.tc : Thread Cert.FinishSIdeal.nD Cert.FinishSIdeal.τ).loc Cert.FinishSIdeal.main_arg2)
      ∧ r.2.mem ((c.tc : Thread Cert.FinishSIdeal.nD Cert.FinishSIdeal.τ).loc Cert.FinishSIdeal.main_arg3) = m ((c.tc : Thread Cert.FinishSIdeal.nD Cert.FinishSIdeal.τ).loc Cert.FinishSIdeal.main_arg3)
      ∧ r.2.mem ((c.tc : Thread Cert.FinishSIdeal.nD Cert.FinishSIdeal.τ).loc Cert.FinishSIdeal.main_arg4) = m ((c.tc : Thread Cert.FinishSIdeal.nD Cert.FinishSIdeal.τ).loc Cert.FinishSIdeal.main_arg4)
      ∧ r.2.mem ((c.tc : Thread Cert.FinishSIdeal.nD Cert.FinishSIdeal.τ).loc Cert.FinishSIdeal.main_arg5) = m ((c.tc : Thread Cert.FinishSIdeal.nD Cert.FinishSIdeal.τ).loc Cert.FinishSIdeal.main_arg5)
      ∧ r.2.mem ((c.tc : Thread Cert.FinishSIdeal.nD Cert.FinishSIdeal.τ).loc Cert.FinishSIdeal.main_arg6) = m ((c.tc : Thread Cert.FinishSIdeal.nD Cert.FinishSIdeal.τ).loc Cert.FinishSIdeal.main_arg6)
      ∧ r.2.mem ((c.tc : Thread Cert.FinishSIdeal.nD Cert.FinishSIdeal.τ).loc Cert.FinishSIdeal.main_arg7) = m ((c.tc : Thread Cert.FinishSIdeal.nD Cert.FinishSIdeal.τ).loc Cert.FinishSIdeal.main_arg7)
      ∧ r.2.mem ((c.tc : Thread Cert.FinishSIdeal.nD Cert.FinishSIdeal.τ).loc Cert.FinishSIdeal.main_arg8) = m ((c.tc : Thread Cert.FinishSIdeal.nD Cert.FinishSIdeal.τ).loc Cert.FinishSIdeal.main_arg8)
      ∧ r.2.mem ((c.tc : Thread Cert.FinishSIdeal.nD Cert.FinishSIdeal.τ).loc Cert.FinishSIdeal.main_arg9) = m ((c.tc : Thread Cert.FinishSIdeal.nD Cert.FinishSIdeal.τ).loc Cert.FinishSIdeal.main_arg9))
      ∧ r.2.sem = fun _ => 0)

def quiescent_FinishSRefIdeal [hFinishSRefIdeal : Cert.FinishSRefIdeal.Facts] : Prop :=
  ∀ (m : (ℓ : Loc Cert.FinishSRefIdeal.nD Cert.FinishSRefIdeal.τ Cert.FinishSRefIdeal.sig) → Buf (Elt Ideal) ℓ) (g : Dev Cert.FinishSRefIdeal.nD → PrngReg), Pre_FinishSRefIdeal m →
    θ_run (Cert.FinishSRefIdeal.defs (F := Ideal)) (onTc (τ := Cert.FinishSRefIdeal.τ) (Cert.FinishSRefIdeal.main (F := Ideal))) ⟨m, fun _ => 0, g⟩ (fun r => (∀ c : Dev Cert.FinishSRefIdeal.nD,
      r.2.mem ((c.tc : Thread Cert.FinishSRefIdeal.nD Cert.FinishSRefIdeal.τ).loc Cert.FinishSRefIdeal.main_arg0) = m ((c.tc : Thread Cert.FinishSRefIdeal.nD Cert.FinishSRefIdeal.τ).loc Cert.FinishSRefIdeal.main_arg0)
      ∧ r.2.mem ((c.tc : Thread Cert.FinishSRefIdeal.nD Cert.FinishSRefIdeal.τ).loc Cert.FinishSRefIdeal.main_arg1) = m ((c.tc : Thread Cert.FinishSRefIdeal.nD Cert.FinishSRefIdeal.τ).loc Cert.FinishSRefIdeal.main_arg1)
      ∧ r.2.mem ((c.tc : Thread Cert.FinishSRefIdeal.nD Cert.FinishSRefIdeal.τ).loc Cert.FinishSRefIdeal.main_arg2) = m ((c.tc : Thread Cert.FinishSRefIdeal.nD Cert.FinishSRefIdeal.τ).loc Cert.FinishSRefIdeal.main_arg2)
      ∧ r.2.mem ((c.tc : Thread Cert.FinishSRefIdeal.nD Cert.FinishSRefIdeal.τ).loc Cert.FinishSRefIdeal.main_arg3) = m ((c.tc : Thread Cert.FinishSRefIdeal.nD Cert.FinishSRefIdeal.τ).loc Cert.FinishSRefIdeal.main_arg3)
      ∧ r.2.mem ((c.tc : Thread Cert.FinishSRefIdeal.nD Cert.FinishSRefIdeal.τ).loc Cert.FinishSRefIdeal.main_arg4) = m ((c.tc : Thread Cert.FinishSRefIdeal.nD Cert.FinishSRefIdeal.τ).loc Cert.FinishSRefIdeal.main_arg4)
      ∧ r.2.mem ((c.tc : Thread Cert.FinishSRefIdeal.nD Cert.FinishSRefIdeal.τ).loc Cert.FinishSRefIdeal.main_arg5) = m ((c.tc : Thread Cert.FinishSRefIdeal.nD Cert.FinishSRefIdeal.τ).loc Cert.FinishSRefIdeal.main_arg5)
      ∧ r.2.mem ((c.tc : Thread Cert.FinishSRefIdeal.nD Cert.FinishSRefIdeal.τ).loc Cert.FinishSRefIdeal.main_arg6) = m ((c.tc : Thread Cert.FinishSRefIdeal.nD Cert.FinishSRefIdeal.τ).loc Cert.FinishSRefIdeal.main_arg6)
      ∧ r.2.mem ((c.tc : Thread Cert.FinishSRefIdeal.nD Cert.FinishSRefIdeal.τ).loc Cert.FinishSRefIdeal.main_arg7) = m ((c.tc : Thread Cert.FinishSRefIdeal.nD Cert.FinishSRefIdeal.τ).loc Cert.FinishSRefIdeal.main_arg7)
      ∧ r.2.mem ((c.tc : Thread Cert.FinishSRefIdeal.nD Cert.FinishSRefIdeal.τ).loc Cert.FinishSRefIdeal.main_arg8) = m ((c.tc : Thread Cert.FinishSRefIdeal.nD Cert.FinishSRefIdeal.τ).loc Cert.FinishSRefIdeal.main_arg8)
      ∧ r.2.mem ((c.tc : Thread Cert.FinishSRefIdeal.nD Cert.FinishSRefIdeal.τ).loc Cert.FinishSRefIdeal.main_arg9) = m ((c.tc : Thread Cert.FinishSRefIdeal.nD Cert.FinishSRefIdeal.τ).loc Cert.FinishSRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1))
      ∧ r.2.sem = fun _ => 0)

def quiescent_LruS [hLruS : Cert.LruS.Facts] : Prop :=
  ∀ (m : (ℓ : Loc Cert.LruS.nD Cert.LruS.τ Cert.LruS.sig) → Buf (Elt Bits) ℓ) (g : Dev Cert.LruS.nD → PrngReg), Pre_LruS m →
    θ_run (Cert.LruS.defs (F := Bits)) (onTc (τ := Cert.LruS.τ) (Cert.LruS.main (F := Bits))) ⟨m, fun _ => 0, g⟩ (fun r => (∀ c : Dev Cert.LruS.nD,
      r.2.mem ((c.tc : Thread Cert.LruS.nD Cert.LruS.τ).loc Cert.LruS.main_arg0) = m ((c.tc : Thread Cert.LruS.nD Cert.LruS.τ).loc Cert.LruS.main_arg0)
      ∧ r.2.mem ((c.tc : Thread Cert.LruS.nD Cert.LruS.τ).loc Cert.LruS.main_arg1) = m ((c.tc : Thread Cert.LruS.nD Cert.LruS.τ).loc Cert.LruS.main_arg1)
      ∧ r.2.mem ((c.tc : Thread Cert.LruS.nD Cert.LruS.τ).loc Cert.LruS.main_arg2) = m ((c.tc : Thread Cert.LruS.nD Cert.LruS.τ).loc Cert.LruS.main_arg2)
      ∧ r.2.mem ((c.tc : Thread Cert.LruS.nD Cert.LruS.τ).loc Cert.LruS.main_arg3) = m ((c.tc : Thread Cert.LruS.nD Cert.LruS.τ).loc Cert.LruS.main_arg3)
      ∧ r.2.mem ((c.tc : Thread Cert.LruS.nD Cert.LruS.τ).loc Cert.LruS.main_arg4) = m ((c.tc : Thread Cert.LruS.nD Cert.LruS.τ).loc Cert.LruS.main_arg4)
      ∧ r.2.mem ((c.tc : Thread Cert.LruS.nD Cert.LruS.τ).loc Cert.LruS.main_arg5) = m ((c.tc : Thread Cert.LruS.nD Cert.LruS.τ).loc Cert.LruS.main_arg5)
      ∧ r.2.mem ((c.tc : Thread Cert.LruS.nD Cert.LruS.τ).loc Cert.LruS.main_arg6) = m ((c.tc : Thread Cert.LruS.nD Cert.LruS.τ).loc Cert.LruS.main_arg6)
      ∧ r.2.mem ((c.tc : Thread Cert.LruS.nD Cert.LruS.τ).loc Cert.LruS.main_arg7) = m ((c.tc : Thread Cert.LruS.nD Cert.LruS.τ).loc Cert.LruS.main_arg7)
      ∧ r.2.mem ((c.tc : Thread Cert.LruS.nD Cert.LruS.τ).loc Cert.LruS.main_arg8) = m ((c.tc : Thread Cert.LruS.nD Cert.LruS.τ).loc Cert.LruS.main_arg8)
      ∧ r.2.mem ((c.tc : Thread Cert.LruS.nD Cert.LruS.τ).loc Cert.LruS.main_arg9) = m ((c.tc : Thread Cert.LruS.nD Cert.LruS.τ).loc Cert.LruS.main_arg9)
      ∧ r.2.mem ((c.tc : Thread Cert.LruS.nD Cert.LruS.τ).loc Cert.LruS.main_arg10) = m ((c.tc : Thread Cert.LruS.nD Cert.LruS.τ).loc Cert.LruS.main_arg10)
      ∧ r.2.mem ((c.tc : Thread Cert.LruS.nD Cert.LruS.τ).loc Cert.LruS.main_arg11) = m ((c.tc : Thread Cert.LruS.nD Cert.LruS.τ).loc Cert.LruS.main_arg11))
      ∧ r.2.sem = fun _ => 0)

def quiescent_LruSIdeal [hLruSIdeal : Cert.LruSIdeal.Facts] : Prop :=
  ∀ (m : (ℓ : Loc Cert.LruSIdeal.nD Cert.LruSIdeal.τ Cert.LruSIdeal.sig) → Buf (Elt Ideal) ℓ) (g : Dev Cert.LruSIdeal.nD → PrngReg), Pre_LruSIdeal m →
    θ_run (Cert.LruSIdeal.defs (F := Ideal)) (onTc (τ := Cert.LruSIdeal.τ) (Cert.LruSIdeal.main (F := Ideal))) ⟨m, fun _ => 0, g⟩ (fun r => (∀ c : Dev Cert.LruSIdeal.nD,
      r.2.mem ((c.tc : Thread Cert.LruSIdeal.nD Cert.LruSIdeal.τ).loc Cert.LruSIdeal.main_arg0) = m ((c.tc : Thread Cert.LruSIdeal.nD Cert.LruSIdeal.τ).loc Cert.LruSIdeal.main_arg0)
      ∧ r.2.mem ((c.tc : Thread Cert.LruSIdeal.nD Cert.LruSIdeal.τ).loc Cert.LruSIdeal.main_arg1) = m ((c.tc : Thread Cert.LruSIdeal.nD Cert.LruSIdeal.τ).loc Cert.LruSIdeal.main_arg1)
      ∧ r.2.mem ((c.tc : Thread Cert.LruSIdeal.nD Cert.LruSIdeal.τ).loc Cert.LruSIdeal.main_arg2) = m ((c.tc : Thread Cert.LruSIdeal.nD Cert.LruSIdeal.τ).loc Cert.LruSIdeal.main_arg2)
      ∧ r.2.mem ((c.tc : Thread Cert.LruSIdeal.nD Cert.LruSIdeal.τ).loc Cert.LruSIdeal.main_arg3) = m ((c.tc : Thread Cert.LruSIdeal.nD Cert.LruSIdeal.τ).loc Cert.LruSIdeal.main_arg3)
      ∧ r.2.mem ((c.tc : Thread Cert.LruSIdeal.nD Cert.LruSIdeal.τ).loc Cert.LruSIdeal.main_arg4) = m ((c.tc : Thread Cert.LruSIdeal.nD Cert.LruSIdeal.τ).loc Cert.LruSIdeal.main_arg4)
      ∧ r.2.mem ((c.tc : Thread Cert.LruSIdeal.nD Cert.LruSIdeal.τ).loc Cert.LruSIdeal.main_arg5) = m ((c.tc : Thread Cert.LruSIdeal.nD Cert.LruSIdeal.τ).loc Cert.LruSIdeal.main_arg5)
      ∧ r.2.mem ((c.tc : Thread Cert.LruSIdeal.nD Cert.LruSIdeal.τ).loc Cert.LruSIdeal.main_arg6) = m ((c.tc : Thread Cert.LruSIdeal.nD Cert.LruSIdeal.τ).loc Cert.LruSIdeal.main_arg6)
      ∧ r.2.mem ((c.tc : Thread Cert.LruSIdeal.nD Cert.LruSIdeal.τ).loc Cert.LruSIdeal.main_arg7) = m ((c.tc : Thread Cert.LruSIdeal.nD Cert.LruSIdeal.τ).loc Cert.LruSIdeal.main_arg7)
      ∧ r.2.mem ((c.tc : Thread Cert.LruSIdeal.nD Cert.LruSIdeal.τ).loc Cert.LruSIdeal.main_arg8) = m ((c.tc : Thread Cert.LruSIdeal.nD Cert.LruSIdeal.τ).loc Cert.LruSIdeal.main_arg8)
      ∧ r.2.mem ((c.tc : Thread Cert.LruSIdeal.nD Cert.LruSIdeal.τ).loc Cert.LruSIdeal.main_arg9) = m ((c.tc : Thread Cert.LruSIdeal.nD Cert.LruSIdeal.τ).loc Cert.LruSIdeal.main_arg9)
      ∧ r.2.mem ((c.tc : Thread Cert.LruSIdeal.nD Cert.LruSIdeal.τ).loc Cert.LruSIdeal.main_arg10) = m ((c.tc : Thread Cert.LruSIdeal.nD Cert.LruSIdeal.τ).loc Cert.LruSIdeal.main_arg10)
      ∧ r.2.mem ((c.tc : Thread Cert.LruSIdeal.nD Cert.LruSIdeal.τ).loc Cert.LruSIdeal.main_arg11) = m ((c.tc : Thread Cert.LruSIdeal.nD Cert.LruSIdeal.τ).loc Cert.LruSIdeal.main_arg11))
      ∧ r.2.sem = fun _ => 0)

def quiescent_LruSRefIdeal [hLruSRefIdeal : Cert.LruSRefIdeal.Facts] : Prop :=
  ∀ (m : (ℓ : Loc Cert.LruSRefIdeal.nD Cert.LruSRefIdeal.τ Cert.LruSRefIdeal.sig) → Buf (Elt Ideal) ℓ) (g : Dev Cert.LruSRefIdeal.nD → PrngReg), Pre_LruSRefIdeal m →
    θ_run (Cert.LruSRefIdeal.defs (F := Ideal)) (onTc (τ := Cert.LruSRefIdeal.τ) (Cert.LruSRefIdeal.main (F := Ideal))) ⟨m, fun _ => 0, g⟩ (fun r => (∀ c : Dev Cert.LruSRefIdeal.nD,
      r.2.mem ((c.tc : Thread Cert.LruSRefIdeal.nD Cert.LruSRefIdeal.τ).loc Cert.LruSRefIdeal.main_arg0) = m ((c.tc : Thread Cert.LruSRefIdeal.nD Cert.LruSRefIdeal.τ).loc Cert.LruSRefIdeal.main_arg0)
      ∧ r.2.mem ((c.tc : Thread Cert.LruSRefIdeal.nD Cert.LruSRefIdeal.τ).loc Cert.LruSRefIdeal.main_arg1) = m ((c.tc : Thread Cert.LruSRefIdeal.nD Cert.LruSRefIdeal.τ).loc Cert.LruSRefIdeal.main_arg1)
      ∧ r.2.mem ((c.tc : Thread Cert.LruSRefIdeal.nD Cert.LruSRefIdeal.τ).loc Cert.LruSRefIdeal.main_arg2) = m ((c.tc : Thread Cert.LruSRefIdeal.nD Cert.LruSRefIdeal.τ).loc Cert.LruSRefIdeal.main_arg2)
      ∧ r.2.mem ((c.tc : Thread Cert.LruSRefIdeal.nD Cert.LruSRefIdeal.τ).loc Cert.LruSRefIdeal.main_arg3) = m ((c.tc : Thread Cert.LruSRefIdeal.nD Cert.LruSRefIdeal.τ).loc Cert.LruSRefIdeal.main_arg3)
      ∧ r.2.mem ((c.tc : Thread Cert.LruSRefIdeal.nD Cert.LruSRefIdeal.τ).loc Cert.LruSRefIdeal.main_arg4) = m ((c.tc : Thread Cert.LruSRefIdeal.nD Cert.LruSRefIdeal.τ).loc Cert.LruSRefIdeal.main_arg4)
      ∧ r.2.mem ((c.tc : Thread Cert.LruSRefIdeal.nD Cert.LruSRefIdeal.τ).loc Cert.LruSRefIdeal.main_arg5) = m ((c.tc : Thread Cert.LruSRefIdeal.nD Cert.LruSRefIdeal.τ).loc Cert.LruSRefIdeal.main_arg5)
      ∧ r.2.mem ((c.tc : Thread Cert.LruSRefIdeal.nD Cert.LruSRefIdeal.τ).loc Cert.LruSRefIdeal.main_arg6) = m ((c.tc : Thread Cert.LruSRefIdeal.nD Cert.LruSRefIdeal.τ).loc Cert.LruSRefIdeal.main_arg6)
      ∧ r.2.mem ((c.tc : Thread Cert.LruSRefIdeal.nD Cert.LruSRefIdeal.τ).loc Cert.LruSRefIdeal.main_arg7) = m ((c.tc : Thread Cert.LruSRefIdeal.nD Cert.LruSRefIdeal.τ).loc Cert.LruSRefIdeal.main_arg7)
      ∧ r.2.mem ((c.tc : Thread Cert.LruSRefIdeal.nD Cert.LruSRefIdeal.τ).loc Cert.LruSRefIdeal.main_arg8) = m ((c.tc : Thread Cert.LruSRefIdeal.nD Cert.LruSRefIdeal.τ).loc Cert.LruSRefIdeal.main_arg8)
      ∧ r.2.mem ((c.tc : Thread Cert.LruSRefIdeal.nD Cert.LruSRefIdeal.τ).loc Cert.LruSRefIdeal.main_arg9) = m ((c.tc : Thread Cert.LruSRefIdeal.nD Cert.LruSRefIdeal.τ).loc Cert.LruSRefIdeal.main_arg9)
      ∧ r.2.mem ((c.tc : Thread Cert.LruSRefIdeal.nD Cert.LruSRefIdeal.τ).loc Cert.LruSRefIdeal.main_arg10) = m ((c.tc : Thread Cert.LruSRefIdeal.nD Cert.LruSRefIdeal.τ).loc Cert.LruSRefIdeal.main_arg10)
      ∧ r.2.mem ((c.tc : Thread Cert.LruSRefIdeal.nD Cert.LruSRefIdeal.τ).loc Cert.LruSRefIdeal.main_arg11) = m ((c.tc : Thread Cert.LruSRefIdeal.nD Cert.LruSRefIdeal.τ).loc Cert.LruSRefIdeal.main_arg11))
      ∧ r.2.sem = fun _ => 0)

def preserves_Finish_FinishIdeal : Prop :=
  True

def algebraic_FinishIdeal_FinishRefIdeal [hFinishIdeal : Cert.FinishIdeal.Facts] [hFinishRefIdeal : Cert.FinishRefIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishRefIdeal.nD Cert.FinishRefIdeal.τ Cert.FinishRefIdeal.sig) → Buf (Elt Ideal) ℓ) (g' : Dev Cert.FinishRefIdeal.nD → PrngReg), Pre_FinishIdeal m →
    (∀ c : Dev Cert.FinishIdeal.nD,
      m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)
      ∧ m' ((c.tc : Thread Cert.FinishRefIdeal.nD Cert.FinishRefIdeal.τ).loc Cert.FinishRefIdeal.main_arg2) = m ((c.tc : Thread Cert.FinishIdeal.nD Cert.FinishIdeal.τ).loc Cert.FinishIdeal.main_arg2)
      ∧ m' ((c.tc : Thread Cert.FinishRefIdeal.nD Cert.FinishRefIdeal.τ).loc Cert.FinishRefIdeal.main_arg3) = m ((c.tc : Thread Cert.FinishIdeal.nD Cert.FinishIdeal.τ).loc Cert.FinishIdeal.main_arg3)
      ∧ m' ((c.tc : Thread Cert.FinishRefIdeal.nD Cert.FinishRefIdeal.τ).loc Cert.FinishRefIdeal.main_arg4) = m ((c.tc : Thread Cert.FinishIdeal.nD Cert.FinishIdeal.τ).loc Cert.FinishIdeal.main_arg4)
      ∧ m' ((c.tc : Thread Cert.FinishRefIdeal.nD Cert.FinishRefIdeal.τ).loc Cert.FinishRefIdeal.main_arg5) = m ((c.tc : Thread Cert.FinishIdeal.nD Cert.FinishIdeal.τ).loc Cert.FinishIdeal.main_arg5)
      ∧ m' ((c.tc : Thread Cert.FinishRefIdeal.nD Cert.FinishRefIdeal.τ).loc Cert.FinishRefIdeal.main_arg6) = m ((c.tc : Thread Cert.FinishIdeal.nD Cert.FinishIdeal.τ).loc Cert.FinishIdeal.main_arg6)
      ∧ m' ((c.tc : Thread Cert.FinishRefIdeal.nD Cert.FinishRefIdeal.τ).loc Cert.FinishRefIdeal.main_arg7) = m ((c.tc : Thread Cert.FinishIdeal.nD Cert.FinishIdeal.τ).loc Cert.FinishIdeal.main_arg7)
      ∧ m' ((c.tc : Thread Cert.FinishRefIdeal.nD Cert.FinishRefIdeal.τ).loc Cert.FinishRefIdeal.main_arg8) = m ((c.tc : Thread Cert.FinishIdeal.nD Cert.FinishIdeal.τ).loc Cert.FinishIdeal.main_arg8)
      ∧ m' ((c.tc : Thread Cert.FinishRefIdeal.nD Cert.FinishRefIdeal.τ).loc Cert.FinishRefIdeal.main_arg9) = m ((c.tc : Thread Cert.FinishIdeal.nD Cert.FinishIdeal.τ).loc Cert.FinishIdeal.main_arg9)) →
    ∃ (v0 : (c : Dev Cert.FinishIdeal.nD) → Buf (Elt Ideal) ((c.tc : Thread Cert.FinishIdeal.nD Cert.FinishIdeal.τ).loc Cert.FinishIdeal.main_v15)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v15) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
          ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
          ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
          ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9))
      ∧ θ_run (Cert.FinishRefIdeal.defs (F := Ideal)) (onTc (τ := Cert.FinishRefIdeal.τ) (Cert.FinishRefIdeal.main (F := Ideal))) ⟨m', fun _ => 0, g'⟩ (fun r => ∀ c : Dev Cert.FinishRefIdeal.nD,
          r.2.mem ((c.tc : Thread Cert.FinishRefIdeal.nD Cert.FinishRefIdeal.τ).loc Cert.FinishRefIdeal.main_v70) = v0 c
          ∧ r.2.mem ((c.tc : Thread Cert.FinishRefIdeal.nD Cert.FinishRefIdeal.τ).loc Cert.FinishRefIdeal.main_arg0) = m' ((c.tc : Thread Cert.FinishRefIdeal.nD Cert.FinishRefIdeal.τ).loc Cert.FinishRefIdeal.main_arg0)
          ∧ r.2.mem ((c.tc : Thread Cert.FinishRefIdeal.nD Cert.FinishRefIdeal.τ).loc Cert.FinishRefIdeal.main_arg1) = m' ((c.tc : Thread Cert.FinishRefIdeal.nD Cert.FinishRefIdeal.τ).loc Cert.FinishRefIdeal.main_arg1)
          ∧ r.2.mem ((c.tc : Thread Cert.FinishRefIdeal.nD Cert.FinishRefIdeal.τ).loc Cert.FinishRefIdeal.main_arg2) = m' ((c.tc : Thread Cert.FinishRefIdeal.nD Cert.FinishRefIdeal.τ).loc Cert.FinishRefIdeal.main_arg2)
          ∧ r.2.mem ((c.tc : Thread Cert.FinishRefIdeal.nD Cert.FinishRefIdeal.τ).loc Cert.FinishRefIdeal.main_arg3) = m' ((c.tc : Thread Cert.FinishRefIdeal.nD Cert.FinishRefIdeal.τ).loc Cert.FinishRefIdeal.main_arg3)
          ∧ r.2.mem ((c.tc : Thread Cert.FinishRefIdeal.nD Cert.FinishRefIdeal.τ).loc Cert.FinishRefIdeal.main_arg4) = m' ((c.tc : Thread Cert.FinishRefIdeal.nD Cert.FinishRefIdeal.τ).loc Cert.FinishRefIdeal.main_arg4)
          ∧ r.2.mem ((c.tc : Thread Cert.FinishRefIdeal.nD Cert.FinishRefIdeal.τ).loc Cert.FinishRefIdeal.main_arg5) = m' ((c.tc : Thread Cert.FinishRefIdeal.nD Cert.FinishRefIdeal.τ).loc Cert.FinishRefIdeal.main_arg5)
          ∧ r.2.mem ((c.tc : Thread Cert.FinishRefIdeal.nD Cert.FinishRefIdeal.τ).loc Cert.FinishRefIdeal.main_arg6) = m' ((c.tc : Thread Cert.FinishRefIdeal.nD Cert.FinishRefIdeal.τ).loc Cert.FinishRefIdeal.main_arg6)
          ∧ r.2.mem ((c.tc : Thread Cert.FinishRefIdeal.nD Cert.FinishRefIdeal.τ).loc Cert.FinishRefIdeal.main_arg7) = m' ((c.tc : Thread Cert.FinishRefIdeal.nD Cert.FinishRefIdeal.τ).loc Cert.FinishRefIdeal.main_arg7)
          ∧ r.2.mem ((c.tc : Thread Cert.FinishRefIdeal.nD Cert.FinishRefIdeal.τ).loc Cert.FinishRefIdeal.main_arg8) = m' ((c.tc : Thread Cert.FinishRefIdeal.nD Cert.FinishRefIdeal.τ).loc Cert.FinishRefIdeal.main_arg8)
          ∧ r.2.mem ((c.tc : Thread Cert.FinishRefIdeal.nD Cert.FinishRefIdeal.τ).loc Cert.FinishRefIdeal.main_arg9) = m' ((c.tc : Thread Cert.FinishRefIdeal.nD Cert.FinishRefIdeal.τ).loc Cert.FinishRefIdeal.main_arg9))

def preserves_FinishS_FinishSIdeal : Prop :=
  True

def algebraic_FinishSIdeal_FinishSRefIdeal [hFinishSIdeal : Cert.FinishSIdeal.Facts] [hFinishSRefIdeal : Cert.FinishSRefIdeal.Facts] : Prop :=
  ∀ (m : (ℓ : Loc Cert.FinishSIdeal.nD Cert.FinishSIdeal.τ Cert.FinishSIdeal.sig) → Buf (Elt Ideal) ℓ) (g : Dev Cert.FinishSIdeal.nD → PrngReg)
    (m' : (ℓ : Loc Cert.FinishSRefIdeal.nD Cert.FinishSRefIdeal.τ Cert.FinishSRefIdeal.sig) → Buf (Elt Ideal) ℓ) (g' : Dev Cert.FinishSRefIdeal.nD → PrngReg), Pre_FinishSIdeal m →
    (∀ c : Dev Cert.FinishSIdeal.nD,
      m' ((c.tc : Thread Cert.FinishSRefIdeal.nD Cert.FinishSRefIdeal.τ).loc Cert.FinishSRefIdeal.main_arg0) = m ((c.tc : Thread Cert.FinishSIdeal.nD Cert.FinishSIdeal.τ).loc Cert.FinishSIdeal.main_arg0)
      ∧ m' ((c.tc : Thread Cert.FinishSRefIdeal.nD Cert.FinishSRefIdeal.τ).loc Cert.FinishSRefIdeal.main_arg1) = m ((c.tc : Thread Cert.FinishSIdeal.nD Cert.FinishSIdeal.τ).loc Cert.FinishSIdeal.main_arg1)
      ∧ m' ((c.tc : Thread Cert.FinishSRefIdeal.nD Cert.FinishSRefIdeal.τ).loc Cert.FinishSRefIdeal.main_arg2) = m ((c.tc : Thread Cert.FinishSIdeal.nD Cert.FinishSIdeal.τ).loc Cert.FinishSIdeal.main_arg2)
      ∧ m' ((c.tc : Thread Cert.FinishSRefIdeal.nD Cert.FinishSRefIdeal.τ).loc Cert.FinishSRefIdeal.main_arg3) = m ((c.tc : Thread Cert.FinishSIdeal.nD Cert.FinishSIdeal.τ).loc Cert.FinishSIdeal.main_arg3)
      ∧ m' ((c.tc : Thread Cert.FinishSRefIdeal.nD Cert.FinishSRefIdeal.τ).loc Cert.FinishSRefIdeal.main_arg4) = m ((c.tc : Thread Cert.FinishSIdeal.nD Cert.FinishSIdeal.τ).loc Cert.FinishSIdeal.main_arg4)
      ∧ m' ((c.tc : Thread Cert.FinishSRefIdeal.nD Cert.FinishSRefIdeal.τ).loc Cert.FinishSRefIdeal.main_arg5) = m ((c.tc : Thread Cert.FinishSIdeal.nD Cert.FinishSIdeal.τ).loc Cert.FinishSIdeal.main_arg5)
      ∧ m' ((c.tc : Thread Cert.FinishSRefIdeal.nD Cert.FinishSRefIdeal.τ).loc Cert.FinishSRefIdeal.main_arg6) = m ((c.tc : Thread Cert.FinishSIdeal.nD Cert.FinishSIdeal.τ).loc Cert.FinishSIdeal.main_arg6)
      ∧ m' ((c.tc : Thread Cert.FinishSRefIdeal.nD Cert.FinishSRefIdeal.τ).loc Cert.FinishSRefIdeal.main_arg7) = m ((c.tc : Thread Cert.FinishSIdeal.nD Cert.FinishSIdeal.τ).loc Cert.FinishSIdeal.main_arg7)
      ∧ m' ((c.tc : Thread Cert.FinishSRefIdeal.nD Cert.FinishSRefIdeal.τ).loc Cert.FinishSRefIdeal.main_arg8) = m ((c.tc : Thread Cert.FinishSIdeal.nD Cert.FinishSIdeal.τ).loc Cert.FinishSIdeal.main_arg8)
      ∧ m' ((c.tc : Thread Cert.FinishSRefIdeal.nD Cert.FinishSRefIdeal.τ).loc Cert.FinishSRefIdeal.main_arg9) = m ((c.tc : Thread Cert.FinishSIdeal.nD Cert.FinishSIdeal.τ).loc Cert.FinishSIdeal.main_arg9)) →
    ∃ (v0 : (c : Dev Cert.FinishSIdeal.nD) → Buf (Elt Ideal) ((c.tc : Thread Cert.FinishSIdeal.nD Cert.FinishSIdeal.τ).loc Cert.FinishSIdeal.main_v15)),
      θ_run (Cert.FinishSIdeal.defs (F := Ideal)) (onTc (τ := Cert.FinishSIdeal.τ) (Cert.FinishSIdeal.main (F := Ideal))) ⟨m, fun _ => 0, g⟩ (fun r => ∀ c : Dev Cert.FinishSIdeal.nD,
          r.2.mem ((c.tc : Thread Cert.FinishSIdeal.nD Cert.FinishSIdeal.τ).loc Cert.FinishSIdeal.main_v15) = v0 c
          ∧ r.2.mem ((c.tc : Thread Cert.FinishSIdeal.nD Cert.FinishSIdeal.τ).loc Cert.FinishSIdeal.main_arg0) = m ((c.tc : Thread Cert.FinishSIdeal.nD Cert.FinishSIdeal.τ).loc Cert.FinishSIdeal.main_arg0)
          ∧ r.2.mem ((c.tc : Thread Cert.FinishSIdeal.nD Cert.FinishSIdeal.τ).loc Cert.FinishSIdeal.main_arg1) = m ((c.tc : Thread Cert.FinishSIdeal.nD Cert.FinishSIdeal.τ).loc Cert.FinishSIdeal.main_arg1)
          ∧ r.2.mem ((c.tc : Thread Cert.FinishSIdeal.nD Cert.FinishSIdeal.τ).loc Cert.FinishSIdeal.main_arg2) = m ((c.tc : Thread Cert.FinishSIdeal.nD Cert.FinishSIdeal.τ).loc Cert.FinishSIdeal.main_arg2)
          ∧ r.2.mem ((c.tc : Thread Cert.FinishSIdeal.nD Cert.FinishSIdeal.τ).loc Cert.FinishSIdeal.main_arg3) = m ((c.tc : Thread Cert.FinishSIdeal.nD Cert.FinishSIdeal.τ).loc Cert.FinishSIdeal.main_arg3)
          ∧ r.2.mem ((c.tc : Thread Cert.FinishSIdeal.nD Cert.FinishSIdeal.τ).loc Cert.FinishSIdeal.main_arg4) = m ((c.tc : Thread Cert.FinishSIdeal.nD Cert.FinishSIdeal.τ).loc Cert.FinishSIdeal.main_arg4)
          ∧ r.2.mem ((c.tc : Thread Cert.FinishSIdeal.nD Cert.FinishSIdeal.τ).loc Cert.FinishSIdeal.main_arg5) = m ((c.tc : Thread Cert.FinishSIdeal.nD Cert.FinishSIdeal.τ).loc Cert.FinishSIdeal.main_arg5)
          ∧ r.2.mem ((c.tc : Thread Cert.FinishSIdeal.nD Cert.FinishSIdeal.τ).loc Cert.FinishSIdeal.main_arg6) = m ((c.tc : Thread Cert.FinishSIdeal.nD Cert.FinishSIdeal.τ).loc Cert.FinishSIdeal.main_arg6)
          ∧ r.2.mem ((c.tc : Thread Cert.FinishSIdeal.nD Cert.FinishSIdeal.τ).loc Cert.FinishSIdeal.main_arg7) = m ((c.tc : Thread Cert.FinishSIdeal.nD Cert.FinishSIdeal.τ).loc Cert.FinishSIdeal.main_arg7)
          ∧ r.2.mem ((c.tc : Thread Cert.FinishSIdeal.nD Cert.FinishSIdeal.τ).loc Cert.FinishSIdeal.main_arg8) = m ((c.tc : Thread Cert.FinishSIdeal.nD Cert.FinishSIdeal.τ).loc Cert.FinishSIdeal.main_arg8)
          ∧ r.2.mem ((c.tc : Thread Cert.FinishSIdeal.nD Cert.FinishSIdeal.τ).loc Cert.FinishSIdeal.main_arg9) = m ((c.tc : Thread Cert.FinishSIdeal.nD Cert.FinishSIdeal.τ).loc Cert.FinishSIdeal.main_arg9))
      ∧ θ_run (Cert.FinishSRefIdeal.defs (F := Ideal)) (onTc (τ := Cert.FinishSRefIdeal.τ) (Cert.FinishSRefIdeal.main (F := Ideal))) ⟨m', fun _ => 0, g'⟩ (fun r => ∀ c : Dev Cert.FinishSRefIdeal.nD,
          r.2.mem ((c.tc : Thread Cert.FinishSRefIdeal.nD Cert.FinishSRefIdeal.τ).loc Cert.FinishSRefIdeal.main_v70) = v0 c
          ∧ r.2.mem ((c.tc : Thread Cert.FinishSRefIdeal.nD Cert.FinishSRefIdeal.τ).loc Cert.FinishSRefIdeal.main_arg0) = m' ((c.tc : Thread Cert.FinishSRefIdeal.nD Cert.FinishSRefIdeal.τ).loc Cert.FinishSRefIdeal.main_arg0)
          ∧ r.2.mem ((c.tc : Thread Cert.FinishSRefIdeal.nD Cert.FinishSRefIdeal.τ).loc Cert.FinishSRefIdeal.main_arg1) = m' ((c.tc : Thread Cert.FinishSRefIdeal.nD Cert.FinishSRefIdeal.τ).loc Cert.FinishSRefIdeal.main_arg1)
          ∧ r.2.mem ((c.tc : Thread Cert.FinishSRefIdeal.nD Cert.FinishSRefIdeal.τ).loc Cert.FinishSRefIdeal.main_arg2) = m' ((c.tc : Thread Cert.FinishSRefIdeal.nD Cert.FinishSRefIdeal.τ).loc Cert.FinishSRefIdeal.main_arg2)
          ∧ r.2.mem ((c.tc : Thread Cert.FinishSRefIdeal.nD Cert.FinishSRefIdeal.τ).loc Cert.FinishSRefIdeal.main_arg3) = m' ((c.tc : Thread Cert.FinishSRefIdeal.nD Cert.FinishSRefIdeal.τ).loc Cert.FinishSRefIdeal.main_arg3)
          ∧ r.2.mem ((c.tc : Thread Cert.FinishSRefIdeal.nD Cert.FinishSRefIdeal.τ).loc Cert.FinishSRefIdeal.main_arg4) = m' ((c.tc : Thread Cert.FinishSRefIdeal.nD Cert.FinishSRefIdeal.τ).loc Cert.FinishSRefIdeal.main_arg4)
          ∧ r.2.mem ((c.tc : Thread Cert.FinishSRefIdeal.nD Cert.FinishSRefIdeal.τ).loc Cert.FinishSRefIdeal.main_arg5) = m' ((c.tc : Thread Cert.FinishSRefIdeal.nD Cert.FinishSRefIdeal.τ).loc Cert.FinishSRefIdeal.main_arg5)
          ∧ r.2.mem ((c.tc : Thread Cert.FinishSRefIdeal.nD Cert.FinishSRefIdeal.τ).loc Cert.FinishSRefIdeal.main_arg6) = m' ((c.tc : Thread Cert.FinishSRefIdeal.nD Cert.FinishSRefIdeal.τ).loc Cert.FinishSRefIdeal.main_arg6)
          ∧ r.2.mem ((c.tc : Thread Cert.FinishSRefIdeal.nD Cert.FinishSRefIdeal.τ).loc Cert.FinishSRefIdeal.main_arg7) = m' ((c.tc : Thread Cert.FinishSRefIdeal.nD Cert.FinishSRefIdeal.τ).loc Cert.FinishSRefIdeal.main_arg7)
          ∧ r.2.mem ((c.tc : Thread Cert.FinishSRefIdeal.nD Cert.FinishSRefIdeal.τ).loc Cert.FinishSRefIdeal.main_arg8) = m' ((c.tc : Thread Cert.FinishSRefIdeal.nD Cert.FinishSRefIdeal.τ).loc Cert.FinishSRefIdeal.main_arg8)
          ∧ r.2.mem ((c.tc : Thread Cert.FinishSRefIdeal.nD Cert.FinishSRefIdeal.τ).loc Cert.FinishSRefIdeal.main_arg9) = m' ((c.tc : Thread Cert.FinishSRefIdeal.nD Cert.FinishSRefIdeal.τ).loc Cert.FinishSRefIdeal.main_arg9))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v43)) (v1 : (c : Dev Cert.ProjIdeal.nD) → Buf (Elt Ideal) ((c.tc : Thread Cert.ProjIdeal.nD Cert.ProjIdeal.τ).loc Cert.ProjIdeal.main_v44)) (v2 : (c : Dev Cert.ProjIdeal.nD) → Buf (Elt Ideal) ((c.tc : Thread Cert.ProjIdeal.nD Cert.ProjIdeal.τ).loc Cert.ProjIdeal.main_v46)) (v3 : (c : Dev Cert.ProjIdeal.nD) → Buf (Elt Ideal) ((c.tc : Thread Cert.ProjIdeal.nD Cert.ProjIdeal.τ).loc Cert.ProjIdeal.main_v48)) (v4 : (c : Dev Cert.ProjIdeal.nD) → Buf (Elt Ideal) ((c.tc : Thread Cert.ProjIdeal.nD Cert.ProjIdeal.τ).loc Cert.ProjIdeal.main_v50)) (v5 : (c : Dev Cert.ProjIdeal.nD) → Buf (Elt Ideal) ((c.tc : Thread Cert.ProjIdeal.nD Cert.ProjIdeal.τ).loc Cert.ProjIdeal.main_v52)) (v6 : (c : Dev Cert.ProjIdeal.nD) → Buf (Elt Ideal) ((c.tc : Thread Cert.ProjIdeal.nD Cert.ProjIdeal.τ).loc Cert.ProjIdeal.main_v53)) (v7 : (c : Dev Cert.ProjIdeal.nD) → Buf (Elt Ideal) ((c.tc : Thread Cert.ProjIdeal.nD Cert.ProjIdeal.τ).loc Cert.ProjIdeal.main_v54)) (v8 : (c : Dev Cert.ProjIdeal.nD) → Buf (Elt Ideal) ((c.tc : Thread Cert.ProjIdeal.nD Cert.ProjIdeal.τ).loc Cert.ProjIdeal.main_v55)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v43) = v0 c
          ∧ r.2.mem ((c.tc : Thread Cert.ProjIdeal.nD Cert.ProjIdeal.τ).loc Cert.ProjIdeal.main_v44) = v1 c
          ∧ r.2.mem ((c.tc : Thread Cert.ProjIdeal.nD Cert.ProjIdeal.τ).loc Cert.ProjIdeal.main_v46) = v2 c
          ∧ r.2.mem ((c.tc : Thread Cert.ProjIdeal.nD Cert.ProjIdeal.τ).loc Cert.ProjIdeal.main_v48) = v3 c
          ∧ r.2.mem ((c.tc : Thread Cert.ProjIdeal.nD Cert.ProjIdeal.τ).loc Cert.ProjIdeal.main_v50) = v4 c
          ∧ r.2.mem ((c.tc : Thread Cert.ProjIdeal.nD Cert.ProjIdeal.τ).loc Cert.ProjIdeal.main_v52) = v5 c
          ∧ r.2.mem ((c.tc : Thread Cert.ProjIdeal.nD Cert.ProjIdeal.τ).loc Cert.ProjIdeal.main_v53) = v6 c
          ∧ r.2.mem ((c.tc : Thread Cert.ProjIdeal.nD Cert.ProjIdeal.τ).loc Cert.ProjIdeal.main_v54) = v7 c
          ∧ r.2.mem ((c.tc : Thread Cert.ProjIdeal.nD Cert.ProjIdeal.τ).loc Cert.ProjIdeal.main_v55) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_v4) = v1 c
          ∧ r.2.mem ((c.tc : Thread Cert.ProjRefIdeal.nD Cert.ProjRefIdeal.τ).loc Cert.ProjRefIdeal.main_v155) = v2 c
          ∧ r.2.mem ((c.tc : Thread Cert.ProjRefIdeal.nD Cert.ProjRefIdeal.τ).loc Cert.ProjRefIdeal.main_v80) = v3 c
          ∧ r.2.mem ((c.tc : Thread Cert.ProjRefIdeal.nD Cert.ProjRefIdeal.τ).loc Cert.ProjRefIdeal.main_v81) = v4 c
          ∧ r.2.mem ((c.tc : Thread Cert.ProjRefIdeal.nD Cert.ProjRefIdeal.τ).loc Cert.ProjRefIdeal.main_v156) = v5 c
          ∧ r.2.mem ((c.tc : Thread Cert.ProjRefIdeal.nD Cert.ProjRefIdeal.τ).loc Cert.ProjRefIdeal.main_v152) = v6 c
          ∧ r.2.mem ((c.tc : Thread Cert.ProjRefIdeal.nD Cert.ProjRefIdeal.τ).loc Cert.ProjRefIdeal.main_v10) = v7 c
          ∧ r.2.mem ((c.tc : Thread Cert.ProjRefIdeal.nD Cert.ProjRefIdeal.τ).loc Cert.ProjRefIdeal.main_v157) = v8 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)) →
    ∃ (v0 : (c : Dev Cert.ProjSIdeal.nD) → Buf (Elt Ideal) ((c.tc : Thread Cert.ProjSIdeal.nD Cert.ProjSIdeal.τ).loc Cert.ProjSIdeal.main_v48)) (v1 : (c : Dev Cert.ProjSIdeal.nD) → Buf (Elt Ideal) ((c.tc : Thread Cert.ProjSIdeal.nD Cert.ProjSIdeal.τ).loc Cert.ProjSIdeal.main_v50)) (v2 : (c : Dev Cert.ProjSIdeal.nD) → Buf (Elt Ideal) ((c.tc : Thread Cert.ProjSIdeal.nD Cert.ProjSIdeal.τ).loc Cert.ProjSIdeal.main_v51)) (v3 : (c : Dev Cert.ProjSIdeal.nD) → Buf (Elt Ideal) ((c.tc : Thread Cert.ProjSIdeal.nD Cert.ProjSIdeal.τ).loc Cert.ProjSIdeal.main_v52)) (v4 : (c : Dev Cert.ProjSIdeal.nD) → Buf (Elt Ideal) ((c.tc : Thread Cert.ProjSIdeal.nD Cert.ProjSIdeal.τ).loc Cert.ProjSIdeal.main_v53)) (v5 : (c : Dev Cert.ProjSIdeal.nD) → Buf (Elt Ideal) ((c.tc : Thread Cert.ProjSIdeal.nD Cert.ProjSIdeal.τ).loc Cert.ProjSIdeal.main_v54)) (v6 : (c : Dev Cert.ProjSIdeal.nD) → Buf (Elt Ideal) ((c.tc : Thread Cert.ProjSIdeal.nD Cert.ProjSIdeal.τ).loc Cert.ProjSIdeal.main_v55)) (v7 : (c : Dev Cert.ProjSIdeal.nD) → Buf (Elt Ideal) ((c.tc : Thread Cert.ProjSIdeal.nD Cert.ProjSIdeal.τ).loc Cert.ProjSIdeal.main_v56)) (v8 : (c : Dev Cert.ProjSIdeal.nD) → Buf (Elt Ideal) ((c.tc : Thread Cert.ProjSIdeal.nD Cert.ProjSIdeal.τ).loc Cert.ProjSIdeal.main_v57)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v48) = v0 c
          ∧ r.2.mem ((c.tc : Thread Cert.ProjSIdeal.nD Cert.ProjSIdeal.τ).loc Cert.ProjSIdeal.main_v50) = v1 c
          ∧ r.2.mem ((c.tc : Thread Cert.ProjSIdeal.nD Cert.ProjSIdeal.τ).loc Cert.ProjSIdeal.main_v51) = v2 c
          ∧ r.2.mem ((c.tc : Thread Cert.ProjSIdeal.nD Cert.ProjSIdeal.τ).loc Cert.ProjSIdeal.main_v52) = v3 c
          ∧ r.2.mem ((c.tc : Thread Cert.ProjSIdeal.nD Cert.ProjSIdeal.τ).loc Cert.ProjSIdeal.main_v53) = v4 c
          ∧ r.2.mem ((c.tc : Thread Cert.ProjSIdeal.nD Cert.ProjSIdeal.τ).loc Cert.ProjSIdeal.main_v54) = v5 c
          ∧ r.2.mem ((c.tc : Thread Cert.ProjSIdeal.nD Cert.ProjSIdeal.τ).loc Cert.ProjSIdeal.main_v55) = v6 c
          ∧ r.2.mem ((c.tc : Thread Cert.ProjSIdeal.nD Cert.ProjSIdeal.τ).loc Cert.ProjSIdeal.main_v56) = v7 c
          ∧ r.2.mem ((c.tc : Thread Cert.ProjSIdeal.nD Cert.ProjSIdeal.τ).loc Cert.ProjSIdeal.main_v57) = v8 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v5) = v0 c
          ∧ r.2.mem ((c.tc : Thread Cert.ProjSRefIdeal.nD Cert.ProjSRefIdeal.τ).loc Cert.ProjSRefIdeal.main_v6) = v1 c
          ∧ r.2.mem ((c.tc : Thread Cert.ProjSRefIdeal.nD Cert.ProjSRefIdeal.τ).loc Cert.ProjSRefIdeal.main_v157) = v2 c
          ∧ r.2.mem ((c.tc : Thread Cert.ProjSRefIdeal.nD Cert.ProjSRefIdeal.τ).loc Cert.ProjSRefIdeal.main_v82) = v3 c
          ∧ r.2.mem ((c.tc : Thread Cert.ProjSRefIdeal.nD Cert.ProjSRefIdeal.τ).loc Cert.ProjSRefIdeal.main_v83) = v4 c
          ∧ r.2.mem ((c.tc : Thread Cert.ProjSRefIdeal.nD Cert.ProjSRefIdeal.τ).loc Cert.ProjSRefIdeal.main_v158) = v5 c
          ∧ r.2.mem ((c.tc : Thread Cert.ProjSRefIdeal.nD Cert.ProjSRefIdeal.τ).loc Cert.ProjSRefIdeal.main_v154) = v6 c
          ∧ r.2.mem ((c.tc : Thread Cert.ProjSRefIdeal.nD Cert.ProjSRefIdeal.τ).loc Cert.ProjSRefIdeal.main_v12) = v7 c
          ∧ r.2.mem ((c.tc : Thread Cert.ProjSRefIdeal.nD Cert.ProjSRefIdeal.τ).loc Cert.ProjSRefIdeal.main_v159) = v8 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1))

def preserves_LruS_LruSIdeal : Prop :=
  True

def algebraic_LruSIdeal_LruSRefIdeal [hLruSIdeal : Cert.LruSIdeal.Facts] [hLruSRefIdeal : Cert.LruSRefIdeal.Facts] : Prop :=
  ∀ (m : (ℓ : Loc Cert.LruSIdeal.nD Cert.LruSIdeal.τ Cert.LruSIdeal.sig) → Buf (Elt Ideal) ℓ) (g : Dev Cert.LruSIdeal.nD → PrngReg)
    (m' : (ℓ : Loc Cert.LruSRefIdeal.nD Cert.LruSRefIdeal.τ Cert.LruSRefIdeal.sig) → Buf (Elt Ideal) ℓ) (g' : Dev Cert.LruSRefIdeal.nD → PrngReg), Pre_LruSIdeal m →
    (∀ c : Dev Cert.LruSIdeal.nD,
      m' ((c.tc : Thread Cert.LruSRefIdeal.nD Cert.LruSRefIdeal.τ).loc Cert.LruSRefIdeal.main_arg0) = m ((c.tc : Thread Cert.LruSIdeal.nD Cert.LruSIdeal.τ).loc Cert.LruSIdeal.main_arg0)
      ∧ m' ((c.tc : Thread Cert.LruSRefIdeal.nD Cert.LruSRefIdeal.τ).loc Cert.LruSRefIdeal.main_arg1) = m ((c.tc : Thread Cert.LruSIdeal.nD Cert.LruSIdeal.τ).loc Cert.LruSIdeal.main_arg1)
      ∧ m' ((c.tc : Thread Cert.LruSRefIdeal.nD Cert.LruSRefIdeal.τ).loc Cert.LruSRefIdeal.main_arg2) = m ((c.tc : Thread Cert.LruSIdeal.nD Cert.LruSIdeal.τ).loc Cert.LruSIdeal.main_arg2)
      ∧ m' ((c.tc : Thread Cert.LruSRefIdeal.nD Cert.LruSRefIdeal.τ).loc Cert.LruSRefIdeal.main_arg3) = m ((c.tc : Thread Cert.LruSIdeal.nD Cert.LruSIdeal.τ).loc Cert.LruSIdeal.main_arg3)
      ∧ m' ((c.tc : Thread Cert.LruSRefIdeal.nD Cert.LruSRefIdeal.τ).loc Cert.LruSRefIdeal.main_arg4) = m ((c.tc : Thread Cert.LruSIdeal.nD Cert.LruSIdeal.τ).loc Cert.LruSIdeal.main_arg4)
      ∧ m' ((c.tc : Thread Cert.LruSRefIdeal.nD Cert.LruSRefIdeal.τ).loc Cert.LruSRefIdeal.main_arg5) = m ((c.tc : Thread Cert.LruSIdeal.nD Cert.LruSIdeal.τ).loc Cert.LruSIdeal.main_arg5)
      ∧ m' ((c.tc : Thread Cert.LruSRefIdeal.nD Cert.LruSRefIdeal.τ).loc Cert.LruSRefIdeal.main_arg6) = m ((c.tc : Thread Cert.LruSIdeal.nD Cert.LruSIdeal.τ).loc Cert.LruSIdeal.main_arg6)
      ∧ m' ((c.tc : Thread Cert.LruSRefIdeal.nD Cert.LruSRefIdeal.τ).loc Cert.LruSRefIdeal.main_arg7) = m ((c.tc : Thread Cert.LruSIdeal.nD Cert.LruSIdeal.τ).loc Cert.LruSIdeal.main_arg7)
      ∧ m' ((c.tc : Thread Cert.LruSRefIdeal.nD Cert.LruSRefIdeal.τ).loc Cert.LruSRefIdeal.main_arg8) = m ((c.tc : Thread Cert.LruSIdeal.nD Cert.LruSIdeal.τ).loc Cert.LruSIdeal.main_arg8)
      ∧ m' ((c.tc : Thread Cert.LruSRefIdeal.nD Cert.LruSRefIdeal.τ).loc Cert.LruSRefIdeal.main_arg9) = m ((c.tc : Thread Cert.LruSIdeal.nD Cert.LruSIdeal.τ).loc Cert.LruSIdeal.main_arg9)
      ∧ m' ((c.tc : Thread Cert.LruSRefIdeal.nD Cert.LruSRefIdeal.τ).loc Cert.LruSRefIdeal.main_arg10) = m ((c.tc : Thread Cert.LruSIdeal.nD Cert.LruSIdeal.τ).loc Cert.LruSIdeal.main_arg10)
      ∧ m' ((c.tc : Thread Cert.LruSRefIdeal.nD Cert.LruSRefIdeal.τ).loc Cert.LruSRefIdeal.main_arg11) = m ((c.tc : Thread Cert.LruSIdeal.nD Cert.LruSIdeal.τ).loc Cert.LruSIdeal.main_arg11)) →
    ∃ (v0 : (c : Dev Cert.LruSIdeal.nD) → Buf (Elt Ideal) ((c.tc : Thread Cert.LruSIdeal.nD Cert.LruSIdeal.τ).loc Cert.LruSIdeal.main_v51)) (v1 : (c : Dev Cert.LruSIdeal.nD) → Buf (Elt Ideal) ((c.tc : Thread Cert.LruSIdeal.nD Cert.LruSIdeal.τ).loc Cert.LruSIdeal.main_v50_1)),
      θ_run (Cert.LruSIdeal.defs (F := Ideal)) (onTc (τ := Cert.LruSIdeal.τ) (Cert.LruSIdeal.main (F := Ideal))) ⟨m, fun _ => 0, g⟩ (fun r => ∀ c : Dev Cert.LruSIdeal.nD,
          r.2.mem ((c.tc : Thread Cert.LruSIdeal.nD Cert.LruSIdeal.τ).loc Cert.LruSIdeal.main_v51) = v0 c
          ∧ r.2.mem ((c.tc : Thread Cert.LruSIdeal.nD Cert.LruSIdeal.τ).loc Cert.LruSIdeal.main_v50_1) = v1 c
          ∧ r.2.mem ((c.tc : Thread Cert.LruSIdeal.nD Cert.LruSIdeal.τ).loc Cert.LruSIdeal.main_arg0) = m ((c.tc : Thread Cert.LruSIdeal.nD Cert.LruSIdeal.τ).loc Cert.LruSIdeal.main_arg0)
          ∧ r.2.mem ((c.tc : Thread Cert.LruSIdeal.nD Cert.LruSIdeal.τ).loc Cert.LruSIdeal.main_arg1) = m ((c.tc : Thread Cert.LruSIdeal.nD Cert.LruSIdeal.τ).loc Cert.LruSIdeal.main_arg1)
          ∧ r.2.mem ((c.tc : Thread Cert.LruSIdeal.nD Cert.LruSIdeal.τ).loc Cert.LruSIdeal.main_arg2) = m ((c.tc : Thread Cert.LruSIdeal.nD Cert.LruSIdeal.τ).loc Cert.LruSIdeal.main_arg2)
          ∧ r.2.mem ((c.tc : Thread Cert.LruSIdeal.nD Cert.LruSIdeal.τ).loc Cert.LruSIdeal.main_arg3) = m ((c.tc : Thread Cert.LruSIdeal.nD Cert.LruSIdeal.τ).loc Cert.LruSIdeal.main_arg3)
          ∧ r.2.mem ((c.tc : Thread Cert.LruSIdeal.nD Cert.LruSIdeal.τ).loc Cert.LruSIdeal.main_arg4) = m ((c.tc : Thread Cert.LruSIdeal.nD Cert.LruSIdeal.τ).loc Cert.LruSIdeal.main_arg4)
          ∧ r.2.mem ((c.tc : Thread Cert.LruSIdeal.nD Cert.LruSIdeal.τ).loc Cert.LruSIdeal.main_arg5) = m ((c.tc : Thread Cert.LruSIdeal.nD Cert.LruSIdeal.τ).loc Cert.LruSIdeal.main_arg5)
          ∧ r.2.mem ((c.tc : Thread Cert.LruSIdeal.nD Cert.LruSIdeal.τ).loc Cert.LruSIdeal.main_arg6) = m ((c.tc : Thread Cert.LruSIdeal.nD Cert.LruSIdeal.τ).loc Cert.LruSIdeal.main_arg6)
          ∧ r.2.mem ((c.tc : Thread Cert.LruSIdeal.nD Cert.LruSIdeal.τ).loc Cert.LruSIdeal.main_arg7) = m ((c.tc : Thread Cert.LruSIdeal.nD Cert.LruSIdeal.τ).loc Cert.LruSIdeal.main_arg7)
          ∧ r.2.mem ((c.tc : Thread Cert.LruSIdeal.nD Cert.LruSIdeal.τ).loc Cert.LruSIdeal.main_arg8) = m ((c.tc : Thread Cert.LruSIdeal.nD Cert.LruSIdeal.τ).loc Cert.LruSIdeal.main_arg8)
          ∧ r.2.mem ((c.tc : Thread Cert.LruSIdeal.nD Cert.LruSIdeal.τ).loc Cert.LruSIdeal.main_arg9) = m ((c.tc : Thread Cert.LruSIdeal.nD Cert.LruSIdeal.τ).loc Cert.LruSIdeal.main_arg9)
          ∧ r.2.mem ((c.tc : Thread Cert.LruSIdeal.nD Cert.LruSIdeal.τ).loc Cert.LruSIdeal.main_arg10) = m ((c.tc : Thread Cert.LruSIdeal.nD Cert.LruSIdeal.τ).loc Cert.LruSIdeal.main_arg10)
          ∧ r.2.mem ((c.tc : Thread Cert.LruSIdeal.nD Cert.LruSIdeal.τ).loc Cert.LruSIdeal.main_arg11) = m ((c.tc : Thread Cert.LruSIdeal.nD Cert.LruSIdeal.τ).loc Cert.LruSIdeal.main_arg11))
      ∧ θ_run (Cert.LruSRefIdeal.defs (F := Ideal)) (onTc (τ := Cert.LruSRefIdeal.τ) (Cert.LruSRefIdeal.main (F := Ideal))) ⟨m', fun _ => 0, g'⟩ (fun r => ∀ c : Dev Cert.LruSRefIdeal.nD,
          r.2.mem ((c.tc : Thread Cert.LruSRefIdeal.nD Cert.LruSRefIdeal.τ).loc Cert.LruSRefIdeal.main_v139) = v0 c
          ∧ r.2.mem ((c.tc : Thread Cert.LruSRefIdeal.nD Cert.LruSRefIdeal.τ).loc Cert.LruSRefIdeal.main_v105) = v1 c
          ∧ r.2.mem ((c.tc : Thread Cert.LruSRefIdeal.nD Cert.LruSRefIdeal.τ).loc Cert.LruSRefIdeal.main_arg0) = m' ((c.tc : Thread Cert.LruSRefIdeal.nD Cert.LruSRefIdeal.τ).loc Cert.LruSRefIdeal.main_arg0)
          ∧ r.2.mem ((c.tc : Thread Cert.LruSRefIdeal.nD Cert.LruSRefIdeal.τ).loc Cert.LruSRefIdeal.main_arg1) = m' ((c.tc : Thread Cert.LruSRefIdeal.nD Cert.LruSRefIdeal.τ).loc Cert.LruSRefIdeal.main_arg1)
          ∧ r.2.mem ((c.tc : Thread Cert.LruSRefIdeal.nD Cert.LruSRefIdeal.τ).loc Cert.LruSRefIdeal.main_arg2) = m' ((c.tc : Thread Cert.LruSRefIdeal.nD Cert.LruSRefIdeal.τ).loc Cert.LruSRefIdeal.main_arg2)
          ∧ r.2.mem ((c.tc : Thread Cert.LruSRefIdeal.nD Cert.LruSRefIdeal.τ).loc Cert.LruSRefIdeal.main_arg3) = m' ((c.tc : Thread Cert.LruSRefIdeal.nD Cert.LruSRefIdeal.τ).loc Cert.LruSRefIdeal.main_arg3)
          ∧ r.2.mem ((c.tc : Thread Cert.LruSRefIdeal.nD Cert.LruSRefIdeal.τ).loc Cert.LruSRefIdeal.main_arg4) = m' ((c.tc : Thread Cert.LruSRefIdeal.nD Cert.LruSRefIdeal.τ).loc Cert.LruSRefIdeal.main_arg4)
          ∧ r.2.mem ((c.tc : Thread Cert.LruSRefIdeal.nD Cert.LruSRefIdeal.τ).loc Cert.LruSRefIdeal.main_arg5) = m' ((c.tc : Thread Cert.LruSRefIdeal.nD Cert.LruSRefIdeal.τ).loc Cert.LruSRefIdeal.main_arg5)
          ∧ r.2.mem ((c.tc : Thread Cert.LruSRefIdeal.nD Cert.LruSRefIdeal.τ).loc Cert.LruSRefIdeal.main_arg6) = m' ((c.tc : Thread Cert.LruSRefIdeal.nD Cert.LruSRefIdeal.τ).loc Cert.LruSRefIdeal.main_arg6)
          ∧ r.2.mem ((c.tc : Thread Cert.LruSRefIdeal.nD Cert.LruSRefIdeal.τ).loc Cert.LruSRefIdeal.main_arg7) = m' ((c.tc : Thread Cert.LruSRefIdeal.nD Cert.LruSRefIdeal.τ).loc Cert.LruSRefIdeal.main_arg7)
          ∧ r.2.mem ((c.tc : Thread Cert.LruSRefIdeal.nD Cert.LruSRefIdeal.τ).loc Cert.LruSRefIdeal.main_arg8) = m' ((c.tc : Thread Cert.LruSRefIdeal.nD Cert.LruSRefIdeal.τ).loc Cert.LruSRefIdeal.main_arg8)
          ∧ r.2.mem ((c.tc : Thread Cert.LruSRefIdeal.nD Cert.LruSRefIdeal.τ).loc Cert.LruSRefIdeal.main_arg9) = m' ((c.tc : Thread Cert.LruSRefIdeal.nD Cert.LruSRefIdeal.τ).loc Cert.LruSRefIdeal.main_arg9)
          ∧ r.2.mem ((c.tc : Thread Cert.LruSRefIdeal.nD Cert.LruSRefIdeal.τ).loc Cert.LruSRefIdeal.main_arg10) = m' ((c.tc : Thread Cert.LruSRefIdeal.nD Cert.LruSRefIdeal.τ).loc Cert.LruSRefIdeal.main_arg10)
          ∧ r.2.mem ((c.tc : Thread Cert.LruSRefIdeal.nD Cert.LruSRefIdeal.τ).loc Cert.LruSRefIdeal.main_arg11) = m' ((c.tc : Thread Cert.LruSRefIdeal.nD Cert.LruSRefIdeal.τ).loc Cert.LruSRefIdeal.main_arg11))

def Claim : Prop :=
  ∃ (hFinish : Cert.Finish.Facts) (hFinishIdeal : Cert.FinishIdeal.Facts) (hFinishRefIdeal : Cert.FinishRefIdeal.Facts) (hFinishS : Cert.FinishS.Facts) (hFinishSIdeal : Cert.FinishSIdeal.Facts) (hFinishSRefIdeal : Cert.FinishSRefIdeal.Facts) (hProj : Cert.Proj.Facts) (hProjIdeal : Cert.ProjIdeal.Facts) (hProjRefIdeal : Cert.ProjRefIdeal.Facts) (hProjS : Cert.ProjS.Facts) (hProjSIdeal : Cert.ProjSIdeal.Facts) (hProjSRefIdeal : Cert.ProjSRefIdeal.Facts) (hLruS : Cert.LruS.Facts) (hLruSIdeal : Cert.LruSIdeal.Facts) (hLruSRefIdeal : Cert.LruSRefIdeal.Facts),
    quiescent_Finish (hFinish := hFinish)
    ∧ quiescent_FinishIdeal (hFinishIdeal := hFinishIdeal)
    ∧ quiescent_FinishRefIdeal (hFinishRefIdeal := hFinishRefIdeal)
    ∧ quiescent_FinishS (hFinishS := hFinishS)
    ∧ quiescent_FinishSIdeal (hFinishSIdeal := hFinishSIdeal)
    ∧ quiescent_FinishSRefIdeal (hFinishSRefIdeal := hFinishSRefIdeal)
    ∧ quiescent_Proj (hProj := hProj)
    ∧ quiescent_ProjIdeal (hProjIdeal := hProjIdeal)
    ∧ quiescent_ProjRefIdeal (hProjRefIdeal := hProjRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_LruS (hLruS := hLruS)
    ∧ quiescent_LruSIdeal (hLruSIdeal := hLruSIdeal)
    ∧ quiescent_LruSRefIdeal (hLruSRefIdeal := hLruSRefIdeal)
    ∧ preserves_Finish_FinishIdeal
    ∧ algebraic_FinishIdeal_FinishRefIdeal (hFinishIdeal := hFinishIdeal) (hFinishRefIdeal := hFinishRefIdeal)
    ∧ preserves_FinishS_FinishSIdeal
    ∧ algebraic_FinishSIdeal_FinishSRefIdeal (hFinishSIdeal := hFinishSIdeal) (hFinishSRefIdeal := hFinishSRefIdeal)
    ∧ preserves_Proj_ProjIdeal
    ∧ algebraic_ProjIdeal_ProjRefIdeal (hProjIdeal := hProjIdeal) (hProjRefIdeal := hProjRefIdeal)
    ∧ preserves_ProjS_ProjSIdeal
    ∧ algebraic_ProjSIdeal_ProjSRefIdeal (hProjSIdeal := hProjSIdeal) (hProjSRefIdeal := hProjSRefIdeal)
    ∧ preserves_LruS_LruSIdeal
    ∧ algebraic_LruSIdeal_LruSRefIdeal (hLruSIdeal := hLruSIdeal) (hLruSRefIdeal := hLruSRefIdeal)
-- ==== Finish.lean ====
abbrev S16384x1024 : Shape := ⟨2, ![16384, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S4x1024 : Shape := ⟨2, ![4, 1024]⟩
abbrev S1024x1024 : Shape := ⟨2, ![1024, 1024]⟩
abbrev S1024x5632 : Shape := ⟨2, ![1024, 5632]⟩
abbrev S2816x1024 : Shape := ⟨2, ![2816, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 26
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x5632, .f32⟩
  | .hbm, ⟨7, _⟩ => ⟨S1x2816x1024, .f32⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S4x1024, .f32⟩
  | .hbm, ⟨19, _⟩ => ⟨S1024x1024, .f32⟩
  | .hbm, ⟨20, _⟩ => ⟨S1024x1024, .bf16⟩
  | .hbm, ⟨21, _⟩ => ⟨S1024x5632, .f32⟩
  | .hbm, ⟨22, _⟩ => ⟨S1024x5632, .bf16⟩
  | .hbm, ⟨23, _⟩ => ⟨S2816x1024, .f32⟩
  | .hbm, ⟨24, _⟩ => ⟨S2816x1024, .bf16⟩
  | .hbm, ⟨25, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1024x5632, .bf16⟩
  | .local _ .vmem, ⟨8, _⟩ => ⟨S2816x1024, .bf16⟩
  | .local _ .vmem, ⟨9, _⟩ => ⟨S4x1024, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FinishRefIdeal.lean ====
abbrev S16384x1024 : Shape := ⟨2, ![16384, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x1024 : Shape := ⟨2, ![1024, 1024]⟩
abbrev S_ : Shape := ⟨0, ![]⟩
abbrev S1024 : Shape := ⟨1, ![1024]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S16384x2816 : Shape := ⟨2, ![16384, 2816]⟩
abbrev S2816x1024 : Shape := ⟨2, ![2816, 1024]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x5632, .f32⟩
  | .hbm, ⟨7, _⟩ => ⟨S1x2816x1024, .f32⟩
  | .hbm, ⟨8, _⟩ => ⟨S1x1024, .f32⟩
  | .hbm, ⟨9, _⟩ => ⟨S1x1024, .f32⟩
  | .hbm, ⟨10, _⟩ => ⟨S16384x512, .f32⟩
  | .hbm, ⟨11, _⟩ => ⟨S16384x512, .f32⟩
  | .hbm, ⟨12, _⟩ => ⟨S16384x1024, .f32⟩
  | .hbm, ⟨13, _⟩ => ⟨S1024x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S1024x5632, .f32⟩
  | .hbm, ⟨51, _⟩ => ⟨S16384x5632, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S_, .f32⟩
  | .hbm, ⟨57, _⟩ => ⟨S16384x2816, .f32⟩
  | .hbm, ⟨58, _⟩ => ⟨S16384x2816, .f32⟩
  | .hbm, ⟨59, _⟩ => ⟨S_, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S2816x1024, .f32⟩
  | .hbm, ⟨65, _⟩ => ⟨S16384x1024, .f32⟩
  | .hbm, ⟨66, _⟩ => ⟨S_, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S1024, .f32⟩
  | .hbm, ⟨71, _⟩ => ⟨S1024, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S16384x1024, .f32⟩
  | .hbm, ⟨88, _⟩ => ⟨S16384x1024, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S16384x1, .f32⟩
  | .hbm, ⟨93, _⟩ => ⟨S16384x1024, .f32⟩
  | .hbm, ⟨94, _⟩ => ⟨S16384x1024, .f32⟩
  | .hbm, ⟨95, _⟩ => ⟨S1x1024, .f32⟩
  | .hbm, ⟨96, _⟩ => ⟨S16384x1024, .f32⟩
  | .hbm, ⟨97, _⟩ => ⟨S16384x1024, .f32⟩
  | .hbm, ⟨98, _⟩ => ⟨S1x1024, .f32⟩
  | .hbm, ⟨99, _⟩ => ⟨S16384x1024, .f32⟩
  | .hbm, ⟨100, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_10 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩

abbrev nD : Nat := 1
abbrev τ : Topo := Topo.v7x

variable {F : FTy → Type} [FloatOps F]
-- ==== FinishS.lean ====
abbrev S512x1024 : Shape := ⟨2, ![512, 1024]⟩
abbrev S512x512 : Shape := ⟨2, ![512, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S4x1024 : Shape := ⟨2, ![4, 1024]⟩
abbrev S1024x1024 : Shape := ⟨2, ![1024, 1024]⟩
abbrev S1024x5632 : Shape := ⟨2, ![1024, 5632]⟩
abbrev S2816x1024 : Shape := ⟨2, ![2816, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩

abbrev nBuf : Space → Nat
  | .hbm => 26
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x5632, .f32⟩
  | .hbm, ⟨7, _⟩ => ⟨S1x2816x1024, .f32⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S4x1024, .f32⟩
  | .hbm, ⟨19, _⟩ => ⟨S1024x1024, .f32⟩
  | .hbm, ⟨20, _⟩ => ⟨S1024x1024, .bf16⟩
  | .hbm, ⟨21, _⟩ => ⟨S1024x5632, .f32⟩
  | .hbm, ⟨22, _⟩ => ⟨S1024x5632, .bf16⟩
  | .hbm, ⟨23, _⟩ => ⟨S2816x1024, .f32⟩
  | .hbm, ⟨24, _⟩ => ⟨S2816x1024, .bf16⟩
  | .hbm, ⟨25, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x1024, .bf16⟩
  | .local _ .vmem, ⟨7, _⟩ => ⟨S1024x5632, .bf16⟩
  | .local _ .vmem, ⟨8, _⟩ => ⟨S2816x1024, .bf16⟩
  | .local _ .vmem, ⟨9, _⟩ => ⟨S4x1024, .f32⟩
  | .local _ .vmem, ⟨10, _⟩ => ⟨S256x1024, .f32⟩
  | .local _ .vmem, ⟨11, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FinishSRefIdeal.lean ====
abbrev S512x1024 : Shape := ⟨2, ![512, 1024]⟩
abbrev S512x512 : Shape := ⟨2, ![512, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x1024 : Shape := ⟨2, ![1024, 1024]⟩
abbrev S_ : Shape := ⟨0, ![]⟩
abbrev S1024 : Shape := ⟨1, ![1024]⟩
abbrev S512 : Shape := ⟨1, ![512]⟩
abbrev S512x1 : Shape := ⟨2, ![512, 1]⟩
abbrev S1024x5632 : Shape := ⟨2, ![1024, 5632]⟩
abbrev S512x5632 : Shape := ⟨2, ![512, 5632]⟩
abbrev S512x2816 : Shape := ⟨2, ![512, 2816]⟩
abbrev S2816x1024 : Shape := ⟨2, ![2816, 1024]⟩

abbrev nBuf : Space → Nat
  | .hbm => 101
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x5632, .f32⟩
  | .hbm, ⟨7, _⟩ => ⟨S1x2816x1024, .f32⟩
  | .hbm, ⟨8, _⟩ => ⟨S1x1024, .f32⟩
  | .hbm, ⟨9, _⟩ => ⟨S1x1024, .f32⟩
  | .hbm, ⟨10, _⟩ => ⟨S512x512, .f32⟩
  | .hbm, ⟨11, _⟩ => ⟨S512x512, .f32⟩
  | .hbm, ⟨12, _⟩ => ⟨S512x1024, .f32⟩
  | .hbm, ⟨13, _⟩ => ⟨S1024x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S512, .f32⟩
  | .hbm, ⟨23, _⟩ => ⟨S512x1, .f32⟩
  | .hbm, ⟨24, _⟩ => ⟨S_, .f32⟩
  | .hbm, ⟨25, _⟩ => ⟨S512x1, .f32⟩
  | .hbm, ⟨26, _⟩ => ⟨S512x1, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512, .f32⟩
  | .hbm, ⟨32, _⟩ => ⟨S512x1, .f32⟩
  | .hbm, ⟨33, _⟩ => ⟨S_, .f32⟩
  | .hbm, ⟨34, _⟩ => ⟨S512x1, .f32⟩
  | .hbm, ⟨35, _⟩ => ⟨S512x1, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S512x1, .f32⟩
  | .hbm, ⟨42, _⟩ => ⟨S512x1024, .f32⟩
  | .hbm, ⟨43, _⟩ => ⟨S512x1024, .f32⟩
  | .hbm, ⟨44, _⟩ => ⟨S1x1024, .f32⟩
  | .hbm, ⟨45, _⟩ => ⟨S512x1024, .f32⟩
  | .hbm, ⟨46, _⟩ => ⟨S512x1024, .f32⟩
  | .hbm, ⟨47, _⟩ => ⟨S1x1024, .f32⟩
  | .hbm, ⟨48, _⟩ => ⟨S512x1024, .f32⟩
  | .hbm, ⟨49, _⟩ => ⟨S512x1024, .f32⟩
  | .hbm, ⟨50, _⟩ => ⟨S1024x5632, .f32⟩
  | .hbm, ⟨51, _⟩ => ⟨S512x5632, .f32⟩
  | .hbm, ⟨52, _⟩ => ⟨S512x2816, .f32⟩
  | .hbm, ⟨53, _⟩ => ⟨S512x2816, .f32⟩
  | .hbm, ⟨54, _⟩ => ⟨S512x2816, .f32⟩
  | .hbm, ⟨55, _⟩ => ⟨S512x2816, .f32⟩
  | .hbm, ⟨56, _⟩ => ⟨S_, .f32⟩
  | .hbm, ⟨57, _⟩ => ⟨S512x2816, .f32⟩
  | .hbm, ⟨58, _⟩ => ⟨S512x2816, .f32⟩
  | .hbm, ⟨59, _⟩ => ⟨S_, .f32⟩
  | .hbm, ⟨60, _⟩ => ⟨S512x2816, .f32⟩
  | .hbm, ⟨61, _⟩ => ⟨S512x2816, .f32⟩
  | .hbm, ⟨62, _⟩ => ⟨S512x2816, .f32⟩
  | .hbm, ⟨63, _⟩ => ⟨S512x2816, .f32⟩
  | .hbm, ⟨64, _⟩ => ⟨S2816x1024, .f32⟩
  | .hbm, ⟨65, _⟩ => ⟨S512x1024, .f32⟩
  | .hbm, ⟨66, _⟩ => ⟨S_, .f32⟩
  | .hbm, ⟨67, _⟩ => ⟨S512x1024, .f32⟩
  | .hbm, ⟨68, _⟩ => ⟨S512x1024, .f32⟩
  | .hbm, ⟨69, _⟩ => ⟨S512x1024, .f32⟩
  | .hbm, ⟨70, _⟩ => ⟨S1024, .f32⟩
  | .hbm, ⟨71, _⟩ => ⟨S1024, .f32⟩
  | .hbm, ⟨72, _⟩ => ⟨S_, .f32⟩
  | .hbm, ⟨73, _⟩ => ⟨S512, .f32⟩
  | .hbm, ⟨74, _⟩ => ⟨S512x1, .f32⟩
  | .hbm, ⟨75, _⟩ => ⟨S_, .f32⟩
  | .hbm, ⟨76, _⟩ => ⟨S512x1, .f32⟩
  | .hbm, ⟨77, _⟩ => ⟨S512x1, .f32⟩
  | .hbm, ⟨78, _⟩ => ⟨S512x1024, .f32⟩
  | .hbm, ⟨79, _⟩ => ⟨S512x1024, .f32⟩
  | .hbm, ⟨80, _⟩ => ⟨S512x1024, .f32⟩
  | .hbm, ⟨81, _⟩ => ⟨S_, .f32⟩
  | .hbm, ⟨82, _⟩ => ⟨S512, .f32⟩
  | .hbm, ⟨83, _⟩ => ⟨S512x1, .f32⟩
  | .hbm, ⟨84, _⟩ => ⟨S_, .f32⟩
  | .hbm, ⟨85, _⟩ => ⟨S512x1, .f32⟩
  | .hbm, ⟨86, _⟩ => ⟨S512x1, .f32⟩
  | .hbm, ⟨87, _⟩ => ⟨S512x1024, .f32⟩
  | .hbm, ⟨88, _⟩ => ⟨S512x1024, .f32⟩
  | .hbm, ⟨89, _⟩ => ⟨S_, .f32⟩
  | .hbm, ⟨90, _⟩ => ⟨S512x1, .f32⟩
  | .hbm, ⟨91, _⟩ => ⟨S512x1, .f32⟩
  | .hbm, ⟨92, _⟩ => ⟨S512x1, .f32⟩
  | .hbm, ⟨93, _⟩ => ⟨S512x1024, .f32⟩
  | .hbm, ⟨94, _⟩ => ⟨S512x1024, .f32⟩
  | .hbm, ⟨95, _⟩ => ⟨S1x1024, .f32⟩
  | .hbm, ⟨96, _⟩ => ⟨S512x1024, .f32⟩
  | .hbm, ⟨97, _⟩ => ⟨S512x1024, .f32⟩
  | .hbm, ⟨98, _⟩ => ⟨S1x1024, .f32⟩
  | .hbm, ⟨99, _⟩ => ⟨S512x1024, .f32⟩
  | .hbm, ⟨100, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_10 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩

abbrev nD : Nat := 1
abbrev τ : Topo := Topo.v7x

variable {F : FTy → Type} [FloatOps F]
-- ==== Proj.lean ====
abbrev S4x4096x1024 : Shape := ⟨3, ![4, 4096, 1024]⟩
abbrev S1x1024x3144 : Shape := ⟨3, ![1, 1024, 3144]⟩
abbrev S1024x3144 : Shape := ⟨2, ![1024, 3144]⟩
abbrev S_ : Shape := ⟨0, ![]⟩
abbrev S1024x3200 : Shape := ⟨2, ![1024, 3200]⟩
abbrev S4096 : Shape := ⟨1, ![4096]⟩
abbrev S8 : Shape := ⟨1, ![8]⟩
abbrev S128 : Shape := ⟨1, ![128]⟩
abbrev S4096x1 : Shape := ⟨2, ![4096, 1]⟩
abbrev S128x1 : Shape := ⟨2, ![128, 1]⟩
abbrev S1x128 : Shape := ⟨2, ![1, 128]⟩
abbrev S4096x128 : Shape := ⟨2, ![4096, 128]⟩
abbrev S16384x1024 : Shape := ⟨2, ![16384, 1024]⟩
abbrev S16384x512 : Shape := ⟨2, ![16384, 512]⟩
abbrev S4x512x4096 : Shape := ⟨3, ![4, 512, 4096]⟩
abbrev S4x8x4096x64 : Shape := ⟨4, ![4, 8, 4096, 64]⟩
abbrev S4x32x512x128 : Shape := ⟨4, ![4, 32, 512, 128]⟩
abbrev S4x64x4096 : Shape := ⟨3, ![4, 64, 4096]⟩
abbrev S4x4096x64 : Shape := ⟨3, ![4, 4096, 64]⟩
abbrev S4x8x4096 : Shape := ⟨3, ![4, 8, 4096]⟩
abbrev S512x1024 : Shape := ⟨2, ![512, 1024]⟩
abbrev S512x128 : Shape := ⟨2, ![512, 128]⟩
abbrev S512x512 : Shape := ⟨2, ![512, 512]⟩
abbrev S1x512x512 : Shape := ⟨3, ![1, 512, 512]⟩
abbrev S1x8x512x64 : Shape := ⟨4, ![1, 8, 512, 64]⟩
abbrev S1x4x512x128 : Shape := ⟨4, ![1, 4, 512, 128]⟩
abbrev S1x64x512 : Shape := ⟨3, ![1, 64, 512]⟩
abbrev S1x512x64 : Shape := ⟨3, ![1, 512, 64]⟩
abbrev S1x8x512 : Shape := ⟨3, ![1, 8, 512]⟩
abbrev S1024x512 : Shape := ⟨2, ![1024, 512]⟩
abbrev S1024x128 : Shape := ⟨2, ![1024, 128]⟩
abbrev S512x64 : Shape := ⟨2, ![512, 64]⟩
abbrev S1x1x512x64 : Shape := ⟨4, ![1, 1, 512, 64]⟩
abbrev S1x1x512x128 : Shape := ⟨4, ![1, 1, 512, 128]⟩
abbrev S128x512 : Shape := ⟨2, ![128, 512]⟩
abbrev S64x512 : Shape := ⟨2, ![64, 512]⟩
abbrev S8x512 : Shape := ⟨2, ![8, 512]⟩
abbrev S4x4096x512 : Shape := ⟨3, ![4, 4096, 512]⟩
abbrev S4x8x64x4096 : Shape := ⟨4, ![4, 8, 64, 4096]⟩
abbrev S4x4096x8x64 : Shape := ⟨4, ![4, 4096, 8, 64]⟩
abbrev S4x4096x8 : Shape := ⟨3, ![4, 4096, 8]⟩
abbrev S4x3x512 : Shape := ⟨3, ![4, 3, 512]⟩

abbrev nBuf : Space → Nat
  | .hbm => 132
  | .vmem => 31
  | .smem => 0
  | _ => 0

abbrev hbmTy0_0 (i : Nat) : BufTy := match i % 128 with
  | 0 => ⟨S4x4096x1024, .f32⟩
  | 1 => ⟨S1x1024x3144, .f32⟩
  | 2 => ⟨S1024x3144, .f32⟩
  | 3 => ⟨S_, .i32⟩
  | 4 => ⟨S_, .f32⟩
  | 5 => ⟨S1024x3200, .f32⟩
  | 6 => ⟨S1024x3200, .bf16⟩
  | 7 => ⟨S4096, .i32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S128, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S128, .i32⟩
  | 24 => ⟨S128, .i32⟩
  | 25 => ⟨S_, .i32⟩
  | 26 => ⟨S128, .i32⟩
  | 27 => ⟨S128, .i1⟩
  | 28 => ⟨S_, .i32⟩
  | 29 => ⟨S128, .i32⟩
  | 30 => ⟨S128, .i1⟩
  | 31 => ⟨S_, .i32⟩
  | 32 => ⟨S_, .i1⟩
  | 33 => ⟨S128, .i1⟩
  | 34 => ⟨S128, .i1⟩
  | 35 => ⟨S128, .i1⟩
  | 36 => ⟨S128, .i32⟩
  | 37 => ⟨S128, .i32⟩
  | 38 => ⟨S128, .i32⟩
  | 39 => ⟨S4096, .f32⟩
  | 40 => ⟨S4096x1, .f32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S128, .i32⟩
  | 48 => ⟨S128, .i32⟩
  | 49 => ⟨S_, .i32⟩
  | 50 => ⟨S128, .i32⟩
  | 51 => ⟨S128, .i1⟩
  | 52 => ⟨S_, .i32⟩
  | 53 => ⟨S128, .i32⟩
  | 54 => ⟨S128, .i1⟩
  | 55 => ⟨S_, .i32⟩
  | 56 => ⟨S_, .i1⟩
  | 57 => ⟨S128, .i1⟩
  | 58 => ⟨S128, .i1⟩
  | 59 => ⟨S128, .i1⟩
  | 60 => ⟨S128, .i32⟩
  | 61 => ⟨S128, .i32⟩
  | 62 => ⟨S128, .i32⟩
  | 63 => ⟨S_, .i32⟩
  | 64 => ⟨S128, .i32⟩
  | 65 => ⟨S128, .i1⟩
  | 66 => ⟨S_, .i32⟩
  | 67 => ⟨S128, .i32⟩
  | 68 => ⟨S128, .i32⟩
  | 69 => ⟨S128, .i32⟩
  | 70 => ⟨S128x1, .i32⟩
  | 71 => ⟨S128, .f32⟩
  | 72 => ⟨S1x128, .f32⟩
  | 73 => ⟨S4096x128, .f32⟩
  | 74 => ⟨S4096x128, .f32⟩
  | 75 => ⟨S4096x128, .f32⟩
  | 76 => ⟨S4096x128, .f32⟩
  | 77 => ⟨S4096x128, .f32⟩
  | 78 => ⟨S_, .i32⟩
  | 79 => ⟨S128, .i32⟩
  | 80 => ⟨S128, .i1⟩
  | 81 => ⟨S_, .f32⟩
  | 82 => ⟨S_, .f32⟩
  | 83 => ⟨S4096x128, .i1⟩
  | 84 => ⟨S4096x128, .f32⟩
  | 85 => ⟨S4096x128, .f32⟩
  | 86 => ⟨S_, .i32⟩
  | 87 => ⟨S128, .i32⟩
  | 88 => ⟨S128, .i1⟩
  | 89 => ⟨S4096x128, .f32⟩
  | 90 => ⟨S_, .f32⟩
  | 91 => ⟨S_, .f32⟩
  | 92 => ⟨S4096x128, .i1⟩
  | 93 => ⟨S4096x128, .f32⟩
  | 94 => ⟨S4096x128, .f32⟩
  | 95 => ⟨S_, .i32⟩
  | 96 => ⟨S128, .i32⟩
  | 97 => ⟨S128, .i1⟩
  | 98 => ⟨S_, .i32⟩
  | 99 => ⟨S128, .i32⟩
  | 100 => ⟨S128, .i1⟩
  | 101 => ⟨S128, .i1⟩
  | 102 => ⟨S_, .f32⟩
  | 103 => ⟨S_, .f32⟩
  | 104 => ⟨S4096x128, .i1⟩
  | 105 => ⟨S4096x128, .f32⟩
  | 106 => ⟨S4096x128, .f32⟩
  | 107 => ⟨S16384x1024, .f32⟩
  | 108 => ⟨S16384x512, .f32⟩
  | 109 => ⟨S16384x512, .f32⟩
  | 110 => ⟨S4x512x4096, .bf16⟩
  | 111 => ⟨S4x512x4096, .bf16⟩
  | 112 => ⟨S4x512x4096, .f32⟩
  | 113 => ⟨S4x8x4096x64, .bf16⟩
  | 114 => ⟨S4x512x4096, .f32⟩
  | 115 => ⟨S4x32x512x128, .bf16⟩
  | 116 => ⟨S4x64x4096, .f32⟩
  | 117 => ⟨S4x4096x64, .bf16⟩
  | 118 => ⟨S4x8x4096, .f32⟩
  | 119 => ⟨S4x4096x512, .f32⟩
  | 120 => ⟨S4x4096x512, .f32⟩
  | 121 => ⟨S4x8x64x4096, .bf16⟩
  | 122 => ⟨S4x4096x8x64, .bf16⟩
  | 123 => ⟨S4x8x64x4096, .f32⟩
  | 124 => ⟨S4x4096x8x64, .f32⟩
  | 125 => ⟨S4x8x64x4096, .f32⟩
  | 126 => ⟨S4x4096x8x64, .f32⟩
  | 127 => ⟨S4x8x64x4096, .bf16⟩
  | _ => ⟨S4x4096x1024, .f32⟩

abbrev hbmTy0_1 (i : Nat) : BufTy := match i % 128 with
  | 0 => ⟨S4x4096x8x64, .bf16⟩
  | 1 => ⟨S4x4096x64, .f32⟩
  | 2 => ⟨S4x4096x8, .f32⟩
  | 3 => ⟨S4x3x512, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x3200, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .f32⟩
  | .local _ .vmem, ⟨18, _⟩ => ⟨S1x512x512, .f32⟩
  | .local _ .vmem, ⟨19, _⟩ => ⟨S1x8x512x64, .bf16⟩
  | .local _ .vmem, ⟨20, _⟩ => ⟨S1x8x512x64, .bf16⟩
  | .local _ .vmem, ⟨21, _⟩ => ⟨S1x512x512, .f32⟩
  | .local _ .vmem, ⟨22, _⟩ => ⟨S1x512x512, .f32⟩
  | .local _ .vmem, ⟨23, _⟩ => ⟨S1x4x512x128, .bf16⟩
  | .local _ .vmem, ⟨24, _⟩ => ⟨S1x4x512x128, .bf16⟩
  | .local _ .vmem, ⟨25, _⟩ => ⟨S1x64x512, .f32⟩
  | .local _ .vmem, ⟨26, _⟩ => ⟨S1x64x512, .f32⟩
  | .local _ .vmem, ⟨27, _⟩ => ⟨S1x512x64, .bf16⟩
  | .local _ .vmem, ⟨28, _⟩ => ⟨S1x512x64, .bf16⟩
  | .local _ .vmem, ⟨29, _⟩ => ⟨S1x8x512, .f32⟩
  | .local _ .vmem, ⟨30, _⟩ => ⟨S1x8x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call1_v0 : Ref sig .tc := ⟨.hbm, 18, rfl⟩
abbrev main_call1_c : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_c_1 : Ref sig .tc := ⟨.hbm, 25, rfl⟩
abbrev main_call1_v5 : Ref sig .tc := ⟨.hbm, 26, rfl⟩
abbrev main_call1_v6 : Ref sig .tc := ⟨.hbm, 27, rfl⟩
abbrev main_call1_c_2 : Ref sig .tc := ⟨.hbm, 28, rfl⟩
abbrev main_call1_v7 : Ref sig .tc := ⟨.hbm, 29, rfl⟩
abbrev main_call1_v8 : Ref sig .tc := ⟨.hbm, 30, rfl⟩
abbrev main_call1_c_3 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_2 : Ref sig .tc := ⟨.hbm, 41, rfl⟩
abbrev main_call2_v0 : Ref sig .tc := ⟨.hbm, 42, rfl⟩
abbrev main_call2_c : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_c_1 : Ref sig .tc := ⟨.hbm, 49, rfl⟩
abbrev main_call2_v5 : Ref sig .tc := ⟨.hbm, 50, rfl⟩
abbrev main_call2_v6 : Ref sig .tc := ⟨.hbm, 51, rfl⟩
abbrev main_call2_c_2 : Ref sig .tc := ⟨.hbm, 52, rfl⟩
abbrev main_call2_v7 : Ref sig .tc := ⟨.hbm, 53, rfl⟩
abbrev main_call2_v8 : Ref sig .tc := ⟨.hbm, 54, rfl⟩
abbrev main_call2_c_3 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_v14 : Ref sig .tc := ⟨.hbm, 62, rfl⟩
abbrev main_c_3 : Ref sig .tc := ⟨.hbm, 63, rfl⟩
abbrev main_v15 : Ref sig .tc := ⟨.hbm, 64, rfl⟩
abbrev main_v16 : Ref sig .tc := ⟨.hbm, 65, rfl⟩
abbrev main_c_4 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_c_5 : Ref sig .tc := ⟨.hbm, 78, rfl⟩
abbrev main_v28 : Ref sig .tc := ⟨.hbm, 79, rfl⟩
abbrev main_v29 : Ref sig .tc := ⟨.hbm, 80, rfl⟩
abbrev main_cst_6 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v30 : Ref sig .tc := ⟨.hbm, 85, rfl⟩
abbrev main_c_7 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_cst_8 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_v34 : Ref sig .tc := ⟨.hbm, 94, rfl⟩
abbrev main_c_9 : Ref sig .tc := ⟨.hbm, 95, rfl⟩
abbrev main_v35 : Ref sig .tc := ⟨.hbm, 96, rfl⟩
abbrev main_v36 : Ref sig .tc := ⟨.hbm, 97, rfl⟩
abbrev main_c_10 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_cst_11 : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_v40 : Ref sig .tc := ⟨.hbm, 106, rfl⟩
abbrev main_v41 : Ref sig .tc := ⟨.hbm, 107, rfl⟩
abbrev main_v42_0 : Ref sig .tc := ⟨.hbm, 108, rfl⟩
abbrev main_v42_1 : Ref sig .tc := ⟨.hbm, 109, rfl⟩
abbrev main_v42_2 : Ref sig .tc := ⟨.hbm, 110, rfl⟩
abbrev main_v42_3 : Ref sig .tc := ⟨.hbm, 111, rfl⟩
abbrev main_v42_4 : Ref sig .tc := ⟨.hbm, 112, rfl⟩
abbrev main_v42_5 : Ref sig .tc := ⟨.hbm, 113, rfl⟩
abbrev main_v42_6 : Ref sig .tc := ⟨.hbm, 114, rfl⟩
abbrev main_v42_7 : Ref sig .tc := ⟨.hbm, 115, rfl⟩
abbrev main_v42_8 : Ref sig .tc := ⟨.hbm, 116, rfl⟩
abbrev main_v42_9 : Ref sig .tc := ⟨.hbm, 117, rfl⟩
abbrev main_v42_10 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjRefIdeal.lean ====
abbrev S4x4096x1024 : Shape := ⟨3, ![4, 4096, 1024]⟩
abbrev S1x1024x3144 : Shape := ⟨3, ![1, 1024, 3144]⟩
abbrev S4096 : Shape := ⟨1, ![4096]⟩
abbrev S1024x3144 : Shape := ⟨2, ![1024, 3144]⟩
abbrev S4x4096x3144 : Shape := ⟨3, ![4, 4096, 3144]⟩
abbrev S4x4096x512 : Shape := ⟨3, ![4, 4096, 512]⟩
abbrev S4x4096x64 : Shape := ⟨3, ![4, 4096, 64]⟩
abbrev S4x4096x8 : Shape := ⟨3, ![4, 4096, 8]⟩
abbrev S4x4096x8x64 : Shape := ⟨4, ![4, 4096, 8, 64]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x8x8 : Shape := ⟨4, ![4, 4096, 8, 8]⟩
abbrev S1x4096x1x8 : Shape := ⟨4, ![1, 4096, 1, 8]⟩
abbrev S4x4096x8x48 : Shape := ⟨4, ![4, 4096, 8, 48]⟩
abbrev S4x4096x1x64 : Shape := ⟨4, ![4, 4096, 1, 64]⟩
abbrev S4x4096x1x8 : Shape := ⟨4, ![4, 4096, 1, 8]⟩
abbrev S4x4096x1x48 : Shape := ⟨4, ![4, 4096, 1, 48]⟩
abbrev S4x3x512 : Shape := ⟨3, ![4, 3, 512]⟩

abbrev nBuf : Space → Nat
  | .hbm => 169
  | .vmem => 0
  | .smem => 0
  | _ => 0

abbrev hbmTy0_0 (i : Nat) : BufTy := match i % 128 with
  | 0 => ⟨S4x4096x1024, .f32⟩
  | 1 => ⟨S1x1024x3144, .f32⟩
  | 2 => ⟨S4096, .i32⟩
  | 3 => ⟨S1024x3144, .f32⟩
  | 4 => ⟨S4x4096x3144, .f32⟩
  | 5 => ⟨S4x4096x512, .f32⟩
  | 6 => ⟨S4x4096x512, .f32⟩
  | 7 => ⟨S4x4096x512, .f32⟩
  | 8 => ⟨S4x4096x512, .f32⟩
  | 9 => ⟨S4x4096x512, .f32⟩
  | 10 => ⟨S4x4096x512, .f32⟩
  | 11 => ⟨S4x4096x64, .f32⟩
  | 12 => ⟨S4x4096x8, .f32⟩
  | 13 => ⟨S4x4096x8x64, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S4096, .f32⟩
  | 23 => ⟨S4096x1, .f32⟩
  | 24 => ⟨S1x8, .f32⟩
  | 25 => ⟨S4096x8, .f32⟩
  | 26 => ⟨S4096x8, .f32⟩
  | 27 => ⟨S4096x8, .f32⟩
  | 28 => ⟨S4096x8, .f32⟩
  | 29 => ⟨S4096x1x8, .f32⟩
  | 30 => ⟨S4096x8, .f32⟩
  | 31 => ⟨S4096x1x8, .f32⟩
  | 32 => ⟨S4x4096x8x8, .f32⟩
  | 33 => ⟨S4x4096x8x8, .f32⟩
  | 34 => ⟨S1x4096x1x8, .f32⟩
  | 35 => ⟨S4x4096x8x8, .f32⟩
  | 36 => ⟨S4x4096x8x8, .f32⟩
  | 37 => ⟨S1x4096x1x8, .f32⟩
  | 38 => ⟨S4x4096x8x8, .f32⟩
  | 39 => ⟨S4x4096x8x8, .f32⟩
  | 40 => ⟨S4x4096x8x8, .f32⟩
  | 41 => ⟨S1x4096x1x8, .f32⟩
  | 42 => ⟨S4x4096x8x8, .f32⟩
  | 43 => ⟨S4x4096x8x8, .f32⟩
  | 44 => ⟨S1x4096x1x8, .f32⟩
  | 45 => ⟨S4x4096x8x8, .f32⟩
  | 46 => ⟨S4x4096x8x8, .f32⟩
  | 47 => ⟨S4x4096x8x8, .f32⟩
  | 48 => ⟨S4x4096x8x48, .f32⟩
  | 49 => ⟨S4x4096x8x64, .f32⟩
  | 50 => ⟨S4x4096x8x64, .f32⟩
  | 51 => ⟨S8, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S4096, .f32⟩
  | 60 => ⟨S4096x1, .f32⟩
  | 61 => ⟨S1x8, .f32⟩
  | 62 => ⟨S4096x8, .f32⟩
  | 63 => ⟨S4096x8, .f32⟩
  | 64 => ⟨S4096x8, .f32⟩
  | 65 => ⟨S4096x8, .f32⟩
  | 66 => ⟨S4096x1x8, .f32⟩
  | 67 => ⟨S4096x8, .f32⟩
  | 68 => ⟨S4096x1x8, .f32⟩
  | 69 => ⟨S4x4096x8x8, .f32⟩
  | 70 => ⟨S4x4096x8x8, .f32⟩
  | 71 => ⟨S1x4096x1x8, .f32⟩
  | 72 => ⟨S4x4096x8x8, .f32⟩
  | 73 => ⟨S4x4096x8x8, .f32⟩
  | 74 => ⟨S1x4096x1x8, .f32⟩
  | 75 => ⟨S4x4096x8x8, .f32⟩
  | 76 => ⟨S4x4096x8x8, .f32⟩
  | 77 => ⟨S4x4096x8x8, .f32⟩
  | 78 => ⟨S1x4096x1x8, .f32⟩
  | 79 => ⟨S4x4096x8x8, .f32⟩
  | 80 => ⟨S4x4096x8x8, .f32⟩
  | 81 => ⟨S1x4096x1x8, .f32⟩
  | 82 => ⟨S4x4096x8x8, .f32⟩
  | 83 => ⟨S4x4096x8x8, .f32⟩
  | 84 => ⟨S4x4096x8x8, .f32⟩
  | 85 => ⟨S4x4096x8x48, .f32⟩
  | 86 => ⟨S4x4096x8x64, .f32⟩
  | 87 => ⟨S4x4096x8x64, .f32⟩
  | 88 => ⟨S4x4096x8x64, .f32⟩
  | 89 => ⟨S8, .f32⟩
  | 90 => ⟨S8, .f32⟩
  | 91 => ⟨S_, .f32⟩
  | 92 => ⟨S8, .f32⟩
  | 93 => ⟨S8, .f32⟩
  | 94 => ⟨S_, .f32⟩
  | 95 => ⟨S8, .f32⟩
  | 96 => ⟨S8, .f32⟩
  | 97 => ⟨S4096, .f32⟩
  | 98 => ⟨S4096x1, .f32⟩
  | 99 => ⟨S1x8, .f32⟩
  | 100 => ⟨S4096x8, .f32⟩
  | 101 => ⟨S4096x8, .f32⟩
  | 102 => ⟨S4096x8, .f32⟩
  | 103 => ⟨S4096x8, .f32⟩
  | 104 => ⟨S4096x1x8, .f32⟩
  | 105 => ⟨S4096x8, .f32⟩
  | 106 => ⟨S4096x1x8, .f32⟩
  | 107 => ⟨S4x4096x8x8, .f32⟩
  | 108 => ⟨S4x4096x8x8, .f32⟩
  | 109 => ⟨S1x4096x1x8, .f32⟩
  | 110 => ⟨S4x4096x8x8, .f32⟩
  | 111 => ⟨S4x4096x8x8, .f32⟩
  | 112 => ⟨S1x4096x1x8, .f32⟩
  | 113 => ⟨S4x4096x8x8, .f32⟩
  | 114 => ⟨S4x4096x8x8, .f32⟩
  | 115 => ⟨S4x4096x8x8, .f32⟩
  | 116 => ⟨S1x4096x1x8, .f32⟩
  | 117 => ⟨S4x4096x8x8, .f32⟩
  | 118 => ⟨S4x4096x8x8, .f32⟩
  | 119 => ⟨S1x4096x1x8, .f32⟩
  | 120 => ⟨S4x4096x8x8, .f32⟩
  | 121 => ⟨S4x4096x8x8, .f32⟩
  | 122 => ⟨S4x4096x8x8, .f32⟩
  | 123 => ⟨S4x4096x8x48, .f32⟩
  | 124 => ⟨S4x4096x8x64, .f32⟩
  | 125 => ⟨S4x4096x1x64, .f32⟩
  | 126 => ⟨S8, .f32⟩
  | 127 => ⟨S8, .f32⟩
  | _ => ⟨S4x4096x1024, .f32⟩

abbrev hbmTy0_1 (i : Nat) : BufTy := match i % 128 with
  | 0 => ⟨S_, .f32⟩
  | 1 => ⟨S8, .f32⟩
  | 2 => ⟨S8, .f32⟩
  | 3 => ⟨S_, .f32⟩
  | 4 => ⟨S8, .f32⟩
  | 5 => ⟨S8, .f32⟩
  | 6 => ⟨S4096, .f32⟩
  | 7 => ⟨S4096x1, .f32⟩
  | 8 => ⟨S1x8, .f32⟩
  | 9 => ⟨S4096x8, .f32⟩
  | 10 => ⟨S4096x8, .f32⟩
  | 11 => ⟨S4096x8, .f32⟩
  | 12 => ⟨S4096x8, .f32⟩
  | 13 => ⟨S4096x1x8, .f32⟩
  | 14 => ⟨S4096x8, .f32⟩
  | 15 => ⟨S4096x1x8, .f32⟩
  | 16 => ⟨S4x4096x1x8, .f32⟩
  | 17 => ⟨S4x4096x1x8, .f32⟩
  | 18 => ⟨S1x4096x1x8, .f32⟩
  | 19 => ⟨S4x4096x1x8, .f32⟩
  | 20 => ⟨S4x4096x1x8, .f32⟩
  | 21 => ⟨S1x4096x1x8, .f32⟩
  | 22 => ⟨S4x4096x1x8, .f32⟩
  | 23 => ⟨S4x4096x1x8, .f32⟩
  | 24 => ⟨S4x4096x1x8, .f32⟩
  | 25 => ⟨S1x4096x1x8, .f32⟩
  | 26 => ⟨S4x4096x1x8, .f32⟩
  | 27 => ⟨S4x4096x1x8, .f32⟩
  | 28 => ⟨S1x4096x1x8, .f32⟩
  | 29 => ⟨S4x4096x1x8, .f32⟩
  | 30 => ⟨S4x4096x1x8, .f32⟩
  | 31 => ⟨S4x4096x1x8, .f32⟩
  | 32 => ⟨S4x4096x1x48, .f32⟩
  | 33 => ⟨S4x4096x1x64, .f32⟩
  | 34 => ⟨S4x4096x64, .f32⟩
  | 35 => ⟨S_, .f32⟩
  | 36 => ⟨S4x4096x8x64, .f32⟩
  | 37 => ⟨S4x4096x8x64, .f32⟩
  | 38 => ⟨S4x4096x8x64, .bf16⟩
  | 39 => ⟨S4x4096x8x64, .bf16⟩
  | 40 => ⟨S4x3x512, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_cst_1 : Ref sig .tc := ⟨.hbm, 53, rfl⟩
abbrev main_v49 : Ref sig .tc := ⟨.hbm, 54, rfl⟩
abbrev main_v50 : Ref sig .tc := ⟨.hbm, 55, rfl⟩
abbrev main_cst_2 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_cst_3 : Ref sig .tc := ⟨.hbm, 91, rfl⟩
abbrev main_v85 : Ref sig .tc := ⟨.hbm, 92, rfl⟩
abbrev main_v86 : Ref sig .tc := ⟨.hbm, 93, rfl⟩
abbrev main_cst_4 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_cst_5 : Ref sig .tc := ⟨.hbm, 128, rfl⟩
abbrev main_v120 : Ref sig .tc := ⟨.hbm, 129, rfl⟩
abbrev main_v121 : Ref sig .tc := ⟨.hbm, 130, rfl⟩
abbrev main_cst_6 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_cst_7 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩

abbrev nD : Nat := 1
abbrev τ : Topo := Topo.v7x

variable {F : FTy → Type} [FloatOps F]
-- ==== ProjS.lean ====
abbrev S128x4x1024 : Shape := ⟨3, ![128, 4, 1024]⟩
abbrev S1x1024x3144 : Shape := ⟨3, ![1, 1024, 3144]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S512x1024 : Shape := ⟨2, ![512, 1024]⟩
abbrev S1024x3144 : Shape := ⟨2, ![1024, 3144]⟩
abbrev S1024x3200 : Shape := ⟨2, ![1024, 3200]⟩
abbrev S8 : Shape := ⟨1, ![8]⟩
abbrev S128 : Shape := ⟨1, ![128]⟩
abbrev S512x1 : Shape := ⟨2, ![512, 1]⟩
abbrev S128x1 : Shape := ⟨2, ![128, 1]⟩
abbrev S1x128 : Shape := ⟨2, ![1, 128]⟩
abbrev S512x128 : Shape := ⟨2, ![512, 128]⟩
abbrev S512x512 : Shape := ⟨2, ![512, 512]⟩
abbrev S256x1024 : Shape := ⟨2, ![256, 1024]⟩
abbrev S256x128 : Shape := ⟨2, ![256, 128]⟩
abbrev S256x512 : Shape := ⟨2, ![256, 512]⟩
abbrev S1024x512 : Shape := ⟨2, ![1024, 512]⟩
abbrev S1024x128 : Shape := ⟨2, ![1024, 128]⟩
abbrev S128x4x512 : Shape := ⟨3, ![128, 4, 512]⟩
abbrev S128x4x128 : Shape := ⟨3, ![128, 4, 128]⟩
abbrev S128x4x8x64 : Shape := ⟨4, ![128, 4, 8, 64]⟩
abbrev S128x4x64 : Shape := ⟨3, ![128, 4, 64]⟩
abbrev S128x4x8 : Shape := ⟨3, ![128, 4, 8]⟩
abbrev S128x3x512 : Shape := ⟨3, ![128, 3, 512]⟩

abbrev nBuf : Space → Nat
  | .hbm => 133
  | .vmem => 27
  | .smem => 0
  | _ => 0

abbrev hbmTy0_0 (i : Nat) : BufTy := match i % 128 with
  | 0 => ⟨S128x4x1024, .f32⟩
  | 1 => ⟨S1x1024x3144, .f32⟩
  | 2 => ⟨S4, .i32⟩
  | 3 => ⟨S_, .i32⟩
  | 4 => ⟨S4, .i32⟩
  | 5 => ⟨S4, .i32⟩
  | 6 => ⟨S1x4, .i32⟩
  | 7 => ⟨S128x4, .i32⟩
  | 8 => ⟨S512, .i32⟩
  | 9 => ⟨S512x1024, .f32⟩
  | 10 => ⟨S1024x3144, .f32⟩
  | 11 => ⟨S_, .i32⟩
  | 12 => ⟨S_, .f32⟩
  | 13 => ⟨S1024x3200, .f32⟩
  | 14 => ⟨S1024x3200, .bf16⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S128, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S128, .i32⟩
  | 31 => ⟨S128, .i32⟩
  | 32 => ⟨S_, .i32⟩
  | 33 => ⟨S128, .i32⟩
  | 34 => ⟨S128, .i1⟩
  | 35 => ⟨S_, .i32⟩
  | 36 => ⟨S128, .i32⟩
  | 37 => ⟨S128, .i1⟩
  | 38 => ⟨S_, .i32⟩
  | 39 => ⟨S_, .i1⟩
  | 40 => ⟨S128, .i1⟩
  | 41 => ⟨S128, .i1⟩
  | 42 => ⟨S128, .i1⟩
  | 43 => ⟨S128, .i32⟩
  | 44 => ⟨S128, .i32⟩
  | 45 => ⟨S128, .i32⟩
  | 46 => ⟨S512, .f32⟩
  | 47 => ⟨S512x1, .f32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S128, .i32⟩
  | 55 => ⟨S128, .i32⟩
  | 56 => ⟨S_, .i32⟩
  | 57 => ⟨S128, .i32⟩
  | 58 => ⟨S128, .i1⟩
  | 59 => ⟨S_, .i32⟩
  | 60 => ⟨S128, .i32⟩
  | 61 => ⟨S128, .i1⟩
  | 62 => ⟨S_, .i32⟩
  | 63 => ⟨S_, .i1⟩
  | 64 => ⟨S128, .i1⟩
  | 65 => ⟨S128, .i1⟩
  | 66 => ⟨S128, .i1⟩
  | 67 => ⟨S128, .i32⟩
  | 68 => ⟨S128, .i32⟩
  | 69 => ⟨S128, .i32⟩
  | 70 => ⟨S_, .i32⟩
  | 71 => ⟨S128, .i32⟩
  | 72 => ⟨S128, .i1⟩
  | 73 => ⟨S_, .i32⟩
  | 74 => ⟨S128, .i32⟩
  | 75 => ⟨S128, .i32⟩
  | 76 => ⟨S128, .i32⟩
  | 77 => ⟨S128x1, .i32⟩
  | 78 => ⟨S128, .f32⟩
  | 79 => ⟨S1x128, .f32⟩
  | 80 => ⟨S512x128, .f32⟩
  | 81 => ⟨S512x128, .f32⟩
  | 82 => ⟨S512x128, .f32⟩
  | 83 => ⟨S512x128, .f32⟩
  | 84 => ⟨S512x128, .f32⟩
  | 85 => ⟨S_, .i32⟩
  | 86 => ⟨S128, .i32⟩
  | 87 => ⟨S128, .i1⟩
  | 88 => ⟨S_, .f32⟩
  | 89 => ⟨S_, .f32⟩
  | 90 => ⟨S512x128, .i1⟩
  | 91 => ⟨S512x128, .f32⟩
  | 92 => ⟨S512x128, .f32⟩
  | 93 => ⟨S_, .i32⟩
  | 94 => ⟨S128, .i32⟩
  | 95 => ⟨S128, .i1⟩
  | 96 => ⟨S512x128, .f32⟩
  | 97 => ⟨S_, .f32⟩
  | 98 => ⟨S_, .f32⟩
  | 99 => ⟨S512x128, .i1⟩
  | 100 => ⟨S512x128, .f32⟩
  | 101 => ⟨S512x128, .f32⟩
  | 102 => ⟨S_, .i32⟩
  | 103 => ⟨S128, .i32⟩
  | 104 => ⟨S128, .i1⟩
  | 105 => ⟨S_, .i32⟩
  | 106 => ⟨S128, .i32⟩
  | 107 => ⟨S128, .i1⟩
  | 108 => ⟨S128, .i1⟩
  | 109 => ⟨S_, .f32⟩
  | 110 => ⟨S_, .f32⟩
  | 111 => ⟨S512x128, .i1⟩
  | 112 => ⟨S512x128, .f32⟩
  | 113 => ⟨S512x128, .f32⟩
  | 114 => ⟨S512x512, .f32⟩
  | 115 => ⟨S512x512, .f32⟩
  | 116 => ⟨S512x512, .bf16⟩
  | 117 => ⟨S512x512, .f32⟩
  | 118 => ⟨S512x512, .bf16⟩
  | 119 => ⟨S512x512, .f32⟩
  | 120 => ⟨S512x512, .bf16⟩
  | 121 => ⟨S512x512, .bf16⟩
  | 122 => ⟨S512x128, .f32⟩
  | 123 => ⟨S128x4x512, .f32⟩
  | 124 => ⟨S128x4x128, .f32⟩
  | 125 => ⟨S128x4x512, .f32⟩
  | 126 => ⟨S128x4x8x64, .bf16⟩
  | 127 => ⟨S128x4x8x64, .f32⟩
  | _ => ⟨S128x4x1024, .f32⟩

abbrev hbmTy0_1 (i : Nat) : BufTy := match i % 128 with
  | 0 => ⟨S128x4x8x64, .f32⟩
  | 1 => ⟨S128x4x8x64, .bf16⟩
  | 2 => ⟨S128x4x64, .f32⟩
  | 3 => ⟨S128x4x8, .f32⟩
  | 4 => ⟨S128x3x512, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1024x3200, .bf16⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .bf16⟩
  | .local _ .vmem, ⟨14, _⟩ => ⟨S256x512, .bf16⟩
  | .local _ .vmem, ⟨15, _⟩ => ⟨S256x512, .f32⟩
  | .local _ .vmem, ⟨16, _⟩ => ⟨S256x512, .f32⟩
  | .local _ .vmem, ⟨17, _⟩ => ⟨S256x512, .bf16⟩
  | .local _ .vmem, ⟨18, _⟩ => ⟨S256x512, .bf16⟩
  | .local _ .vmem, ⟨19, _⟩ => ⟨S256x512, .f32⟩
  | .local _ .vmem, ⟨20, _⟩ => ⟨S256x512, .f32⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x128, .f32⟩
  | .local _ .vmem, ⟨26, _⟩ => ⟨S256x128, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_3 : Ref sig .tc := ⟨.hbm, 48, rfl⟩
abbrev main_call2_v0 : Ref sig .tc := ⟨.hbm, 49, rfl⟩
abbrev main_call2_c : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_c_1 : Ref sig .tc := ⟨.hbm, 56, rfl⟩
abbrev main_call2_v5 : Ref sig .tc := ⟨.hbm, 57, rfl⟩
abbrev main_call2_v6 : Ref sig .tc := ⟨.hbm, 58, rfl⟩
abbrev main_call2_c_2 : Ref sig .tc := ⟨.hbm, 59, rfl⟩
abbrev main_call2_v7 : Ref sig .tc := ⟨.hbm, 60, rfl⟩
abbrev main_call2_v8 : Ref sig .tc := ⟨.hbm, 61, rfl⟩
abbrev main_call2_c_3 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_v12 : Ref sig .tc := ⟨.hbm, 66, rfl⟩
abbrev main_call2_v13 : Ref sig .tc := ⟨.hbm, 67, rfl⟩
abbrev main_call2_v14 : Ref sig .tc := ⟨.hbm, 68, rfl⟩
abbrev main_v20 : Ref sig .tc := ⟨.hbm, 69, rfl⟩
abbrev main_c_4 : Ref sig .tc := ⟨.hbm, 70, rfl⟩
abbrev main_v21 : Ref sig .tc := ⟨.hbm, 71, rfl⟩
abbrev main_v22 : Ref sig .tc := ⟨.hbm, 72, rfl⟩
abbrev main_c_5 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_c_6 : Ref sig .tc := ⟨.hbm, 85, rfl⟩
abbrev main_v34 : Ref sig .tc := ⟨.hbm, 86, rfl⟩
abbrev main_v35 : Ref sig .tc := ⟨.hbm, 87, rfl⟩
abbrev main_cst_7 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v36 : Ref sig .tc := ⟨.hbm, 92, rfl⟩
abbrev main_c_8 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_cst_9 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_v40 : Ref sig .tc := ⟨.hbm, 101, rfl⟩
abbrev main_c_10 : Ref sig .tc := ⟨.hbm, 102, rfl⟩
abbrev main_v41 : Ref sig .tc := ⟨.hbm, 103, rfl⟩
abbrev main_v42 : Ref sig .tc := ⟨.hbm, 104, rfl⟩
abbrev main_c_11 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_cst_12 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_v46 : Ref sig .tc := ⟨.hbm, 113, rfl⟩
abbrev main_v47_0 : Ref sig .tc := ⟨.hbm, 114, rfl⟩
abbrev main_v47_1 : Ref sig .tc := ⟨.hbm, 115, rfl⟩
abbrev main_v47_2 : Ref sig .tc := ⟨.hbm, 116, rfl⟩
abbrev main_v47_3 : Ref sig .tc := ⟨.hbm, 117, rfl⟩
abbrev main_v47_4 : Ref sig .tc := ⟨.hbm, 118, rfl⟩
abbrev main_v47_5 : Ref sig .tc := ⟨.hbm, 119, rfl⟩
abbrev main_v47_6 : Ref sig .tc := ⟨.hbm, 120, rfl⟩
abbrev main_v47_7 : Ref sig .tc := ⟨.hbm, 121, rfl⟩
abbrev main_v47_8 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjSRefIdeal.lean ====
abbrev S128x4x1024 : Shape := ⟨3, ![128, 4, 1024]⟩
abbrev S1x1024x3144 : Shape := ⟨3, ![1, 1024, 3144]⟩
abbrev S4 : Shape := ⟨1, ![4]⟩
abbrev S_ : Shape := ⟨0, ![]⟩
abbrev S1024x3144 : Shape := ⟨2, ![1024, 3144]⟩
abbrev S128x4x3144 : Shape := ⟨3, ![128, 4, 3144]⟩
abbrev S128x4x512 : Shape := ⟨3, ![128, 4, 512]⟩
abbrev S128x4x64 : Shape := ⟨3, ![128, 4, 64]⟩
abbrev S128x4x8 : Shape := ⟨3, ![128, 4, 8]⟩
abbrev S128x4x8x64 : Shape := ⟨4, ![128, 4, 8, 64]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S4x1x8 : Shape := ⟨3, ![4, 1, 8]⟩
abbrev S128x4x8x8 : Shape := ⟨4, ![128, 4, 8, 8]⟩
abbrev S1x4x1x8 : Shape := ⟨4, ![1, 4, 1, 8]⟩
abbrev S128x4x8x48 : Shape := ⟨4, ![128, 4, 8, 48]⟩
abbrev S128x4x1x64 : Shape := ⟨4, ![128, 4, 1, 64]⟩
abbrev S128x4x1x8 : Shape := ⟨4, ![128, 4, 1, 8]⟩
abbrev S128x4x1x48 : Shape := ⟨4, ![128, 4, 1, 48]⟩
abbrev S128x3x512 : Shape := ⟨3, ![128, 3, 512]⟩

abbrev nBuf : Space → Nat
  | .hbm => 172
  | .vmem => 0
  | .smem => 0
  | _ => 0

abbrev hbmTy0_0 (i : Nat) : BufTy := match i % 128 with
  | 0 => ⟨S128x4x1024, .f32⟩
  | 1 => ⟨S1x1024x3144, .f32⟩
  | 2 => ⟨S4, .i32⟩
  | 3 => ⟨S_, .i32⟩
  | 4 => ⟨S4, .i32⟩
  | 5 => ⟨S4, .i32⟩
  | 6 => ⟨S1024x3144, .f32⟩
  | 7 => ⟨S128x4x3144, .f32⟩
  | 8 => ⟨S128x4x512, .f32⟩
  | 9 => ⟨S128x4x512, .f32⟩
  | 10 => ⟨S128x4x512, .f32⟩
  | 11 => ⟨S128x4x512, .f32⟩
  | 12 => ⟨S128x4x512, .f32⟩
  | 13 => ⟨S128x4x512, .f32⟩
  | 14 => ⟨S128x4x64, .f32⟩
  | 15 => ⟨S128x4x8, .f32⟩
  | 16 => ⟨S128x4x8x64, .f32⟩
  | 17 => ⟨S8, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S4, .f32⟩
  | 26 => ⟨S4x1, .f32⟩
  | 27 => ⟨S1x8, .f32⟩
  | 28 => ⟨S4x8, .f32⟩
  | 29 => ⟨S4x8, .f32⟩
  | 30 => ⟨S4x8, .f32⟩
  | 31 => ⟨S4x8, .f32⟩
  | 32 => ⟨S4x1x8, .f32⟩
  | 33 => ⟨S4x8, .f32⟩
  | 34 => ⟨S4x1x8, .f32⟩
  | 35 => ⟨S128x4x8x8, .f32⟩
  | 36 => ⟨S128x4x8x8, .f32⟩
  | 37 => ⟨S1x4x1x8, .f32⟩
  | 38 => ⟨S128x4x8x8, .f32⟩
  | 39 => ⟨S128x4x8x8, .f32⟩
  | 40 => ⟨S1x4x1x8, .f32⟩
  | 41 => ⟨S128x4x8x8, .f32⟩
  | 42 => ⟨S128x4x8x8, .f32⟩
  | 43 => ⟨S128x4x8x8, .f32⟩
  | 44 => ⟨S1x4x1x8, .f32⟩
  | 45 => ⟨S128x4x8x8, .f32⟩
  | 46 => ⟨S128x4x8x8, .f32⟩
  | 47 => ⟨S1x4x1x8, .f32⟩
  | 48 => ⟨S128x4x8x8, .f32⟩
  | 49 => ⟨S128x4x8x8, .f32⟩
  | 50 => ⟨S128x4x8x8, .f32⟩
  | 51 => ⟨S128x4x8x48, .f32⟩
  | 52 => ⟨S128x4x8x64, .f32⟩
  | 53 => ⟨S128x4x8x64, .f32⟩
  | 54 => ⟨S8, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S4, .f32⟩
  | 63 => ⟨S4x1, .f32⟩
  | 64 => ⟨S1x8, .f32⟩
  | 65 => ⟨S4x8, .f32⟩
  | 66 => ⟨S4x8, .f32⟩
  | 67 => ⟨S4x8, .f32⟩
  | 68 => ⟨S4x8, .f32⟩
  | 69 => ⟨S4x1x8, .f32⟩
  | 70 => ⟨S4x8, .f32⟩
  | 71 => ⟨S4x1x8, .f32⟩
  | 72 => ⟨S128x4x8x8, .f32⟩
  | 73 => ⟨S128x4x8x8, .f32⟩
  | 74 => ⟨S1x4x1x8, .f32⟩
  | 75 => ⟨S128x4x8x8, .f32⟩
  | 76 => ⟨S128x4x8x8, .f32⟩
  | 77 => ⟨S1x4x1x8, .f32⟩
  | 78 => ⟨S128x4x8x8, .f32⟩
  | 79 => ⟨S128x4x8x8, .f32⟩
  | 80 => ⟨S128x4x8x8, .f32⟩
  | 81 => ⟨S1x4x1x8, .f32⟩
  | 82 => ⟨S128x4x8x8, .f32⟩
  | 83 => ⟨S128x4x8x8, .f32⟩
  | 84 => ⟨S1x4x1x8, .f32⟩
  | 85 => ⟨S128x4x8x8, .f32⟩
  | 86 => ⟨S128x4x8x8, .f32⟩
  | 87 => ⟨S128x4x8x8, .f32⟩
  | 88 => ⟨S128x4x8x48, .f32⟩
  | 89 => ⟨S128x4x8x64, .f32⟩
  | 90 => ⟨S128x4x8x64, .f32⟩
  | 91 => ⟨S128x4x8x64, .f32⟩
  | 92 => ⟨S8, .f32⟩
  | 93 => ⟨S8, .f32⟩
  | 94 => ⟨S_, .f32⟩
  | 95 => ⟨S8, .f32⟩
  | 96 => ⟨S8, .f32⟩
  | 97 => ⟨S_, .f32⟩
  | 98 => ⟨S8, .f32⟩
  | 99 => ⟨S8, .f32⟩
  | 100 => ⟨S4, .f32⟩
  | 101 => ⟨S4x1, .f32⟩
  | 102 => ⟨S1x8, .f32⟩
  | 103 => ⟨S4x8, .f32⟩
  | 104 => ⟨S4x8, .f32⟩
  | 105 => ⟨S4x8, .f32⟩
  | 106 => ⟨S4x8, .f32⟩
  | 107 => ⟨S4x1x8, .f32⟩
  | 108 => ⟨S4x8, .f32⟩
  | 109 => ⟨S4x1x8, .f32⟩
  | 110 => ⟨S128x4x8x8, .f32⟩
  | 111 => ⟨S128x4x8x8, .f32⟩
  | 112 => ⟨S1x4x1x8, .f32⟩
  | 113 => ⟨S128x4x8x8, .f32⟩
  | 114 => ⟨S128x4x8x8, .f32⟩
  | 115 => ⟨S1x4x1x8, .f32⟩
  | 116 => ⟨S128x4x8x8, .f32⟩
  | 117 => ⟨S128x4x8x8, .f32⟩
  | 118 => ⟨S128x4x8x8, .f32⟩
  | 119 => ⟨S1x4x1x8, .f32⟩
  | 120 => ⟨S128x4x8x8, .f32⟩
  | 121 => ⟨S128x4x8x8, .f32⟩
  | 122 => ⟨S1x4x1x8, .f32⟩
  | 123 => ⟨S128x4x8x8, .f32⟩
  | 124 => ⟨S128x4x8x8, .f32⟩
  | 125 => ⟨S128x4x8x8, .f32⟩
  | 126 => ⟨S128x4x8x48, .f32⟩
  | 127 => ⟨S128x4x8x64, .f32⟩
  | _ => ⟨S128x4x1024, .f32⟩

abbrev hbmTy0_1 (i : Nat) : BufTy := match i % 128 with
  | 0 => ⟨S128x4x1x64, .f32⟩
  | 1 => ⟨S8, .f32⟩
  | 2 => ⟨S8, .f32⟩
  | 3 => ⟨S_, .f32⟩
  | 4 => ⟨S8, .f32⟩
  | 5 => ⟨S8, .f32⟩
  | 6 => ⟨S_, .f32⟩
  | 7 => ⟨S8, .f32⟩
  | 8 => ⟨S8, .f32⟩
  | 9 => ⟨S4, .f32⟩
  | 10 => ⟨S4x1, .f32⟩
  | 11 => ⟨S1x8, .f32⟩
  | 12 => ⟨S4x8, .f32⟩
  | 13 => ⟨S4x8, .f32⟩
  | 14 => ⟨S4x8, .f32⟩
  | 15 => ⟨S4x8, .f32⟩
  | 16 => ⟨S4x1x8, .f32⟩
  | 17 => ⟨S4x8, .f32⟩
  | 18 => ⟨S4x1x8, .f32⟩
  | 19 => ⟨S128x4x1x8, .f32⟩
  | 20 => ⟨S128x4x1x8, .f32⟩
  | 21 => ⟨S1x4x1x8, .f32⟩
  | 22 => ⟨S128x4x1x8, .f32⟩
  | 23 => ⟨S128x4x1x8, .f32⟩
  | 24 => ⟨S1x4x1x8, .f32⟩
  | 25 => ⟨S128x4x1x8, .f32⟩
  | 26 => ⟨S128x4x1x8, .f32⟩
  | 27 => ⟨S128x4x1x8, .f32⟩
  | 28 => ⟨S1x4x1x8, .f32⟩
  | 29 => ⟨S128x4x1x8, .f32⟩
  | 30 => ⟨S128x4x1x8, .f32⟩
  | 31 => ⟨S1x4x1x8, .f32⟩
  | 32 => ⟨S128x4x1x8, .f32⟩
  | 33 => ⟨S128x4x1x8, .f32⟩
  | 34 => ⟨S128x4x1x8, .f32⟩
  | 35 => ⟨S128x4x1x48, .f32⟩
  | 36 => ⟨S128x4x1x64, .f32⟩
  | 37 => ⟨S128x4x64, .f32⟩
  | 38 => ⟨S_, .f32⟩
  | 39 => ⟨S128x4x8x64, .f32⟩
  | 40 => ⟨S128x4x8x64, .f32⟩
  | 41 => ⟨S128x4x8x64, .bf16⟩
  | 42 => ⟨S128x4x8x64, .bf16⟩
  | 43 => ⟨S128x3x512, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_cst_1 : Ref sig .tc := ⟨.hbm, 56, rfl⟩
abbrev main_v51 : Ref sig .tc := ⟨.hbm, 57, rfl⟩
abbrev main_v52 : Ref sig .tc := ⟨.hbm, 58, rfl⟩
abbrev main_cst_2 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_cst_3 : Ref sig .tc := ⟨.hbm, 94, rfl⟩
abbrev main_v87 : Ref sig .tc := ⟨.hbm, 95, rfl⟩
abbrev main_v88 : Ref sig .tc := ⟨.hbm, 96, rfl⟩
abbrev main_cst_4 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_cst_5 : Ref sig .tc := ⟨.hbm, 131, rfl⟩
abbrev main_v122 : Ref sig .tc := ⟨.hbm, 132, rfl⟩
abbrev main_v123 : Ref sig .tc := ⟨.hbm, 133, rfl⟩
abbrev main_cst_6 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_cst_7 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩

abbrev nD : Nat := 1
abbrev τ : Topo := Topo.v7x

variable {F : FTy → Type} [FloatOps F]
-- ==== LruS.lean ====
abbrev S128x4x512 : Shape := ⟨3, ![128, 4, 512]⟩
abbrev S1x128x3x512 : Shape := ⟨4, ![1, 128, 3, 512]⟩
abbrev S1x128x512 : Shape := ⟨3, ![1, 128, 512]⟩
abbrev S1x4x512 : Shape := ⟨3, ![1, 4, 512]⟩
abbrev S1x512 : Shape := ⟨2, ![1, 512]⟩
abbrev S1x8x64x64 : Shape := ⟨4, ![1, 8, 64, 64]⟩
abbrev S8x64x64 : Shape := ⟨3, ![8, 64, 64]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S512 : Shape := ⟨1, ![512]⟩
abbrev S8x512 : Shape := ⟨2, ![8, 512]⟩
abbrev S4x128x512 : Shape := ⟨3, ![4, 128, 512]⟩
abbrev S128x3x512 : Shape := ⟨3, ![128, 3, 512]⟩
abbrev S3x128x512 : Shape := ⟨3, ![3, 128, 512]⟩
abbrev S128x512 : Shape := ⟨2, ![128, 512]⟩
abbrev S4x512 : Shape := ⟨2, ![4, 512]⟩
abbrev S128 : Shape := ⟨1, ![128]⟩
abbrev S128x1 : Shape := ⟨2, ![128, 1]⟩

abbrev nBuf : Space → Nat
  | .hbm => 68
  | .vmem => 10
  | .smem => 0
  | _ => 0

abbrev bufTy : (tb : Table) → Fin (tcTables nBuf tb) → BufTy
  | .hbm, ⟨0, _⟩ => ⟨S128x4x512, .f32⟩
  | .hbm, ⟨1, _⟩ => ⟨S128x4x512, .f32⟩
  | .hbm, ⟨2, _⟩ => ⟨S1x128x3x512, .f32⟩
  | .hbm, ⟨3, _⟩ => ⟨S1x128x512, .f32⟩
  | .hbm, ⟨4, _⟩ => ⟨S1x4x512, .f32⟩
  | .hbm, ⟨5, _⟩ => ⟨S1x512, .f32⟩
  | .hbm, ⟨6, _⟩ => ⟨S1x8x64x64, .f32⟩
  | .hbm, ⟨7, _⟩ => ⟨S1x512, .f32⟩
  | .hbm, ⟨8, _⟩ => ⟨S1x8x64x64, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S8x64x64, .f32⟩
  | .hbm, ⟨13, _⟩ => ⟨S8x8, .i32⟩
  | .hbm, ⟨14, _⟩ => ⟨S8x8, .i32⟩
  | .hbm, ⟨15, _⟩ => ⟨S_, .i32⟩
  | .hbm, ⟨16, _⟩ => ⟨S8x8, .i32⟩
  | .hbm, ⟨17, _⟩ => ⟨S8x8, .i32⟩
  | .hbm, ⟨18, _⟩ => ⟨S8x8, .i1⟩
  | .hbm, ⟨19, _⟩ => ⟨S8x8, .f32⟩
  | .hbm, ⟨20, _⟩ => ⟨S8x64x1x64, .f32⟩
  | .hbm, ⟨21, _⟩ => ⟨S8x1x8x1, .f32⟩
  | .hbm, ⟨22, _⟩ => ⟨S8x64x8x64, .f32⟩
  | .hbm, ⟨23, _⟩ => ⟨S8x64x8x64, .f32⟩
  | .hbm, ⟨24, _⟩ => ⟨S8x64x8x64, .f32⟩
  | .hbm, ⟨25, _⟩ => ⟨S512x512, .f32⟩
  | .hbm, ⟨26, _⟩ => ⟨S512x512, .bf16⟩
  | .hbm, ⟨27, _⟩ => ⟨S8x64x64, .f32⟩
  | .hbm, ⟨28, _⟩ => ⟨S8x8, .i32⟩
  | .hbm, ⟨29, _⟩ => ⟨S8x8, .i32⟩
  | .hbm, ⟨30, _⟩ => ⟨S_, .i32⟩
  | .hbm, ⟨31, _⟩ => ⟨S8x8, .i32⟩
  | .hbm, ⟨32, _⟩ => ⟨S8x8, .i32⟩
  | .hbm, ⟨33, _⟩ => ⟨S8x8, .i1⟩
  | .hbm, ⟨34, _⟩ => ⟨S8x8, .f32⟩
  | .hbm, ⟨35, _⟩ => ⟨S8x64x1x64, .f32⟩
  | .hbm, ⟨36, _⟩ => ⟨S8x1x8x1, .f32⟩
  | .hbm, ⟨37, _⟩ => ⟨S8x64x8x64, .f32⟩
  | .hbm, ⟨38, _⟩ => ⟨S8x64x8x64, .f32⟩
  | .hbm, ⟨39, _⟩ => ⟨S8x64x8x64, .f32⟩
  | .hbm, ⟨40, _⟩ => ⟨S512x512, .f32⟩
  | .hbm, ⟨41, _⟩ => ⟨S512x512, .bf16⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S512, .f32⟩
  | .hbm, ⟨46, _⟩ => ⟨S512, .f32⟩
  | .hbm, ⟨47, _⟩ => ⟨S512, .f32⟩
  | .hbm, ⟨48, _⟩ => ⟨S_, .f32⟩
  | .hbm, ⟨49, _⟩ => ⟨S512, .f32⟩
  | .hbm, ⟨50, _⟩ => ⟨S1x512, .f32⟩
  | .hbm, ⟨51, _⟩ => ⟨S1x512, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S1x512, .f32⟩
  | .hbm, ⟨57, _⟩ => ⟨S1x512, .f32⟩
  | .hbm, ⟨58, _⟩ => ⟨S8x512, .f32⟩
  | .hbm, ⟨59, _⟩ => ⟨S4x128x512, .f32⟩
  | .hbm, ⟨60, _⟩ => ⟨S4x128x512, .f32⟩
  | .hbm, ⟨61, _⟩ => ⟨S128x3x512, .f32⟩
  | .hbm, ⟨62, _⟩ => ⟨S3x128x512, .f32⟩
  | .hbm, ⟨63, _⟩ => ⟨S128x512, .f32⟩
  | .hbm, ⟨64, _⟩ => ⟨S4x512, .f32⟩
  | .hbm, ⟨65, _⟩ => ⟨S4x128x512, .bf16⟩
  | .hbm, ⟨66, _⟩ => ⟨S128x512, .f32⟩
  | .hbm, ⟨67, _⟩ => ⟨S128x4x512, .bf16⟩
  | .local _ .vmem, ⟨0, _⟩ => ⟨S4x128x512, .f32⟩
  | .local _ .vmem, ⟨1, _⟩ => ⟨S4x128x512, .f32⟩
  | .local _ .vmem, ⟨2, _⟩ => ⟨S3x128x512, .f32⟩
  | .local _ .vmem, ⟨3, _⟩ => ⟨S128x512, .f32⟩
  | .local _ .vmem, ⟨4, _⟩ => ⟨S4x512, .f32⟩
  | .local _ .vmem, ⟨5, _⟩ => ⟨S8x512, .f32⟩
  | .local _ .vmem, ⟨6, _⟩ => ⟨S512x512, .bf16⟩
  | .local _ .vmem, ⟨7, _⟩ => ⟨S512x512, .bf16⟩
  | .local _ .vmem, ⟨8, _⟩ => ⟨S4x128x512, .bf16⟩
  | .local _ .vmem, ⟨9, _⟩ => ⟨S128x512, .f32⟩
  | _, _ => ⟨S128x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50_0 : Ref sig .tc := ⟨.hbm, 65, rfl⟩
abbrev main_v50_1 : Ref sig .tc := ⟨.hbm, 66, rfl⟩
abbrev main_v51 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== LruSRefIdeal.lean ====
abbrev S128x4x512 : Shape := ⟨3, ![128, 4, 512]⟩
abbrev S1x128x3x512 : Shape := ⟨4, ![1, 128, 3, 512]⟩
abbrev S1x128x512 : Shape := ⟨3, ![1, 128, 512]⟩
abbrev S1x4x512 : Shape := ⟨3, ![1, 4, 512]⟩
abbrev S1x512 : Shape := ⟨2, ![1, 512]⟩
abbrev S1x8x64x64 : Shape := ⟨4, ![1, 8, 64, 64]⟩
abbrev S4x512 : Shape := ⟨2, ![4, 512]⟩
abbrev S512 : Shape := ⟨1, ![512]⟩
abbrev S8x64x64 : Shape := ⟨3, ![8, 64, 64]⟩
abbrev S128x3x512 : Shape := ⟨3, ![128, 3, 512]⟩
abbrev S128x7x512 : Shape := ⟨3, ![128, 7, 512]⟩
abbrev S1x1x512 : Shape := ⟨3, ![1, 1, 512]⟩
abbrev S_ : Shape := ⟨0, ![]⟩
abbrev S128x4x8x64 : Shape := ⟨4, ![128, 4, 8, 64]⟩
abbrev S8x64x128x4 : Shape := ⟨4, ![8, 64, 128, 4]⟩
abbrev S128x512 : Shape := ⟨2, ![128, 512]⟩
abbrev S128x1x512 : Shape := ⟨3, ![128, 1, 512]⟩
abbrev S128x4 : Shape := ⟨2, ![128, 4]⟩
abbrev S128x4x1 : Shape := ⟨3, ![128, 4, 1]⟩

abbrev nBuf : Space → Nat
  | .hbm => 179
  | .vmem => 0
  | .smem => 0
  | _ => 0

abbrev hbmTy0_0 (i : Nat) : BufTy := match i % 128 with
  | 0 => ⟨S128x4x512, .f32⟩
  | 1 => ⟨S128x4x512, .f32⟩
  | 2 => ⟨S1x128x3x512, .f32⟩
  | 3 => ⟨S1x128x512, .f32⟩
  | 4 => ⟨S1x4x512, .f32⟩
  | 5 => ⟨S1x512, .f32⟩
  | 6 => ⟨S1x8x64x64, .f32⟩
  | 7 => ⟨S1x512, .f32⟩
  | 8 => ⟨S1x8x64x64, .f32⟩
  | 9 => ⟨S1x512, .f32⟩
  | 10 => ⟨S1x512, .f32⟩
  | 11 => ⟨S1x512, .f32⟩
  | 12 => ⟨S4x512, .f32⟩
  | 13 => ⟨S512, .f32⟩
  | 14 => ⟨S8x64x64, .f32⟩
  | 15 => ⟨S512, .f32⟩
  | 16 => ⟨S8x64x64, .f32⟩
  | 17 => ⟨S512, .f32⟩
  | 18 => ⟨S512, .f32⟩
  | 19 => ⟨S128x3x512, .f32⟩
  | 20 => ⟨S128x7x512, .f32⟩
  | 21 => ⟨S128x4x512, .f32⟩
  | 22 => ⟨S1x512, .f32⟩
  | 23 => ⟨S512, .f32⟩
  | 24 => ⟨S1x1x512, .f32⟩
  | 25 => ⟨S128x4x512, .f32⟩
  | 26 => ⟨S128x4x512, .f32⟩
  | 27 => ⟨S_, .f32⟩
  | 28 => ⟨S128x4x512, .f32⟩
  | 29 => ⟨S128x4x512, .f32⟩
  | 30 => ⟨S128x4x512, .f32⟩
  | 31 => ⟨S1x512, .f32⟩
  | 32 => ⟨S512, .f32⟩
  | 33 => ⟨S1x1x512, .f32⟩
  | 34 => ⟨S128x4x512, .f32⟩
  | 35 => ⟨S128x4x512, .f32⟩
  | 36 => ⟨S128x4x512, .f32⟩
  | 37 => ⟨S128x4x512, .f32⟩
  | 38 => ⟨S1x512, .f32⟩
  | 39 => ⟨S512, .f32⟩
  | 40 => ⟨S1x1x512, .f32⟩
  | 41 => ⟨S128x4x512, .f32⟩
  | 42 => ⟨S128x4x512, .f32⟩
  | 43 => ⟨S128x4x512, .f32⟩
  | 44 => ⟨S128x4x512, .f32⟩
  | 45 => ⟨S1x512, .f32⟩
  | 46 => ⟨S512, .f32⟩
  | 47 => ⟨S1x1x512, .f32⟩
  | 48 => ⟨S128x4x512, .f32⟩
  | 49 => ⟨S128x4x512, .f32⟩
  | 50 => ⟨S128x4x512, .f32⟩
  | 51 => ⟨S1x1x512, .f32⟩
  | 52 => ⟨S128x4x512, .f32⟩
  | 53 => ⟨S128x4x512, .f32⟩
  | 54 => ⟨S128x4x8x64, .f32⟩
  | 55 => ⟨S8x64x128x4, .f32⟩
  | 56 => ⟨S128x4x8x64, .f32⟩
  | 57 => ⟨S128x4x512, .f32⟩
  | 58 => ⟨S1x1x512, .f32⟩
  | 59 => ⟨S128x4x512, .f32⟩
  | 60 => ⟨S128x4x512, .f32⟩
  | 61 => ⟨S128x4x512, .f32⟩
  | 62 => ⟨S128x4x512, .f32⟩
  | 63 => ⟨S_, .f32⟩
  | 64 => ⟨S128x4x512, .f32⟩
  | 65 => ⟨S128x4x512, .f32⟩
  | 66 => ⟨S_, .f32⟩
  | 67 => ⟨S128x4x512, .f32⟩
  | 68 => ⟨S128x4x512, .f32⟩
  | 69 => ⟨S8x64x128x4, .f32⟩
  | 70 => ⟨S128x4x8x64, .f32⟩
  | 71 => ⟨S128x4x512, .f32⟩
  | 72 => ⟨S1x1x512, .f32⟩
  | 73 => ⟨S128x4x512, .f32⟩
  | 74 => ⟨S128x4x512, .f32⟩
  | 75 => ⟨S128x4x512, .f32⟩
  | 76 => ⟨S128x4x512, .f32⟩
  | 77 => ⟨S_, .f32⟩
  | 78 => ⟨S128x4x512, .f32⟩
  | 79 => ⟨S128x4x512, .f32⟩
  | 80 => ⟨S_, .f32⟩
  | 81 => ⟨S128x4x512, .f32⟩
  | 82 => ⟨S128x4x512, .f32⟩
  | 83 => ⟨S_, .f32⟩
  | 84 => ⟨S128x4x512, .f32⟩
  | 85 => ⟨S128x4x512, .f32⟩
  | 86 => ⟨S512, .f32⟩
  | 87 => ⟨S_, .f32⟩
  | 88 => ⟨S512, .f32⟩
  | 89 => ⟨S512, .f32⟩
  | 90 => ⟨S512, .f32⟩
  | 91 => ⟨S512, .f32⟩
  | 92 => ⟨S512, .i1⟩
  | 93 => ⟨S512, .f32⟩
  | 94 => ⟨S512, .f32⟩
  | 95 => ⟨S512, .f32⟩
  | 96 => ⟨S512, .f32⟩
  | 97 => ⟨S512, .f32⟩
  | 98 => ⟨S512, .f32⟩
  | 99 => ⟨S512, .f32⟩
  | 100 => ⟨S512, .f32⟩
  | 101 => ⟨S1x1x512, .f32⟩
  | 102 => ⟨S128x4x512, .f32⟩
  | 103 => ⟨S128x4x512, .f32⟩
  | 104 => ⟨S128x4x512, .f32⟩
  | 105 => ⟨S_, .f32⟩
  | 106 => ⟨S128x4x512, .f32⟩
  | 107 => ⟨S128x4x512, .f32⟩
  | 108 => ⟨S128x4x512, .f32⟩
  | 109 => ⟨S128x4x512, .f32⟩
  | 110 => ⟨S128x4x512, .f32⟩
  | 111 => ⟨S128x4x512, .f32⟩
  | 112 => ⟨S128x4x512, .f32⟩
  | 113 => ⟨S128x512, .f32⟩
  | 114 => ⟨S128x1x512, .f32⟩
  | 115 => ⟨S128x512, .f32⟩
  | 116 => ⟨S128x512, .f32⟩
  | 117 => ⟨S128x1x512, .f32⟩
  | 118 => ⟨S128x512, .f32⟩
  | 119 => ⟨S128x512, .f32⟩
  | 120 => ⟨S128x1x512, .f32⟩
  | 121 => ⟨S128x512, .f32⟩
  | 122 => ⟨S128x512, .f32⟩
  | 123 => ⟨S128x1x512, .f32⟩
  | 124 => ⟨S128x512, .f32⟩
  | 125 => ⟨S128x512, .f32⟩
  | 126 => ⟨S128x1x512, .f32⟩
  | 127 => ⟨S128x512, .f32⟩
  | _ => ⟨S128x4x512, .f32⟩

abbrev hbmTy0_1 (i : Nat) : BufTy := match i % 128 with
  | 0 => ⟨S128x512, .f32⟩
  | 1 => ⟨S128x1x512, .f32⟩
  | 2 => ⟨S128x512, .f32⟩
  | 3 => ⟨S128x512, .f32⟩
  | 4 => ⟨S128x1x512, .f32⟩
  | 5 => ⟨S128x512, .f32⟩
  | 6 => ⟨S128x512, .f32⟩
  | 7 => ⟨S128x1x512, .f32⟩
  | 8 => ⟨S128x512, .f32⟩
  | 9 => ⟨S128x512, .f32⟩
  | 10 => ⟨S128x1x512, .f32⟩
  | 11 => ⟨S128x1x512, .f32⟩
  | 12 => ⟨S128x1x512, .f32⟩
  | 13 => ⟨S128x1x512, .f32⟩
  | 14 => ⟨S128x4x512, .f32⟩
  | 15 => ⟨S128x4x512, .f32⟩
  | 16 => ⟨S128x4x512, .f32⟩
  | 17 => ⟨S_, .f32⟩
  | 18 => ⟨S128x4x512, .f32⟩
  | 19 => ⟨S128x4x512, .f32⟩
  | 20 => ⟨S128x4x512, .f32⟩
  | 21 => ⟨S_, .f32⟩
  | 22 => ⟨S128x4x512, .f32⟩
  | 23 => ⟨S128x4x512, .f32⟩
  | 24 => ⟨S128x4x512, .f32⟩
  | 25 => ⟨S_, .f32⟩
  | 26 => ⟨S128x4x512, .f32⟩
  | 27 => ⟨S128x4x512, .f32⟩
  | 28 => ⟨S_, .f32⟩
  | 29 => ⟨S128x4x512, .f32⟩
  | 30 => ⟨S128x4x512, .f32⟩
  | 31 => ⟨S128x4x512, .f32⟩
  | 32 => ⟨S128x4x512, .f32⟩
  | 33 => ⟨S128x4x512, .f32⟩
  | 34 => ⟨S_, .f32⟩
  | 35 => ⟨S128x4, .f32⟩
  | 36 => ⟨S128x4x1, .f32⟩
  | 37 => ⟨S_, .f32⟩
  | 38 => ⟨S128x4x1, .f32⟩
  | 39 => ⟨S128x4x1, .f32⟩
  | 40 => ⟨S_, .f32⟩
  | 41 => ⟨S128x4x1, .f32⟩
  | 42 => ⟨S128x4x1, .f32⟩
  | 43 => ⟨S128x4x1, .f32⟩
  | 44 => ⟨S128x4x512, .f32⟩
  | 45 => ⟨S128x4x512, .f32⟩
  | 46 => ⟨S512, .f32⟩
  | 47 => ⟨S1x1x512, .f32⟩
  | 48 => ⟨S128x4x512, .f32⟩
  | 49 => ⟨S128x4x512, .f32⟩
  | 50 => ⟨S128x4x512, .bf16⟩
  | _ => ⟨S128x4x512, .f32⟩

abbrev hbmTy (i : Nat) : BufTy := match i / 128 with
  | 0 => hbmTy0_0 i
  | 1 => hbmTy0_1 i
  | _ => ⟨S128x4x512, .f32⟩

abbrev bufTy : (tb : Table) → Fin (tcTables nBuf tb) → BufTy
  | .hbm, ⟨i, _⟩ => hbmTy i
  | _, _ => ⟨S128x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_0 : Ref sig .tc := ⟨.hbm, 63, rfl⟩
abbrev main_v50 : Ref sig .tc := ⟨.hbm, 64, rfl⟩
abbrev main_v51 : Ref sig .tc := ⟨.hbm, 65, rfl⟩
abbrev main_cst_1 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_2 : Ref sig .tc := ⟨.hbm, 77, rfl⟩
abbrev main_v62 : Ref sig .tc := ⟨.hbm, 78, rfl⟩
abbrev main_v63 : Ref sig .tc := ⟨.hbm, 79, rfl⟩
abbrev main_cst_3 : Ref sig .tc := ⟨.hbm, 80, rfl⟩
abbrev main_v64 : Ref sig .tc := ⟨.hbm, 81, rfl⟩
abbrev main_v65 : Ref sig .tc := ⟨.hbm, 82, rfl⟩
abbrev main_cst_4 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_call0_cst : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_v8 : Ref sig .tc := ⟨.hbm, 96, rfl⟩
abbrev main_call0_v9 : Ref sig .tc := ⟨.hbm, 97, rfl⟩
abbrev main_call0_v10 : Ref sig .tc := ⟨.hbm, 98, rfl⟩
abbrev main_call0_v11 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_5 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_6 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_7 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_8 : Ref sig .tc := ⟨.hbm, 153, rfl⟩
abbrev main_v119 : Ref sig .tc := ⟨.hbm, 154, rfl⟩
abbrev main_v120 : Ref sig .tc := ⟨.hbm, 155, rfl⟩
abbrev main_cst_9 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_10 : Ref sig .tc := ⟨.hbm, 162, rfl⟩
abbrev main_v126 : Ref sig .tc := ⟨.hbm, 163, rfl⟩
abbrev main_v127 : Ref sig .tc := ⟨.hbm, 164, rfl⟩
abbrev main_cst_11 : Ref sig .tc := ⟨.hbm, 165, rfl⟩
abbrev main_v128 : Ref sig .tc := ⟨.hbm, 166, rfl⟩
abbrev main_v129 : Ref sig .tc := ⟨.hbm, 167, rfl⟩
abbrev main_cst_12 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩

abbrev nD : Nat := 1
abbrev τ : Topo := Topo.v7x

variable {F : FTy → Type} [FloatOps F]
-- ==== Proof.FinishMath.lean ====
module

public import Idealize.ShloMosaic.Lib.Pipeline.ValueKit

/-!
The block's second half on one row, as plain arithmetic over the extended reals: the residual sum with the output
projection, a layer norm, the gated feed-forward layer, and the second layer norm.
-/

@[expose] public section

noncomputable section

namespace Cert.FinishMath

open Idealize.ShloMosaic

/-- A layer norm of the row `z`, at entry `q`: centre, divide by the root of the mean square plus a small constant, scale
    by `g` and shift by `b`. -/
def lnrow (z : Fin 1024 → EReal) (g b : EReal) (q : Fin 1024) : EReal :=
  (z q - Ideal.div (∑ k, z k) (Ideal.ofBits FTy.f32 1149239296#32))
    * Ideal.rsqrt (Ideal.div (∑ k, (z k - Ideal.div (∑ k, z k) (Ideal.ofBits FTy.f32 1149239296#32))
        * (z k - Ideal.div (∑ k, z k) (Ideal.ofBits FTy.f32 1149239296#32))) (Ideal.ofBits FTy.f32 1149239296#32)
        + Ideal.ofBits FTy.f32 925353388#32) * g + b

/-- The first residual sum: the input row scaled, plus the projection of the two halves of the mixing. -/
def res1 (X : Fin 1024 → EReal) (A B : Fin 512 → EReal) (W : Fin 1024 → Fin 1024 → EReal) (q : Fin 1024) : EReal :=
  Ideal.ofBits FTy.f32 1066940400#32 * X q
    + (∑ e : Fin 512, A e * W ⟨e.val, by omega⟩ q + ∑ e : Fin 512, B e * W ⟨512 + e.val, by omega⟩ q)

/-- The row after the first layer norm. -/
def row1 (X : Fin 1024 → EReal) (A B : Fin 512 → EReal) (W : Fin 1024 → Fin 1024 → EReal) (g b : Fin 1024 → EReal)
    (q : Fin 1024) : EReal :=
  lnrow (res1 X A B W) (g q) (b q) q

/-- The gated hidden unit made of the columns `wu` (linear) and `wg` (gate) of the first feed-forward matrix. -/
def unit (x wu wg : Fin 1024 → EReal) : EReal :=
  (∑ k, x k * wg k) * Ideal.logistic (∑ k, x k * wg k) * ∑ k, x k * wu k

/-- The second residual sum: the normalised row scaled, plus the feed-forward layer's output. -/
def res2 (x : Fin 1024 → EReal) (Wi : Fin 1024 → Fin 5632 → EReal) (Wf : Fin 2816 → Fin 1024 → EReal) (q : Fin 1024) :
    EReal :=
  Ideal.ofBits FTy.f32 1066940400#32 * x q
    + ∑ f : Fin 2816, unit x (fun k => Wi k ⟨f.val, by omega⟩) (fun k => Wi k ⟨2816 + f.val, by omega⟩) * Wf f q

/-- The whole second half of the block on one row. -/
def out (X : Fin 1024 → EReal) (A B : Fin 512 → EReal) (W : Fin 1024 → Fin 1024 → EReal)
    (Wi : Fin 1024 → Fin 5632 → EReal) (Wf : Fin 2816 → Fin 1024 → EReal) (g1 b1 g2 b2 : Fin 1024 → EReal)
    (q : Fin 1024) : EReal :=
  lnrow (res2 (row1 X A B W g1 b1) Wi Wf) (g2 q) (b2 q) q

/-- A sum over the 2816 hidden units is the sum of its eleven chunks of 256. -/
theorem sum_chunks (F : Fin 2816 → EReal) :
    ∑ f, F f = ∑ t : Fin 256, F ⟨0 + t.val, by omega⟩ + ∑ t : Fin 256, F ⟨256 + t.val, by omega⟩
      + ∑ t : Fin 256, F ⟨512 + t.val, by omega⟩ + ∑ t : Fin 256, F ⟨768 + t.val, by omega⟩
      + ∑ t : Fin 256, F ⟨1024 + t.val, by omega⟩ + ∑ t : Fin 256, F ⟨1280 + t.val, by omega⟩
      + ∑ t : Fin 256, F ⟨1536 + t.val, by omega⟩ + ∑ t : Fin 256, F ⟨1792 + t.val, by omega⟩
      + ∑ t : Fin 256, F ⟨2048 + t.val, by omega⟩ + ∑ t : Fin 256, F ⟨2304 + t.val, by omega⟩
      + ∑ t : Fin 256, F ⟨2560 + t.val, by omega⟩ := by
  have h : ∀ G : Fin 11 → EReal, ∑ j, G j = G 0 + G 1 + G 2 + G 3 + G 4 + G 5 + G 6 + G 7 + G 8 + G 9 + G 10 := by
    intro G
    simp only [Fin.sum_univ_castSucc, Fin.sum_univ_zero, zero_add]
    rfl
  rw [Fin.sum_univ_tiles 11 256 rfl F, h]
  rfl

end Cert.FinishMath
-- ==== Proof.FinishKernel.lean ====
module

public import proofs.«01_k».proof.Proof.Gen.FinishIdeal.Value
public import proofs.«01_k».proof.Proof.FinishMath

/-!
What one grid point of the finishing call stores, row by row: `FinishMath.out` of the point's input blocks.
-/

@[expose] public section

set_option maxRecDepth 16384

noncomputable section

open Idealize.ShloMosaic Idealize.ShloMosaic.TcCoe Idealize.SL.Sem
open Idealize.ShloMosaic.Pipeline (Dat)

namespace Cert.FinishIdeal.Value

open Cert.FinishIdeal Cert.FinishIdeal.Gen Cert.FinishMath

/-- One chunk of 256 hidden units, its contribution to entry `(p, q)`. -/
def chunk (x : FVec Ideal S512x1024 .bf16) (wu wg : Vec Ideal S1024x256 .bf16) (wo : Vec Ideal S256x1024 .bf16)
    (p : Fin 512) (q : Fin 1024) : EReal :=
  ∑ t : Fin 256, unit (fun k => x (ix2 p k)) (fun k => wu (ix2 k t)) (fun k => wg (ix2 k t)) * wo (ix2 t q)

theorem pay10 (v1 v3 : FVec Ideal S1x1024 .f32) (v26 : FVec Ideal S512x1024 .f32) (v31 v32 : FVec Ideal S512x1 .f32)
    (a b : Vec Ideal S1024x256 .bf16) (c : Vec Ideal S256x1024 .bf16) (a' b' : Vec Ideal S1024x256 .bf16)
    (c' : Vec Ideal S256x1024 .bf16) (p : Fin 512) (q : Fin 1024) :
    k0_pay10 v1 v3 v26 v31 v32 a b c a' b' c' (ix2 p q)
      = chunk (k0_pay9 v1 v3 v26 v31 v32) a b c p q + chunk (k0_pay9 v1 v3 v26 v31 v32) a' b' c' p q := by
  pointwise [k0_pay10, chunk, unit]
  try rfl

theorem pay11 (x : FVec Ideal S512x1024 .bf16) (acc : FVec Ideal S512x1024 .f32)
    (a b : Vec Ideal S1024x256 .bf16) (c : Vec Ideal S256x1024 .bf16) (a' b' : Vec Ideal S1024x256 .bf16)
    (c' : Vec Ideal S256x1024 .bf16) (p : Fin 512) (q : Fin 1024) :
    k0_pay11 x acc a b c a' b' c' (ix2 p q) = acc (ix2 p q) + chunk x a b c p q + chunk x a' b' c' p q := by
  pointwise [k0_pay11, chunk, unit]
  try rfl

theorem pay13 (x : FVec Ideal S512x1024 .bf16) (acc : FVec Ideal S512x1024 .f32)
    (a b : Vec Ideal S1024x256 .bf16) (c : Vec Ideal S256x1024 .bf16) (a' b' : Vec Ideal S1024x256 .bf16)
    (c' : Vec Ideal S256x1024 .bf16) (a'' b'' : Vec Ideal S1024x256 .bf16)
    (c'' : Vec Ideal S256x1024 .bf16) (p : Fin 512) (q : Fin 1024) :
    k0_pay13 x acc (k0_pay12 x a b) c a' b' c' a'' b'' c'' (ix2 p q)
      = acc (ix2 p q) + chunk x a b c p q + chunk x a' b' c' p q + chunk x a'' b'' c'' p q := by
  pointwise [k0_pay13, k0_pay12, chunk, unit]
  try rfl

theorem pay15 (x : FVec Ideal S512x1024 .bf16) (acc : FVec Ideal S512x1024 .f32)
    (a b : Vec Ideal S1024x256 .bf16) (c : Vec Ideal S256x1024 .bf16) (a' b' : Vec Ideal S1024x256 .bf16)
    (c' : Vec Ideal S256x1024 .bf16) (p : Fin 512) (q : Fin 1024) :
    k0_pay15 x acc (k0_pay14 x a) b c a' b' c' (ix2 p q)
      = acc (ix2 p q) + chunk x a b c p q + chunk x a' b' c' p q := by
  pointwise [k0_pay15, k0_pay14, chunk, unit]
  try rfl

theorem pay16 (x : FVec Ideal S512x1024 .bf16)
    (a b : Vec Ideal S1024x256 .bf16) (c : Vec Ideal S256x1024 .bf16) (p : Fin 512) (q : Fin 1024) :
    k0_pay16 x a b c (ix2 p q) = chunk x a b c p q := by
  pointwise [k0_pay16, chunk, unit]
  try rfl

/-- The last stored value: the second layer norm of the second residual sum. -/
theorem pay17 (g b : FVec Ideal S1x1024 .f32) (x1 : FVec Ideal S512x1024 .f32) (x : FVec Ideal S512x1024 .bf16)
    (acc s : FVec Ideal S512x1024 .f32) (wu wg : Vec Ideal S1024x256 .bf16) (wo : Vec Ideal S256x1024 .bf16)
    (p : Fin 512) (q : Fin 1024) :
    k0_pay17 g b x1 x acc s wu wg wo (ix2 p q)
      = lnrow (fun k => Ideal.ofBits FTy.f32 1066940400#32 * x1 (ix2 p k)
          + (acc (ix2 p k) + s (ix2 p k) + chunk x wu wg wo p k)) (g (ix2 0 q)) (b (ix2 0 q)) q := by
  pointwise [k0_pay17, chunk, unit, lnrow]
  try rfl

/-- The normalised first residual. -/
theorem pay8 (g b : FVec Ideal S1x1024 .f32) (A B : Vec Ideal S512x512 .bf16) (W1 W2 : Vec Ideal S512x1024 .bf16)
    (X : Vec Ideal S512x1024 .f32) (p : Fin 512) (q : Fin 1024) :
    k0_pay8 g b (k0_pay5 A W1 B W2 X) (k0_pay6 A W1 B W2 X) k0_pay7 (ix2 p q)
      = lnrow (fun k => Ideal.ofBits FTy.f32 1066940400#32 * X (ix2 p k)
          + (∑ e, A (ix2 p e) * W1 (ix2 e k) + ∑ e, B (ix2 p e) * W2 (ix2 e k))) (g (ix2 0 q)) (b (ix2 0 q)) q := by
  pointwise [k0_pay8, k0_pay5, k0_pay6, k0_pay7, lnrow]
  try rfl

theorem pay9 (v1 v3 : FVec Ideal S1x1024 .f32) (v26 : FVec Ideal S512x1024 .f32) (v31 v32 : FVec Ideal S512x1 .f32) :
    (k0_pay9 v1 v3 v26 v31 v32 : FVec Ideal S512x1024 .bf16) = (k0_pay8 v1 v3 v26 v31 v32 : FVec Ideal S512x1024 .f32) := rfl

set_option maxHeartbeats 1600000 in
/-- What a grid point stores, from its input blocks: `FinishMath.out` row by row. -/
theorem stored (x0 : Vec Ideal S512x1024 .f32) (x1 x2 : Vec Ideal S512x512 .bf16) (x3 : Vec Ideal S1024x1024 .bf16)
    (x4 : Vec Ideal S1024x5632 .bf16) (x5 : Vec Ideal S2816x1024 .bf16) (x6 : Vec Ideal S4x1024 .f32) (p : Fin 512) (q : Fin 1024) :
    (out0_7 x0 x1 x2 x3 x4 x5 x6 : FVec Ideal S512x1024 .f32) (ix2 p q)
      = out (fun k => x0 (ix2 p k)) (fun e => x1 (ix2 p e)) (fun e => x2 (ix2 p e)) (fun i j => x3 (ix2 i j))
          (fun i j => x4 (ix2 i j)) (fun i j => x5 (ix2 i j)) (fun k => x6 (ix2 0 k)) (fun k => x6 (ix2 1 k))
          (fun k => x6 (ix2 2 k)) (fun k => x6 (ix2 3 k)) q := by
  frame_out
  simp only [k0_pay23, k0_pay18, k0_pay19, k0_pay20, k0_pay21, k0_pay22]
  refine (pay17 _ _ _ _ _ _ _ _ _ p q).trans ?_
  simp only [pay15, pay13, pay11, pay10, pay16, pay9]
  have hY : ∀ k : Fin 1024, k0_pay8 (k0_pay1 (View.ld x6 r0_0)) (k0_pay2 (View.ld x6 r0_1))
      (k0_pay5 (View.ld x1 r0_4) (View.ld x3 r0_5) (View.ld x2 r0_4) (View.ld x3 r0_6) (View.ld x0 r0_7))
      (k0_pay6 (View.ld x1 r0_4) (View.ld x3 r0_5) (View.ld x2 r0_4) (View.ld x3 r0_6) (View.ld x0 r0_7))
      k0_pay7 (ix2 p k)
        = row1 (fun k => x0 (ix2 p k)) (fun e => x1 (ix2 p e)) (fun e => x2 (ix2 p e)) (fun i j => x3 (ix2 i j))
          (fun k => x6 (ix2 0 k)) (fun k => x6 (ix2 1 k)) k := by
    intro k
    refine (pay8 _ _ _ _ _ _ _ p k).trans ?_
    pointwise [row1, res1, lnrow, k0_pay1, k0_pay2]
    try rfl
  generalize (k0_pay8 (k0_pay1 (View.ld x6 r0_0)) (k0_pay2 (View.ld x6 r0_1))
      (k0_pay5 (View.ld x1 r0_4) (View.ld x3 r0_5) (View.ld x2 r0_4) (View.ld x3 r0_6) (View.ld x0 r0_7))
      (k0_pay6 (View.ld x1 r0_4) (View.ld x3 r0_5) (View.ld x2 r0_4) (View.ld x3 r0_6) (View.ld x0 r0_7))
      k0_pay7) = Y at hY ⊢
  simp only [chunk, hY, out]
  generalize row1 (fun k => x0 (ix2 p k)) (fun e => x1 (ix2 p e)) (fun e => x2 (ix2 p e)) (fun i j => x3 (ix2 i j))
          (fun k => x6 (ix2 0 k)) (fun k => x6 (ix2 1 k)) = R
  have h1 : k0_pay3 (View.ld x6 r0_2) (ix2 0 q) = x6 (ix2 2 q) := by
    pointwise [k0_pay3]
  have h2 : k0_pay4 (View.ld x6 r0_3) (ix2 0 q) = x6 (ix2 3 q) := by
    pointwise [k0_pay4]
  rw [h1, h2]
  congr 1
  funext k
  unfold res2
  rw [sum_chunks]
  congr 1
  pointwise []
  simp only [← Nat.add_assoc, Nat.reduceAdd]

end Cert.FinishIdeal.Value
-- ==== Proof.FinishRef.lean ====
module

public import proofs.«01_k».proof.Proof.Gen.FinishRefIdeal.Run
public import proofs.«01_k».proof.Proof.FinishMath

/-!
What the reference of the finishing call computes, row by row: `FinishMath.out` of the argument arrays.
-/

@[expose] public section

set_option maxRecDepth 16384

noncomputable section

open Idealize.ShloMosaic Idealize.ShloMosaic.TcCoe Idealize.SL.Sem
open Idealize.ShloMosaic.Pipeline (Dat)

namespace Cert.FinishRefIdeal.Value

open Cert.FinishRefIdeal Cert.FinishRefIdeal.Gen Cert.FinishMath

variable (V0 : Valuation τ sig (Elt Ideal))

/-- The first residual sum. -/
abbrev Z1 : FVec Ideal S16384x1024 .f32 := res_main_v7 V0

/-- The second residual sum. -/
abbrev Z2 : FVec Ideal S16384x1024 .f32 := res_main_v44 V0

/-- The row the first layer norm makes. -/
abbrev rowOf (r : Fin 16384) : Fin 1024 → EReal :=
  row1 (fun k => V0 (Proc.devRef .tc main_arg0) (ix2 r k)) (fun e => V0 (Proc.devRef .tc main_arg1) (ix2 r e))
    (fun e => V0 (Proc.devRef .tc main_arg2) (ix2 r e)) (fun i j => V0 (Proc.devRef .tc main_arg3) (ix3 0 i j))
    (fun k => V0 (Proc.devRef .tc main_arg4) (ix2 0 k)) (fun k => V0 (Proc.devRef .tc main_arg5) (ix2 0 k))

theorem v7 (r : Fin 16384) (q : Fin 1024) : Z1 V0 (ix2 r q)
    = res1 (fun k => V0 (Proc.devRef .tc main_arg0) (ix2 r k)) (fun e => V0 (Proc.devRef .tc main_arg1) (ix2 r e))
        (fun e => V0 (Proc.devRef .tc main_arg2) (ix2 r e)) (fun i j => V0 (Proc.devRef .tc main_arg3) (ix3 0 i j)) q := by
  pointwise [Z1, res_main_v7, res1]
  try rfl

theorem v13 (r : Fin 16384) (u : Fin 1) : (res_main_v13 V0 : FVec Ideal S16384x1 .f32) (ix2 r u)
    = Ideal.div (∑ k : Fin 1024, Z1 V0 (ix2 r k)) (Ideal.ofBits FTy.f32 1149239296#32) := by
  pointwise [res_main_v13]
  try rfl

theorem v15 (r : Fin 16384) (q : Fin 1024) : (res_main_v15 V0 : FVec Ideal S16384x1024 .f32) (ix2 r q)
    = Z1 V0 (ix2 r q)
      - Ideal.div (∑ k : Fin 1024, Z1 V0 (ix2 r k)) (Ideal.ofBits FTy.f32 1149239296#32) := by
  rw [← v13 V0 r 0]
  pointwise [res_main_v15]
  try rfl

theorem v33 (r : Fin 16384) (q : Fin 1024) : (res_main_v33 V0 : FVec Ideal S16384x1024 .f32) (ix2 r q) = rowOf V0 r q := by
  have h : (res_main_v33 V0 : FVec Ideal S16384x1024 .f32) (ix2 r q)
      = lnrow (fun k => Z1 V0 (ix2 r k)) (V0 (Proc.devRef .tc main_arg4) (ix2 0 q))
          (V0 (Proc.devRef .tc main_arg5) (ix2 0 q)) q := by
    unfold lnrow
    simp only [← v15]
    rw [v15, ← v13 V0 r 0]
    pointwise [res_main_v33]
    try rfl
  rw [h]
  simp only [v7]
  rfl

theorem v35 (r : Fin 16384) (f : Fin 5632) : (res_main_v35 V0 : FVec Ideal S16384x5632 .f32) (ix2 r f)
    = ∑ k, rowOf V0 r k * V0 (Proc.devRef .tc main_arg6) (ix3 0 k f) := by
  simp only [← v33]
  pointwise [res_main_v35]
  try rfl

theorem v44 (r : Fin 16384) (q : Fin 1024) : Z2 V0 (ix2 r q)
    = res2 (rowOf V0 r) (fun i j => V0 (Proc.devRef .tc main_arg6) (ix3 0 i j))
        (fun i j => V0 (Proc.devRef .tc main_arg7) (ix3 0 i j)) q := by
  unfold res2 unit
  simp only [← v35]
  rw [← v33]
  pointwise [res_main_v44, res_main_v37]
  try rfl

theorem v50 (r : Fin 16384) (u : Fin 1) : (res_main_v50 V0 : FVec Ideal S16384x1 .f32) (ix2 r u)
    = Ideal.div (∑ k : Fin 1024, Z2 V0 (ix2 r k)) (Ideal.ofBits FTy.f32 1149239296#32) := by
  pointwise [res_main_v50]
  try rfl

theorem v52 (r : Fin 16384) (q : Fin 1024) : (res_main_v52 V0 : FVec Ideal S16384x1024 .f32) (ix2 r q)
    = Z2 V0 (ix2 r q)
      - Ideal.div (∑ k : Fin 1024, Z2 V0 (ix2 r k)) (Ideal.ofBits FTy.f32 1149239296#32) := by
  rw [← v50 V0 r 0]
  pointwise [res_main_v52]
  try rfl

/-- The reference's result, as it composes. -/
abbrev result : FVec Ideal S16384x1024 .f32 :=
  addf (mulf (mulf (subf (res_main_v44 V0) (broadcastInDim S16384x1024 ![0, 1] bcast_S16384x1_S16384x1024_0_1 (res_main_v50 V0))) (broadcastInDim S16384x1024 ![0, 1] bcast_S16384x1_S16384x1024_0_1 (Host.rsqrt (addf (Host.divf (broadcastInDim S16384x1 ![0] bcast_S16384_S16384x1_0 (Host.reduceAdd (mulf (res_main_v52 V0) (res_main_v52 V0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 (shapeCast _ (V0 (Proc.devRef .tc main_arg8)) shapeCasts_S1x1024_S1024)))) (broadcastInDim S16384x1024 ![0, 1] bcast_S1x1024_S16384x1024_0_1 (broadcastInDim S1x1024 ![1] bcast_S1024_S1x1024_1 (shapeCast _ (V0 (Proc.devRef .tc main_arg9)) shapeCasts_S1x1024_S1024)))

theorem v70 (r : Fin 16384) (q : Fin 1024) : result V0 (ix2 r q)
    = out (fun k => V0 (Proc.devRef .tc main_arg0) (ix2 r k)) (fun e => V0 (Proc.devRef .tc main_arg1) (ix2 r e))
        (fun e => V0 (Proc.devRef .tc main_arg2) (ix2 r e)) (fun i j => V0 (Proc.devRef .tc main_arg3) (ix3 0 i j))
        (fun i j => V0 (Proc.devRef .tc main_arg6) (ix3 0 i j)) (fun i j => V0 (Proc.devRef .tc main_arg7) (ix3 0 i j))
        (fun k => V0 (Proc.devRef .tc main_arg4) (ix2 0 k)) (fun k => V0 (Proc.devRef .tc main_arg5) (ix2 0 k))
        (fun k => V0 (Proc.devRef .tc main_arg8) (ix2 0 k)) (fun k => V0 (Proc.devRef .tc main_arg9) (ix2 0 k)) q := by
  have h : result V0 (ix2 r q)
      = lnrow (fun k => Z2 V0 (ix2 r k)) (V0 (Proc.devRef .tc main_arg8) (ix2 0 q))
          (V0 (Proc.devRef .tc main_arg9) (ix2 0 q)) q := by
    unfold lnrow
    simp only [← v52]
    rw [v52, ← v50 V0 r 0]
    pointwise [result]
    try rfl
  rw [h]
  simp only [v44]
  rfl

end Cert.FinishRefIdeal.Value
-- ==== Proof.FinishFinal.lean ====
module

public import proofs.«01_k».proof.Proof.FinishKernel
public import proofs.«01_k».proof.Proof.FinishRef

/-!
The finishing call's output array after the run is the reference's result, index by index.
-/

@[expose] public section

set_option maxRecDepth 16384

noncomputable section

open Idealize.ShloMosaic Idealize.ShloMosaic.TcCoe Idealize.SL.Sem
open Idealize.ShloMosaic.Pipeline (Dat)

namespace Cert.FinishIdeal.Value

open Cert.FinishIdeal Cert.FinishIdeal.Gen Cert.FinishMath

variable (m : (ℓ : Loc nD τ sig) → Buf (Elt Ideal) ℓ)

/-- Every window's block index: the row blocks advance with the grid point, the weights are whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ t.val < 32 :=
  (by decide +kernel : ∀ t : Fin grid0.N, _)

/-- The result as a function of the launch's argument arrays. -/
def target (c : Dev nD) : FVec Ideal S16384x1024 .f32 := fun i =>
  out (fun k => m ((c : Thread nD τ).loc main_arg0) (ix2 (i 0) k)) (fun e => m ((c : Thread nD τ).loc main_arg1) (ix2 (i 0) e))
    (fun e => m ((c : Thread nD τ).loc main_arg2) (ix2 (i 0) e)) (fun i j => m ((c : Thread nD τ).loc main_arg3) (ix3 0 i j))
    (fun i j => m ((c : Thread nD τ).loc main_arg6) (ix3 0 i j)) (fun i j => m ((c : Thread nD τ).loc main_arg7) (ix3 0 i j))
    (fun k => m ((c : Thread nD τ).loc main_arg4) (ix2 0 k)) (fun k => m ((c : Thread nD τ).loc main_arg5) (ix2 0 k))
    (fun k => m ((c : Thread nD τ).loc main_arg8) (ix2 0 k)) (fun k => m ((c : Thread nD τ).loc main_arg9) (ix2 0 k)) (i 1)

theorem rd0 (c : Dev nD) (t : Fin cfg0.N) (p : Fin 512) (k q : Fin 1024) : iblk m c 0 t (ix2 p k)
    = m ((c : Thread nD τ).loc main_arg0) (ix2 ((((cfg0.win 7).blk t).view.emb (ix2 p q)) 0) k) := by
  blk_ext [iblk, V, idx t]

theorem rd1 (c : Dev nD) (t : Fin cfg0.N) (p : Fin 512) (k : Fin 512) (q : Fin 1024) : iblk m c 1 t (ix2 p k)
    = m ((c : Thread nD τ).loc main_arg1) (ix2 ((((cfg0.win 7).blk t).view.emb (ix2 p q)) 0) k) := by
  blk_ext [iblk, V, idx t]

theorem rd2 (c : Dev nD) (t : Fin cfg0.N) (p : Fin 512) (k : Fin 512) (q : Fin 1024) : iblk m c 2 t (ix2 p k)
    = m ((c : Thread nD τ).loc main_arg2) (ix2 ((((cfg0.win 7).blk t).view.emb (ix2 p q)) 0) k) := by
  blk_ext [iblk, V, idx t]

theorem emb7 (t : Fin cfg0.N) (p : Fin 512) (q : Fin 1024) : ((cfg0.win 7).blk t).view.emb (ix2 p q)
    = (ix2 ⟨t.val * 512 + p.val, by have := (idx t).2.2.2.2.2.2.2.2; omega⟩ q : S16384x1024.Idx) := by
  blk_ext [idx t]

theorem emb3 (t : Fin cfg0.N) (i : Fin 1024) (j : Fin 1024) : ((cfg0.win 3).blk t).view.emb (ix2 i j) = ix2 i j := by
  blk_ext [idx t]

theorem emb4 (t : Fin cfg0.N) (i : Fin 1024) (j : Fin 5632) : ((cfg0.win 4).blk t).view.emb (ix2 i j) = ix2 i j := by
  blk_ext [idx t]

theorem emb5 (t : Fin cfg0.N) (i : Fin 2816) (j : Fin 1024) : ((cfg0.win 5).blk t).view.emb (ix2 i j) = ix2 i j := by
  blk_ext [idx t]

theorem emb6 (t : Fin cfg0.N) (i : Fin 4) (j : Fin 1024) : ((cfg0.win 6).blk t).view.emb (ix2 i j) = ix2 i j := by
  blk_ext [idx t]

theorem ent3 (c : Dev nD) (i : Fin 1024) (j : Fin 1024) : V m c main_v10 (ix2 i j) = m ((c : Thread nD τ).loc main_arg3) (ix3 0 i j) := by
  entry_read
  pointwise

theorem rd3 (c : Dev nD) (t : Fin cfg0.N) (i : Fin 1024) (j : Fin 1024) : iblk m c 3 t (ix2 i j)
    = m ((c : Thread nD τ).loc main_arg3) (ix3 0 i j) :=
  (congrArg (V m c main_v10) (emb3 t i j)).trans (ent3 m c i j)

theorem ent4 (c : Dev nD) (i : Fin 1024) (j : Fin 5632) : V m c main_v12 (ix2 i j) = m ((c : Thread nD τ).loc main_arg6) (ix3 0 i j) := by
  entry_read
  pointwise

theorem rd4 (c : Dev nD) (t : Fin cfg0.N) (i : Fin 1024) (j : Fin 5632) : iblk m c 4 t (ix2 i j)
    = m ((c : Thread nD τ).loc main_arg6) (ix3 0 i j) :=
  (congrArg (V m c main_v12) (emb4 t i j)).trans (ent4 m c i j)

theorem ent5 (c : Dev nD) (i : Fin 2816) (j : Fin 1024) : V m c main_v14 (ix2 i j) = m ((c : Thread nD τ).loc main_arg7) (ix3 0 i j) := by
  entry_read
  pointwise

theorem rd5 (c : Dev nD) (t : Fin cfg0.N) (i : Fin 2816) (j : Fin 1024) : iblk m c 5 t (ix2 i j)
    = m ((c : Thread nD τ).loc main_arg7) (ix3 0 i j) :=
  (congrArg (V m c main_v14) (emb5 t i j)).trans (ent5 m c i j)

/-- The four layer-norm vectors stacked. -/
def stack (a b d e : Vec Ideal S1x1024 .f32) : Vec Ideal S4x1024 .f32 := concatenate S4x1024 0
    [⟨S1x1024, broadcastInDim S1x1024 ![1] bcast_S1024_S1x1024_1 (shapeCast S1024 a shapeCasts_S1x1024_S1024)⟩,
     ⟨S1x1024, broadcastInDim S1x1024 ![1] bcast_S1024_S1x1024_1 (shapeCast S1024 b shapeCasts_S1x1024_S1024)⟩,
     ⟨S1x1024, broadcastInDim S1x1024 ![1] bcast_S1024_S1x1024_1 (shapeCast S1024 d shapeCasts_S1x1024_S1024)⟩,
     ⟨S1x1024, broadcastInDim S1x1024 ![1] bcast_S1024_S1x1024_1 (shapeCast S1024 e shapeCasts_S1x1024_S1024)⟩]
    concatenates_S1x1024_S1x1024_S1x1024_S1x1024_S4x1024_d0

theorem ent6 (c : Dev nD) : V m c main_v8 = stack (m ((c : Thread nD τ).loc main_arg4)) (m ((c : Thread nD τ).loc main_arg5))
    (m ((c : Thread nD τ).loc main_arg8)) (m ((c : Thread nD τ).loc main_arg9)) := by
  simp only [V, hostOps0]
  after_results_simp
  rfl

theorem stack0 (a b d e : Vec Ideal S1x1024 .f32) (j : Fin 1024) : stack a b d e (ix2 0 j) = a (ix2 0 j) := by
  pointwise [stack]

theorem rd6_0 (c : Dev nD) (t : Fin cfg0.N) (j : Fin 1024) : iblk m c 6 t (ix2 0 j)
    = m ((c : Thread nD τ).loc main_arg4) (ix2 0 j) :=
  (congrArg (V m c main_v8) (emb6 t 0 j)).trans ((congrFun (ent6 m c) _).trans (stack0 _ _ _ _ j))

theorem stack1 (a b d e : Vec Ideal S1x1024 .f32) (j : Fin 1024) : stack a b d e (ix2 1 j) = b (ix2 0 j) := by
  pointwise [stack]

theorem rd6_1 (c : Dev nD) (t : Fin cfg0.N) (j : Fin 1024) : iblk m c 6 t (ix2 1 j)
    = m ((c : Thread nD τ).loc main_arg5) (ix2 0 j) :=
  (congrArg (V m c main_v8) (emb6 t 1 j)).trans ((congrFun (ent6 m c) _).trans (stack1 _ _ _ _ j))

theorem stack2 (a b d e : Vec Ideal S1x1024 .f32) (j : Fin 1024) : stack a b d e (ix2 2 j) = d (ix2 0 j) := by
  pointwise [stack]

theorem rd6_2 (c : Dev nD) (t : Fin cfg0.N) (j : Fin 1024) : iblk m c 6 t (ix2 2 j)
    = m ((c : Thread nD τ).loc main_arg8) (ix2 0 j) :=
  (congrArg (V m c main_v8) (emb6 t 2 j)).trans ((congrFun (ent6 m c) _).trans (stack2 _ _ _ _ j))

theorem stack3 (a b d e : Vec Ideal S1x1024 .f32) (j : Fin 1024) : stack a b d e (ix2 3 j) = e (ix2 0 j) := by
  pointwise [stack]

theorem rd6_3 (c : Dev nD) (t : Fin cfg0.N) (j : Fin 1024) : iblk m c 6 t (ix2 3 j)
    = m ((c : Thread nD τ).loc main_arg9) (ix2 0 j) :=
  (congrArg (V m c main_v8) (emb6 t 3 j)).trans ((congrFun (ent6 m c) _).trans (stack3 _ _ _ _ j))

set_option maxHeartbeats 1600000 in
theorem point (c : Dev nD) (t : Fin cfg0.N) (p : Fin 512) (q : Fin 1024) :
    (out0_7 (iblk m c 0 t) (iblk m c 1 t) (iblk m c 2 t) (iblk m c 3 t) (iblk m c 4 t) (iblk m c 5 t) (iblk m c 6 t)
      : FVec Ideal S512x1024 .f32) (ix2 p q) = target m c (((cfg0.win 7).blk t).view.emb (ix2 p q)) := by
  refine (stored _ _ _ _ _ _ _ p q).trans ?_
  unfold target
  simp only [rd0 m c t p _ q, rd1 m c t p _ q, rd2 m c t p _ q, rd3 m c t, rd4 m c t, rd5 m c t, rd6_0 m c t, rd6_1 m c t, rd6_2 m c t, rd6_3 m c t]
  congr 1
  exact (congrArg (fun z : S16384x1024.Idx => z 1) (emb7 t p q)).symm

theorem final (c : Dev nD) : (dats m 0 c).arrAt 7 (cfgs 0).N = target m c := by
  refine (dats m 0 c).arrAt_eq_of_covers 7 _ (by decide +kernel) fun t _ y => ?_
  blk_simp
  rw [after0_7]
  idx_vars y
  exact point m c t _ _

end Cert.FinishIdeal.Value
-- ==== Proof.FinishClaim.lean ====
module

public import proofs.«01_k».proof.Defs
public import proofs.«01_k».proof.Proof.Gen.Finish.Frame
public import proofs.«01_k».proof.Proof.FinishFinal
public import Idealize.ShloMosaic.Lib.Claim
public import Idealize.ShloMosaic.Adequacy
public import Idealize.ShloMosaic.Init

/-!
The finishing call's claims: every run keeps its arguments and leaves the counters at zero, and the kernel's result is
the reference's.
-/

@[expose] public section

noncomputable section

namespace Cert.FinishClaim

open Idealize.ShloMosaic Idealize.SL.Sem

theorem frame : Cert.quiescent_Finish := fun m g _ => Cert.Finish.Gen.frame m g

theorem frameIdeal : Cert.quiescent_FinishIdeal := fun m g _ => Cert.FinishIdeal.Gen.frame m g

theorem frameRef : Cert.quiescent_FinishRefIdeal := fun m g _ => (θ_run Cert.FinishRefIdeal.defs _ _).mono
  (fun r h => ⟨fun c => (h c).2, sem_eq_zero_of_no_sems (by decide) r.2⟩) (Cert.FinishRefIdeal.Value.run m g)

theorem algebraic : Cert.algebraic_FinishIdeal_FinishRefIdeal := by
  pair_intro
  · run_from Cert.FinishIdeal.Gen.run_main m g
  · run_from Cert.FinishRefIdeal.Value.run m' g'
    obtain ⟨h0, h1, h2, h3, h4, h5, h6, h7, h8, h9⟩ := hagree c
    rw [← h8, ← h9, Cert.FinishIdeal.Value.final m c]
    refine Eq.trans (b := Cert.FinishRefIdeal.Value.result (StableHlo.launchContents m' c)) rfl ?_
    funext y
    idx_vars y
    refine (Cert.FinishRefIdeal.Value.v70 (StableHlo.launchContents m' c) _ _).trans ?_
    unfold Cert.FinishIdeal.Value.target
    rw [← h0, ← h1, ← h2, ← h3, ← h4, ← h5, ← h6, ← h7, ← h8, ← h9]
    rfl

end Cert.FinishClaim

end
-- ==== Proof.FinishSKernel.lean ====
module

public import proofs.«01_k».proof.Proof.Gen.FinishSIdeal.Value
public import proofs.«01_k».proof.Proof.FinishMath

/-!
What one grid point of the finishing call stores for the sample batch, row by row: `FinishMath.out` of the point's input blocks.
-/

@[expose] public section

set_option maxRecDepth 16384

noncomputable section

open Idealize.ShloMosaic Idealize.ShloMosaic.TcCoe Idealize.SL.Sem
open Idealize.ShloMosaic.Pipeline (Dat)

namespace Cert.FinishSIdeal.Value

open Cert.FinishSIdeal Cert.FinishSIdeal.Gen Cert.FinishMath

/-- One chunk of 256 hidden units, its contribution to entry `(p, q)`. -/
def chunk (x : FVec Ideal S256x1024 .bf16) (wu wg : Vec Ideal S1024x256 .bf16) (wo : Vec Ideal S256x1024 .bf16)
    (p : Fin 256) (q : Fin 1024) : EReal :=
  ∑ t : Fin 256, unit (fun k => x (ix2 p k)) (fun k => wu (ix2 k t)) (fun k => wg (ix2 k t)) * wo (ix2 t q)

theorem pay10 (v1 v3 : FVec Ideal S1x1024 .f32) (v26 : FVec Ideal S256x1024 .f32) (v31 v32 : FVec Ideal S256x1 .f32)
    (a b : Vec Ideal S1024x256 .bf16) (c : Vec Ideal S256x1024 .bf16) (a' b' : Vec Ideal S1024x256 .bf16)
    (c' : Vec Ideal S256x1024 .bf16) (p : Fin 256) (q : Fin 1024) :
    k0_pay10 v1 v3 v26 v31 v32 a b c a' b' c' (ix2 p q)
      = chunk (k0_pay9 v1 v3 v26 v31 v32) a b c p q + chunk (k0_pay9 v1 v3 v26 v31 v32) a' b' c' p q := by
  pointwise [k0_pay10, chunk, unit]
  try rfl

theorem pay11 (x : FVec Ideal S256x1024 .bf16) (acc : FVec Ideal S256x1024 .f32)
    (a b : Vec Ideal S1024x256 .bf16) (c : Vec Ideal S256x1024 .bf16) (a' b' : Vec Ideal S1024x256 .bf16)
    (c' : Vec Ideal S256x1024 .bf16) (p : Fin 256) (q : Fin 1024) :
    k0_pay11 x acc a b c a' b' c' (ix2 p q) = acc (ix2 p q) + chunk x a b c p q + chunk x a' b' c' p q := by
  pointwise [k0_pay11, chunk, unit]
  try rfl

theorem pay13 (x : FVec Ideal S256x1024 .bf16) (acc : FVec Ideal S256x1024 .f32)
    (a b : Vec Ideal S1024x256 .bf16) (c : Vec Ideal S256x1024 .bf16) (a' b' : Vec Ideal S1024x256 .bf16)
    (c' : Vec Ideal S256x1024 .bf16) (a'' b'' : Vec Ideal S1024x256 .bf16)
    (c'' : Vec Ideal S256x1024 .bf16) (p : Fin 256) (q : Fin 1024) :
    k0_pay13 x acc (k0_pay12 x a b) c a' b' c' a'' b'' c'' (ix2 p q)
      = acc (ix2 p q) + chunk x a b c p q + chunk x a' b' c' p q + chunk x a'' b'' c'' p q := by
  pointwise [k0_pay13, k0_pay12, chunk, unit]
  try rfl

theorem pay15 (x : FVec Ideal S256x1024 .bf16) (acc : FVec Ideal S256x1024 .f32)
    (a b : Vec Ideal S1024x256 .bf16) (c : Vec Ideal S256x1024 .bf16) (a' b' : Vec Ideal S1024x256 .bf16)
    (c' : Vec Ideal S256x1024 .bf16) (p : Fin 256) (q : Fin 1024) :
    k0_pay15 x acc (k0_pay14 x a) b c a' b' c' (ix2 p q)
      = acc (ix2 p q) + chunk x a b c p q + chunk x a' b' c' p q := by
  pointwise [k0_pay15, k0_pay14, chunk, unit]
  try rfl

theorem pay16 (x : FVec Ideal S256x1024 .bf16)
    (a b : Vec Ideal S1024x256 .bf16) (c : Vec Ideal S256x1024 .bf16) (p : Fin 256) (q : Fin 1024) :
    k0_pay16 x a b c (ix2 p q) = chunk x a b c p q := by
  pointwise [k0_pay16, chunk, unit]
  try rfl

/-- The last stored value: the second layer norm of the second residual sum. -/
theorem pay17 (g b : FVec Ideal S1x1024 .f32) (x1 : FVec Ideal S256x1024 .f32) (x : FVec Ideal S256x1024 .bf16)
    (acc s : FVec Ideal S256x1024 .f32) (wu wg : Vec Ideal S1024x256 .bf16) (wo : Vec Ideal S256x1024 .bf16)
    (p : Fin 256) (q : Fin 1024) :
    k0_pay17 g b x1 x acc s wu wg wo (ix2 p q)
      = lnrow (fun k => Ideal.ofBits FTy.f32 1066940400#32 * x1 (ix2 p k)
          + (acc (ix2 p k) + s (ix2 p k) + chunk x wu wg wo p k)) (g (ix2 0 q)) (b (ix2 0 q)) q := by
  pointwise [k0_pay17, chunk, unit, lnrow]
  try rfl

/-- The normalised first residual. -/
theorem pay8 (g b : FVec Ideal S1x1024 .f32) (A B : Vec Ideal S256x512 .bf16) (W1 W2 : Vec Ideal S512x1024 .bf16)
    (X : Vec Ideal S256x1024 .f32) (p : Fin 256) (q : Fin 1024) :
    k0_pay8 g b (k0_pay5 A W1 B W2 X) (k0_pay6 A W1 B W2 X) k0_pay7 (ix2 p q)
      = lnrow (fun k => Ideal.ofBits FTy.f32 1066940400#32 * X (ix2 p k)
          + (∑ e, A (ix2 p e) * W1 (ix2 e k) + ∑ e, B (ix2 p e) * W2 (ix2 e k))) (g (ix2 0 q)) (b (ix2 0 q)) q := by
  pointwise [k0_pay8, k0_pay5, k0_pay6, k0_pay7, lnrow]
  try rfl

theorem pay9 (v1 v3 : FVec Ideal S1x1024 .f32) (v26 : FVec Ideal S256x1024 .f32) (v31 v32 : FVec Ideal S256x1 .f32) :
    (k0_pay9 v1 v3 v26 v31 v32 : FVec Ideal S256x1024 .bf16) = (k0_pay8 v1 v3 v26 v31 v32 : FVec Ideal S256x1024 .f32) := rfl

set_option maxHeartbeats 1600000 in
/-- What a grid point stores, from its input blocks: `FinishMath.out` row by row. -/
theorem stored (x0 : Vec Ideal S256x1024 .f32) (x1 x2 : Vec Ideal S256x512 .bf16) (x3 : Vec Ideal S1024x1024 .bf16)
    (x4 : Vec Ideal S1024x5632 .bf16) (x5 : Vec Ideal S2816x1024 .bf16) (x6 : Vec Ideal S4x1024 .f32) (p : Fin 256) (q : Fin 1024) :
    (out0_7 x0 x1 x2 x3 x4 x5 x6 : FVec Ideal S256x1024 .f32) (ix2 p q)
      = out (fun k => x0 (ix2 p k)) (fun e => x1 (ix2 p e)) (fun e => x2 (ix2 p e)) (fun i j => x3 (ix2 i j))
          (fun i j => x4 (ix2 i j)) (fun i j => x5 (ix2 i j)) (fun k => x6 (ix2 0 k)) (fun k => x6 (ix2 1 k))
          (fun k => x6 (ix2 2 k)) (fun k => x6 (ix2 3 k)) q := by
  frame_out
  simp only [k0_pay23, k0_pay18, k0_pay19, k0_pay20, k0_pay21, k0_pay22]
  refine (pay17 _ _ _ _ _ _ _ _ _ p q).trans ?_
  simp only [pay15, pay13, pay11, pay10, pay16, pay9]
  have hY : ∀ k : Fin 1024, k0_pay8 (k0_pay1 (View.ld x6 r0_0)) (k0_pay2 (View.ld x6 r0_1))
      (k0_pay5 (View.ld x1 r0_4) (View.ld x3 r0_5) (View.ld x2 r0_4) (View.ld x3 r0_6) (View.ld x0 r0_7))
      (k0_pay6 (View.ld x1 r0_4) (View.ld x3 r0_5) (View.ld x2 r0_4) (View.ld x3 r0_6) (View.ld x0 r0_7))
      k0_pay7 (ix2 p k)
        = row1 (fun k => x0 (ix2 p k)) (fun e => x1 (ix2 p e)) (fun e => x2 (ix2 p e)) (fun i j => x3 (ix2 i j))
          (fun k => x6 (ix2 0 k)) (fun k => x6 (ix2 1 k)) k := by
    intro k
    refine (pay8 _ _ _ _ _ _ _ p k).trans ?_
    pointwise [row1, res1, lnrow, k0_pay1, k0_pay2]
    try rfl
  generalize (k0_pay8 (k0_pay1 (View.ld x6 r0_0)) (k0_pay2 (View.ld x6 r0_1))
      (k0_pay5 (View.ld x1 r0_4) (View.ld x3 r0_5) (View.ld x2 r0_4) (View.ld x3 r0_6) (View.ld x0 r0_7))
      (k0_pay6 (View.ld x1 r0_4) (View.ld x3 r0_5) (View.ld x2 r0_4) (View.ld x3 r0_6) (View.ld x0 r0_7))
      k0_pay7) = Y at hY ⊢
  simp only [chunk, hY, out]
  generalize row1 (fun k => x0 (ix2 p k)) (fun e => x1 (ix2 p e)) (fun e => x2 (ix2 p e)) (fun i j => x3 (ix2 i j))
          (fun k => x6 (ix2 0 k)) (fun k => x6 (ix2 1 k)) = R
  have h1 : k0_pay3 (View.ld x6 r0_2) (ix2 0 q) = x6 (ix2 2 q) := by
    pointwise [k0_pay3]
  have h2 : k0_pay4 (View.ld x6 r0_3) (ix2 0 q) = x6 (ix2 3 q) := by
    pointwise [k0_pay4]
  rw [h1, h2]
  congr 1
  funext k
  unfold res2
  rw [sum_chunks]
  congr 1
  pointwise []
  simp only [← Nat.add_assoc, Nat.reduceAdd]

end Cert.FinishSIdeal.Value
-- ==== Proof.FinishSRef.lean ====
module

public import proofs.«01_k».proof.Proof.Gen.FinishSRefIdeal.Run
public import proofs.«01_k».proof.Proof.FinishMath

/-!
What the reference of the finishing call computes, row by row: `FinishMath.out` of the argument arrays.
-/

@[expose] public section

set_option maxRecDepth 16384

noncomputable section

open Idealize.ShloMosaic Idealize.ShloMosaic.TcCoe Idealize.SL.Sem
open Idealize.ShloMosaic.Pipeline (Dat)

namespace Cert.FinishSRefIdeal.Value

open Cert.FinishSRefIdeal Cert.FinishSRefIdeal.Gen Cert.FinishMath

variable (V0 : Valuation τ sig (Elt Ideal))

/-- The first residual sum. -/
abbrev Z1 : FVec Ideal S512x1024 .f32 := res_main_v7 V0

/-- The second residual sum. -/
abbrev Z2 : FVec Ideal S512x1024 .f32 := res_main_v44 V0

/-- The row the first layer norm makes. -/
abbrev rowOf (r : Fin 512) : Fin 1024 → EReal :=
  row1 (fun k => V0 (Proc.devRef .tc main_arg0) (ix2 r k)) (fun e => V0 (Proc.devRef .tc main_arg1) (ix2 r e))
    (fun e => V0 (Proc.devRef .tc main_arg2) (ix2 r e)) (fun i j => V0 (Proc.devRef .tc main_arg3) (ix3 0 i j))
    (fun k => V0 (Proc.devRef .tc main_arg4) (ix2 0 k)) (fun k => V0 (Proc.devRef .tc main_arg5) (ix2 0 k))

theorem v7 (r : Fin 512) (q : Fin 1024) : Z1 V0 (ix2 r q)
    = res1 (fun k => V0 (Proc.devRef .tc main_arg0) (ix2 r k)) (fun e => V0 (Proc.devRef .tc main_arg1) (ix2 r e))
        (fun e => V0 (Proc.devRef .tc main_arg2) (ix2 r e)) (fun i j => V0 (Proc.devRef .tc main_arg3) (ix3 0 i j)) q := by
  pointwise [Z1, res_main_v7, res1]
  try rfl

theorem v13 (r : Fin 512) (u : Fin 1) : (res_main_v13 V0 : FVec Ideal S512x1 .f32) (ix2 r u)
    = Ideal.div (∑ k : Fin 1024, Z1 V0 (ix2 r k)) (Ideal.ofBits FTy.f32 1149239296#32) := by
  pointwise [res_main_v13]
  try rfl

theorem v15 (r : Fin 512) (q : Fin 1024) : (res_main_v15 V0 : FVec Ideal S512x1024 .f32) (ix2 r q)
    = Z1 V0 (ix2 r q)
      - Ideal.div (∑ k : Fin 1024, Z1 V0 (ix2 r k)) (Ideal.ofBits FTy.f32 1149239296#32) := by
  rw [← v13 V0 r 0]
  pointwise [res_main_v15]
  try rfl

theorem v33 (r : Fin 512) (q : Fin 1024) : (res_main_v33 V0 : FVec Ideal S512x1024 .f32) (ix2 r q) = rowOf V0 r q := by
  have h : (res_main_v33 V0 : FVec Ideal S512x1024 .f32) (ix2 r q)
      = lnrow (fun k => Z1 V0 (ix2 r k)) (V0 (Proc.devRef .tc main_arg4) (ix2 0 q))
          (V0 (Proc.devRef .tc main_arg5) (ix2 0 q)) q := by
    unfold lnrow
    simp only [← v15]
    rw [v15, ← v13 V0 r 0]
    pointwise [res_main_v33]
    try rfl
  rw [h]
  simp only [v7]
  rfl

theorem v35 (r : Fin 512) (f : Fin 5632) : (res_main_v35 V0 : FVec Ideal S512x5632 .f32) (ix2 r f)
    = ∑ k, rowOf V0 r k * V0 (Proc.devRef .tc main_arg6) (ix3 0 k f) := by
  simp only [← v33]
  pointwise [res_main_v35]
  try rfl

theorem v44 (r : Fin 512) (q : Fin 1024) : Z2 V0 (ix2 r q)
    = res2 (rowOf V0 r) (fun i j => V0 (Proc.devRef .tc main_arg6) (ix3 0 i j))
        (fun i j => V0 (Proc.devRef .tc main_arg7) (ix3 0 i j)) q := by
  unfold res2 unit
  simp only [← v35]
  rw [← v33]
  pointwise [res_main_v44, res_main_v37]
  try rfl

theorem v50 (r : Fin 512) (u : Fin 1) : (res_main_v50 V0 : FVec Ideal S512x1 .f32) (ix2 r u)
    = Ideal.div (∑ k : Fin 1024, Z2 V0 (ix2 r k)) (Ideal.ofBits FTy.f32 1149239296#32) := by
  pointwise [res_main_v50]
  try rfl

theorem v52 (r : Fin 512) (q : Fin 1024) : (res_main_v52 V0 : FVec Ideal S512x1024 .f32) (ix2 r q)
    = Z2 V0 (ix2 r q)
      - Ideal.div (∑ k : Fin 1024, Z2 V0 (ix2 r k)) (Ideal.ofBits FTy.f32 1149239296#32) := by
  rw [← v50 V0 r 0]
  pointwise [res_main_v52]
  try rfl

/-- The reference's result, as it composes. -/
abbrev result : FVec Ideal S512x1024 .f32 :=
  addf (mulf (mulf (subf (res_main_v44 V0) (broadcastInDim S512x1024 ![0, 1] bcast_S512x1_S512x1024_0_1 (res_main_v50 V0))) (broadcastInDim S512x1024 ![0, 1] bcast_S512x1_S512x1024_0_1 (Host.rsqrt (addf (Host.divf (broadcastInDim S512x1 ![0] bcast_S512_S512x1_0 (Host.reduceAdd (mulf (res_main_v52 V0) (res_main_v52 V0)) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x3727C5AC#32)))))) (broadcastInDim S512x1024 ![0, 1] bcast_S1x1024_S512x1024_0_1 (broadcastInDim S1x1024 ![1] bcast_S1024_S1x1024_1 (shapeCast _ (V0 (Proc.devRef .tc main_arg8)) shapeCasts_S1x1024_S1024)))) (broadcastInDim S512x1024 ![0, 1] bcast_S1x1024_S512x1024_0_1 (broadcastInDim S1x1024 ![1] bcast_S1024_S1x1024_1 (shapeCast _ (V0 (Proc.devRef .tc main_arg9)) shapeCasts_S1x1024_S1024)))

theorem v70 (r : Fin 512) (q : Fin 1024) : result V0 (ix2 r q)
    = out (fun k => V0 (Proc.devRef .tc main_arg0) (ix2 r k)) (fun e => V0 (Proc.devRef .tc main_arg1) (ix2 r e))
        (fun e => V0 (Proc.devRef .tc main_arg2) (ix2 r e)) (fun i j => V0 (Proc.devRef .tc main_arg3) (ix3 0 i j))
        (fun i j => V0 (Proc.devRef .tc main_arg6) (ix3 0 i j)) (fun i j => V0 (Proc.devRef .tc main_arg7) (ix3 0 i j))
        (fun k => V0 (Proc.devRef .tc main_arg4) (ix2 0 k)) (fun k => V0 (Proc.devRef .tc main_arg5) (ix2 0 k))
        (fun k => V0 (Proc.devRef .tc main_arg8) (ix2 0 k)) (fun k => V0 (Proc.devRef .tc main_arg9) (ix2 0 k)) q := by
  have h : result V0 (ix2 r q)
      = lnrow (fun k => Z2 V0 (ix2 r k)) (V0 (Proc.devRef .tc main_arg8) (ix2 0 q))
          (V0 (Proc.devRef .tc main_arg9) (ix2 0 q)) q := by
    unfold lnrow
    simp only [← v52]
    rw [v52, ← v50 V0 r 0]
    pointwise [result]
    try rfl
  rw [h]
  simp only [v44]
  rfl

end Cert.FinishSRefIdeal.Value
-- ==== Proof.FinishSFinal.lean ====
module

public import proofs.«01_k».proof.Proof.FinishSKernel
public import proofs.«01_k».proof.Proof.FinishSRef

/-!
The finishing call's output array after the run is the reference's result, index by index.
-/

@[expose] public section

set_option maxRecDepth 512

noncomputable section

open Idealize.ShloMosaic Idealize.ShloMosaic.TcCoe Idealize.SL.Sem
open Idealize.ShloMosaic.Pipeline (Dat)

namespace Cert.FinishSIdeal.Value

open Cert.FinishSIdeal Cert.FinishSIdeal.Gen Cert.FinishMath

variable (m : (ℓ : Loc nD τ sig) → Buf (Elt Ideal) ℓ)

/-- Every window's block index: the row blocks advance with the grid point, the weights are whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ t.val < 2 :=
  (by decide +kernel : ∀ t : Fin grid0.N, _)

/-- The result as a function of the launch's argument arrays. -/
def target (c : Dev nD) : FVec Ideal S512x1024 .f32 := fun i =>
  out (fun k => m ((c : Thread nD τ).loc main_arg0) (ix2 (i 0) k)) (fun e => m ((c : Thread nD τ).loc main_arg1) (ix2 (i 0) e))
    (fun e => m ((c : Thread nD τ).loc main_arg2) (ix2 (i 0) e)) (fun i j => m ((c : Thread nD τ).loc main_arg3) (ix3 0 i j))
    (fun i j => m ((c : Thread nD τ).loc main_arg6) (ix3 0 i j)) (fun i j => m ((c : Thread nD τ).loc main_arg7) (ix3 0 i j))
    (fun k => m ((c : Thread nD τ).loc main_arg4) (ix2 0 k)) (fun k => m ((c : Thread nD τ).loc main_arg5) (ix2 0 k))
    (fun k => m ((c : Thread nD τ).loc main_arg8) (ix2 0 k)) (fun k => m ((c : Thread nD τ).loc main_arg9) (ix2 0 k)) (i 1)

theorem rd0 (c : Dev nD) (t : Fin cfg0.N) (p : Fin 256) (k q : Fin 1024) : iblk m c 0 t (ix2 p k)
    = m ((c : Thread nD τ).loc main_arg0) (ix2 ((((cfg0.win 7).blk t).view.emb (ix2 p q)) 0) k) := by
  blk_ext [iblk, V, idx t]

theorem rd1 (c : Dev nD) (t : Fin cfg0.N) (p : Fin 256) (k : Fin 512) (q : Fin 1024) : iblk m c 1 t (ix2 p k)
    = m ((c : Thread nD τ).loc main_arg1) (ix2 ((((cfg0.win 7).blk t).view.emb (ix2 p q)) 0) k) := by
  blk_ext [iblk, V, idx t]

theorem rd2 (c : Dev nD) (t : Fin cfg0.N) (p : Fin 256) (k : Fin 512) (q : Fin 1024) : iblk m c 2 t (ix2 p k)
    = m ((c : Thread nD τ).loc main_arg2) (ix2 ((((cfg0.win 7).blk t).view.emb (ix2 p q)) 0) k) := by
  blk_ext [iblk, V, idx t]

theorem emb7 (t : Fin cfg0.N) (p : Fin 256) (q : Fin 1024) : ((cfg0.win 7).blk t).view.emb (ix2 p q)
    = (ix2 ⟨t.val * 256 + p.val, by have := (idx t).2.2.2.2.2.2.2.2; omega⟩ q : S512x1024.Idx) := by
  blk_ext [idx t]

theorem emb3 (t : Fin cfg0.N) (i : Fin 1024) (j : Fin 1024) : ((cfg0.win 3).blk t).view.emb (ix2 i j) = ix2 i j := by
  blk_ext [idx t]

theorem emb4 (t : Fin cfg0.N) (i : Fin 1024) (j : Fin 5632) : ((cfg0.win 4).blk t).view.emb (ix2 i j) = ix2 i j := by
  blk_ext [idx t]

theorem emb5 (t : Fin cfg0.N) (i : Fin 2816) (j : Fin 1024) : ((cfg0.win 5).blk t).view.emb (ix2 i j) = ix2 i j := by
  blk_ext [idx t]

theorem emb6 (t : Fin cfg0.N) (i : Fin 4) (j : Fin 1024) : ((cfg0.win 6).blk t).view.emb (ix2 i j) = ix2 i j := by
  blk_ext [idx t]

theorem ent3 (c : Dev nD) (i : Fin 1024) (j : Fin 1024) : V m c main_v10 (ix2 i j) = m ((c : Thread nD τ).loc main_arg3) (ix3 0 i j) := by
  entry_read
  pointwise

theorem rd3 (c : Dev nD) (t : Fin cfg0.N) (i : Fin 1024) (j : Fin 1024) : iblk m c 3 t (ix2 i j)
    = m ((c : Thread nD τ).loc main_arg3) (ix3 0 i j) :=
  (congrArg (V m c main_v10) (emb3 t i j)).trans (ent3 m c i j)

theorem ent4 (c : Dev nD) (i : Fin 1024) (j : Fin 5632) : V m c main_v12 (ix2 i j) = m ((c : Thread nD τ).loc main_arg6) (ix3 0 i j) := by
  entry_read
  pointwise

theorem rd4 (c : Dev nD) (t : Fin cfg0.N) (i : Fin 1024) (j : Fin 5632) : iblk m c 4 t (ix2 i j)
    = m ((c : Thread nD τ).loc main_arg6) (ix3 0 i j) :=
  (congrArg (V m c main_v12) (emb4 t i j)).trans (ent4 m c i j)

theorem ent5 (c : Dev nD) (i : Fin 2816) (j : Fin 1024) : V m c main_v14 (ix2 i j) = m ((c : Thread nD τ).loc main_arg7) (ix3 0 i j) := by
  entry_read
  pointwise

theorem rd5 (c : Dev nD) (t : Fin cfg0.N) (i : Fin 2816) (j : Fin 1024) : iblk m c 5 t (ix2 i j)
    = m ((c : Thread nD τ).loc main_arg7) (ix3 0 i j) :=
  (congrArg (V m c main_v14) (emb5 t i j)).trans (ent5 m c i j)

/-- The four layer-norm vectors stacked. -/
def stack (a b d e : Vec Ideal S1x1024 .f32) : Vec Ideal S4x1024 .f32 := concatenate S4x1024 0
    [⟨S1x1024, broadcastInDim S1x1024 ![1] bcast_S1024_S1x1024_1 (shapeCast S1024 a shapeCasts_S1x1024_S1024)⟩,
     ⟨S1x1024, broadcastInDim S1x1024 ![1] bcast_S1024_S1x1024_1 (shapeCast S1024 b shapeCasts_S1x1024_S1024)⟩,
     ⟨S1x1024, broadcastInDim S1x1024 ![1] bcast_S1024_S1x1024_1 (shapeCast S1024 d shapeCasts_S1x1024_S1024)⟩,
     ⟨S1x1024, broadcastInDim S1x1024 ![1] bcast_S1024_S1x1024_1 (shapeCast S1024 e shapeCasts_S1x1024_S1024)⟩]
    concatenates_S1x1024_S1x1024_S1x1024_S1x1024_S4x1024_d0

theorem ent6 (c : Dev nD) : V m c main_v8 = stack (m ((c : Thread nD τ).loc main_arg4)) (m ((c : Thread nD τ).loc main_arg5))
    (m ((c : Thread nD τ).loc main_arg8)) (m ((c : Thread nD τ).loc main_arg9)) := by
  simp only [V, hostOps0]
  after_results_simp
  rfl

theorem stack0 (a b d e : Vec Ideal S1x1024 .f32) (j : Fin 1024) : stack a b d e (ix2 0 j) = a (ix2 0 j) := by
  pointwise [stack]

theorem rd6_0 (c : Dev nD) (t : Fin cfg0.N) (j : Fin 1024) : iblk m c 6 t (ix2 0 j)
    = m ((c : Thread nD τ).loc main_arg4) (ix2 0 j) :=
  (congrArg (V m c main_v8) (emb6 t 0 j)).trans ((congrFun (ent6 m c) _).trans (stack0 _ _ _ _ j))

theorem stack1 (a b d e : Vec Ideal S1x1024 .f32) (j : Fin 1024) : stack a b d e (ix2 1 j) = b (ix2 0 j) := by
  pointwise [stack]

theorem rd6_1 (c : Dev nD) (t : Fin cfg0.N) (j : Fin 1024) : iblk m c 6 t (ix2 1 j)
    = m ((c : Thread nD τ).loc main_arg5) (ix2 0 j) :=
  (congrArg (V m c main_v8) (emb6 t 1 j)).trans ((congrFun (ent6 m c) _).trans (stack1 _ _ _ _ j))

theorem stack2 (a b d e : Vec Ideal S1x1024 .f32) (j : Fin 1024) : stack a b d e (ix2 2 j) = d (ix2 0 j) := by
  pointwise [stack]

theorem rd6_2 (c : Dev nD) (t : Fin cfg0.N) (j : Fin 1024) : iblk m c 6 t (ix2 2 j)
    = m ((c : Thread nD τ).loc main_arg8) (ix2 0 j) :=
  (congrArg (V m c main_v8) (emb6 t 2 j)).trans ((congrFun (ent6 m c) _).trans (stack2 _ _ _ _ j))

theorem stack3 (a b d e : Vec Ideal S1x1024 .f32) (j : Fin 1024) : stack a b d e (ix2 3 j) = e (ix2 0 j) := by
  pointwise [stack]

theorem rd6_3 (c : Dev nD) (t : Fin cfg0.N) (j : Fin 1024) : iblk m c 6 t (ix2 3 j)
    = m ((c : Thread nD τ).loc main_arg9) (ix2 0 j) :=
  (congrArg (V m c main_v8) (emb6 t 3 j)).trans ((congrFun (ent6 m c) _).trans (stack3 _ _ _ _ j))

set_option maxHeartbeats 1600000 in
theorem point (c : Dev nD) (t : Fin cfg0.N) (p : Fin 256) (q : Fin 1024) :
    (out0_7 (iblk m c 0 t) (iblk m c 1 t) (iblk m c 2 t) (iblk m c 3 t) (iblk m c 4 t) (iblk m c 5 t) (iblk m c 6 t)
      : FVec Ideal S256x1024 .f32) (ix2 p q) = target m c (((cfg0.win 7).blk t).view.emb (ix2 p q)) := by
  refine (stored _ _ _ _ _ _ _ p q).trans ?_
  unfold target
  simp only [rd0 m c t p _ q, rd1 m c t p _ q, rd2 m c t p _ q, rd3 m c t, rd4 m c t, rd5 m c t, rd6_0 m c t, rd6_1 m c t, rd6_2 m c t, rd6_3 m c t]
  congr 1
  exact (congrArg (fun z : S512x1024.Idx => z 1) (emb7 t p q)).symm

theorem final (c : Dev nD) : (dats m 0 c).arrAt 7 (cfgs 0).N = target m c := by
  refine (dats m 0 c).arrAt_eq_of_covers 7 _ (by decide +kernel) fun t _ y => ?_
  blk_simp
  rw [after0_7]
  idx_vars y
  exact point m c t _ _

end Cert.FinishSIdeal.Value
-- ==== Proof.FinishSClaim.lean ====
module

public import proofs.«01_k».proof.Defs
public import proofs.«01_k».proof.Proof.Gen.FinishS.Frame
public import proofs.«01_k».proof.Proof.FinishSFinal
public import Idealize.ShloMosaic.Lib.Claim
public import Idealize.ShloMosaic.Adequacy
public import Idealize.ShloMosaic.Init

/-!
The finishing call's claims: every run keeps its arguments and leaves the counters at zero, and the kernel's result is
the reference's.
-/

@[expose] public section

noncomputable section

namespace Cert.FinishSClaim

open Idealize.ShloMosaic Idealize.SL.Sem

theorem frame : Cert.quiescent_FinishS := fun m g _ => Cert.FinishS.Gen.frame m g

theorem frameIdeal : Cert.quiescent_FinishSIdeal := fun m g _ => Cert.FinishSIdeal.Gen.frame m g

theorem frameRef : Cert.quiescent_FinishSRefIdeal := fun m g _ => (θ_run Cert.FinishSRefIdeal.defs _ _).mono
  (fun r h => ⟨fun c => (h c).2, sem_eq_zero_of_no_sems (by decide) r.2⟩) (Cert.FinishSRefIdeal.Value.run m g)

theorem algebraic : Cert.algebraic_FinishSIdeal_FinishSRefIdeal := by
  pair_intro
  · run_from Cert.FinishSIdeal.Gen.run_main m g
  · run_from Cert.FinishSRefIdeal.Value.run m' g'
    obtain ⟨h0, h1, h2, h3, h4, h5, h6, h7, h8, h9⟩ := hagree c
    rw [← h8, ← h9, Cert.FinishSIdeal.Value.final m c]
    refine Eq.trans (b := Cert.FinishSRefIdeal.Value.result (StableHlo.launchContents m' c)) rfl ?_
    funext y
    idx_vars y
    refine (Cert.FinishSRefIdeal.Value.v70 (StableHlo.launchContents m' c) _ _).trans ?_
    unfold Cert.FinishSIdeal.Value.target
    rw [← h0, ← h1, ← h2, ← h3, ← h4, ← h5, ← h6, ← h7, ← h8, ← h9]
    rfl

end Cert.FinishSClaim

end
-- ==== Proof.ProjTables.lean ====
module

public import proofs.«01_k».proof.Proof.Gen.ProjIdeal.Frame
public import Idealize.ShloMosaic.Lib.Pipeline.ValueKit
public import Idealize.ShloMosaic.Lib.Claim
public import Idealize.ShloMosaic.Lib.Routing.OpsSet

/-!
The rotation tables of the projection call, lane by lane: the cosines and signed sines of the rotated dimensions of each
head, and one or zero elsewhere.
-/

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- The remainder with the divisor's sign, as the host spells it. -/
def remv (x : IVec S128 32) (n : IVec S_ 32) : IVec S128 32 :=
  let n' : IVec S_ 32 := select (cmpi .eq n (constantI S_ 32 0#32)) (constantI S_ 32 1#32) n
  let r : IVec S128 32 := Host.remsi x (broadcastInDim S128 ![] bcast_S_S128 n')
  let z : IVec S128 32 := broadcastInDim S128 ![] bcast_S_S128 (constantI S_ 32 0#32)
  select (andi (cmpi .ne (cmpi .slt r z) (broadcastInDim S128 ![] bcast_S_S128 (cmpi .slt n' (constantI S_ 32 0#32)))) (cmpi .ne r z))
    (addi r (broadcastInDim S128 ![] bcast_S_S128 n')) r

/-- The lane's place within its head. -/
def dimv : IVec S128 32 := remv (iotaInDim S128 32 0) (constantI S_ 32 64#32)

/-- The frequency index of a lane. -/
def idxv : IVec S128x1 32 :=
  let r := remv dimv (constantI S_ 32 8#32)
  broadcastInDim S128x1 ![0] bcast_S128_S128x1_0 (select (cmpi .slt r (broadcastInDim S128 ![] bcast_S_S128 (constantI S_ 32 0#32)))
    (addi r (broadcastInDim S128 ![] bcast_S_S128 (constantI S_ 32 8#32))) r)

theorem dim_at : ∀ l : Fin 128, dimv (ix1 l) = BitVec.ofNat 32 (l.val % 64) := by decide +kernel

theorem idx_at : ∀ l : Fin 128, idxv (ix2 l 0) = BitVec.ofNat 32 (l.val % 8) := by decide +kernel

theorem dim_eq (c : Dev nD) : (V m c main_v11 : IVec S128 32) = dimv := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

theorem rem_eq (c : Dev nD) : (V m c main_v14 : IVec S128 32) = remv (V m c main_v11 : IVec S128 32) (constantI S_ 32 8#32) := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

theorem idx_eq' (c : Dev nD) : (V m c main_v20 : IVec S128x1 32) = broadcastInDim S128x1 ![0] bcast_S128_S128x1_0
    (select (cmpi .slt (V m c main_v14 : IVec S128 32) (broadcastInDim S128 ![] bcast_S_S128 (constantI S_ 32 0#32)))
    (addi (V m c main_v14 : IVec S128 32) (broadcastInDim S128 ![] bcast_S_S128 (constantI S_ 32 8#32))) (V m c main_v14 : IVec S128 32)) := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp

theorem idx_eq (c : Dev nD) : (V m c main_v20 : IVec S128x1 32) = idxv := by
  rw [idx_eq', rem_eq, dim_eq]
  rfl

/-- The rotation frequencies. -/
def freqs : FVec Ideal S8 .f32 := Host.powf (broadcastInDim S8 ![] bcast_S_S8 (constant S_ .f32 0x48F42400#32))
  (Host.divf (Host.negf (sitofp .f32 (iotaInDim S8 32 0))) (broadcastInDim S8 ![] bcast_S_S8 (constant S_ .f32 0x41000000#32)))

/-- The angle of a row and a lane. -/
def ang (i : IVec S128x1 32) : FVec Ideal S4096x128 .f32 :=
  mulf (broadcastInDim S4096x128 ![0, 1] bcast_S4096x1_S4096x128_0_1 (broadcastInDim S4096x1 ![0] bcast_S4096_S4096x1_0 (sitofp .f32 (iotaInDim S4096 32 0))))
   (broadcastInDim S4096x128 ![0, 1] bcast_S1x128_S4096x128_0_1 (broadcastInDim S1x128 ![1] bcast_S128_S1x128_1
     (Host.gather gather_S8_S128x1_S128_n_0_n_n_0_1_1 freqs i)))

theorem ang_at (i : IVec S128x1 32) (hi : ∀ l : Fin 128, i (ix2 l 0) = BitVec.ofNat 32 (l.val % 8)) (r : Fin 4096) (l : Fin 128) : ang i (ix2 r l)
    = sitofp (F := Ideal) .f32 (iotaInDim S4096 32 0) (ix1 r) * freqs (ix1 ⟨l.val % 8, by omega⟩) := by
  pointwise [ang]
  exact congrArg _ (Routing.gather_take1 _ rfl rfl rfl rfl freqs i l ⟨l.val % 8, by omega⟩ (hi l) (by decide))

theorem tabC (c : Dev nD) : (V m c main_v30 : FVec Ideal S4096x128 .f32) = select (broadcastInDim S4096x128 ![1] bcast_S128_S4096x128_1
     (cmpi .slt (V m c main_v11 : IVec S128 32) (broadcastInDim S128 ![] bcast_S_S128 (constantI S_ 32 16#32))))
     (Host.cos (ang (V m c main_v20))) (broadcastInDim S4096x128 ![] bcast_S_S4096x128 (constant S_ .f32 0x3F800000#32)) := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

theorem tabS1 (c : Dev nD) : (V m c main_v34 : FVec Ideal S4096x128 .f32) = select (broadcastInDim S4096x128 ![1] bcast_S128_S4096x128_1
     (cmpi .slt (V m c main_v11 : IVec S128 32) (broadcastInDim S128 ![] bcast_S_S128 (constantI S_ 32 8#32))))
     (Host.negf (Host.sin (ang (V m c main_v20)))) (broadcastInDim S4096x128 ![] bcast_S_S4096x128 (constant S_ .f32 0x00000000#32)) := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

theorem tabS2 (c : Dev nD) : (V m c main_v40 : FVec Ideal S4096x128 .f32) = select (broadcastInDim S4096x128 ![1] bcast_S128_S4096x128_1
     (andi (cmpi .sge (V m c main_v11 : IVec S128 32) (broadcastInDim S128 ![] bcast_S_S128 (constantI S_ 32 8#32)))
       (cmpi .slt (V m c main_v11 : IVec S128 32) (broadcastInDim S128 ![] bcast_S_S128 (constantI S_ 32 16#32)))))
     (Host.sin (ang (V m c main_v20))) (broadcastInDim S4096x128 ![] bcast_S_S4096x128 (constant S_ .f32 0x00000000#32)) := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-- The angle of row `r` and lane `l`. -/
def angle (r : Fin 4096) (l : Fin 128) : EReal := sitofp (F := Ideal) .f32 (iotaInDim S4096 32 0) (ix1 r) * freqs (ix1 ⟨l.val % 8, by omega⟩)

theorem slt16 : ∀ l : Fin 64, IntOp.cmpi .slt (BitVec.ofNat 32 l.val) 16#32 = if l.val < 16 then 1 else 0 := by decide +kernel
theorem slt8 : ∀ l : Fin 64, IntOp.cmpi .slt (BitVec.ofNat 32 l.val) 8#32 = if l.val < 8 then 1 else 0 := by decide +kernel
theorem sge8 : ∀ l : Fin 64, IntOp.cmpi .sge (BitVec.ofNat 32 l.val) 8#32 = if 8 ≤ l.val then 1 else 0 := by decide +kernel

theorem tabC_at (c : Dev nD) (r : Fin 4096) (l : Fin 128) : (V m c main_v30 : FVec Ideal S4096x128 .f32) (ix2 r l)
    = if l.val % 64 < 16 then Ideal.cos (angle r l) else 1 := by
  rw [tabC, dim_eq, idx_eq]
  have h := ang_at idxv idx_at r l
  have h1 := slt16 ⟨l.val % 64, by omega⟩
  pointwise [dim_at]
  rw [h, h1]
  dsimp only
  split_ifs <;> rfl

theorem tabS1_at (c : Dev nD) (r : Fin 4096) (l : Fin 128) : (V m c main_v34 : FVec Ideal S4096x128 .f32) (ix2 r l)
    = if l.val % 64 < 8 then -Ideal.sin (angle r l) else 0 := by
  rw [tabS1, dim_eq, idx_eq]
  have h := ang_at idxv idx_at r l
  have h1 := slt8 ⟨l.val % 64, by omega⟩
  pointwise [dim_at]
  rw [h, h1]
  dsimp only
  split_ifs <;> rfl

theorem tabS2_at (c : Dev nD) (r : Fin 4096) (l : Fin 128) : (V m c main_v40 : FVec Ideal S4096x128 .f32) (ix2 r l)
    = if 8 ≤ l.val % 64 ∧ l.val % 64 < 16 then Ideal.sin (angle r l) else 0 := by
  rw [tabS2, dim_eq, idx_eq]
  have h := ang_at idxv idx_at r l
  have h1 := slt16 ⟨l.val % 64, by omega⟩
  have h2 := sge8 ⟨l.val % 64, by omega⟩
  pointwise [dim_at]
  rw [h, h1, h2]
  dsimp only
  by_cases a : 8 ≤ l.val % 64 <;> by_cases b : l.val % 64 < 16 <;> simp [a, b] <;> rfl

end Cert.ProjIdeal.Value
-- ==== Proof.ProjMath.lean ====
module

public import Idealize.ShloMosaic.Lib.Pipeline.ValueKit

/-!
The partial rotary embedding of one row, as the problem writes it (two halves of the first sixteen dimensions of a
head) and as the kernel computes it (three table products over the whole width with two cyclic shifts by eight lanes).
The two agree because every table entry outside the rotated dimensions is zero, one or unused.
-/

@[expose] public section

set_option maxRecDepth 16384

noncomputable section

open Idealize.ShloMosaic Idealize.ShloMosaic.TcCoe Idealize.SL.Sem
open Idealize.ShloMosaic.Pipeline (Dat)

namespace Cert.ProjMath

/-- The rotation of one head's row: dimensions 0–7 against 8–15, the others kept. -/
def rope (C S : Fin 8 → EReal) (z : Fin 64 → EReal) (d : Fin 64) : EReal :=
  if h : d.val < 8 then z d * C ⟨d.val, h⟩ - z ⟨d.val + 8, by omega⟩ * S ⟨d.val, h⟩
  else if h' : d.val < 16 then z d * C ⟨d.val - 8, by omega⟩ + z ⟨d.val - 8, by omega⟩ * S ⟨d.val - 8, by omega⟩
  else z d

/-- The kernel's rotation over a width `W`, by three tables of 128 lanes and two cyclic shifts. -/
def krope (W : ℕ) (hW : 0 < W) (z : Fin W → EReal) (c s1 s2 : Fin 128 → EReal) (j : Fin W) : EReal :=
  z j * c ⟨j.val % 128, by omega⟩ + z ⟨(j.val + W - (W - 8)) % W, Nat.mod_lt _ hW⟩ * s1 ⟨j.val % 128, by omega⟩
    + z ⟨(j.val + W - 8) % W, Nat.mod_lt _ hW⟩ * s2 ⟨j.val % 128, by omega⟩

/-- The three tables: cosine, signed sine of the first half, sine of the second half. -/
def tc (C : Fin 8 → EReal) (l : Fin 128) : EReal := if l.val % 64 < 16 then C ⟨l.val % 8, by omega⟩ else 1
def ts1 (S : Fin 8 → EReal) (l : Fin 128) : EReal := if l.val % 64 < 8 then -S ⟨l.val % 8, by omega⟩ else 0
def ts2 (S : Fin 8 → EReal) (l : Fin 128) : EReal := if 8 ≤ l.val % 64 ∧ l.val % 64 < 16 then S ⟨l.val % 8, by omega⟩ else 0

theorem krope_eq (W : ℕ) (hW : 0 < W) (z : Fin W → EReal) (c s1 s2 : Fin 128 → EReal) (C S : Fin 8 → EReal) (h : ℕ) (d : Fin 64)
    (hj : ∀ d : Fin 64, h * 64 + d.val < W) (hc : ∀ l : Fin 128, l.val % 64 = d.val → l.val = (h * 64 + d.val) % 128 → c l = tc C l)
    (hs1 : ∀ l : Fin 128, l.val % 64 = d.val → l.val = (h * 64 + d.val) % 128 → s1 l = ts1 S l)
    (hs2 : ∀ l : Fin 128, l.val % 64 = d.val → l.val = (h * 64 + d.val) % 128 → s2 l = ts2 S l) :
    krope W hW z c s1 s2 ⟨h * 64 + d.val, hj d⟩ = rope C S (fun d => z ⟨h * 64 + d.val, hj d⟩) d := by
  have hl : (h * 64 + d.val) % 128 % 64 = d.val := by omega
  have hd := hj ⟨63, by omega⟩
  simp only at hd
  unfold krope
  rw [hc _ hl rfl, hs1 _ hl rfl, hs2 _ hl rfl]
  unfold tc ts1 ts2 rope
  simp only [hl]
  by_cases h1 : d.val < 8
  · have e1 : (h * 64 + d.val) % 128 % 8 = d.val := by omega
    have e2 : (h * 64 + d.val + W - (W - 8)) % W = h * 64 + (d.val + 8) := by
      rw [Nat.mod_eq_of_lt (by omega)]; omega
    have h2 : ¬ 8 ≤ d.val := by omega
    have h3 : d.val < 16 := by omega
    simp only [h1, h2, h3, e1, e2, false_and, if_true, if_false, dif_pos, mul_zero, add_zero, mul_neg]
    rfl
  · by_cases h3 : d.val < 16
    · have e1 : (h * 64 + d.val) % 128 % 8 = d.val - 8 := by omega
      have e2 : (h * 64 + d.val + W - 8) % W = h * 64 + (d.val - 8) := by
        rw [show h * 64 + d.val + W - 8 = (h * 64 + (d.val - 8)) + W by omega, Nat.add_mod_right, Nat.mod_eq_of_lt (by omega)]
      have h2 : (8 ≤ d.val ∧ d.val < 16) := by omega
      simp only [h1, h2, h3, e1, e2, and_self, if_true, if_false, dif_pos, dif_neg, not_false_eq_true, mul_zero, add_zero]
    · simp only [h1, h3, and_false, if_false, dif_neg, not_false_eq_true, mul_zero, add_zero, mul_one]

/-- The lanes past the index key: tables one, zero and zero keep the entry. -/
theorem krope_keep (W : ℕ) (hW : 0 < W) (z : Fin W → EReal) (c s1 s2 : Fin 128 → EReal) (j : Fin W)
    (hc : c ⟨j.val % 128, by omega⟩ = 1) (hs1 : s1 ⟨j.val % 128, by omega⟩ = 0) (hs2 : s2 ⟨j.val % 128, by omega⟩ = 0) :
    krope W hW z c s1 s2 j = z j := by
  unfold krope
  rw [hc, hs1, hs2, mul_one, mul_zero, mul_zero, add_zero, add_zero]

end Cert.ProjMath
-- ==== Proof.ProjKernel.lean ====
module

public import proofs.«01_k».proof.Proof.ProjTables
public import proofs.«01_k».proof.Proof.ProjMath

/-!
What one grid point of the projection call computes, entry by entry: products with the weight columns, and their rotation.
-/

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen Cert.ProjMath

/-- One row of the block against one column of the weights. -/
def mm {n : ℕ} (v0 : Vec Ideal S512x1024 .f32) (w : FVec Ideal ⟨2, ![1024, n]⟩ .bf16) (p : Fin 512) (e : Fin n) : EReal := ∑ k, v0 (ix2 p k) * w (ix2 k e)

theorem four (c : FVec Ideal S512x128 .f32) (p : Fin 512) (j : Fin 512) :
    (concatenate S512x512 1 [⟨S512x128, c⟩, ⟨S512x128, c⟩, ⟨S512x128, c⟩, ⟨S512x128, c⟩] concatenates_S512x128_S512x128_S512x128_S512x128_S512x512_d1 : FVec Ideal S512x512 .f32) (ix2 p j)
      = c (ix2 p ⟨j.val % 128, by omega⟩) := by
  pointwise
  have hj := j.isLt
  split_ifs <;> congr 2 <;> apply Fin.ext <;> simp only <;> omega

theorem pay6 (v0 : Vec Ideal S512x1024 .f32) (w : Vec Ideal S1024x512 .bf16) (p j : Fin 512) : k0_pay6 v0 w (ix2 p j) = mm v0 w p j := by
  pointwise [k0_pay6, k0_pay2, mm]
  try rfl

theorem pay7 (v0 : Vec Ideal S512x1024 .f32) (w : Vec Ideal S1024x512 .bf16) (p j : Fin 512) : k0_pay7 v0 w (ix2 p j) = mm v0 w p j := by
  pointwise [k0_pay7, k0_pay2, mm]
  try rfl

theorem pay9 (v0 : Vec Ideal S512x1024 .f32) (w : Vec Ideal S1024x512 .bf16) (p j : Fin 512) : k0_pay9 v0 w (ix2 p j) = mm v0 w p j := by
  pointwise [k0_pay9, k0_pay2, mm]
  try rfl

theorem pay15 (v0 : Vec Ideal S512x1024 .f32) (w : Vec Ideal S1024x512 .bf16) (p j : Fin 512) : k0_pay15 (k0_pay2 v0) w (ix2 p j) = mm v0 w p j := by
  pointwise [k0_pay15, k0_pay2, mm]
  try rfl

theorem pay14 (z c s1 s2 : FVec Ideal S512x512 .f32) (p j : Fin 512) :
    k0_pay14 z s1 s2 (mulf z c) (dynamicRotate 1 504#32 none z rotates_S512x512_d1) (ix2 p j)
      = z (ix2 p j) * c (ix2 p j) + z (ix2 p ⟨(j.val + 512 - 504) % 512, by omega⟩) * s1 (ix2 p j)
        + z (ix2 p ⟨(j.val + 512 - 8) % 512, by omega⟩) * s2 (ix2 p j) := by
  pointwise [k0_pay14]
  try rfl

/-- The rotated keys. -/
theorem keys (v0 : Vec Ideal S512x1024 .f32) (v3 v5 v7 : Vec Ideal S512x128 .f32) (w : Vec Ideal S1024x512 .bf16) (p j : Fin 512) :
    k0_pay14 (k0_pay9 v0 w) (k0_pay10 v5) (k0_pay11 v7) (k0_pay12 v0 v3 w) (k0_pay13 v0 w) (ix2 p j)
      = krope 512 (by decide) (fun e => mm v0 w p e) (fun l => v3 (ix2 p l)) (fun l => v5 (ix2 p l)) (fun l => v7 (ix2 p l)) j := by
  refine (pay14 (k0_pay9 v0 w) _ _ _ p j).trans ?_
  rw [pay9, pay9, pay9, k0_pay10, k0_pay11, four, four, four]
  pointwise [k0_pay3, k0_pay4, k0_pay5, krope]
  try rfl

/-- The rotated queries. -/
theorem queries (v0 : Vec Ideal S512x1024 .f32) (v3 v5 v7 : Vec Ideal S512x128 .f32) (w : Vec Ideal S1024x512 .bf16) (p j : Fin 512) : k0_pay8 v0 v3 v5 v7 w (ix2 p j) = krope 512 (by decide) (fun e => mm v0 w p e) (fun l => v3 (ix2 p l)) (fun l => v5 (ix2 p l)) (fun l => v7 (ix2 p l)) j :=
  keys v0 v3 v5 v7 w p j

/-- The rotated index queries. -/
theorem idxqueries (v0 : Vec Ideal S512x1024 .f32) (v3 v5 v7 : Vec Ideal S512x128 .f32) (w : Vec Ideal S1024x512 .bf16) (p j : Fin 512) :
    k0_pay16 (k0_pay2 v0) (k0_pay3 v3) (k0_pay4 v5) (k0_pay5 v7) w (ix2 p j) = krope 512 (by decide) (fun e => mm v0 w p e) (fun l => v3 (ix2 p l)) (fun l => v5 (ix2 p l)) (fun l => v7 (ix2 p l)) j :=
  keys v0 v3 v5 v7 w p j

theorem lane : ∀ l : Fin 128, IntOp.cmpi .slt (BitVec.ofNat 32 l.val) 64#32 = if l.val < 64 then 1 else 0 := by decide +kernel

/-- The tail columns: the rotated index key, then the index weights. -/
theorem tail (v0 : Vec Ideal S512x1024 .f32) (v3 v5 v7 : Vec Ideal S512x128 .f32) (w : Vec Ideal S1024x128 .bf16) (p : Fin 512) (j : Fin 128) :
    k0_pay17 (k0_pay2 v0) (k0_pay3 v3) (k0_pay4 v5) (k0_pay5 v7) w (ix2 p j)
      = krope 128 (by decide) (fun e => mm v0 w p e) (fun l => if l.val < 64 then v3 (ix2 p l) else 1)
          (fun l => if l.val < 64 then v5 (ix2 p l) else 0) (fun l => if l.val < 64 then v7 (ix2 p l) else 0) j := by
  have h := lane j
  have hj : (⟨j.val % 128, by omega⟩ : Fin 128) = j := Fin.ext (Nat.mod_eq_of_lt j.isLt)
  unfold krope
  rw [hj]
  pointwise [k0_pay17, k0_pay2, k0_pay3, k0_pay4, k0_pay5, mm]
  rw [h]
  split_ifs
  · rfl
  · rw [mul_zero, mul_zero]; rfl

/-- One row of the block against column `lo + e` of the padded weights. -/
def col {n : ℕ} (x0 : Vec Ideal S512x1024 .f32) (x1 : Vec Ideal S1024x3200 .bf16) (lo : ℕ) (h : lo + n ≤ 3200) (p : Fin 512) (e : Fin n) : EReal :=
  ∑ k, x0 (ix2 p k) * x1 (ix2 k ⟨lo + e.val, by omega⟩)

/-- The rotated columns from `lo`. -/
def rcol (x0 : Vec Ideal S512x1024 .f32) (x1 : Vec Ideal S1024x3200 .bf16) (x2 x3 x4 : Vec Ideal S512x128 .f32) (lo : ℕ) (h : lo + 512 ≤ 3200) (p j : Fin 512) : EReal :=
  krope 512 (by decide) (fun e => col x0 x1 lo h p e) (fun l => x2 (ix2 p l)) (fun l => x3 (ix2 p l)) (fun l => x4 (ix2 p l)) j

theorem ld2 (x0 : Vec Ideal S512x1024 .f32) (x1 : Vec Ideal S1024x3200 .bf16) (p : Fin 512) (e : Fin 512) :
    mm x0 (View.ld x1 r0_2) p e = col x0 x1 0 (by decide) p e := by
  unfold mm col
  pointwise
  try rfl

theorem ld3 (x0 : Vec Ideal S512x1024 .f32) (x1 : Vec Ideal S1024x3200 .bf16) (p : Fin 512) (e : Fin 512) :
    mm x0 (View.ld x1 r0_3) p e = col x0 x1 512 (by decide) p e := by
  unfold mm col
  pointwise
  try rfl

theorem ld4 (x0 : Vec Ideal S512x1024 .f32) (x1 : Vec Ideal S1024x3200 .bf16) (p : Fin 512) (e : Fin 512) :
    mm x0 (View.ld x1 r0_4) p e = col x0 x1 1024 (by decide) p e := by
  unfold mm col
  pointwise
  try rfl

theorem ld5 (x0 : Vec Ideal S512x1024 .f32) (x1 : Vec Ideal S1024x3200 .bf16) (p : Fin 512) (e : Fin 512) :
    mm x0 (View.ld x1 r0_5) p e = col x0 x1 1536 (by decide) p e := by
  unfold mm col
  pointwise
  try rfl

theorem ld6 (x0 : Vec Ideal S512x1024 .f32) (x1 : Vec Ideal S1024x3200 .bf16) (p : Fin 512) (e : Fin 512) :
    mm x0 (View.ld x1 r0_6) p e = col x0 x1 2048 (by decide) p e := by
  unfold mm col
  pointwise
  try rfl

theorem ld7 (x0 : Vec Ideal S512x1024 .f32) (x1 : Vec Ideal S1024x3200 .bf16) (p : Fin 512) (e : Fin 512) :
    mm x0 (View.ld x1 r0_7) p e = col x0 x1 2560 (by decide) p e := by
  unfold mm col
  pointwise
  try rfl

theorem ld8 (x0 : Vec Ideal S512x1024 .f32) (x1 : Vec Ideal S1024x3200 .bf16) (p : Fin 512) (e : Fin 128) :
    mm x0 (View.ld x1 r0_8) p e = col x0 x1 3072 (by decide) p e := by
  unfold mm col
  pointwise
  try rfl

/-- The tail columns. -/
def tcol (x0 : Vec Ideal S512x1024 .f32) (x1 : Vec Ideal S1024x3200 .bf16) (x2 x3 x4 : Vec Ideal S512x128 .f32) (p : Fin 512) (j : Fin 128) : EReal :=
  krope 128 (by decide) (fun e => col x0 x1 3072 (by decide) p e) (fun l => if l.val < 64 then x2 (ix2 p l) else 1)
    (fun l => if l.val < 64 then x3 (ix2 p l) else 0) (fun l => if l.val < 64 then x4 (ix2 p l) else 0) j

theorem whole0 (x0 : Vec Ideal S512x1024 .f32) : View.ld x0 r0_0 = x0 := by
  funext y; idx_vars y; pointwise; try rfl

theorem whole1 (x0 : Vec Ideal S512x128 .f32) : View.ld x0 r0_1 = x0 := by
  funext y; idx_vars y; pointwise; try rfl

theorem stored5 (x0 : Vec Ideal S512x1024 .f32) (x1 : Vec Ideal S1024x3200 .bf16) (x2 x3 x4 : Vec Ideal S512x128 .f32) (p j : Fin 512) : out0_5 x0 x1 x2 x3 x4 (ix2 p j) = col x0 x1 0 (by decide) p j := by
  frame_out
  exact (pay6 x0 _ p j).trans (ld2 x0 x1 p j)

theorem stored6 (x0 : Vec Ideal S512x1024 .f32) (x1 : Vec Ideal S1024x3200 .bf16) (x2 x3 x4 : Vec Ideal S512x128 .f32) (p j : Fin 512) : out0_6 x0 x1 x2 x3 x4 (ix2 p j) = col x0 x1 512 (by decide) p j := by
  frame_out
  exact (pay7 x0 _ p j).trans (ld3 x0 x1 p j)

theorem stored7 (x0 : Vec Ideal S512x1024 .f32) (x1 : Vec Ideal S1024x3200 .bf16) (x2 x3 x4 : Vec Ideal S512x128 .f32) (p j : Fin 512) : out0_7 x0 x1 x2 x3 x4 (ix3 0 j p) = rcol x0 x1 x2 x3 x4 1024 (by decide) p j * Ideal.ofBits FTy.f32 0x3E000000#32 := by
  frame_out
  pointwise [k0_pay19, k0_pay18]
  unfold rcol
  simp only [← ld4]
  exact congrArg (· * _) (queries x0 x2 x3 x4 (View.ld x1 r0_4) p j)

theorem stored8 (x0 : Vec Ideal S512x1024 .f32) (x1 : Vec Ideal S1024x3200 .bf16) (x2 x3 x4 : Vec Ideal S512x128 .f32) (p j : Fin 512) : out0_8 x0 x1 x2 x3 x4 (ix3 0 j p) = rcol x0 x1 x2 x3 x4 2560 (by decide) p j := by
  frame_out
  pointwise [k0_pay20, k0_pay40, k0_pay41, k0_pay42, k0_pay43]
  unfold rcol
  simp only [← ld7]
  rw [whole0, whole1, whole1, whole1]
  exact idxqueries x0 x2 x3 x4 (View.ld x1 r0_7) p j

theorem stored9 (x0 : Vec Ideal S512x1024 .f32) (x1 : Vec Ideal S1024x3200 .bf16) (x2 x3 x4 : Vec Ideal S512x128 .f32) (p j : Fin 512) : out0_9 x0 x1 x2 x3 x4 (ix3 0 j p) = rcol x0 x1 x2 x3 x4 1536 (by decide) p j := by
  frame_out
  pointwise [k0_pay21, k0_pay44]
  unfold rcol
  simp only [← ld5]
  rw [whole0, whole1, whole1, whole1]
  exact keys x0 x2 x3 x4 (View.ld x1 r0_5) p j

theorem stored11 (x0 : Vec Ideal S512x1024 .f32) (x1 : Vec Ideal S1024x3200 .bf16) (x2 x3 x4 : Vec Ideal S512x128 .f32) (p j : Fin 512) : out0_11 x0 x1 x2 x3 x4 (ix3 0 j p) = col x0 x1 2048 (by decide) p j := by
  frame_out
  pointwise [k0_pay32, k0_pay46, k0_pay31, k0_pay40]
  rw [whole0]
  exact (pay15 x0 _ p j).trans (ld6 x0 x1 p j)

theorem tail45 (x0 : Vec Ideal S512x1024 .f32) (x1 : Vec Ideal S1024x3200 .bf16) (x2 x3 x4 : Vec Ideal S512x128 .f32) (p : Fin 512) (j : Fin 128) : k0_pay45 x0 x1 x2 x3 x4 (ix2 p j) = tcol x0 x1 x2 x3 x4 p j := by
  unfold tcol
  simp only [← ld8]
  unfold k0_pay45 k0_pay40 k0_pay41 k0_pay42 k0_pay43
  rw [whole0, whole1, whole1, whole1]
  exact tail x0 x2 x3 x4 (View.ld x1 r0_8) p j

theorem stored13 (x0 : Vec Ideal S512x1024 .f32) (x1 : Vec Ideal S1024x3200 .bf16) (x2 x3 x4 : Vec Ideal S512x128 .f32) (p : Fin 512) (d : Fin 64) : out0_13 x0 x1 x2 x3 x4 (ix3 0 d p) = tcol x0 x1 x2 x3 x4 p ⟨d.val, by omega⟩ := by
  frame_out
  refine Eq.trans ?_ (tail45 x0 x1 x2 x3 x4 p ⟨d.val, by omega⟩)
  pointwise [k0_pay38, k0_pay37]
  try rfl

theorem stored15 (x0 : Vec Ideal S512x1024 .f32) (x1 : Vec Ideal S1024x3200 .bf16) (x2 x3 x4 : Vec Ideal S512x128 .f32) (p : Fin 512) (h : Fin 8) : out0_15 x0 x1 x2 x3 x4 (ix3 0 h p) = col x0 x1 3136 (n := 8) (by decide) p h := by
  frame_out
  have e : k0_pay39 (k0_pay45 x0 x1 x2 x3 x4) (ix3 0 h p) = tcol x0 x1 x2 x3 x4 p ⟨64 + h.val, by omega⟩ := by
    refine Eq.trans ?_ (tail45 x0 x1 x2 x3 x4 p ⟨64 + h.val, by omega⟩)
    pointwise [k0_pay39, k0_pay37]
    try rfl
  rw [e]
  have hl : ¬ (64 + h.val) % 128 < 64 := by omega
  unfold tcol
  rw [krope_keep _ _ _ _ _ _ _ (if_neg hl) (if_neg hl) (if_neg hl)]
  unfold col
  refine Finset.sum_congr rfl fun k _ => congrArg (_ * x1 ·) (congrArg (ix2 k) (Fin.ext ?_))
  simp only
  omega

theorem rcol_rope (x0 : Vec Ideal S512x1024 .f32) (x1 : Vec Ideal S1024x3200 .bf16) (x2 x3 x4 : Vec Ideal S512x128 .f32) (lo : ℕ) (h : lo + 512 ≤ 3200) (p j : Fin 512) (C S : Fin 8 → EReal) (zz : Fin 64 → EReal)
    (h2 : ∀ l, x2 (ix2 p l) = tc C l) (h3 : ∀ l, x3 (ix2 p l) = ts1 S l) (h4 : ∀ l, x4 (ix2 p l) = ts2 S l)
    (hz : ∀ d : Fin 64, col x0 x1 lo h p ⟨j.val / 64 * 64 + d.val, by omega⟩ = zz d) :
    rcol x0 x1 x2 x3 x4 lo h p j = rope C S zz ⟨j.val % 64, by omega⟩ := by
  have hj : j = ⟨j.val / 64 * 64 + j.val % 64, by omega⟩ := Fin.ext (by simp only; omega)
  obtain rfl : (fun d : Fin 64 => col x0 x1 lo h p ⟨j.val / 64 * 64 + d.val, by omega⟩) = zz := funext hz
  refine (congrArg (rcol x0 x1 x2 x3 x4 lo h p) hj).trans ?_
  exact krope_eq 512 (by decide) _ _ _ _ C S (j.val / 64) ⟨j.val % 64, by omega⟩ (fun d => by omega) (fun l _ _ => h2 l)
    (fun l _ _ => h3 l) (fun l _ _ => h4 l)

theorem tcol_rope (x0 : Vec Ideal S512x1024 .f32) (x1 : Vec Ideal S1024x3200 .bf16) (x2 x3 x4 : Vec Ideal S512x128 .f32) (p : Fin 512) (d : Fin 64) (C S : Fin 8 → EReal) (zz : Fin 64 → EReal)
    (h2 : ∀ l, x2 (ix2 p l) = tc C l) (h3 : ∀ l, x3 (ix2 p l) = ts1 S l) (h4 : ∀ l, x4 (ix2 p l) = ts2 S l)
    (hz : ∀ d : Fin 64, col x0 x1 3072 (n := 128) (by decide) p ⟨0 * 64 + d.val, by omega⟩ = zz d) :
    tcol x0 x1 x2 x3 x4 p ⟨d.val, by omega⟩ = rope C S zz d := by
  have hj : (⟨d.val, by omega⟩ : Fin 128) = ⟨0 * 64 + d.val, by omega⟩ := Fin.ext (by simp only; omega)
  obtain rfl : (fun d : Fin 64 => col x0 x1 3072 (n := 128) (by decide) p ⟨0 * 64 + d.val, by omega⟩) = zz := funext hz
  refine (congrArg (tcol x0 x1 x2 x3 x4 p) hj).trans ?_
  exact krope_eq 128 (by decide) _ _ _ _ C S 0 d (fun d => by omega) (fun l _ hl => (if_pos (by omega)).trans (h2 l))
    (fun l _ hl => (if_pos (by omega)).trans (h3 l)) (fun l _ hl => (if_pos (by omega)).trans (h4 l))

end Cert.ProjIdeal.Value
-- ==== Proof.ProjEntry.lean ====
module

public import proofs.«01_k».proof.Proof.ProjKernel

/-!
What the projection call's blocks hold: the inputs, the weights and the tables.
-/

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen Cert.ProjMath

variable (m : (ℓ : Loc nD τ sig) → Buf (Elt Ideal) ℓ)

/-- The inputs and the weights. -/
def aX (c : Dev nD) : FVec Ideal S4x4096x1024 .f32 := m ((c : Thread nD τ).loc main_arg0)
def aW (c : Dev nD) : FVec Ideal S1x1024x3144 .f32 := m ((c : Thread nD τ).loc main_arg1)

/-- The projection of token `(b, s)` on column `e` of the weights. -/
def Z (c : Dev nD) (b : Fin 4) (s : Fin 4096) (e : Fin 3144) : EReal :=
  ∑ k, aX m c (ix3 b s k) * aW m c (ix3 0 k e)

/-- The angles of position `s`. -/
def ang8 (s : Fin 4096) (i : Fin 8) : EReal :=
  sitofp (F := Ideal) .f32 (iotaInDim S4096 32 0) (ix1 s) * freqs (ix1 i)

/-- The rotated head at columns `lo + 64 h`. -/
def R (c : Dev nD) (lo : ℕ) (hlo : lo + 512 ≤ 3144) (b : Fin 4) (s : Fin 4096) (h : Fin 8) (d : Fin 64) : EReal :=
  rope (fun i => Ideal.cos (ang8 s i)) (fun i => Ideal.sin (ang8 s i)) (fun d => Z m c b s ⟨lo + (h.val * 64 + d.val), by omega⟩) d

/-- The rotated index key. -/
def K (c : Dev nD) (b : Fin 4) (s : Fin 4096) (d : Fin 64) : EReal :=
  rope (fun i => Ideal.cos (ang8 s i)) (fun i => Ideal.sin (ang8 s i)) (fun d => Z m c b s ⟨3072 + d.val, by omega⟩) d

theorem idx : ∀ t : Fin cfg0.N, win0_0.index t = ![t.val, 0] ∧ win0_1.index t = ![0, 0] ∧ win0_2.index t = ![t.val % 8, 0]
    ∧ win0_3.index t = ![t.val % 8, 0] ∧ win0_4.index t = ![t.val % 8, 0] ∧ win0_5.index t = ![t.val, 0] ∧ win0_6.index t = ![t.val, 0]
    ∧ win0_7.index t = ![t.val / 8, 0, t.val % 8] ∧ win0_8.index t = ![t.val / 8, 0, t.val % 8] ∧ win0_9.index t = ![t.val / 8, 0, t.val % 8]
    ∧ win0_11.index t = ![t.val / 8, 0, t.val % 8] ∧ win0_13.index t = ![t.val / 8, 0, t.val % 8] ∧ win0_15.index t = ![t.val / 8, 0, t.val % 8]
    ∧ t.val < 32 :=
  (by decide +kernel : ∀ t : Fin grid0.N, _)

theorem lt32 (t : Fin cfg0.N) : t.val < 32 := (idx t).2.2.2.2.2.2.2.2.2.2.2.2.2

/-- The batch row and the position a block's row belongs to. -/
def bat (t : Fin cfg0.N) : Fin 4 := ⟨t.val / 8, by have := lt32 t; omega⟩
def pos (t : Fin cfg0.N) (p : Fin 512) : Fin 4096 := ⟨t.val % 8 * 512 + p.val, by omega⟩

theorem ent0 (c : Dev nD) : (V m c main_v41 : FVec Ideal S16384x1024 .f32)
    = shapeCast S16384x1024 (aX m c) shapeCasts_S4x4096x1024_S16384x1024 := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

theorem ent1 (c : Dev nD) : (V m c main_v2 : FVec Ideal S1024x3200 .bf16)
    = (truncf (F := Ideal) .bf16 (pad S1024x3200 ![0, 0] ![0, 56] ![0, 0] (shapeCast S1024x3144 (aW m c)
        shapeCasts_S1x1024x3144_S1024x3144) (sitofp .f32 (constantI S_ 32 0#32)) pads_S1024x3144_S1024x3200_000_0560 h_S_) bitsLt_bf16_f32 : FVec Ideal S1024x3200 .bf16) := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

theorem emb0 (t : Fin cfg0.N) (p : Fin 512) (k : Fin 1024) : ((cfg0.win 0).blk t).view.emb (ix2 p k)
    = (ix2 ⟨t.val * 512 + p.val, by have := lt32 t; omega⟩ k : S16384x1024.Idx) := by
  blk_ext [idx t]

theorem emb1 (t : Fin cfg0.N) (k : Fin 1024) (e : Fin 3200) : ((cfg0.win 1).blk t).view.emb (ix2 k e) = (ix2 k e : S1024x3200.Idx) := by
  blk_ext [idx t]

theorem emb2 (t : Fin cfg0.N) (p : Fin 512) (l : Fin 128) : ((cfg0.win 2).blk t).view.emb (ix2 p l) = (ix2 (pos t p) l : S4096x128.Idx) := by
  blk_ext [idx t, pos]

theorem emb3 (t : Fin cfg0.N) (p : Fin 512) (l : Fin 128) : ((cfg0.win 3).blk t).view.emb (ix2 p l) = (ix2 (pos t p) l : S4096x128.Idx) := by
  blk_ext [idx t, pos]

theorem emb4 (t : Fin cfg0.N) (p : Fin 512) (l : Fin 128) : ((cfg0.win 4).blk t).view.emb (ix2 p l) = (ix2 (pos t p) l : S4096x128.Idx) := by
  blk_ext [idx t, pos]

theorem emb5 (t : Fin cfg0.N) (p q : Fin 512) : ((cfg0.win 5).blk t).view.emb (ix2 p q)
    = (ix2 ⟨t.val * 512 + p.val, by have := lt32 t; omega⟩ q : S16384x512.Idx) := by
  blk_ext [idx t]

theorem emb6 (t : Fin cfg0.N) (p q : Fin 512) : ((cfg0.win 6).blk t).view.emb (ix2 p q)
    = (ix2 ⟨t.val * 512 + p.val, by have := lt32 t; omega⟩ q : S16384x512.Idx) := by
  blk_ext [idx t]

theorem emb7 (t : Fin cfg0.N) (e : Fin 512) (p : Fin 512) : ((cfg0.win 7).blk t).view.emb (ix3 0 e p)
    = (ix3 (bat t) e (pos t p) : S4x512x4096.Idx) := by
  blk_ext [idx t, bat, pos]

theorem emb8 (t : Fin cfg0.N) (e : Fin 512) (p : Fin 512) : ((cfg0.win 8).blk t).view.emb (ix3 0 e p)
    = (ix3 (bat t) e (pos t p) : S4x512x4096.Idx) := by
  blk_ext [idx t, bat, pos]

theorem emb9 (t : Fin cfg0.N) (e : Fin 512) (p : Fin 512) : ((cfg0.win 9).blk t).view.emb (ix3 0 e p)
    = (ix3 (bat t) e (pos t p) : S4x512x4096.Idx) := by
  blk_ext [idx t, bat, pos]

theorem emb11 (t : Fin cfg0.N) (e : Fin 512) (p : Fin 512) : ((cfg0.win 11).blk t).view.emb (ix3 0 e p)
    = (ix3 (bat t) e (pos t p) : S4x512x4096.Idx) := by
  blk_ext [idx t, bat, pos]

theorem emb13 (t : Fin cfg0.N) (e : Fin 64) (p : Fin 512) : ((cfg0.win 13).blk t).view.emb (ix3 0 e p)
    = (ix3 (bat t) e (pos t p) : S4x64x4096.Idx) := by
  blk_ext [idx t, bat, pos]

theorem emb15 (t : Fin cfg0.N) (e : Fin 8) (p : Fin 512) : ((cfg0.win 15).blk t).view.emb (ix3 0 e p)
    = (ix3 (bat t) e (pos t p) : S4x8x4096.Idx) := by
  blk_ext [idx t, bat, pos]

theorem flat (x : FVec Ideal S4x4096x1024 .f32) (r : Fin 16384) (k : Fin 1024) :
    shapeCast S16384x1024 x shapeCasts_S4x4096x1024_S16384x1024 (ix2 r k) = x (ix3 ⟨r.val / 4096, by omega⟩ ⟨r.val % 4096, by omega⟩ k) := by
  pointwise

theorem rd0 (c : Dev nD) (t : Fin cfg0.N) (p : Fin 512) (k : Fin 1024) : iblk m c 0 t (ix2 p k)
    = aX m c (ix3 (bat t) (pos t p) k) := by
  refine (congrArg (V m c main_v41) (emb0 t p k)).trans ((congrFun (ent0 m c) _).trans ((flat _ _ _).trans ?_))
  have ht := lt32 t
  unfold bat pos
  congr 2 <;> apply Fin.ext <;> simp only <;> omega

theorem rd1 (c : Dev nD) (t : Fin cfg0.N) (k : Fin 1024) (e : Fin 3200) (he : e.val < 3144) : iblk m c 1 t (ix2 k e)
    = aW m c (ix3 0 k ⟨e.val, he⟩) := by
  refine (congrArg (V m c main_v2) (emb1 t k e)).trans ((congrFun (ent1 m c) _).trans ?_)
  pointwise
  exact dif_pos he

theorem rd2 (c : Dev nD) (t : Fin cfg0.N) (p : Fin 512) (l : Fin 128) : iblk m c 2 t (ix2 p l) = tc (fun i => Ideal.cos (ang8 (pos t p) i)) l :=
  (congrArg (V m c main_v30) (emb2 t p l)).trans (tabC_at m c (pos t p) l)

theorem rd3 (c : Dev nD) (t : Fin cfg0.N) (p : Fin 512) (l : Fin 128) : iblk m c 3 t (ix2 p l) = ts1 (fun i => Ideal.sin (ang8 (pos t p) i)) l :=
  (congrArg (V m c main_v34) (emb3 t p l)).trans (tabS1_at m c (pos t p) l)

theorem rd4 (c : Dev nD) (t : Fin cfg0.N) (p : Fin 512) (l : Fin 128) : iblk m c 4 t (ix2 p l) = ts2 (fun i => Ideal.sin (ang8 (pos t p) i)) l :=
  (congrArg (V m c main_v40) (emb4 t p l)).trans (tabS2_at m c (pos t p) l)

theorem colZ {n : ℕ} (c : Dev nD) (t : Fin cfg0.N) (lo : ℕ) (h : lo + n ≤ 3200) (p : Fin 512) (e : Fin n) (he : lo + e.val < 3144) :
    col (iblk m c 0 t) (iblk m c 1 t) lo h p e = Z m c (bat t) (pos t p) ⟨lo + e.val, he⟩ := by
  unfold col Z
  refine Finset.sum_congr rfl fun k _ => ?_
  rw [rd0, rd1 m c t k _ he]

end Cert.ProjIdeal.Value
-- ==== Proof.ProjFinal.lean ====
module

public import proofs.«01_k».proof.Proof.ProjEntry

/-!
The projection call's arrays after the run: each an expression in the launch's inputs and weights.
-/

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen Cert.ProjMath

variable (m : (ℓ : Loc nD τ sig) → Buf (Elt Ideal) ℓ)

theorem rcolR (c : Dev nD) (t : Fin cfg0.N) (lo : ℕ) (h : lo + 512 ≤ 3200) (hlo : lo + 512 ≤ 3144) (p j : Fin 512) :
    rcol (iblk m c 0 t) (iblk m c 1 t) (iblk m c 2 t) (iblk m c 3 t) (iblk m c 4 t) lo h p j = R m c lo hlo (bat t) (pos t p) ⟨j.val / 64, by omega⟩ ⟨j.val % 64, by omega⟩ :=
  rcol_rope _ _ _ _ _ lo h p j (fun i => Ideal.cos (ang8 (pos t p) i)) (fun i => Ideal.sin (ang8 (pos t p) i)) _
    (rd2 m c t p) (rd3 m c t p) (rd4 m c t p) (fun d => colZ m c t lo h p _ (by simp only; omega))

theorem tcolK (c : Dev nD) (t : Fin cfg0.N) (p : Fin 512) (d : Fin 64) :
    tcol (iblk m c 0 t) (iblk m c 1 t) (iblk m c 2 t) (iblk m c 3 t) (iblk m c 4 t) p ⟨d.val, by omega⟩ = K m c (bat t) (pos t p) d :=
  tcol_rope _ _ _ _ _ p d (fun i => Ideal.cos (ang8 (pos t p) i)) (fun i => Ideal.sin (ang8 (pos t p) i)) _
    (rd2 m c t p) (rd3 m c t p) (rd4 m c t p) (fun d => (colZ m c t 3072 (n := 128) (by decide) p _ (by simp only; omega)).trans
      (congrArg (Z m c _ _) (Fin.ext (by simp only; omega))))

/-- The arrays. -/
def T5 (c : Dev nD) : FVec Ideal S16384x512 .f32 := fun i =>
  Z m c ⟨(i 0).val / 4096, by have h := (i 0).isLt; change _ < 16384 at h; omega⟩ ⟨(i 0).val % 4096, by omega⟩
    ⟨0 + (i 1).val, by have h := (i 1).isLt; change _ < 512 at h; omega⟩

def T6 (c : Dev nD) : FVec Ideal S16384x512 .f32 := fun i =>
  Z m c ⟨(i 0).val / 4096, by have h := (i 0).isLt; change _ < 16384 at h; omega⟩ ⟨(i 0).val % 4096, by omega⟩
    ⟨512 + (i 1).val, by have h := (i 1).isLt; change _ < 512 at h; omega⟩

def T7 (c : Dev nD) : FVec Ideal S4x512x4096 .bf16 := fun i =>
  R m c 1024 (by decide) (i 0) (i 2) ⟨(i 1).val / 64, by have h := (i 1).isLt; change _ < 512 at h; omega⟩ ⟨(i 1).val % 64, by omega⟩ * Ideal.ofBits FTy.f32 0x3E000000#32

def T8 (c : Dev nD) : FVec Ideal S4x512x4096 .bf16 := fun i =>
  R m c 2560 (by decide) (i 0) (i 2) ⟨(i 1).val / 64, by have h := (i 1).isLt; change _ < 512 at h; omega⟩ ⟨(i 1).val % 64, by omega⟩

def T9 (c : Dev nD) : FVec Ideal S4x512x4096 .f32 := fun i =>
  R m c 1536 (by decide) (i 0) (i 2) ⟨(i 1).val / 64, by have h := (i 1).isLt; change _ < 512 at h; omega⟩ ⟨(i 1).val % 64, by omega⟩

def T11 (c : Dev nD) : FVec Ideal S4x512x4096 .f32 := fun i =>
  Z m c (i 0) (i 2) ⟨2048 + (i 1).val, by have h := (i 1).isLt; change _ < 512 at h; omega⟩

def T13 (c : Dev nD) : FVec Ideal S4x64x4096 .f32 := fun i => K m c (i 0) (i 2) (i 1)

def T15 (c : Dev nD) : FVec Ideal S4x8x4096 .f32 := fun i =>
  Z m c (i 0) (i 2) ⟨3136 + (i 1).val, by have h := (i 1).isLt; change _ < 8 at h; omega⟩

theorem point5 (c : Dev nD) (t : Fin cfg0.N) (p q : Fin 512) : (out0_5 (iblk m c 0 t) (iblk m c 1 t) (iblk m c 2 t) (iblk m c 3 t) (iblk m c 4 t) : FVec Ideal S512x512 .f32) (ix2 p q)
    = T5 m c (((cfg0.win 5).blk t).view.emb (ix2 p q)) := by
  refine Eq.trans ?_ (congrArg (T5 m c) (emb5 t p q)).symm
  refine (stored5 _ _ _ _ _ p q).trans ((colZ m c t 0 (by decide) p q (by omega)).trans ?_)
  have ht := lt32 t
  unfold T5 bat pos
  congr 1 <;> apply Fin.ext <;> simp only [ix2] <;> omega

theorem final5 (c : Dev nD) : (dats m 0 c).arrAt 5 (cfgs 0).N = T5 m c := by
  refine (dats m 0 c).arrAt_eq_of_covers 5 _ (by decide +kernel) fun t _ y => ?_
  blk_simp
  rw [after0_5]
  idx_vars y

  exact point5 m c t _ _

theorem point6 (c : Dev nD) (t : Fin cfg0.N) (p q : Fin 512) : (out0_6 (iblk m c 0 t) (iblk m c 1 t) (iblk m c 2 t) (iblk m c 3 t) (iblk m c 4 t) : FVec Ideal S512x512 .f32) (ix2 p q)
    = T6 m c (((cfg0.win 6).blk t).view.emb (ix2 p q)) := by
  refine Eq.trans ?_ (congrArg (T6 m c) (emb6 t p q)).symm
  refine (stored6 _ _ _ _ _ p q).trans ((colZ m c t 512 (by decide) p q (by omega)).trans ?_)
  have ht := lt32 t
  unfold T6 bat pos
  congr 1 <;> apply Fin.ext <;> simp only [ix2] <;> omega

theorem final6 (c : Dev nD) : (dats m 0 c).arrAt 6 (cfgs 0).N = T6 m c := by
  refine (dats m 0 c).arrAt_eq_of_covers 6 _ (by decide +kernel) fun t _ y => ?_
  blk_simp
  rw [after0_6]
  idx_vars y

  exact point6 m c t _ _

theorem point7 (c : Dev nD) (t : Fin cfg0.N) (q : Fin 512) (p : Fin 512) : (out0_7 (iblk m c 0 t) (iblk m c 1 t) (iblk m c 2 t) (iblk m c 3 t) (iblk m c 4 t) : FVec Ideal S1x512x512 .bf16) (ix3 0 q p)
    = T7 m c (((cfg0.win 7).blk t).view.emb (ix3 0 q p)) := by
  refine Eq.trans ?_ (congrArg (T7 m c) (emb7 t q p)).symm
  refine (stored7 _ _ _ _ _ p q).trans ?_
  exact congrArg (· * _) (rcolR m c t 1024 (by decide) (by decide) p q)

theorem final7 (c : Dev nD) : (dats m 0 c).arrAt 7 (cfgs 0).N = T7 m c := by
  refine (dats m 0 c).arrAt_eq_of_covers 7 _ (by decide +kernel) fun t _ y => ?_
  blk_simp
  rw [after0_7]
  idx_vars y
  obtain rfl : y0 = 0 := Subsingleton.elim _ _
  exact point7 m c t _ _

theorem point8 (c : Dev nD) (t : Fin cfg0.N) (q : Fin 512) (p : Fin 512) : (out0_8 (iblk m c 0 t) (iblk m c 1 t) (iblk m c 2 t) (iblk m c 3 t) (iblk m c 4 t) : FVec Ideal S1x512x512 .bf16) (ix3 0 q p)
    = T8 m c (((cfg0.win 8).blk t).view.emb (ix3 0 q p)) := by
  refine Eq.trans ?_ (congrArg (T8 m c) (emb8 t q p)).symm
  refine (stored8 _ _ _ _ _ p q).trans ?_
  exact rcolR m c t 2560 (by decide) (by decide) p q

theorem final8 (c : Dev nD) : (dats m 0 c).arrAt 8 (cfgs 0).N = T8 m c := by
  refine (dats m 0 c).arrAt_eq_of_covers 8 _ (by decide +kernel) fun t _ y => ?_
  blk_simp
  rw [after0_8]
  idx_vars y
  obtain rfl : y0 = 0 := Subsingleton.elim _ _
  exact point8 m c t _ _

theorem point9 (c : Dev nD) (t : Fin cfg0.N) (q : Fin 512) (p : Fin 512) : (out0_9 (iblk m c 0 t) (iblk m c 1 t) (iblk m c 2 t) (iblk m c 3 t) (iblk m c 4 t) : FVec Ideal S1x512x512 .f32) (ix3 0 q p)
    = T9 m c (((cfg0.win 9).blk t).view.emb (ix3 0 q p)) := by
  refine Eq.trans ?_ (congrArg (T9 m c) (emb9 t q p)).symm
  refine (stored9 _ _ _ _ _ p q).trans ?_
  exact rcolR m c t 1536 (by decide) (by decide) p q

theorem final9 (c : Dev nD) : (dats m 0 c).arrAt 9 (cfgs 0).N = T9 m c := by
  refine (dats m 0 c).arrAt_eq_of_covers 9 _ (by decide +kernel) fun t _ y => ?_
  blk_simp
  rw [after0_9]
  idx_vars y
  obtain rfl : y0 = 0 := Subsingleton.elim _ _
  exact point9 m c t _ _

theorem point11 (c : Dev nD) (t : Fin cfg0.N) (q : Fin 512) (p : Fin 512) : (out0_11 (iblk m c 0 t) (iblk m c 1 t) (iblk m c 2 t) (iblk m c 3 t) (iblk m c 4 t) : FVec Ideal S1x512x512 .f32) (ix3 0 q p)
    = T11 m c (((cfg0.win 11).blk t).view.emb (ix3 0 q p)) := by
  refine Eq.trans ?_ (congrArg (T11 m c) (emb11 t q p)).symm
  refine (stored11 _ _ _ _ _ p q).trans ?_
  exact colZ m c t 2048 (by decide) p q (by omega)

theorem final11 (c : Dev nD) : (dats m 0 c).arrAt 11 (cfgs 0).N = T11 m c := by
  refine (dats m 0 c).arrAt_eq_of_covers 11 _ (by decide +kernel) fun t _ y => ?_
  blk_simp
  rw [after0_11]
  idx_vars y
  obtain rfl : y0 = 0 := Subsingleton.elim _ _
  exact point11 m c t _ _

theorem point13 (c : Dev nD) (t : Fin cfg0.N) (q : Fin 64) (p : Fin 512) : (out0_13 (iblk m c 0 t) (iblk m c 1 t) (iblk m c 2 t) (iblk m c 3 t) (iblk m c 4 t) : FVec Ideal S1x64x512 .f32) (ix3 0 q p)
    = T13 m c (((cfg0.win 13).blk t).view.emb (ix3 0 q p)) := by
  refine Eq.trans ?_ (congrArg (T13 m c) (emb13 t q p)).symm
  refine (stored13 _ _ _ _ _ p q).trans ?_
  exact tcolK m c t p q

theorem final13 (c : Dev nD) : (dats m 0 c).arrAt 13 (cfgs 0).N = T13 m c := by
  refine (dats m 0 c).arrAt_eq_of_covers 13 _ (by decide +kernel) fun t _ y => ?_
  blk_simp
  rw [after0_13]
  idx_vars y
  obtain rfl : y0 = 0 := Subsingleton.elim _ _
  exact point13 m c t _ _

theorem point15 (c : Dev nD) (t : Fin cfg0.N) (q : Fin 8) (p : Fin 512) : (out0_15 (iblk m c 0 t) (iblk m c 1 t) (iblk m c 2 t) (iblk m c 3 t) (iblk m c 4 t) : FVec Ideal S1x8x512 .f32) (ix3 0 q p)
    = T15 m c (((cfg0.win 15).blk t).view.emb (ix3 0 q p)) := by
  refine Eq.trans ?_ (congrArg (T15 m c) (emb15 t q p)).symm
  refine (stored15 _ _ _ _ _ p q).trans ?_
  exact colZ m c t 3136 (by decide) p q (by omega)

theorem final15 (c : Dev nD) : (dats m 0 c).arrAt 15 (cfgs 0).N = T15 m c := by
  refine (dats m 0 c).arrAt_eq_of_covers 15 _ (by decide +kernel) fun t _ y => ?_
  blk_simp
  rw [after0_15]
  idx_vars y
  obtain rfl : y0 = 0 := Subsingleton.elim _ _
  exact point15 m c t _ _

end Cert.ProjIdeal.Value
-- ==== Proof.ProjTail.lean ====
module

public import proofs.«01_k».proof.Proof.ProjFinal

/-!
The projection call's results: the arrays of the run reshaped and transposed by the host.
-/

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen Cert.ProjMath

variable (m : (ℓ : Loc nD τ sig) → Buf (Elt Ideal) ℓ)

/-- A buffer after the host's lines that follow the call. -/
def res (c : Dev nD) (b : Ref sig .tc) : Buf (Elt Ideal) ((c.tc : Thread nD τ).loc b) :=
  Pipeline.afterTail₀ cfgs (dats m) 0 (V0 m) [hostOps1] c b

theorem arr5 (c : Dev nD) : (Pipeline.withArrays (cfgs 0).spec c (V0 m c) fun w => (dats m 0 c).arrAt w (cfgs 0).N) (Proc.devRef .tc main_v42_0) = T5 m c :=
  (Pipeline.withArrays_arr (cfgs 0).spec (by decide) c (V0 m c) _ 5).trans (final5 m c)

theorem arr6 (c : Dev nD) : (Pipeline.withArrays (cfgs 0).spec c (V0 m c) fun w => (dats m 0 c).arrAt w (cfgs 0).N) (Proc.devRef .tc main_v42_1) = T6 m c :=
  (Pipeline.withArrays_arr (cfgs 0).spec (by decide) c (V0 m c) _ 6).trans (final6 m c)

theorem arr7 (c : Dev nD) : (Pipeline.withArrays (cfgs 0).spec c (V0 m c) fun w => (dats m 0 c).arrAt w (cfgs 0).N) (Proc.devRef .tc main_v42_2) = T7 m c :=
  (Pipeline.withArrays_arr (cfgs 0).spec (by decide) c (V0 m c) _ 7).trans (final7 m c)

theorem arr8 (c : Dev nD) : (Pipeline.withArrays (cfgs 0).spec c (V0 m c) fun w => (dats m 0 c).arrAt w (cfgs 0).N) (Proc.devRef .tc main_v42_3) = T8 m c :=
  (Pipeline.withArrays_arr (cfgs 0).spec (by decide) c (V0 m c) _ 8).trans (final8 m c)

theorem arr9 (c : Dev nD) : (Pipeline.withArrays (cfgs 0).spec c (V0 m c) fun w => (dats m 0 c).arrAt w (cfgs 0).N) (Proc.devRef .tc main_v42_4) = T9 m c :=
  (Pipeline.withArrays_arr (cfgs 0).spec (by decide) c (V0 m c) _ 9).trans (final9 m c)

theorem arr11 (c : Dev nD) : (Pipeline.withArrays (cfgs 0).spec c (V0 m c) fun w => (dats m 0 c).arrAt w (cfgs 0).N) (Proc.devRef .tc main_v42_6) = T11 m c :=
  (Pipeline.withArrays_arr (cfgs 0).spec (by decide) c (V0 m c) _ 11).trans (final11 m c)

theorem arr13 (c : Dev nD) : (Pipeline.withArrays (cfgs 0).spec c (V0 m c) fun w => (dats m 0 c).arrAt w (cfgs 0).N) (Proc.devRef .tc main_v42_8) = T13 m c :=
  (Pipeline.withArrays_arr (cfgs 0).spec (by decide) c (V0 m c) _ 13).trans (final13 m c)

theorem arr15 (c : Dev nD) : (Pipeline.withArrays (cfgs 0).spec c (V0 m c) fun w => (dats m 0 c).arrAt w (cfgs 0).N) (Proc.devRef .tc main_v42_10) = T15 m c :=
  (Pipeline.withArrays_arr (cfgs 0).spec (by decide) c (V0 m c) _ 15).trans (final15 m c)

theorem v43_eq (c : Dev nD) : (res m c main_v43 : FVec Ideal S4x4096x512 .f32) = (shapeCast S4x4096x512 (T5 m c) shapeCasts_S16384x512_S4x4096x512 : FVec Ideal S4x4096x512 .f32) := by
  rw [← arr5 m c]
  unfold res Pipeline.afterTail₀
  simp only [hostOps1, List.flatten_cons, List.flatten_nil, List.append_nil]
  after_results_simp
  rfl

theorem v44_eq (c : Dev nD) : (res m c main_v44 : FVec Ideal S4x4096x512 .f32) = (shapeCast S4x4096x512 (T6 m c) shapeCasts_S16384x512_S4x4096x512 : FVec Ideal S4x4096x512 .f32) := by
  rw [← arr6 m c]
  unfold res Pipeline.afterTail₀
  simp only [hostOps1, List.flatten_cons, List.flatten_nil, List.append_nil]
  after_results_simp
  rfl

theorem v46_eq (c : Dev nD) : (res m c main_v46 : FVec Ideal S4x4096x8x64 .bf16) = (transpose S4x4096x8x64 [0, 3, 1, 2] (shapeCast S4x8x64x4096 (T7 m c) shapeCasts_S4x512x4096_S4x8x64x4096) transposes_S4x8x64x4096_S4x4096x8x64_0_3_1_2 : FVec Ideal S4x4096x8x64 .bf16) := by
  rw [← arr7 m c]
  unfold res Pipeline.afterTail₀
  simp only [hostOps1, List.flatten_cons, List.flatten_nil, List.append_nil]
  after_results_simp
  rfl

theorem v48_eq (c : Dev nD) : (res m c main_v48 : FVec Ideal S4x4096x8x64 .f32) = (transpose S4x4096x8x64 [0, 3, 1, 2] (shapeCast S4x8x64x4096 (T9 m c) shapeCasts_S4x512x4096_S4x8x64x4096) transposes_S4x8x64x4096_S4x4096x8x64_0_3_1_2 : FVec Ideal S4x4096x8x64 .f32) := by
  rw [← arr9 m c]
  unfold res Pipeline.afterTail₀
  simp only [hostOps1, List.flatten_cons, List.flatten_nil, List.append_nil]
  after_results_simp
  rfl

theorem v50_eq (c : Dev nD) : (res m c main_v50 : FVec Ideal S4x4096x8x64 .f32) = (transpose S4x4096x8x64 [0, 3, 1, 2] (shapeCast S4x8x64x4096 (T11 m c) shapeCasts_S4x512x4096_S4x8x64x4096) transposes_S4x8x64x4096_S4x4096x8x64_0_3_1_2 : FVec Ideal S4x4096x8x64 .f32) := by
  rw [← arr11 m c]
  unfold res Pipeline.afterTail₀
  simp only [hostOps1, List.flatten_cons, List.flatten_nil, List.append_nil]
  after_results_simp
  rfl

theorem v52_eq (c : Dev nD) : (res m c main_v52 : FVec Ideal S4x4096x8x64 .bf16) = (transpose S4x4096x8x64 [0, 3, 1, 2] (shapeCast S4x8x64x4096 (T8 m c) shapeCasts_S4x512x4096_S4x8x64x4096) transposes_S4x8x64x4096_S4x4096x8x64_0_3_1_2 : FVec Ideal S4x4096x8x64 .bf16) := by
  rw [← arr8 m c]
  unfold res Pipeline.afterTail₀
  simp only [hostOps1, List.flatten_cons, List.flatten_nil, List.append_nil]
  after_results_simp
  rfl

theorem v53_eq (c : Dev nD) : (res m c main_v53 : FVec Ideal S4x4096x64 .f32) = (transpose S4x4096x64 [0, 2, 1] (T13 m c) transposes_S4x64x4096_S4x4096x64_0_2_1 : FVec Ideal S4x4096x64 .f32) := by
  rw [← arr13 m c]
  unfold res Pipeline.afterTail₀
  simp only [hostOps1, List.flatten_cons, List.flatten_nil, List.append_nil]
  after_results_simp

theorem v54_eq (c : Dev nD) : (res m c main_v54 : FVec Ideal S4x4096x8 .f32) = (transpose S4x4096x8 [0, 2, 1] (T15 m c) transposes_S4x8x4096_S4x4096x8_0_2_1 : FVec Ideal S4x4096x8 .f32) := by
  rw [← arr15 m c]
  unfold res Pipeline.afterTail₀
  simp only [hostOps1, List.flatten_cons, List.flatten_nil, List.append_nil]
  after_results_simp

theorem v55_eq (c : Dev nD) : (res m c main_v55 : FVec Ideal S4x3x512 .f32) = (extractStridedSlice S4x3x512 ![0, 4093, 0] (shapeCast S4x4096x512 (T5 m c) shapeCasts_S16384x512_S4x4096x512) slices_S4x4096x512_S4x3x512_0_4093_0 : FVec Ideal S4x3x512 .f32) := by
  rw [← arr5 m c]
  unfold res Pipeline.afterTail₀
  simp only [hostOps1, List.flatten_cons, List.flatten_nil, List.append_nil]
  after_results_simp
  rfl

theorem rows_at (x : FVec Ideal S16384x512 .f32) (b : Fin 4) (s : Fin 4096) (e : Fin 512) :
    shapeCast S4x4096x512 x shapeCasts_S16384x512_S4x4096x512 (ix3 b s e) = x (ix2 ⟨b.val * 4096 + s.val, by omega⟩ e) := by
  pointwise
  try rfl

theorem heads_at {φ : FTy} (x : FVec Ideal S4x512x4096 φ) (b : Fin 4) (s : Fin 4096) (h : Fin 8) (d : Fin 64) :
    transpose S4x4096x8x64 [0, 3, 1, 2] (shapeCast S4x8x64x4096 x shapeCasts_S4x512x4096_S4x8x64x4096) transposes_S4x8x64x4096_S4x4096x8x64_0_3_1_2 (ix4 b s h d)
      = x (ix3 b ⟨h.val * 64 + d.val, by omega⟩ s) := by
  pointwise
  try rfl

theorem v43_at (c : Dev nD) (b : Fin 4) (s : Fin 4096) (e : Fin 512) : (res m c main_v43 : FVec Ideal S4x4096x512 .f32) (ix3 b s e)
    = Z m c b s ⟨0 + e.val, by omega⟩ := by
  have e1 : (⟨(b.val * 4096 + s.val) / 4096, by omega⟩ : Fin 4) = b := Fin.ext (by simp only; omega)
  have e2 : (⟨(b.val * 4096 + s.val) % 4096, by omega⟩ : Fin 4096) = s := Fin.ext (by simp only; omega)
  rw [v43_eq, rows_at]
  refine Eq.trans (b := Z m c ⟨(b.val * 4096 + s.val) / 4096, by omega⟩ ⟨(b.val * 4096 + s.val) % 4096, by omega⟩ ⟨0 + e.val, by omega⟩) rfl ?_
  rw [e1, e2]

theorem v44_at (c : Dev nD) (b : Fin 4) (s : Fin 4096) (e : Fin 512) : (res m c main_v44 : FVec Ideal S4x4096x512 .f32) (ix3 b s e)
    = Z m c b s ⟨512 + e.val, by omega⟩ := by
  have e1 : (⟨(b.val * 4096 + s.val) / 4096, by omega⟩ : Fin 4) = b := Fin.ext (by simp only; omega)
  have e2 : (⟨(b.val * 4096 + s.val) % 4096, by omega⟩ : Fin 4096) = s := Fin.ext (by simp only; omega)
  rw [v44_eq, rows_at]
  refine Eq.trans (b := Z m c ⟨(b.val * 4096 + s.val) / 4096, by omega⟩ ⟨(b.val * 4096 + s.val) % 4096, by omega⟩ ⟨512 + e.val, by omega⟩) rfl ?_
  rw [e1, e2]

theorem v46_at (c : Dev nD) (b : Fin 4) (s : Fin 4096) (h : Fin 8) (d : Fin 64) : (res m c main_v46 : FVec Ideal S4x4096x8x64 .bf16) (ix4 b s h d)
    = R m c 1024 (by decide) b s h d * Ideal.ofBits FTy.f32 0x3E000000#32 := by
  have e1 : (⟨(h.val * 64 + d.val) / 64, by omega⟩ : Fin 8) = h := Fin.ext (by simp only; omega)
  have e2 : (⟨(h.val * 64 + d.val) % 64, by omega⟩ : Fin 64) = d := Fin.ext (by simp only; omega)
  rw [v46_eq, heads_at]
  refine Eq.trans (b := R m c 1024 (by decide) b s ⟨(h.val * 64 + d.val) / 64, by omega⟩ ⟨(h.val * 64 + d.val) % 64, by omega⟩ * Ideal.ofBits FTy.f32 0x3E000000#32) rfl ?_
  rw [e1, e2]

theorem v48_at (c : Dev nD) (b : Fin 4) (s : Fin 4096) (h : Fin 8) (d : Fin 64) : (res m c main_v48 : FVec Ideal S4x4096x8x64 .f32) (ix4 b s h d)
    = R m c 1536 (by decide) b s h d := by
  have e1 : (⟨(h.val * 64 + d.val) / 64, by omega⟩ : Fin 8) = h := Fin.ext (by simp only; omega)
  have e2 : (⟨(h.val * 64 + d.val) % 64, by omega⟩ : Fin 64) = d := Fin.ext (by simp only; omega)
  rw [v48_eq, heads_at]
  refine Eq.trans (b := R m c 1536 (by decide) b s ⟨(h.val * 64 + d.val) / 64, by omega⟩ ⟨(h.val * 64 + d.val) % 64, by omega⟩) rfl ?_
  rw [e1, e2]

theorem v52_at (c : Dev nD) (b : Fin 4) (s : Fin 4096) (h : Fin 8) (d : Fin 64) : (res m c main_v52 : FVec Ideal S4x4096x8x64 .bf16) (ix4 b s h d)
    = R m c 2560 (by decide) b s h d := by
  have e1 : (⟨(h.val * 64 + d.val) / 64, by omega⟩ : Fin 8) = h := Fin.ext (by simp only; omega)
  have e2 : (⟨(h.val * 64 + d.val) % 64, by omega⟩ : Fin 64) = d := Fin.ext (by simp only; omega)
  rw [v52_eq, heads_at]
  refine Eq.trans (b := R m c 2560 (by decide) b s ⟨(h.val * 64 + d.val) / 64, by omega⟩ ⟨(h.val * 64 + d.val) % 64, by omega⟩) rfl ?_
  rw [e1, e2]

theorem v50_at (c : Dev nD) (b : Fin 4) (s : Fin 4096) (h : Fin 8) (d : Fin 64) : (res m c main_v50 : FVec Ideal S4x4096x8x64 .f32) (ix4 b s h d)
    = Z m c b s ⟨2048 + (h.val * 64 + d.val), by omega⟩ := by
  rw [v50_eq, heads_at]
  rfl

theorem v53_at (c : Dev nD) (b : Fin 4) (s : Fin 4096) (d : Fin 64) : (res m c main_v53 : FVec Ideal S4x4096x64 .f32) (ix3 b s d) = K m c b s d := by
  rw [v53_eq]
  refine Eq.trans (b := T13 m c (ix3 b d s)) ?_ rfl
  pointwise

theorem v54_at (c : Dev nD) (b : Fin 4) (s : Fin 4096) (h : Fin 8) : (res m c main_v54 : FVec Ideal S4x4096x8 .f32) (ix3 b s h)
    = Z m c b s ⟨3136 + h.val, by omega⟩ := by
  rw [v54_eq]
  refine Eq.trans (b := T15 m c (ix3 b h s)) ?_ rfl
  pointwise

theorem v55_eq' (c : Dev nD) : (res m c main_v55 : FVec Ideal S4x3x512 .f32)
    = extractStridedSlice S4x3x512 ![0, 4093, 0] (res m c main_v43 : FVec Ideal S4x4096x512 .f32) slices_S4x4096x512_S4x3x512_0_4093_0 := by
  rw [v55_eq, v43_eq]

theorem v55_at (c : Dev nD) (b : Fin 4) (j : Fin 3) (e : Fin 512) : (res m c main_v55 : FVec Ideal S4x3x512 .f32) (ix3 b j e)
    = Z m c b ⟨4093 + j.val, by omega⟩ ⟨0 + e.val, by omega⟩ := by
  rw [v55_eq', ← v43_at]
  pointwise
  try rfl

/-- The run: every result, and the arguments unchanged. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v43) = res m c main_v43
    ∧ r.2.mem ((c.tc : Thread nD τ).loc main_v44) = res m c main_v44
    ∧ r.2.mem ((c.tc : Thread nD τ).loc main_v46) = res m c main_v46
    ∧ r.2.mem ((c.tc : Thread nD τ).loc main_v48) = res m c main_v48
    ∧ r.2.mem ((c.tc : Thread nD τ).loc main_v50) = res m c main_v50
    ∧ r.2.mem ((c.tc : Thread nD τ).loc main_v52) = res m c main_v52
    ∧ r.2.mem ((c.tc : Thread nD τ).loc main_v53) = res m c main_v53
    ∧ r.2.mem ((c.tc : Thread nD τ).loc main_v54) = res m c main_v54
    ∧ r.2.mem ((c.tc : Thread nD τ).loc main_v55) = res m c main_v55
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h.1 c).2 main_v43 (by decide), (h.1 c).2 main_v44 (by decide), (h.1 c).2 main_v46 (by decide), (h.1 c).2 main_v48 (by decide), (h.1 c).2 main_v50 (by decide), (h.1 c).2 main_v52 (by decide), (h.1 c).2 main_v53 (by decide), (h.1 c).2 main_v54 (by decide), (h.1 c).2 main_v55 (by decide), h.2 c⟩)
    (θ_run_and (run_main m g) (unchanged m g))

end Cert.ProjIdeal.Value
-- ==== Proof.ProjRef.lean ====
module

public import proofs.«01_k».proof.Proof.Gen.ProjRefIdeal.Run
public import Idealize.ShloMosaic.Lib.Pipeline.ValueKit
public import Idealize.ShloMosaic.Lib.Claim
public import proofs.«01_k».proof.Proof.ProjMath

/-!
The projection reference's results, entry by entry: projections on the weights' columns, rotated where the problem rotates them.
-/

@[expose] public section

set_option maxRecDepth 16384

noncomputable section

open Idealize.ShloMosaic Idealize.ShloMosaic.TcCoe Idealize.SL.Sem
open Idealize.ShloMosaic.Pipeline (Dat)

namespace Cert.ProjRefIdeal.Value

open Cert.ProjRefIdeal Cert.ProjRefIdeal.Gen Cert.ProjMath

variable (m : (ℓ : Loc nD τ sig) → Buf (Elt Ideal) ℓ)

/-- The inputs and the weights. -/
def aX (c : Dev nD) : FVec Ideal S4x4096x1024 .f32 := m ((c : Thread nD τ).loc main_arg0)
def aW (c : Dev nD) : FVec Ideal S1x1024x3144 .f32 := m ((c : Thread nD τ).loc main_arg1)

/-- The projection of token `(b, s)` on column `e` of the weights. -/
def Z (c : Dev nD) (b : Fin 4) (s : Fin 4096) (e : Fin 3144) : EReal := ∑ k, aX m c (ix3 b s k) * aW m c (ix3 0 k e)

/-- The whole projection as an array. -/
def proj (c : Dev nD) : FVec Ideal S4x4096x3144 .f32 :=
  Host.dotGeneral dot_S4x4096x1024_S1024x3144_S4x4096x3144_2_0_01_1_n_n none (aX m c) (shapeCast S1024x3144 (aW m c) shapeCasts_S1x1024x3144_S1024x3144)

theorem proj_at (c : Dev nD) (b : Fin 4) (s : Fin 4096) (e : Fin 3144) : proj m c (ix3 b s e) = Z m c b s e := by
  pointwise [proj, Z]
  try rfl

/-- The frequencies and the angles. -/
def freqs : FVec Ideal S8 .f32 := Host.powf (broadcastInDim S8 ![] bcast_S_S8 (constant S_ .f32 0x48F42400#32))
  (Host.divf (Host.negf (sitofp .f32 (iotaInDim S8 32 0))) (broadcastInDim S8 ![] bcast_S_S8 (constant S_ .f32 0x41000000#32)))

def posv : IVec S4096 32 := iotaInDim S4096 32 0

def angs : FVec Ideal S4096x8 .f32 := mulf (broadcastInDim S4096x8 ![0, 1] bcast_S4096x1_S4096x8_0_1 (broadcastInDim S4096x1 ![0] bcast_S4096_S4096x1_0 (sitofp .f32 posv)))
  (broadcastInDim S4096x8 ![0, 1] bcast_S1x8_S4096x8_0_1 (broadcastInDim S1x8 ![1] bcast_S8_S1x8_1 freqs))

def ang8 (s : Fin 4096) (i : Fin 8) : EReal := sitofp (F := Ideal) .f32 posv (ix1 s) * freqs (ix1 i)

theorem cos_at (s : Fin 4096) (i : Fin 8) : (Host.cos angs : FVec Ideal S4096x8 .f32) (ix2 s i) = Ideal.cos (ang8 s i) := by
  pointwise [angs, ang8]
  try rfl

theorem sin_at (s : Fin 4096) (i : Fin 8) : (Host.sin angs : FVec Ideal S4096x8 .f32) (ix2 s i) = Ideal.sin (ang8 s i) := by
  pointwise [angs, ang8]
  try rfl

/-- One factor of the rotation, spread over batch and heads. -/
def fac (n : FVec Ideal S4096x8 .f32) : FVec Ideal S4x4096x8x8 .f32 :=
  broadcastInDim S4x4096x8x8 ![0, 1, 2, 3] bcast_S1x4096x1x8_S4x4096x8x8_0_1_2_3 (broadcastInDim S1x4096x1x8 ![1, 2, 3] bcast_S4096x1x8_S1x4096x1x8_1_2_3
    (broadcastInDim S4096x1x8 ![0, 2] bcast_S4096x8_S4096x1x8_0_2 n))

def fac1 (n : FVec Ideal S4096x8 .f32) : FVec Ideal S4x4096x1x8 .f32 :=
  broadcastInDim S4x4096x1x8 ![0, 1, 2, 3] bcast_S1x4096x1x8_S4x4096x1x8_0_1_2_3 (broadcastInDim S1x4096x1x8 ![1, 2, 3] bcast_S4096x1x8_S1x4096x1x8_1_2_3
    (broadcastInDim S4096x1x8 ![0, 2] bcast_S4096x8_S4096x1x8_0_2 n))

/-- The rotation of 8 heads. -/
def ropeA (z : FVec Ideal S4x4096x8x64 .f32) : FVec Ideal S4x4096x8x64 .f32 :=
  concatenate S4x4096x8x64 3 [⟨S4x4096x8x8, (subf (mulf (extractStridedSlice S4x4096x8x8 ![0, 0, 0, 0] z slices_S4x4096x8x64_S4x4096x8x8_0_0_0_0) (fac (Host.cos angs)))
      (mulf (extractStridedSlice S4x4096x8x8 ![0, 0, 0, 8] z slices_S4x4096x8x64_S4x4096x8x8_0_0_0_8) (fac (Host.sin angs))) : FVec Ideal S4x4096x8x8 .f32)⟩,
    ⟨S4x4096x8x8, (addf (mulf (extractStridedSlice S4x4096x8x8 ![0, 0, 0, 8] z slices_S4x4096x8x64_S4x4096x8x8_0_0_0_8) (fac (Host.cos angs)))
      (mulf (extractStridedSlice S4x4096x8x8 ![0, 0, 0, 0] z slices_S4x4096x8x64_S4x4096x8x8_0_0_0_0) (fac (Host.sin angs))) : FVec Ideal S4x4096x8x8 .f32)⟩,
    ⟨S4x4096x8x48, (extractStridedSlice S4x4096x8x48 ![0, 0, 0, 16] z slices_S4x4096x8x64_S4x4096x8x48_0_0_0_16 : FVec Ideal S4x4096x8x48 .f32)⟩]
    concatenates_S4x4096x8x8_S4x4096x8x8_S4x4096x8x48_S4x4096x8x64_d3

theorem fac_at (n : FVec Ideal S4096x8 .f32) (b : Fin 4) (s : Fin 4096) (h : Fin 8) (i : Fin 8) : fac n (ix4 b s h i) = n (ix2 s i) := by
  pointwise [fac]
  try rfl

theorem ropeA_cat (x y : FVec Ideal S4x4096x8x8 .f32) (z : FVec Ideal S4x4096x8x48 .f32) (b : Fin 4) (s : Fin 4096) (h : Fin 8) (d : Fin 64) :
    (concatenate S4x4096x8x64 3 [⟨S4x4096x8x8, x⟩, ⟨S4x4096x8x8, y⟩, ⟨S4x4096x8x48, z⟩] concatenates_S4x4096x8x8_S4x4096x8x8_S4x4096x8x48_S4x4096x8x64_d3 : FVec Ideal S4x4096x8x64 .f32) (ix4 b s h d)
      = if h1 : d.val < 8 then x (ix4 b s h ⟨d.val, h1⟩) else if h2 : d.val < 16 then y (ix4 b s h ⟨d.val - 8, by omega⟩)
        else z (ix4 b s h ⟨d.val - 16, by omega⟩) := by
  skip
  pointwise
  have hd := d.isLt
  split_ifs <;> first | rfl | (exfalso; omega) | (rw [dif_pos (by omega)]) | (rw [dif_neg (by omega)]; exact congrArg z (congrArg (ix4 b s _) (Fin.ext (by simp only; omega))))

theorem ropeA_lo (z : FVec Ideal S4x4096x8x64 .f32) (b : Fin 4) (s : Fin 4096) (h : Fin 8) (i : Fin 8) :
    (extractStridedSlice S4x4096x8x8 ![0, 0, 0, 0] z slices_S4x4096x8x64_S4x4096x8x8_0_0_0_0) (ix4 b s h i) = z (ix4 b s h ⟨i.val, by omega⟩) := by
  skip
  pointwise
  try rfl

theorem ropeA_hi (z : FVec Ideal S4x4096x8x64 .f32) (b : Fin 4) (s : Fin 4096) (h : Fin 8) (i : Fin 8) :
    (extractStridedSlice S4x4096x8x8 ![0, 0, 0, 8] z slices_S4x4096x8x64_S4x4096x8x8_0_0_0_8) (ix4 b s h i) = z (ix4 b s h ⟨8 + i.val, by omega⟩) := by
  skip
  pointwise
  try rfl

theorem ropeA_rest (z : FVec Ideal S4x4096x8x64 .f32) (b : Fin 4) (s : Fin 4096) (h : Fin 8) (i : Fin 48) :
    (extractStridedSlice S4x4096x8x48 ![0, 0, 0, 16] z slices_S4x4096x8x64_S4x4096x8x48_0_0_0_16) (ix4 b s h i) = z (ix4 b s h ⟨16 + i.val, by omega⟩) := by
  skip
  pointwise
  try rfl

theorem ropeA_at (z : FVec Ideal S4x4096x8x64 .f32) (b : Fin 4) (s : Fin 4096) (h : Fin 8) (d : Fin 64) : ropeA z (ix4 b s h d)
    = rope (fun i => Ideal.cos (ang8 s i)) (fun i => Ideal.sin (ang8 s i)) (fun d => z (ix4 b s h d)) d := by
  refine (ropeA_cat _ _ _ b s h d).trans ?_
  unfold rope
  by_cases h1 : d.val < 8
  · rw [dif_pos h1, dif_pos h1]
    change (extractStridedSlice S4x4096x8x8 ![0, 0, 0, 0] z slices_S4x4096x8x64_S4x4096x8x8_0_0_0_0) (ix4 b s h ⟨d.val, h1⟩) * fac (Host.cos angs) (ix4 b s h ⟨d.val, h1⟩)
      - (extractStridedSlice S4x4096x8x8 ![0, 0, 0, 8] z slices_S4x4096x8x64_S4x4096x8x8_0_0_0_8) (ix4 b s h ⟨d.val, h1⟩) * fac (Host.sin angs) (ix4 b s h ⟨d.val, h1⟩) = _
    rw [ropeA_lo, ropeA_hi, fac_at, fac_at, cos_at, sin_at]
    simp only [Nat.add_comm 8]
  · rw [dif_neg h1, dif_neg h1]
    by_cases h2 : d.val < 16
    · rw [dif_pos h2, dif_pos h2]
      change (extractStridedSlice S4x4096x8x8 ![0, 0, 0, 8] z slices_S4x4096x8x64_S4x4096x8x8_0_0_0_8) (ix4 b s h ⟨d.val - 8, by omega⟩) * fac (Host.cos angs) (ix4 b s h ⟨d.val - 8, by omega⟩)
        + (extractStridedSlice S4x4096x8x8 ![0, 0, 0, 0] z slices_S4x4096x8x64_S4x4096x8x8_0_0_0_0) (ix4 b s h ⟨d.val - 8, by omega⟩) * fac (Host.sin angs) (ix4 b s h ⟨d.val - 8, by omega⟩) = _
      rw [ropeA_lo, ropeA_hi, fac_at, fac_at, cos_at, sin_at]
      have e : (⟨8 + (d.val - 8), by omega⟩ : Fin 64) = d := Fin.ext (by simp only; omega)
      simp only [e]
    · rw [dif_neg h2, dif_neg h2, ropeA_rest]
      exact congrArg z (congrArg (ix4 b s h) (Fin.ext (by simp only; omega)))

/-- The rotation of 1 heads. -/
def ropeK (z : FVec Ideal S4x4096x1x64 .f32) : FVec Ideal S4x4096x1x64 .f32 :=
  concatenate S4x4096x1x64 3 [⟨S4x4096x1x8, (subf (mulf (extractStridedSlice S4x4096x1x8 ![0, 0, 0, 0] z slices_S4x4096x1x64_S4x4096x1x8_0_0_0_0) (fac1 (Host.cos angs)))
      (mulf (extractStridedSlice S4x4096x1x8 ![0, 0, 0, 8] z slices_S4x4096x1x64_S4x4096x1x8_0_0_0_8) (fac1 (Host.sin angs))) : FVec Ideal S4x4096x1x8 .f32)⟩,
    ⟨S4x4096x1x8, (addf (mulf (extractStridedSlice S4x4096x1x8 ![0, 0, 0, 8] z slices_S4x4096x1x64_S4x4096x1x8_0_0_0_8) (fac1 (Host.cos angs)))
      (mulf (extractStridedSlice S4x4096x1x8 ![0, 0, 0, 0] z slices_S4x4096x1x64_S4x4096x1x8_0_0_0_0) (fac1 (Host.sin angs))) : FVec Ideal S4x4096x1x8 .f32)⟩,
    ⟨S4x4096x1x48, (extractStridedSlice S4x4096x1x48 ![0, 0, 0, 16] z slices_S4x4096x1x64_S4x4096x1x48_0_0_0_16 : FVec Ideal S4x4096x1x48 .f32)⟩]
    concatenates_S4x4096x1x8_S4x4096x1x8_S4x4096x1x48_S4x4096x1x64_d3

theorem fac1_at (n : FVec Ideal S4096x8 .f32) (b : Fin 4) (s : Fin 4096) (h : Fin 1) (i : Fin 8) : fac1 n (ix4 b s h i) = n (ix2 s i) := by
  pointwise [fac1]
  try rfl

theorem ropeK_cat (x y : FVec Ideal S4x4096x1x8 .f32) (z : FVec Ideal S4x4096x1x48 .f32) (b : Fin 4) (s : Fin 4096) (h : Fin 1) (d : Fin 64) :
    (concatenate S4x4096x1x64 3 [⟨S4x4096x1x8, x⟩, ⟨S4x4096x1x8, y⟩, ⟨S4x4096x1x48, z⟩] concatenates_S4x4096x1x8_S4x4096x1x8_S4x4096x1x48_S4x4096x1x64_d3 : FVec Ideal S4x4096x1x64 .f32) (ix4 b s h d)
      = if h1 : d.val < 8 then x (ix4 b s h ⟨d.val, h1⟩) else if h2 : d.val < 16 then y (ix4 b s h ⟨d.val - 8, by omega⟩)
        else z (ix4 b s h ⟨d.val - 16, by omega⟩) := by
  obtain rfl : h = 0 := Subsingleton.elim _ _
  pointwise
  have hd := d.isLt
  split_ifs <;> first | rfl | (exfalso; omega) | (rw [dif_pos (by omega)]) | (rw [dif_neg (by omega)]; exact congrArg z (congrArg (ix4 b s _) (Fin.ext (by simp only; omega))))

theorem ropeK_lo (z : FVec Ideal S4x4096x1x64 .f32) (b : Fin 4) (s : Fin 4096) (h : Fin 1) (i : Fin 8) :
    (extractStridedSlice S4x4096x1x8 ![0, 0, 0, 0] z slices_S4x4096x1x64_S4x4096x1x8_0_0_0_0) (ix4 b s h i) = z (ix4 b s h ⟨i.val, by omega⟩) := by
  obtain rfl : h = 0 := Subsingleton.elim _ _
  pointwise
  try rfl

theorem ropeK_hi (z : FVec Ideal S4x4096x1x64 .f32) (b : Fin 4) (s : Fin 4096) (h : Fin 1) (i : Fin 8) :
    (extractStridedSlice S4x4096x1x8 ![0, 0, 0, 8] z slices_S4x4096x1x64_S4x4096x1x8_0_0_0_8) (ix4 b s h i) = z (ix4 b s h ⟨8 + i.val, by omega⟩) := by
  obtain rfl : h = 0 := Subsingleton.elim _ _
  pointwise
  try rfl

theorem ropeK_rest (z : FVec Ideal S4x4096x1x64 .f32) (b : Fin 4) (s : Fin 4096) (h : Fin 1) (i : Fin 48) :
    (extractStridedSlice S4x4096x1x48 ![0, 0, 0, 16] z slices_S4x4096x1x64_S4x4096x1x48_0_0_0_16) (ix4 b s h i) = z (ix4 b s h ⟨16 + i.val, by omega⟩) := by
  obtain rfl : h = 0 := Subsingleton.elim _ _
  pointwise
  try rfl

theorem ropeK_at (z : FVec Ideal S4x4096x1x64 .f32) (b : Fin 4) (s : Fin 4096) (h : Fin 1) (d : Fin 64) : ropeK z (ix4 b s h d)
    = rope (fun i => Ideal.cos (ang8 s i)) (fun i => Ideal.sin (ang8 s i)) (fun d => z (ix4 b s h d)) d := by
  refine (ropeK_cat _ _ _ b s h d).trans ?_
  unfold rope
  by_cases h1 : d.val < 8
  · rw [dif_pos h1, dif_pos h1]
    change (extractStridedSlice S4x4096x1x8 ![0, 0, 0, 0] z slices_S4x4096x1x64_S4x4096x1x8_0_0_0_0) (ix4 b s h ⟨d.val, h1⟩) * fac1 (Host.cos angs) (ix4 b s h ⟨d.val, h1⟩)
      - (extractStridedSlice S4x4096x1x8 ![0, 0, 0, 8] z slices_S4x4096x1x64_S4x4096x1x8_0_0_0_8) (ix4 b s h ⟨d.val, h1⟩) * fac1 (Host.sin angs) (ix4 b s h ⟨d.val, h1⟩) = _
    rw [ropeK_lo, ropeK_hi, fac1_at, fac1_at, cos_at, sin_at]
    simp only [Nat.add_comm 8]
  · rw [dif_neg h1, dif_neg h1]
    by_cases h2 : d.val < 16
    · rw [dif_pos h2, dif_pos h2]
      change (extractStridedSlice S4x4096x1x8 ![0, 0, 0, 8] z slices_S4x4096x1x64_S4x4096x1x8_0_0_0_8) (ix4 b s h ⟨d.val - 8, by omega⟩) * fac1 (Host.cos angs) (ix4 b s h ⟨d.val - 8, by omega⟩)
        + (extractStridedSlice S4x4096x1x8 ![0, 0, 0, 0] z slices_S4x4096x1x64_S4x4096x1x8_0_0_0_0) (ix4 b s h ⟨d.val - 8, by omega⟩) * fac1 (Host.sin angs) (ix4 b s h ⟨d.val - 8, by omega⟩) = _
      rw [ropeK_lo, ropeK_hi, fac1_at, fac1_at, cos_at, sin_at]
      have e : (⟨8 + (d.val - 8), by omega⟩ : Fin 64) = d := Fin.ext (by simp only; omega)
      simp only [e]
    · rw [dif_neg h2, dif_neg h2, ropeK_rest]
      exact congrArg z (congrArg (ix4 b s h) (Fin.ext (by simp only; omega)))

/-- The results. -/
theorem q_eq (c : Dev nD) : res_out2 m c = truncf (F := Ideal) .bf16 (mulf (ropeA (shapeCast S4x4096x8x64 (extractStridedSlice S4x4096x512 ![0, 0, 1024] (proj m c) slices_S4x4096x3144_S4x4096x512_0_0_1024) shapeCasts_S4x4096x512_S4x4096x8x64))
    (broadcastInDim S4x4096x8x64 ![] bcast_S_S4x4096x8x64 (constant S_ .f32 0x3E000000#32))) bitsLt_bf16_f32 := rfl

theorem k_eq (c : Dev nD) : res_out3 m c = ropeA (shapeCast S4x4096x8x64 (extractStridedSlice S4x4096x512 ![0, 0, 1536] (proj m c) slices_S4x4096x3144_S4x4096x512_0_0_1536) shapeCasts_S4x4096x512_S4x4096x8x64) := rfl

theorem qi_eq (c : Dev nD) : res_out5 m c = truncf (F := Ideal) .bf16 (ropeA (shapeCast S4x4096x8x64 (extractStridedSlice S4x4096x512 ![0, 0, 2560] (proj m c) slices_S4x4096x3144_S4x4096x512_0_0_2560) shapeCasts_S4x4096x512_S4x4096x8x64)) bitsLt_bf16_f32 := rfl

theorem ki_eq (c : Dev nD) : res_out6 m c = shapeCast S4x4096x64 (ropeK (broadcastInDim S4x4096x1x64 ![0, 1, 3] bcast_S4x4096x64_S4x4096x1x64_0_1_3 (extractStridedSlice S4x4096x64 ![0, 0, 3072] (proj m c) slices_S4x4096x3144_S4x4096x64_0_0_3072))) shapeCasts_S4x4096x1x64_S4x4096x64 := rfl

theorem heads_at (c : Dev nD) (lo : ℕ) (hlo : lo + 512 ≤ 3144) (h : S4x4096x3144.Slices ![0, 0, lo] S4x4096x512) (b : Fin 4) (s : Fin 4096) (g : Fin 8) (d : Fin 64) :
    (shapeCast S4x4096x8x64 (extractStridedSlice S4x4096x512 ![0, 0, lo] (proj m c) h) shapeCasts_S4x4096x512_S4x4096x8x64) (ix4 b s g d)
      = Z m c b s ⟨lo + (g.val * 64 + d.val), by omega⟩ := by
  rw [← proj_at]
  pointwise

/-- The rotated head at columns `lo + 64 h`. -/
def R (c : Dev nD) (lo : ℕ) (hlo : lo + 512 ≤ 3144) (b : Fin 4) (s : Fin 4096) (h : Fin 8) (d : Fin 64) : EReal :=
  rope (fun i => Ideal.cos (ang8 s i)) (fun i => Ideal.sin (ang8 s i)) (fun d => Z m c b s ⟨lo + (h.val * 64 + d.val), by omega⟩) d

/-- The rotated index key. -/
def K (c : Dev nD) (b : Fin 4) (s : Fin 4096) (d : Fin 64) : EReal :=
  rope (fun i => Ideal.cos (ang8 s i)) (fun i => Ideal.sin (ang8 s i)) (fun d => Z m c b s ⟨3072 + d.val, by omega⟩) d

theorem q_at (c : Dev nD) (b : Fin 4) (s : Fin 4096) (h : Fin 8) (d : Fin 64) : (res_out2 m c : FVec Ideal S4x4096x8x64 .bf16) (ix4 b s h d)
    = R m c 1024 (by decide) b s h d * Ideal.ofBits FTy.f32 0x3E000000#32 := by
  rw [q_eq]
  change ropeA _ (ix4 b s h d) * _ = _
  rw [ropeA_at]
  simp only [heads_at m c 1024 (by decide)]
  rfl

theorem k_at (c : Dev nD) (b : Fin 4) (s : Fin 4096) (h : Fin 8) (d : Fin 64) : (res_out3 m c : FVec Ideal S4x4096x8x64 .f32) (ix4 b s h d)
    = R m c 1536 (by decide) b s h d := by
  rw [k_eq, ropeA_at]
  simp only [heads_at m c 1536 (by decide)]
  rfl

theorem qi_at (c : Dev nD) (b : Fin 4) (s : Fin 4096) (h : Fin 8) (d : Fin 64) : (res_out5 m c : FVec Ideal S4x4096x8x64 .bf16) (ix4 b s h d)
    = R m c 2560 (by decide) b s h d := by
  rw [qi_eq]
  change ropeA _ (ix4 b s h d) = _
  rw [ropeA_at]
  simp only [heads_at m c 2560 (by decide)]
  rfl

theorem key_at (c : Dev nD) (b : Fin 4) (s : Fin 4096) (d : Fin 64) :
    (broadcastInDim S4x4096x1x64 ![0, 1, 3] bcast_S4x4096x64_S4x4096x1x64_0_1_3 (extractStridedSlice S4x4096x64 ![0, 0, 3072] (proj m c) slices_S4x4096x3144_S4x4096x64_0_0_3072)) (ix4 b s 0 d)
      = Z m c b s ⟨3072 + d.val, by omega⟩ := by
  rw [← proj_at]
  pointwise
  try rfl

theorem ki_at (c : Dev nD) (b : Fin 4) (s : Fin 4096) (d : Fin 64) : (res_out6 m c : FVec Ideal S4x4096x64 .f32) (ix3 b s d) = K m c b s d := by
  rw [ki_eq]
  refine Eq.trans (b := ropeK (broadcastInDim S4x4096x1x64 ![0, 1, 3] bcast_S4x4096x64_S4x4096x1x64_0_1_3 (extractStridedSlice S4x4096x64 ![0, 0, 3072] (proj m c) slices_S4x4096x3144_S4x4096x64_0_0_3072)) (ix4 b s 0 d)) ?_ ?_
  · pointwise
  · rw [ropeK_at]
    unfold K
    congr 1
    funext d
    exact key_at m c b s d

abbrev xlRes (c : Dev nD) : FVec Ideal S4x4096x512 .f32 := extractStridedSlice S4x4096x512 ![0, 0, 0] (proj m c) slices_S4x4096x3144_S4x4096x512_0_0_0
abbrev gateRes (c : Dev nD) : FVec Ideal S4x4096x512 .f32 := extractStridedSlice S4x4096x512 ![0, 0, 512] (proj m c) slices_S4x4096x3144_S4x4096x512_0_0_512
abbrev qRes (c : Dev nD) : FVec Ideal S4x4096x8x64 .bf16 := res_out2 m c
abbrev kRes (c : Dev nD) : FVec Ideal S4x4096x8x64 .f32 := res_out3 m c
abbrev vRes (c : Dev nD) : FVec Ideal S4x4096x8x64 .f32 :=
  shapeCast S4x4096x8x64 (extractStridedSlice S4x4096x512 ![0, 0, 2048] (proj m c) slices_S4x4096x3144_S4x4096x512_0_0_2048) shapeCasts_S4x4096x512_S4x4096x8x64
abbrev qiRes (c : Dev nD) : FVec Ideal S4x4096x8x64 .bf16 := res_out5 m c
abbrev kiRes (c : Dev nD) : FVec Ideal S4x4096x64 .f32 := res_out6 m c
abbrev wiRes (c : Dev nD) : FVec Ideal S4x4096x8 .f32 := extractStridedSlice S4x4096x8 ![0, 0, 3136] (proj m c) slices_S4x4096x3144_S4x4096x8_0_0_3136
abbrev convRes (c : Dev nD) : FVec Ideal S4x3x512 .f32 := extractStridedSlice S4x3x512 ![0, 4093, 0] (xlRes m c) slices_S4x4096x512_S4x3x512_0_4093_0

theorem xl_at (c : Dev nD) (b : Fin 4) (s : Fin 4096) (e : Fin 512) : xlRes m c (ix3 b s e) = Z m c b s ⟨0 + e.val, by omega⟩ := by
  rw [← proj_at]
  pointwise [xlRes]
  first | done | exact congrArg (proj m c) (congrArg (ix3 b s) (Fin.ext (by simp only; omega)))

theorem gate_at (c : Dev nD) (b : Fin 4) (s : Fin 4096) (e : Fin 512) : gateRes m c (ix3 b s e) = Z m c b s ⟨512 + e.val, by omega⟩ := by
  rw [← proj_at]
  pointwise [gateRes]
  try rfl

theorem v_at (c : Dev nD) (b : Fin 4) (s : Fin 4096) (h : Fin 8) (d : Fin 64) : vRes m c (ix4 b s h d)
    = Z m c b s ⟨2048 + (h.val * 64 + d.val), by omega⟩ := heads_at m c 2048 (by decide) _ b s h d

theorem wi_at (c : Dev nD) (b : Fin 4) (s : Fin 4096) (h : Fin 8) : wiRes m c (ix3 b s h) = Z m c b s ⟨3136 + h.val, by omega⟩ := by
  rw [← proj_at]
  pointwise [wiRes]
  try rfl

theorem conv_at (c : Dev nD) (b : Fin 4) (j : Fin 3) (e : Fin 512) : convRes m c (ix3 b j e)
    = Z m c b ⟨4093 + j.val, by omega⟩ ⟨0 + e.val, by omega⟩ := by
  refine Eq.trans ?_ (xl_at m c b _ e)
  unfold convRes
  generalize xlRes m c = x
  pointwise
  try rfl

end Cert.ProjRefIdeal.Value
-- ==== Proof.ProjClaim.lean ====
module

public import proofs.«01_k».proof.Defs
public import proofs.«01_k».proof.Proof.Gen.Proj.Frame
public import proofs.«01_k».proof.Proof.ProjTail
public import proofs.«01_k».proof.Proof.ProjRef
public import Idealize.ShloMosaic.Lib.Claim
public import Idealize.ShloMosaic.Adequacy
public import Idealize.ShloMosaic.Init

/-!
The projection call's claims: every run keeps its arguments and leaves the counters at zero, and the kernel's results are
the reference's.
-/

@[expose] public section

noncomputable section

namespace Cert.ProjClaim

open Idealize.ShloMosaic Idealize.ShloMosaic.TcCoe Idealize.SL.Sem

theorem frame : Cert.quiescent_Proj := fun m g _ => Cert.Proj.Gen.frame m g

theorem frameIdeal : Cert.quiescent_ProjIdeal := fun m g _ => Cert.ProjIdeal.Gen.frame m g

theorem frameRef : Cert.quiescent_ProjRefIdeal := fun m g _ => (θ_run Cert.ProjRefIdeal.defs _ _).mono
  (fun r h => ⟨fun c => (h c).2.2.2.2.2.2.2.2.2, sem_eq_zero_of_no_sems (by decide) r.2⟩) (Cert.ProjRefIdeal.Value.run m g)

/-- The two programs' projections, rotations and keys agree on equal arguments. -/
theorem Z_eq (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (h0 : Cert.ProjRefIdeal.Value.aX m' c = Cert.ProjIdeal.Value.aX m c) (h1 : Cert.ProjRefIdeal.Value.aW m' c = Cert.ProjIdeal.Value.aW m c) :
    Cert.ProjRefIdeal.Value.Z m' c = Cert.ProjIdeal.Value.Z m c := by
  unfold Cert.ProjRefIdeal.Value.Z Cert.ProjIdeal.Value.Z
  rw [h0, h1]
  try rfl

theorem R_eq (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (hZ : Cert.ProjRefIdeal.Value.Z m' c = Cert.ProjIdeal.Value.Z m c) : @Cert.ProjRefIdeal.Value.R m' c = @Cert.ProjIdeal.Value.R m c := by
  unfold Cert.ProjRefIdeal.Value.R Cert.ProjIdeal.Value.R
  rw [hZ]
  rfl

theorem K_eq (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (hZ : Cert.ProjRefIdeal.Value.Z m' c = Cert.ProjIdeal.Value.Z m c) : Cert.ProjRefIdeal.Value.K m' c = Cert.ProjIdeal.Value.K m c := by
  unfold Cert.ProjRefIdeal.Value.K Cert.ProjIdeal.Value.K
  rw [hZ]
  rfl

theorem xl_eq (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (hZ : Cert.ProjRefIdeal.Value.Z m' c = Cert.ProjIdeal.Value.Z m c) :
    Cert.ProjRefIdeal.Value.xlRes m' c = Cert.ProjIdeal.Value.res m c Cert.ProjIdeal.main_v43 := by
  funext y
  idx_vars y
  refine (Cert.ProjRefIdeal.Value.xl_at m' c _ _ _).trans (Eq.trans ?_ (Cert.ProjIdeal.Value.v43_at m c _ _ _).symm)
  rw [hZ]
  try rfl

theorem gate_eq (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (hZ : Cert.ProjRefIdeal.Value.Z m' c = Cert.ProjIdeal.Value.Z m c) :
    Cert.ProjRefIdeal.Value.gateRes m' c = Cert.ProjIdeal.Value.res m c Cert.ProjIdeal.main_v44 := by
  funext y
  idx_vars y
  refine (Cert.ProjRefIdeal.Value.gate_at m' c _ _ _).trans (Eq.trans ?_ (Cert.ProjIdeal.Value.v44_at m c _ _ _).symm)
  rw [hZ]
  try rfl

theorem q_eq (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (hZ : Cert.ProjRefIdeal.Value.Z m' c = Cert.ProjIdeal.Value.Z m c) :
    Cert.ProjRefIdeal.Value.qRes m' c = Cert.ProjIdeal.Value.res m c Cert.ProjIdeal.main_v46 := by
  funext y
  idx_vars y
  refine (Cert.ProjRefIdeal.Value.q_at m' c _ _ _ _).trans (Eq.trans ?_ (Cert.ProjIdeal.Value.v46_at m c _ _ _ _).symm)
  rw [R_eq m m' c hZ]
  try rfl

theorem k_eq (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (hZ : Cert.ProjRefIdeal.Value.Z m' c = Cert.ProjIdeal.Value.Z m c) :
    Cert.ProjRefIdeal.Value.kRes m' c = Cert.ProjIdeal.Value.res m c Cert.ProjIdeal.main_v48 := by
  funext y
  idx_vars y
  refine (Cert.ProjRefIdeal.Value.k_at m' c _ _ _ _).trans (Eq.trans ?_ (Cert.ProjIdeal.Value.v48_at m c _ _ _ _).symm)
  rw [R_eq m m' c hZ]
  try rfl

theorem v_eq (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (hZ : Cert.ProjRefIdeal.Value.Z m' c = Cert.ProjIdeal.Value.Z m c) :
    Cert.ProjRefIdeal.Value.vRes m' c = Cert.ProjIdeal.Value.res m c Cert.ProjIdeal.main_v50 := by
  funext y
  idx_vars y
  refine (Cert.ProjRefIdeal.Value.v_at m' c _ _ _ _).trans (Eq.trans ?_ (Cert.ProjIdeal.Value.v50_at m c _ _ _ _).symm)
  rw [hZ]
  try rfl

theorem qi_eq (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (hZ : Cert.ProjRefIdeal.Value.Z m' c = Cert.ProjIdeal.Value.Z m c) :
    Cert.ProjRefIdeal.Value.qiRes m' c = Cert.ProjIdeal.Value.res m c Cert.ProjIdeal.main_v52 := by
  funext y
  idx_vars y
  refine (Cert.ProjRefIdeal.Value.qi_at m' c _ _ _ _).trans (Eq.trans ?_ (Cert.ProjIdeal.Value.v52_at m c _ _ _ _).symm)
  rw [R_eq m m' c hZ]
  try rfl

theorem ki_eq (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (hZ : Cert.ProjRefIdeal.Value.Z m' c = Cert.ProjIdeal.Value.Z m c) :
    Cert.ProjRefIdeal.Value.kiRes m' c = Cert.ProjIdeal.Value.res m c Cert.ProjIdeal.main_v53 := by
  funext y
  idx_vars y
  refine (Cert.ProjRefIdeal.Value.ki_at m' c _ _ _).trans (Eq.trans ?_ (Cert.ProjIdeal.Value.v53_at m c _ _ _).symm)
  rw [K_eq m m' c hZ]
  try rfl

theorem wi_eq (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (hZ : Cert.ProjRefIdeal.Value.Z m' c = Cert.ProjIdeal.Value.Z m c) :
    Cert.ProjRefIdeal.Value.wiRes m' c = Cert.ProjIdeal.Value.res m c Cert.ProjIdeal.main_v54 := by
  funext y
  idx_vars y
  refine (Cert.ProjRefIdeal.Value.wi_at m' c _ _ _).trans (Eq.trans ?_ (Cert.ProjIdeal.Value.v54_at m c _ _ _).symm)
  rw [hZ]
  try rfl

theorem conv_eq (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (hZ : Cert.ProjRefIdeal.Value.Z m' c = Cert.ProjIdeal.Value.Z m c) :
    Cert.ProjRefIdeal.Value.convRes m' c = Cert.ProjIdeal.Value.res m c Cert.ProjIdeal.main_v55 := by
  funext y
  idx_vars y
  refine (Cert.ProjRefIdeal.Value.conv_at m' c _ _ _).trans (Eq.trans ?_ (Cert.ProjIdeal.Value.v55_at m c _ _ _).symm)
  rw [hZ]
  try rfl

theorem algebraic : Cert.algebraic_ProjIdeal_ProjRefIdeal := by
  pair_intro
  · run_from Cert.ProjIdeal.Value.run m g
  · run_from Cert.ProjRefIdeal.Value.run m' g'
    all_goals have hZ := Z_eq m m' c (hagree c).1 (hagree c).2
    · rw [← (hagree c).1, ← (hagree c).2]; exact xl_eq m m' c hZ
    · rw [← (hagree c).1, ← (hagree c).2]; exact gate_eq m m' c hZ
    · exact q_eq m m' c hZ
    · exact k_eq m m' c hZ
    · rw [← (hagree c).1, ← (hagree c).2]; exact v_eq m m' c hZ
    · exact qi_eq m m' c hZ
    · exact ki_eq m m' c hZ
    · rw [← (hagree c).1, ← (hagree c).2]; exact wi_eq m m' c hZ
    · rw [← (hagree c).1, ← (hagree c).2]; exact conv_eq m m' c hZ

end Cert.ProjClaim

end
-- ==== Proof.ProjSTables.lean ====
module

public import proofs.«01_k».proof.Proof.Gen.ProjSIdeal.Frame
public import Idealize.ShloMosaic.Lib.Pipeline.ValueKit
public import Idealize.ShloMosaic.Lib.Claim
public import Idealize.ShloMosaic.Lib.Routing.OpsSet

/-!
The rotation tables of the projection call, lane by lane: the cosines and signed sines of the rotated dimensions of each
head, and one or zero elsewhere.
-/

@[expose] public section

set_option maxRecDepth 16384

noncomputable section

open Idealize.ShloMosaic Idealize.ShloMosaic.TcCoe Idealize.SL.Sem
open Idealize.ShloMosaic.Pipeline (Dat)

namespace Cert.ProjSIdeal.Value

open Cert.ProjSIdeal Cert.ProjSIdeal.Gen

variable (m : (ℓ : Loc nD τ sig) → Buf (Elt Ideal) ℓ)

/-- The remainder with the divisor's sign, as the host spells it. -/
def remv (x : IVec S128 32) (n : IVec S_ 32) : IVec S128 32 :=
  let n' : IVec S_ 32 := select (cmpi .eq n (constantI S_ 32 0#32)) (constantI S_ 32 1#32) n
  let r : IVec S128 32 := Host.remsi x (broadcastInDim S128 ![] bcast_S_S128 n')
  let z : IVec S128 32 := broadcastInDim S128 ![] bcast_S_S128 (constantI S_ 32 0#32)
  select (andi (cmpi .ne (cmpi .slt r z) (broadcastInDim S128 ![] bcast_S_S128 (cmpi .slt n' (constantI S_ 32 0#32)))) (cmpi .ne r z))
    (addi r (broadcastInDim S128 ![] bcast_S_S128 n')) r

/-- The lane's place within its head. -/
def dimv : IVec S128 32 := remv (iotaInDim S128 32 0) (constantI S_ 32 64#32)

/-- The frequency index of a lane. -/
def idxv : IVec S128x1 32 :=
  let r := remv dimv (constantI S_ 32 8#32)
  broadcastInDim S128x1 ![0] bcast_S128_S128x1_0 (select (cmpi .slt r (broadcastInDim S128 ![] bcast_S_S128 (constantI S_ 32 0#32)))
    (addi r (broadcastInDim S128 ![] bcast_S_S128 (constantI S_ 32 8#32))) r)

theorem dim_at : ∀ l : Fin 128, dimv (ix1 l) = BitVec.ofNat 32 (l.val % 64) := by decide +kernel

theorem idx_at : ∀ l : Fin 128, idxv (ix2 l 0) = BitVec.ofNat 32 (l.val % 8) := by decide +kernel

theorem dim_eq (c : Dev nD) : (V m c main_v17 : IVec S128 32) = dimv := by
  simp only [V, V0, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

theorem rem_eq (c : Dev nD) : (V m c main_v20 : IVec S128 32) = remv (V m c main_v17 : IVec S128 32) (constantI S_ 32 8#32) := by
  simp only [V, V0, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

theorem idx_eq' (c : Dev nD) : (V m c main_v26 : IVec S128x1 32) = broadcastInDim S128x1 ![0] bcast_S128_S128x1_0
    (select (cmpi .slt (V m c main_v20 : IVec S128 32) (broadcastInDim S128 ![] bcast_S_S128 (constantI S_ 32 0#32)))
    (addi (V m c main_v20 : IVec S128 32) (broadcastInDim S128 ![] bcast_S_S128 (constantI S_ 32 8#32))) (V m c main_v20 : IVec S128 32)) := by
  simp only [V, V0, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp

theorem idx_eq (c : Dev nD) : (V m c main_v26 : IVec S128x1 32) = idxv := by
  rw [idx_eq', rem_eq, dim_eq]
  rfl

/-- The rotation frequencies. -/
def freqs : FVec Ideal S8 .f32 := Host.powf (broadcastInDim S8 ![] bcast_S_S8 (constant S_ .f32 0x48F42400#32))
  (Host.divf (Host.negf (sitofp .f32 (iotaInDim S8 32 0))) (broadcastInDim S8 ![] bcast_S_S8 (constant S_ .f32 0x41000000#32)))

/-- The positions of one sequence's four new tokens, and of every row. -/
def posv : IVec S4 32 := addi (broadcastInDim S4 ![] bcast_S_S4 (constantI S_ 32 2048#32)) (iotaInDim S4 32 0)
def posr : IVec S512 32 :=
  shapeCast S512 (broadcastInDim S128x4 ![0, 1] bcast_S1x4_S128x4_0_1 (shapeCast S1x4 posv shapeCasts_S4_S1x4)) shapeCasts_S128x4_S512

theorem posr_at (r : Fin 512) : posr (ix1 r) = posv (ix1 ⟨r.val % 4, by omega⟩) := by
  unfold posr
  generalize posv = x
  pointwise
  try rfl

/-- The angle of a row and a lane. -/
def ang (i : IVec S128x1 32) : FVec Ideal S512x128 .f32 :=
  mulf (broadcastInDim S512x128 ![0, 1] bcast_S512x1_S512x128_0_1 (broadcastInDim S512x1 ![0] bcast_S512_S512x1_0 (sitofp .f32 posr)))
   (broadcastInDim S512x128 ![0, 1] bcast_S1x128_S512x128_0_1 (broadcastInDim S1x128 ![1] bcast_S128_S1x128_1
     (Host.gather gather_S8_S128x1_S128_n_0_n_n_0_1_1 freqs i)))

theorem ang_at (i : IVec S128x1 32) (hi : ∀ l : Fin 128, i (ix2 l 0) = BitVec.ofNat 32 (l.val % 8)) (r : Fin 512) (l : Fin 128) : ang i (ix2 r l)
    = sitofp (F := Ideal) .f32 posv (ix1 ⟨r.val % 4, by omega⟩) * freqs (ix1 ⟨l.val % 8, by omega⟩) := by
  have hp := posr_at r
  have hs : sitofp (F := Ideal) .f32 posr (ix1 r) = sitofp (F := Ideal) .f32 posv (ix1 ⟨r.val % 4, by omega⟩) := by
    pointwise
    rw [hp]
  rw [← hs]
  pointwise [ang]
  exact congrArg _ (Routing.gather_take1 _ rfl rfl rfl rfl freqs i l ⟨l.val % 8, by omega⟩ (hi l) (by decide))

theorem tabC (c : Dev nD) : (V m c main_v36 : FVec Ideal S512x128 .f32) = select (broadcastInDim S512x128 ![1] bcast_S128_S512x128_1
     (cmpi .slt (V m c main_v17 : IVec S128 32) (broadcastInDim S128 ![] bcast_S_S128 (constantI S_ 32 16#32))))
     (Host.cos (ang (V m c main_v26))) (broadcastInDim S512x128 ![] bcast_S_S512x128 (constant S_ .f32 0x3F800000#32)) := by
  simp only [V, V0, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

theorem tabS1 (c : Dev nD) : (V m c main_v40 : FVec Ideal S512x128 .f32) = select (broadcastInDim S512x128 ![1] bcast_S128_S512x128_1
     (cmpi .slt (V m c main_v17 : IVec S128 32) (broadcastInDim S128 ![] bcast_S_S128 (constantI S_ 32 8#32))))
     (Host.negf (Host.sin (ang (V m c main_v26)))) (broadcastInDim S512x128 ![] bcast_S_S512x128 (constant S_ .f32 0x00000000#32)) := by
  simp only [V, V0, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

theorem tabS2 (c : Dev nD) : (V m c main_v46 : FVec Ideal S512x128 .f32) = select (broadcastInDim S512x128 ![1] bcast_S128_S512x128_1
     (andi (cmpi .sge (V m c main_v17 : IVec S128 32) (broadcastInDim S128 ![] bcast_S_S128 (constantI S_ 32 8#32)))
       (cmpi .slt (V m c main_v17 : IVec S128 32) (broadcastInDim S128 ![] bcast_S_S128 (constantI S_ 32 16#32)))))
     (Host.sin (ang (V m c main_v26))) (broadcastInDim S512x128 ![] bcast_S_S512x128 (constant S_ .f32 0x00000000#32)) := by
  simp only [V, V0, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

/-- The angle of row `r` and lane `l`. -/
def angle (r : Fin 512) (l : Fin 128) : EReal := sitofp (F := Ideal) .f32 posv (ix1 ⟨r.val % 4, by omega⟩) * freqs (ix1 ⟨l.val % 8, by omega⟩)

theorem slt16 : ∀ l : Fin 64, IntOp.cmpi .slt (BitVec.ofNat 32 l.val) 16#32 = if l.val < 16 then 1 else 0 := by decide +kernel
theorem slt8 : ∀ l : Fin 64, IntOp.cmpi .slt (BitVec.ofNat 32 l.val) 8#32 = if l.val < 8 then 1 else 0 := by decide +kernel
theorem sge8 : ∀ l : Fin 64, IntOp.cmpi .sge (BitVec.ofNat 32 l.val) 8#32 = if 8 ≤ l.val then 1 else 0 := by decide +kernel

theorem tabC_at (c : Dev nD) (r : Fin 512) (l : Fin 128) : (V m c main_v36 : FVec Ideal S512x128 .f32) (ix2 r l)
    = if l.val % 64 < 16 then Ideal.cos (angle r l) else 1 := by
  rw [tabC, dim_eq, idx_eq]
  have h := ang_at idxv idx_at r l
  have h1 := slt16 ⟨l.val % 64, by omega⟩
  pointwise [dim_at]
  rw [h, h1]
  dsimp only
  split_ifs <;> rfl

theorem tabS1_at (c : Dev nD) (r : Fin 512) (l : Fin 128) : (V m c main_v40 : FVec Ideal S512x128 .f32) (ix2 r l)
    = if l.val % 64 < 8 then -Ideal.sin (angle r l) else 0 := by
  rw [tabS1, dim_eq, idx_eq]
  have h := ang_at idxv idx_at r l
  have h1 := slt8 ⟨l.val % 64, by omega⟩
  pointwise [dim_at]
  rw [h, h1]
  dsimp only
  split_ifs <;> rfl

theorem tabS2_at (c : Dev nD) (r : Fin 512) (l : Fin 128) : (V m c main_v46 : FVec Ideal S512x128 .f32) (ix2 r l)
    = if 8 ≤ l.val % 64 ∧ l.val % 64 < 16 then Ideal.sin (angle r l) else 0 := by
  rw [tabS2, dim_eq, idx_eq]
  have h := ang_at idxv idx_at r l
  have h1 := slt16 ⟨l.val % 64, by omega⟩
  have h2 := sge8 ⟨l.val % 64, by omega⟩
  pointwise [dim_at]
  rw [h, h1, h2]
  dsimp only
  by_cases a : 8 ≤ l.val % 64 <;> by_cases b : l.val % 64 < 16 <;> simp [a, b] <;> rfl

end Cert.ProjSIdeal.Value
-- ==== Proof.ProjSKernel.lean ====
module

public import proofs.«01_k».proof.Proof.ProjSTables
public import proofs.«01_k».proof.Proof.ProjMath

/-!
What one grid point of the projection call computes, entry by entry: products with the weight columns, and their rotation.
-/

@[expose] public section

set_option maxRecDepth 16384

noncomputable section

open Idealize.ShloMosaic Idealize.ShloMosaic.TcCoe Idealize.SL.Sem
open Idealize.ShloMosaic.Pipeline (Dat)

namespace Cert.ProjSIdeal.Value

open Cert.ProjSIdeal Cert.ProjSIdeal.Gen Cert.ProjMath

/-- One row of the block against one column of the weights. -/
def mm {n : ℕ} (v0 : Vec Ideal S256x1024 .f32) (w : FVec Ideal ⟨2, ![1024, n]⟩ .bf16) (p : Fin 256) (e : Fin n) : EReal := ∑ k, v0 (ix2 p k) * w (ix2 k e)

theorem four (c : FVec Ideal S256x128 .f32) (p : Fin 256) (j : Fin 512) :
    (concatenate S256x512 1 [⟨S256x128, c⟩, ⟨S256x128, c⟩, ⟨S256x128, c⟩, ⟨S256x128, c⟩] concatenates_S256x128_S256x128_S256x128_S256x128_S256x512_d1 : FVec Ideal S256x512 .f32) (ix2 p j)
      = c (ix2 p ⟨j.val % 128, by omega⟩) := by
  pointwise
  have hj := j.isLt
  split_ifs <;> congr 2 <;> apply Fin.ext <;> simp only <;> omega

theorem pay6 (v0 : Vec Ideal S256x1024 .f32) (w : Vec Ideal S1024x512 .bf16) (p : Fin 256) (j : Fin 512) : k0_pay9 v0 w (ix2 p j) = mm v0 w p j := by
  pointwise [k0_pay9, k0_pay5, mm]
  try rfl

theorem pay7 (v0 : Vec Ideal S256x1024 .f32) (w : Vec Ideal S1024x512 .bf16) (p : Fin 256) (j : Fin 512) : k0_pay10 v0 w (ix2 p j) = mm v0 w p j := by
  pointwise [k0_pay10, k0_pay5, mm]
  try rfl

theorem pay9 (v0 : Vec Ideal S256x1024 .f32) (w : Vec Ideal S1024x512 .bf16) (p : Fin 256) (j : Fin 512) : k0_pay12 v0 w (ix2 p j) = mm v0 w p j := by
  pointwise [k0_pay12, k0_pay5, mm]
  try rfl

theorem pay15 (v0 : Vec Ideal S256x1024 .f32) (w : Vec Ideal S1024x512 .bf16) (p : Fin 256) (j : Fin 512) : k0_pay18 (k0_pay5 v0) w (ix2 p j) = mm v0 w p j := by
  pointwise [k0_pay18, k0_pay5, mm]
  try rfl

theorem pay14 (z c s1 s2 : FVec Ideal S256x512 .f32) (p : Fin 256) (j : Fin 512) :
    k0_pay17 z s1 s2 (mulf z c) (dynamicRotate 1 504#32 none z rotates_S256x512_d1) (ix2 p j)
      = z (ix2 p j) * c (ix2 p j) + z (ix2 p ⟨(j.val + 512 - 504) % 512, by omega⟩) * s1 (ix2 p j)
        + z (ix2 p ⟨(j.val + 512 - 8) % 512, by omega⟩) * s2 (ix2 p j) := by
  pointwise [k0_pay17]
  try rfl

/-- The rotated keys. -/
theorem keys (v0 : Vec Ideal S256x1024 .f32) (v3 v5 v7 : Vec Ideal S256x128 .f32) (w : Vec Ideal S1024x512 .bf16) (p : Fin 256) (j : Fin 512) :
    k0_pay17 (k0_pay12 v0 w) (k0_pay13 v5) (k0_pay14 v7) (k0_pay15 v0 v3 w) (k0_pay16 v0 w) (ix2 p j)
      = krope 512 (by decide) (fun e => mm v0 w p e) (fun l => v3 (ix2 p l)) (fun l => v5 (ix2 p l)) (fun l => v7 (ix2 p l)) j := by
  refine (pay14 (k0_pay12 v0 w) _ _ _ p j).trans ?_
  rw [pay9, pay9, pay9, k0_pay13, k0_pay14, four, four, four]
  pointwise [k0_pay6, k0_pay7, k0_pay8, krope]
  try rfl

/-- The rotated queries. -/
theorem queries (v0 : Vec Ideal S256x1024 .f32) (v3 v5 v7 : Vec Ideal S256x128 .f32) (w : Vec Ideal S1024x512 .bf16) (p : Fin 256) (j : Fin 512) : k0_pay11 v0 v3 v5 v7 w (ix2 p j) = krope 512 (by decide) (fun e => mm v0 w p e) (fun l => v3 (ix2 p l)) (fun l => v5 (ix2 p l)) (fun l => v7 (ix2 p l)) j :=
  keys v0 v3 v5 v7 w p j

/-- The rotated index queries. -/
theorem idxqueries (v0 : Vec Ideal S256x1024 .f32) (v3 v5 v7 : Vec Ideal S256x128 .f32) (w : Vec Ideal S1024x512 .bf16) (p : Fin 256) (j : Fin 512) :
    k0_pay19 (k0_pay5 v0) (k0_pay6 v3) (k0_pay7 v5) (k0_pay8 v7) w (ix2 p j) = krope 512 (by decide) (fun e => mm v0 w p e) (fun l => v3 (ix2 p l)) (fun l => v5 (ix2 p l)) (fun l => v7 (ix2 p l)) j :=
  keys v0 v3 v5 v7 w p j

theorem lane : ∀ l : Fin 128, IntOp.cmpi .slt (BitVec.ofNat 32 l.val) 64#32 = if l.val < 64 then 1 else 0 := by decide +kernel

/-- The tail columns: the rotated index key, then the index weights. -/
theorem tail (v0 : Vec Ideal S256x1024 .f32) (v3 v5 v7 : Vec Ideal S256x128 .f32) (w : Vec Ideal S1024x128 .bf16) (p : Fin 256) (j : Fin 128) :
    k0_pay20 (k0_pay5 v0) (k0_pay6 v3) (k0_pay7 v5) (k0_pay8 v7) w (ix2 p j)
      = krope 128 (by decide) (fun e => mm v0 w p e) (fun l => if l.val < 64 then v3 (ix2 p l) else 1)
          (fun l => if l.val < 64 then v5 (ix2 p l) else 0) (fun l => if l.val < 64 then v7 (ix2 p l) else 0) j := by
  have h := lane j
  have hj : (⟨j.val % 128, by omega⟩ : Fin 128) = j := Fin.ext (Nat.mod_eq_of_lt j.isLt)
  unfold krope
  rw [hj]
  pointwise [k0_pay20, k0_pay5, k0_pay6, k0_pay7, k0_pay8, mm]
  rw [h]
  split_ifs
  · rfl
  · rw [mul_zero, mul_zero]; rfl

/-- One row of the block against column `lo + e` of the padded weights. -/
def col {n : ℕ} (x0 : Vec Ideal S256x1024 .f32) (x1 : Vec Ideal S1024x3200 .bf16) (lo : ℕ) (h : lo + n ≤ 3200) (p : Fin 256) (e : Fin n) : EReal :=
  ∑ k, x0 (ix2 p k) * x1 (ix2 k ⟨lo + e.val, by omega⟩)

/-- The rotated columns from `lo`. -/
def rcol (x0 : Vec Ideal S256x1024 .f32) (x1 : Vec Ideal S1024x3200 .bf16) (x2 x3 x4 : Vec Ideal S256x128 .f32) (lo : ℕ) (h : lo + 512 ≤ 3200) (p : Fin 256) (j : Fin 512) : EReal :=
  krope 512 (by decide) (fun e => col x0 x1 lo h p e) (fun l => x2 (ix2 p l)) (fun l => x3 (ix2 p l)) (fun l => x4 (ix2 p l)) j

theorem ld2 (x0 : Vec Ideal S256x1024 .f32) (x1 : Vec Ideal S1024x3200 .bf16) (p : Fin 256) (e : Fin 512) :
    mm x0 (View.ld x1 r0_2) p e = col x0 x1 0 (by decide) p e := by
  unfold mm col
  pointwise
  try rfl

theorem ld3 (x0 : Vec Ideal S256x1024 .f32) (x1 : Vec Ideal S1024x3200 .bf16) (p : Fin 256) (e : Fin 512) :
    mm x0 (View.ld x1 r0_3) p e = col x0 x1 512 (by decide) p e := by
  unfold mm col
  pointwise
  try rfl

theorem ld4 (x0 : Vec Ideal S256x1024 .f32) (x1 : Vec Ideal S1024x3200 .bf16) (p : Fin 256) (e : Fin 512) :
    mm x0 (View.ld x1 r0_4) p e = col x0 x1 1024 (by decide) p e := by
  unfold mm col
  pointwise
  try rfl

theorem ld5 (x0 : Vec Ideal S256x1024 .f32) (x1 : Vec Ideal S1024x3200 .bf16) (p : Fin 256) (e : Fin 512) :
    mm x0 (View.ld x1 r0_5) p e = col x0 x1 1536 (by decide) p e := by
  unfold mm col
  pointwise
  try rfl

theorem ld6 (x0 : Vec Ideal S256x1024 .f32) (x1 : Vec Ideal S1024x3200 .bf16) (p : Fin 256) (e : Fin 512) :
    mm x0 (View.ld x1 r0_6) p e = col x0 x1 2048 (by decide) p e := by
  unfold mm col
  pointwise
  try rfl

theorem ld7 (x0 : Vec Ideal S256x1024 .f32) (x1 : Vec Ideal S1024x3200 .bf16) (p : Fin 256) (e : Fin 512) :
    mm x0 (View.ld x1 r0_7) p e = col x0 x1 2560 (by decide) p e := by
  unfold mm col
  pointwise
  try rfl

theorem ld8 (x0 : Vec Ideal S256x1024 .f32) (x1 : Vec Ideal S1024x3200 .bf16) (p : Fin 256) (e : Fin 128) :
    mm x0 (View.ld x1 r0_8) p e = col x0 x1 3072 (by decide) p e := by
  unfold mm col
  pointwise
  try rfl

/-- The tail columns. -/
def tcol (x0 : Vec Ideal S256x1024 .f32) (x1 : Vec Ideal S1024x3200 .bf16) (x2 x3 x4 : Vec Ideal S256x128 .f32) (p : Fin 256) (j : Fin 128) : EReal :=
  krope 128 (by decide) (fun e => col x0 x1 3072 (by decide) p e) (fun l => if l.val < 64 then x2 (ix2 p l) else 1)
    (fun l => if l.val < 64 then x3 (ix2 p l) else 0) (fun l => if l.val < 64 then x4 (ix2 p l) else 0) j

theorem whole0 (x0 : Vec Ideal S256x1024 .f32) : View.ld x0 r0_0 = x0 := by
  funext y; idx_vars y; pointwise; try rfl

theorem whole1 (x0 : Vec Ideal S256x128 .f32) : View.ld x0 r0_1 = x0 := by
  funext y; idx_vars y; pointwise; try rfl

theorem stored5 (x0 : Vec Ideal S256x1024 .f32) (x1 : Vec Ideal S1024x3200 .bf16) (x2 x3 x4 : Vec Ideal S256x128 .f32) (p : Fin 256) (j : Fin 512) : out0_5 x0 x1 x2 x3 x4 (ix2 p j) = col x0 x1 0 (by decide) p j := by
  frame_out
  exact (pay6 x0 _ p j).trans (ld2 x0 x1 p j)

theorem stored6 (x0 : Vec Ideal S256x1024 .f32) (x1 : Vec Ideal S1024x3200 .bf16) (x2 x3 x4 : Vec Ideal S256x128 .f32) (p : Fin 256) (j : Fin 512) : out0_6 x0 x1 x2 x3 x4 (ix2 p j) = col x0 x1 512 (by decide) p j := by
  frame_out
  exact (pay7 x0 _ p j).trans (ld3 x0 x1 p j)

theorem stored7 (x0 : Vec Ideal S256x1024 .f32) (x1 : Vec Ideal S1024x3200 .bf16) (x2 x3 x4 : Vec Ideal S256x128 .f32) (p : Fin 256) (j : Fin 512) : out0_7 x0 x1 x2 x3 x4 (ix2 p j) = rcol x0 x1 x2 x3 x4 1024 (by decide) p j * Ideal.ofBits FTy.f32 0x3E000000#32 := by
  frame_out
  pointwise [k0_pay1, k0_pay21]
  unfold rcol
  simp only [← ld4]
  exact congrArg (· * _) (queries x0 x2 x3 x4 (View.ld x1 r0_4) p j)

theorem stored8 (x0 : Vec Ideal S256x1024 .f32) (x1 : Vec Ideal S1024x3200 .bf16) (x2 x3 x4 : Vec Ideal S256x128 .f32) (p : Fin 256) (j : Fin 512) : out0_8 x0 x1 x2 x3 x4 (ix2 p j) = rcol x0 x1 x2 x3 x4 1536 (by decide) p j := by
  frame_out
  unfold k0_pay26
  unfold rcol
  simp only [← ld5]
  rw [whole0, whole1, whole1, whole1]
  exact keys x0 x2 x3 x4 (View.ld x1 r0_5) p j

theorem stored10 (x0 : Vec Ideal S256x1024 .f32) (x1 : Vec Ideal S1024x3200 .bf16) (x2 x3 x4 : Vec Ideal S256x128 .f32) (p : Fin 256) (j : Fin 512) : out0_10 x0 x1 x2 x3 x4 (ix2 p j) = col x0 x1 2048 (by decide) p j := by
  frame_out
  unfold k0_pay27 k0_pay22
  rw [whole0]
  exact (pay15 x0 _ p j).trans (ld6 x0 x1 p j)

theorem stored12 (x0 : Vec Ideal S256x1024 .f32) (x1 : Vec Ideal S1024x3200 .bf16) (x2 x3 x4 : Vec Ideal S256x128 .f32) (p : Fin 256) (j : Fin 512) : out0_12 x0 x1 x2 x3 x4 (ix2 p j) = rcol x0 x1 x2 x3 x4 2560 (by decide) p j := by
  frame_out
  pointwise [k0_pay4, k0_pay22, k0_pay23, k0_pay24, k0_pay25]
  unfold rcol
  simp only [← ld7]
  rw [whole0, whole1, whole1, whole1]
  exact idxqueries x0 x2 x3 x4 (View.ld x1 r0_7) p j

theorem stored13 (x0 : Vec Ideal S256x1024 .f32) (x1 : Vec Ideal S1024x3200 .bf16) (x2 x3 x4 : Vec Ideal S256x128 .f32) (p : Fin 256) (j : Fin 128) : out0_13 x0 x1 x2 x3 x4 (ix2 p j) = tcol x0 x1 x2 x3 x4 p j := by
  frame_out
  unfold tcol
  simp only [← ld8]
  unfold k0_pay22 k0_pay23 k0_pay24 k0_pay25
  rw [whole0, whole1, whole1, whole1]
  exact tail x0 x2 x3 x4 (View.ld x1 r0_8) p j

/-- Past the index key the columns are kept. -/
theorem tcol_keep (x0 : Vec Ideal S256x1024 .f32) (x1 : Vec Ideal S1024x3200 .bf16) (x2 x3 x4 : Vec Ideal S256x128 .f32) (p : Fin 256) (j : Fin 128) (hj : ¬ j.val < 64) : tcol x0 x1 x2 x3 x4 p j = col x0 x1 3072 (by decide) p j := by
  have hl : ¬ j.val % 128 < 64 := by omega
  exact krope_keep _ _ _ _ _ _ _ (if_neg hl) (if_neg hl) (if_neg hl)

theorem rcol_rope (x0 : Vec Ideal S256x1024 .f32) (x1 : Vec Ideal S1024x3200 .bf16) (x2 x3 x4 : Vec Ideal S256x128 .f32) (lo : ℕ) (h : lo + 512 ≤ 3200) (p : Fin 256) (j : Fin 512) (C S : Fin 8 → EReal) (zz : Fin 64 → EReal)
    (h2 : ∀ l, x2 (ix2 p l) = tc C l) (h3 : ∀ l, x3 (ix2 p l) = ts1 S l) (h4 : ∀ l, x4 (ix2 p l) = ts2 S l)
    (hz : ∀ d : Fin 64, col x0 x1 lo h p ⟨j.val / 64 * 64 + d.val, by omega⟩ = zz d) :
    rcol x0 x1 x2 x3 x4 lo h p j = rope C S zz ⟨j.val % 64, by omega⟩ := by
  have hj : j = ⟨j.val / 64 * 64 + j.val % 64, by omega⟩ := Fin.ext (by simp only; omega)
  obtain rfl : (fun d : Fin 64 => col x0 x1 lo h p ⟨j.val / 64 * 64 + d.val, by omega⟩) = zz := funext hz
  refine (congrArg (rcol x0 x1 x2 x3 x4 lo h p) hj).trans ?_
  exact krope_eq 512 (by decide) _ _ _ _ C S (j.val / 64) ⟨j.val % 64, by omega⟩ (fun d => by omega) (fun l _ _ => h2 l)
    (fun l _ _ => h3 l) (fun l _ _ => h4 l)

theorem tcol_rope (x0 : Vec Ideal S256x1024 .f32) (x1 : Vec Ideal S1024x3200 .bf16) (x2 x3 x4 : Vec Ideal S256x128 .f32) (p : Fin 256) (d : Fin 64) (C S : Fin 8 → EReal) (zz : Fin 64 → EReal)
    (h2 : ∀ l, x2 (ix2 p l) = tc C l) (h3 : ∀ l, x3 (ix2 p l) = ts1 S l) (h4 : ∀ l, x4 (ix2 p l) = ts2 S l)
    (hz : ∀ d : Fin 64, col x0 x1 3072 (n := 128) (by decide) p ⟨0 * 64 + d.val, by omega⟩ = zz d) :
    tcol x0 x1 x2 x3 x4 p ⟨d.val, by omega⟩ = rope C S zz d := by
  have hj : (⟨d.val, by omega⟩ : Fin 128) = ⟨0 * 64 + d.val, by omega⟩ := Fin.ext (by simp only; omega)
  obtain rfl : (fun d : Fin 64 => col x0 x1 3072 (n := 128) (by decide) p ⟨0 * 64 + d.val, by omega⟩) = zz := funext hz
  refine (congrArg (tcol x0 x1 x2 x3 x4 p) hj).trans ?_
  exact krope_eq 128 (by decide) _ _ _ _ C S 0 d (fun d => by omega) (fun l _ hl => (if_pos (by omega)).trans (h2 l))
    (fun l _ hl => (if_pos (by omega)).trans (h3 l)) (fun l _ hl => (if_pos (by omega)).trans (h4 l))

end Cert.ProjSIdeal.Value
-- ==== Proof.ProjSEntry.lean ====
module

public import proofs.«01_k».proof.Proof.ProjSKernel

/-!
What the blocks of the projection call on the new tokens hold: the inputs, the weights and the tables.
-/

@[expose] public section

set_option maxRecDepth 16384

noncomputable section

open Idealize.ShloMosaic Idealize.ShloMosaic.TcCoe Idealize.SL.Sem
open Idealize.ShloMosaic.Pipeline (Dat)

namespace Cert.ProjSIdeal.Value

open Cert.ProjSIdeal Cert.ProjSIdeal.Gen Cert.ProjMath

variable (m : (ℓ : Loc nD τ sig) → Buf (Elt Ideal) ℓ)

/-- The inputs and the weights. -/
def aX (c : Dev nD) : FVec Ideal S128x4x1024 .f32 := m ((c : Thread nD τ).loc main_arg0)
def aW (c : Dev nD) : FVec Ideal S1x1024x3144 .f32 := m ((c : Thread nD τ).loc main_arg1)

/-- The projection of token `(b, s)` on column `e` of the weights. -/
def Z (c : Dev nD) (b : Fin 128) (s : Fin 4) (e : Fin 3144) : EReal :=
  ∑ k, aX m c (ix3 b s k) * aW m c (ix3 0 k e)

/-- The angles of the new token `s`. -/
def ang8 (s : Fin 4) (i : Fin 8) : EReal :=
  sitofp (F := Ideal) .f32 posv (ix1 s) * freqs (ix1 i)

/-- The rotated head at columns `lo + 64 h`. -/
def R (c : Dev nD) (lo : ℕ) (hlo : lo + 512 ≤ 3144) (b : Fin 128) (s : Fin 4) (h : Fin 8) (d : Fin 64) : EReal :=
  rope (fun i => Ideal.cos (ang8 s i)) (fun i => Ideal.sin (ang8 s i)) (fun d => Z m c b s ⟨lo + (h.val * 64 + d.val), by omega⟩) d

/-- The rotated index key. -/
def K (c : Dev nD) (b : Fin 128) (s : Fin 4) (d : Fin 64) : EReal :=
  rope (fun i => Ideal.cos (ang8 s i)) (fun i => Ideal.sin (ang8 s i)) (fun d => Z m c b s ⟨3072 + d.val, by omega⟩) d

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_10.index t = ![t.val, 0]
    ∧ win0_12.index t = ![t.val, 0] ∧ win0_13.index t = ![t.val, 0] ∧ t.val < 2 :=
  (by decide +kernel : ∀ t : Fin grid0.N, _)

theorem lt2 (t : Fin cfg0.N) : t.val < 2 := (idx t).2.2.2.2.2.2.2.2.2.2.2.2

/-- The row of the flattened tokens, the sequence and the token a block's row belongs to. -/
def row (t : Fin cfg0.N) (p : Fin 256) : Fin 512 := ⟨t.val * 256 + p.val, by have := lt2 t; omega⟩
def bat (t : Fin cfg0.N) (p : Fin 256) : Fin 128 := ⟨(row t p).val / 4, by omega⟩
def pos (t : Fin cfg0.N) (p : Fin 256) : Fin 4 := ⟨(row t p).val % 4, by omega⟩

theorem ent0 (c : Dev nD) : (V m c main_v6 : FVec Ideal S512x1024 .f32)
    = shapeCast S512x1024 (aX m c) shapeCasts_S128x4x1024_S512x1024 := by
  simp only [V, V0, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

theorem ent1 (c : Dev nD) : (V m c main_v9 : FVec Ideal S1024x3200 .bf16)
    = (truncf (F := Ideal) .bf16 (pad S1024x3200 ![0, 0] ![0, 56] ![0, 0] (shapeCast S1024x3144 (aW m c)
        shapeCasts_S1x1024x3144_S1024x3144) (sitofp .f32 (constantI S_ 32 0#32)) pads_S1024x3144_S1024x3200_000_0560 h_S_) bitsLt_bf16_f32 : FVec Ideal S1024x3200 .bf16) := by
  simp only [V, V0, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

theorem emb0 (t : Fin cfg0.N) (p : Fin 256) (k : Fin 1024) : ((cfg0.win 0).blk t).view.emb (ix2 p k) = (ix2 (row t p) k : S512x1024.Idx) := by
  blk_ext [idx t, row]

theorem emb1 (t : Fin cfg0.N) (k : Fin 1024) (e : Fin 3200) : ((cfg0.win 1).blk t).view.emb (ix2 k e) = (ix2 k e : S1024x3200.Idx) := by
  blk_ext [idx t]

theorem emb2 (t : Fin cfg0.N) (p : Fin 256) (l : Fin 128) : ((cfg0.win 2).blk t).view.emb (ix2 p l) = (ix2 (row t p) l : S512x128.Idx) := by
  blk_ext [idx t, row]

theorem emb3 (t : Fin cfg0.N) (p : Fin 256) (l : Fin 128) : ((cfg0.win 3).blk t).view.emb (ix2 p l) = (ix2 (row t p) l : S512x128.Idx) := by
  blk_ext [idx t, row]

theorem emb4 (t : Fin cfg0.N) (p : Fin 256) (l : Fin 128) : ((cfg0.win 4).blk t).view.emb (ix2 p l) = (ix2 (row t p) l : S512x128.Idx) := by
  blk_ext [idx t, row]

theorem emb5 (t : Fin cfg0.N) (p : Fin 256) (l : Fin 512) : ((cfg0.win 5).blk t).view.emb (ix2 p l) = (ix2 (row t p) l : S512x512.Idx) := by
  blk_ext [idx t, row]

theorem emb6 (t : Fin cfg0.N) (p : Fin 256) (l : Fin 512) : ((cfg0.win 6).blk t).view.emb (ix2 p l) = (ix2 (row t p) l : S512x512.Idx) := by
  blk_ext [idx t, row]

theorem emb7 (t : Fin cfg0.N) (p : Fin 256) (l : Fin 512) : ((cfg0.win 7).blk t).view.emb (ix2 p l) = (ix2 (row t p) l : S512x512.Idx) := by
  blk_ext [idx t, row]

theorem emb8 (t : Fin cfg0.N) (p : Fin 256) (l : Fin 512) : ((cfg0.win 8).blk t).view.emb (ix2 p l) = (ix2 (row t p) l : S512x512.Idx) := by
  blk_ext [idx t, row]

theorem emb10 (t : Fin cfg0.N) (p : Fin 256) (l : Fin 512) : ((cfg0.win 10).blk t).view.emb (ix2 p l) = (ix2 (row t p) l : S512x512.Idx) := by
  blk_ext [idx t, row]

theorem emb12 (t : Fin cfg0.N) (p : Fin 256) (l : Fin 512) : ((cfg0.win 12).blk t).view.emb (ix2 p l) = (ix2 (row t p) l : S512x512.Idx) := by
  blk_ext [idx t, row]

theorem emb13 (t : Fin cfg0.N) (p : Fin 256) (l : Fin 128) : ((cfg0.win 13).blk t).view.emb (ix2 p l) = (ix2 (row t p) l : S512x128.Idx) := by
  blk_ext [idx t, row]

theorem flat (x : FVec Ideal S128x4x1024 .f32) (r : Fin 512) (k : Fin 1024) :
    shapeCast S512x1024 x shapeCasts_S128x4x1024_S512x1024 (ix2 r k) = x (ix3 ⟨r.val / 4, by omega⟩ ⟨r.val % 4, by omega⟩ k) := by
  pointwise

theorem rd0 (c : Dev nD) (t : Fin cfg0.N) (p : Fin 256) (k : Fin 1024) : iblk m c 0 t (ix2 p k)
    = aX m c (ix3 (bat t p) (pos t p) k) :=
  (congrArg (V m c main_v6) (emb0 t p k)).trans ((congrFun (ent0 m c) _).trans (flat _ _ _))

theorem rd1 (c : Dev nD) (t : Fin cfg0.N) (k : Fin 1024) (e : Fin 3200) (he : e.val < 3144) : iblk m c 1 t (ix2 k e)
    = aW m c (ix3 0 k ⟨e.val, he⟩) := by
  refine (congrArg (V m c main_v9) (emb1 t k e)).trans ((congrFun (ent1 m c) _).trans ?_)
  pointwise
  exact dif_pos he

/-- The padding columns are zero. -/
theorem rd1z (c : Dev nD) (t : Fin cfg0.N) (k : Fin 1024) (e : Fin 3200) (he : ¬ e.val < 3144) : iblk m c 1 t (ix2 k e) = (0 : EReal) := by
  refine (congrArg (V m c main_v9) (emb1 t k e)).trans ((congrFun (ent1 m c) _).trans ?_)
  pointwise
  refine (dif_neg he).trans ?_
  change (((0#32 : BitVec 32).toInt : ℝ) : EReal) = 0
  simp

theorem rd2 (c : Dev nD) (t : Fin cfg0.N) (p : Fin 256) (l : Fin 128) : iblk m c 2 t (ix2 p l) = tc (fun i => Ideal.cos (ang8 (pos t p) i)) l :=
  (congrArg (V m c main_v36) (emb2 t p l)).trans (tabC_at m c (row t p) l)

theorem rd3 (c : Dev nD) (t : Fin cfg0.N) (p : Fin 256) (l : Fin 128) : iblk m c 3 t (ix2 p l) = ts1 (fun i => Ideal.sin (ang8 (pos t p) i)) l :=
  (congrArg (V m c main_v40) (emb3 t p l)).trans (tabS1_at m c (row t p) l)

theorem rd4 (c : Dev nD) (t : Fin cfg0.N) (p : Fin 256) (l : Fin 128) : iblk m c 4 t (ix2 p l) = ts2 (fun i => Ideal.sin (ang8 (pos t p) i)) l :=
  (congrArg (V m c main_v46) (emb4 t p l)).trans (tabS2_at m c (row t p) l)

theorem colZ {n : ℕ} (c : Dev nD) (t : Fin cfg0.N) (lo : ℕ) (h : lo + n ≤ 3200) (p : Fin 256) (e : Fin n) (he : lo + e.val < 3144) :
    col (iblk m c 0 t) (iblk m c 1 t) lo h p e = Z m c (bat t p) (pos t p) ⟨lo + e.val, he⟩ := by
  unfold col Z
  refine Finset.sum_congr rfl fun k _ => ?_
  rw [rd0, rd1 m c t k _ he]

theorem colZ0 {n : ℕ} (c : Dev nD) (t : Fin cfg0.N) (lo : ℕ) (h : lo + n ≤ 3200) (p : Fin 256) (e : Fin n) (he : ¬ lo + e.val < 3144) :
    col (iblk m c 0 t) (iblk m c 1 t) lo h p e = 0 := by
  unfold col
  refine Finset.sum_eq_zero fun k _ => ?_
  rw [rd1z m c t k _ he, mul_zero]

end Cert.ProjSIdeal.Value
-- ==== Proof.ProjSFinal.lean ====
module

public import proofs.«01_k».proof.Proof.ProjSEntry

/-!
The arrays after the run of the projection call on the new tokens: each an expression in the launch's inputs and weights.
-/

@[expose] public section

set_option maxRecDepth 16384

noncomputable section

open Idealize.ShloMosaic Idealize.ShloMosaic.TcCoe Idealize.SL.Sem
open Idealize.ShloMosaic.Pipeline (Dat)

namespace Cert.ProjSIdeal.Value

open Cert.ProjSIdeal Cert.ProjSIdeal.Gen Cert.ProjMath

variable (m : (ℓ : Loc nD τ sig) → Buf (Elt Ideal) ℓ)

theorem rcolR (c : Dev nD) (t : Fin cfg0.N) (lo : ℕ) (h : lo + 512 ≤ 3200) (hlo : lo + 512 ≤ 3144) (p : Fin 256) (j : Fin 512) :
    rcol (iblk m c 0 t) (iblk m c 1 t) (iblk m c 2 t) (iblk m c 3 t) (iblk m c 4 t) lo h p j = R m c lo hlo (bat t p) (pos t p) ⟨j.val / 64, by omega⟩ ⟨j.val % 64, by omega⟩ :=
  rcol_rope _ _ _ _ _ lo h p j (fun i => Ideal.cos (ang8 (pos t p) i)) (fun i => Ideal.sin (ang8 (pos t p) i)) _
    (rd2 m c t p) (rd3 m c t p) (rd4 m c t p) (fun d => colZ m c t lo h p _ (by simp only; omega))

theorem tcolK (c : Dev nD) (t : Fin cfg0.N) (p : Fin 256) (d : Fin 64) :
    tcol (iblk m c 0 t) (iblk m c 1 t) (iblk m c 2 t) (iblk m c 3 t) (iblk m c 4 t) p ⟨d.val, by omega⟩ = K m c (bat t p) (pos t p) d :=
  tcol_rope _ _ _ _ _ p d (fun i => Ideal.cos (ang8 (pos t p) i)) (fun i => Ideal.sin (ang8 (pos t p) i)) _
    (rd2 m c t p) (rd3 m c t p) (rd4 m c t p) (fun d => (colZ m c t 3072 (n := 128) (by decide) p _ (by simp only; omega)).trans
      (congrArg (Z m c _ _) (Fin.ext (by simp only; omega))))

/-- The tail columns of a token: the rotated index key, the index weights, and zeros. -/
def tl (c : Dev nD) (b : Fin 128) (s : Fin 4) (j : Fin 128) : EReal :=
  if h : j.val < 64 then K m c b s ⟨j.val, h⟩ else if h' : 3072 + j.val < 3144 then Z m c b s ⟨3072 + j.val, h'⟩ else 0

theorem tcolT (c : Dev nD) (t : Fin cfg0.N) (p : Fin 256) (j : Fin 128) : tcol (iblk m c 0 t) (iblk m c 1 t) (iblk m c 2 t) (iblk m c 3 t) (iblk m c 4 t) p j = tl m c (bat t p) (pos t p) j := by
  unfold tl
  by_cases h : j.val < 64
  · rw [dif_pos h]
    exact tcolK m c t p ⟨j.val, h⟩
  · rw [dif_neg h]
    refine (tcol_keep _ _ _ _ _ p j h).trans ?_
    by_cases h' : 3072 + j.val < 3144
    · rw [dif_pos h']
      exact colZ m c t 3072 (by decide) p j h'
    · rw [dif_neg h']
      exact colZ0 m c t 3072 (by decide) p j h'

/-- The arrays. -/
def T5 (c : Dev nD) : FVec Ideal S512x512 .f32 := fun i =>
  Z m c ⟨(i 0).val / 4, by have h := (i 0).isLt; change _ < 512 at h; omega⟩ ⟨(i 0).val % 4, by omega⟩ ⟨0 + (i 1).val, by have h := (i 1).isLt; change _ < 512 at h; omega⟩

def T6 (c : Dev nD) : FVec Ideal S512x512 .f32 := fun i =>
  Z m c ⟨(i 0).val / 4, by have h := (i 0).isLt; change _ < 512 at h; omega⟩ ⟨(i 0).val % 4, by omega⟩ ⟨512 + (i 1).val, by have h := (i 1).isLt; change _ < 512 at h; omega⟩

def T10 (c : Dev nD) : FVec Ideal S512x512 .f32 := fun i =>
  Z m c ⟨(i 0).val / 4, by have h := (i 0).isLt; change _ < 512 at h; omega⟩ ⟨(i 0).val % 4, by omega⟩ ⟨2048 + (i 1).val, by have h := (i 1).isLt; change _ < 512 at h; omega⟩

def T7 (c : Dev nD) : FVec Ideal S512x512 .bf16 := fun i =>
  R m c 1024 (by decide) ⟨(i 0).val / 4, by have h := (i 0).isLt; change _ < 512 at h; omega⟩ ⟨(i 0).val % 4, by omega⟩ ⟨(i 1).val / 64, by have h := (i 1).isLt; change _ < 512 at h; omega⟩ ⟨(i 1).val % 64, by omega⟩ * Ideal.ofBits FTy.f32 0x3E000000#32

def T8 (c : Dev nD) : FVec Ideal S512x512 .f32 := fun i =>
  R m c 1536 (by decide) ⟨(i 0).val / 4, by have h := (i 0).isLt; change _ < 512 at h; omega⟩ ⟨(i 0).val % 4, by omega⟩ ⟨(i 1).val / 64, by have h := (i 1).isLt; change _ < 512 at h; omega⟩ ⟨(i 1).val % 64, by omega⟩

def T12 (c : Dev nD) : FVec Ideal S512x512 .bf16 := fun i =>
  R m c 2560 (by decide) ⟨(i 0).val / 4, by have h := (i 0).isLt; change _ < 512 at h; omega⟩ ⟨(i 0).val % 4, by omega⟩ ⟨(i 1).val / 64, by have h := (i 1).isLt; change _ < 512 at h; omega⟩ ⟨(i 1).val % 64, by omega⟩

def T13 (c : Dev nD) : FVec Ideal S512x128 .f32 := fun i => tl m c ⟨(i 0).val / 4, by have h := (i 0).isLt; change _ < 512 at h; omega⟩ ⟨(i 0).val % 4, by omega⟩ (i 1)

theorem point5 (c : Dev nD) (t : Fin cfg0.N) (p : Fin 256) (q : Fin 512) : (out0_5 (iblk m c 0 t) (iblk m c 1 t) (iblk m c 2 t) (iblk m c 3 t) (iblk m c 4 t) : FVec Ideal S256x512 .f32) (ix2 p q)
    = T5 m c (((cfg0.win 5).blk t).view.emb (ix2 p q)) := by
  refine Eq.trans ?_ (congrArg (T5 m c) (emb5 t p q)).symm
  refine (stored5 _ _ _ _ _ p q).trans ?_
  exact colZ m c t 0 (by decide) p q (by omega)

theorem final5 (c : Dev nD) : (dats m 0 c).arrAt 5 (cfgs 0).N = T5 m c := by
  refine (dats m 0 c).arrAt_eq_of_covers 5 _ (by decide +kernel) fun t _ y => ?_
  blk_simp
  rw [after0_5]
  idx_vars y
  exact point5 m c t _ _

theorem point6 (c : Dev nD) (t : Fin cfg0.N) (p : Fin 256) (q : Fin 512) : (out0_6 (iblk m c 0 t) (iblk m c 1 t) (iblk m c 2 t) (iblk m c 3 t) (iblk m c 4 t) : FVec Ideal S256x512 .f32) (ix2 p q)
    = T6 m c (((cfg0.win 6).blk t).view.emb (ix2 p q)) := by
  refine Eq.trans ?_ (congrArg (T6 m c) (emb6 t p q)).symm
  refine (stored6 _ _ _ _ _ p q).trans ?_
  exact colZ m c t 512 (by decide) p q (by omega)

theorem final6 (c : Dev nD) : (dats m 0 c).arrAt 6 (cfgs 0).N = T6 m c := by
  refine (dats m 0 c).arrAt_eq_of_covers 6 _ (by decide +kernel) fun t _ y => ?_
  blk_simp
  rw [after0_6]
  idx_vars y
  exact point6 m c t _ _

theorem point10 (c : Dev nD) (t : Fin cfg0.N) (p : Fin 256) (q : Fin 512) : (out0_10 (iblk m c 0 t) (iblk m c 1 t) (iblk m c 2 t) (iblk m c 3 t) (iblk m c 4 t) : FVec Ideal S256x512 .f32) (ix2 p q)
    = T10 m c (((cfg0.win 10).blk t).view.emb (ix2 p q)) := by
  refine Eq.trans ?_ (congrArg (T10 m c) (emb10 t p q)).symm
  refine (stored10 _ _ _ _ _ p q).trans ?_
  exact colZ m c t 2048 (by decide) p q (by omega)

theorem final10 (c : Dev nD) : (dats m 0 c).arrAt 10 (cfgs 0).N = T10 m c := by
  refine (dats m 0 c).arrAt_eq_of_covers 10 _ (by decide +kernel) fun t _ y => ?_
  blk_simp
  rw [after0_10]
  idx_vars y
  exact point10 m c t _ _

theorem point7 (c : Dev nD) (t : Fin cfg0.N) (p : Fin 256) (q : Fin 512) : (out0_7 (iblk m c 0 t) (iblk m c 1 t) (iblk m c 2 t) (iblk m c 3 t) (iblk m c 4 t) : FVec Ideal S256x512 .bf16) (ix2 p q)
    = T7 m c (((cfg0.win 7).blk t).view.emb (ix2 p q)) := by
  refine Eq.trans ?_ (congrArg (T7 m c) (emb7 t p q)).symm
  refine (stored7 _ _ _ _ _ p q).trans ?_
  exact congrArg (· * _) (rcolR m c t 1024 (by decide) (by decide) p q)

theorem final7 (c : Dev nD) : (dats m 0 c).arrAt 7 (cfgs 0).N = T7 m c := by
  refine (dats m 0 c).arrAt_eq_of_covers 7 _ (by decide +kernel) fun t _ y => ?_
  blk_simp
  rw [after0_7]
  idx_vars y
  exact point7 m c t _ _

theorem point8 (c : Dev nD) (t : Fin cfg0.N) (p : Fin 256) (q : Fin 512) : (out0_8 (iblk m c 0 t) (iblk m c 1 t) (iblk m c 2 t) (iblk m c 3 t) (iblk m c 4 t) : FVec Ideal S256x512 .f32) (ix2 p q)
    = T8 m c (((cfg0.win 8).blk t).view.emb (ix2 p q)) := by
  refine Eq.trans ?_ (congrArg (T8 m c) (emb8 t p q)).symm
  refine (stored8 _ _ _ _ _ p q).trans ?_
  exact rcolR m c t 1536 (by decide) (by decide) p q

theorem final8 (c : Dev nD) : (dats m 0 c).arrAt 8 (cfgs 0).N = T8 m c := by
  refine (dats m 0 c).arrAt_eq_of_covers 8 _ (by decide +kernel) fun t _ y => ?_
  blk_simp
  rw [after0_8]
  idx_vars y
  exact point8 m c t _ _

theorem point12 (c : Dev nD) (t : Fin cfg0.N) (p : Fin 256) (q : Fin 512) : (out0_12 (iblk m c 0 t) (iblk m c 1 t) (iblk m c 2 t) (iblk m c 3 t) (iblk m c 4 t) : FVec Ideal S256x512 .bf16) (ix2 p q)
    = T12 m c (((cfg0.win 12).blk t).view.emb (ix2 p q)) := by
  refine Eq.trans ?_ (congrArg (T12 m c) (emb12 t p q)).symm
  refine (stored12 _ _ _ _ _ p q).trans ?_
  exact rcolR m c t 2560 (by decide) (by decide) p q

theorem final12 (c : Dev nD) : (dats m 0 c).arrAt 12 (cfgs 0).N = T12 m c := by
  refine (dats m 0 c).arrAt_eq_of_covers 12 _ (by decide +kernel) fun t _ y => ?_
  blk_simp
  rw [after0_12]
  idx_vars y
  exact point12 m c t _ _

theorem point13 (c : Dev nD) (t : Fin cfg0.N) (p : Fin 256) (q : Fin 128) : (out0_13 (iblk m c 0 t) (iblk m c 1 t) (iblk m c 2 t) (iblk m c 3 t) (iblk m c 4 t) : FVec Ideal S256x128 .f32) (ix2 p q)
    = T13 m c (((cfg0.win 13).blk t).view.emb (ix2 p q)) := by
  refine Eq.trans ?_ (congrArg (T13 m c) (emb13 t p q)).symm
  refine (stored13 _ _ _ _ _ p q).trans ?_
  exact tcolT m c t p q

theorem final13 (c : Dev nD) : (dats m 0 c).arrAt 13 (cfgs 0).N = T13 m c := by
  refine (dats m 0 c).arrAt_eq_of_covers 13 _ (by decide +kernel) fun t _ y => ?_
  blk_simp
  rw [after0_13]
  idx_vars y
  exact point13 m c t _ _

end Cert.ProjSIdeal.Value
-- ==== Proof.ProjSTail.lean ====
module

public import proofs.«01_k».proof.Proof.ProjSFinal

/-!
The results of the projection call on the new tokens: the arrays of the run reshaped by the host.
-/

@[expose] public section

set_option maxRecDepth 16384

noncomputable section

open Idealize.ShloMosaic Idealize.ShloMosaic.TcCoe Idealize.SL.Sem
open Idealize.ShloMosaic.Pipeline (Dat)

namespace Cert.ProjSIdeal.Value

open Cert.ProjSIdeal Cert.ProjSIdeal.Gen Cert.ProjMath

variable (m : (ℓ : Loc nD τ sig) → Buf (Elt Ideal) ℓ)

/-- A buffer after the host's lines that follow the call. -/
def res (c : Dev nD) (b : Ref sig .tc) : Buf (Elt Ideal) ((c.tc : Thread nD τ).loc b) :=
  Pipeline.afterTail₀ cfgs (dats m) 0 (V0 m) [hostOps1] c b

theorem arr5 (c : Dev nD) : (Pipeline.withArrays (cfgs 0).spec c (V0 m c) fun w => (dats m 0 c).arrAt w (cfgs 0).N) (Proc.devRef .tc main_v47_0) = T5 m c :=
  (Pipeline.withArrays_arr (cfgs 0).spec (by decide) c (V0 m c) _ 5).trans (final5 m c)

theorem arr6 (c : Dev nD) : (Pipeline.withArrays (cfgs 0).spec c (V0 m c) fun w => (dats m 0 c).arrAt w (cfgs 0).N) (Proc.devRef .tc main_v47_1) = T6 m c :=
  (Pipeline.withArrays_arr (cfgs 0).spec (by decide) c (V0 m c) _ 6).trans (final6 m c)

theorem arr7 (c : Dev nD) : (Pipeline.withArrays (cfgs 0).spec c (V0 m c) fun w => (dats m 0 c).arrAt w (cfgs 0).N) (Proc.devRef .tc main_v47_2) = T7 m c :=
  (Pipeline.withArrays_arr (cfgs 0).spec (by decide) c (V0 m c) _ 7).trans (final7 m c)

theorem arr8 (c : Dev nD) : (Pipeline.withArrays (cfgs 0).spec c (V0 m c) fun w => (dats m 0 c).arrAt w (cfgs 0).N) (Proc.devRef .tc main_v47_3) = T8 m c :=
  (Pipeline.withArrays_arr (cfgs 0).spec (by decide) c (V0 m c) _ 8).trans (final8 m c)

theorem arr10 (c : Dev nD) : (Pipeline.withArrays (cfgs 0).spec c (V0 m c) fun w => (dats m 0 c).arrAt w (cfgs 0).N) (Proc.devRef .tc main_v47_5) = T10 m c :=
  (Pipeline.withArrays_arr (cfgs 0).spec (by decide) c (V0 m c) _ 10).trans (final10 m c)

theorem arr12 (c : Dev nD) : (Pipeline.withArrays (cfgs 0).spec c (V0 m c) fun w => (dats m 0 c).arrAt w (cfgs 0).N) (Proc.devRef .tc main_v47_7) = T12 m c :=
  (Pipeline.withArrays_arr (cfgs 0).spec (by decide) c (V0 m c) _ 12).trans (final12 m c)

theorem arr13 (c : Dev nD) : (Pipeline.withArrays (cfgs 0).spec c (V0 m c) fun w => (dats m 0 c).arrAt w (cfgs 0).N) (Proc.devRef .tc main_v47_8) = T13 m c :=
  (Pipeline.withArrays_arr (cfgs 0).spec (by decide) c (V0 m c) _ 13).trans (final13 m c)

theorem v48_eq (c : Dev nD) : (res m c main_v48 : FVec Ideal S128x4x512 .f32) = (shapeCast S128x4x512 (T5 m c) shapeCasts_S512x512_S128x4x512 : FVec Ideal S128x4x512 .f32) := by
  rw [← arr5 m c]
  unfold res Pipeline.afterTail₀
  simp only [hostOps1, List.flatten_cons, List.flatten_nil, List.append_nil]
  after_results_simp
  try rfl

theorem v50_eq (c : Dev nD) : (res m c main_v50 : FVec Ideal S128x4x512 .f32) = (shapeCast S128x4x512 (T6 m c) shapeCasts_S512x512_S128x4x512 : FVec Ideal S128x4x512 .f32) := by
  rw [← arr6 m c]
  unfold res Pipeline.afterTail₀
  simp only [hostOps1, List.flatten_cons, List.flatten_nil, List.append_nil]
  after_results_simp
  try rfl

theorem v51_eq (c : Dev nD) : (res m c main_v51 : FVec Ideal S128x4x8x64 .bf16) = (shapeCast S128x4x8x64 (T7 m c) shapeCasts_S512x512_S128x4x8x64 : FVec Ideal S128x4x8x64 .bf16) := by
  rw [← arr7 m c]
  unfold res Pipeline.afterTail₀
  simp only [hostOps1, List.flatten_cons, List.flatten_nil, List.append_nil]
  after_results_simp
  try rfl

theorem v52_eq (c : Dev nD) : (res m c main_v52 : FVec Ideal S128x4x8x64 .f32) = (shapeCast S128x4x8x64 (T8 m c) shapeCasts_S512x512_S128x4x8x64 : FVec Ideal S128x4x8x64 .f32) := by
  rw [← arr8 m c]
  unfold res Pipeline.afterTail₀
  simp only [hostOps1, List.flatten_cons, List.flatten_nil, List.append_nil]
  after_results_simp
  try rfl

theorem v53_eq (c : Dev nD) : (res m c main_v53 : FVec Ideal S128x4x8x64 .f32) = (shapeCast S128x4x8x64 (T10 m c) shapeCasts_S512x512_S128x4x8x64 : FVec Ideal S128x4x8x64 .f32) := by
  rw [← arr10 m c]
  unfold res Pipeline.afterTail₀
  simp only [hostOps1, List.flatten_cons, List.flatten_nil, List.append_nil]
  after_results_simp
  try rfl

theorem v54_eq (c : Dev nD) : (res m c main_v54 : FVec Ideal S128x4x8x64 .bf16) = (shapeCast S128x4x8x64 (T12 m c) shapeCasts_S512x512_S128x4x8x64 : FVec Ideal S128x4x8x64 .bf16) := by
  rw [← arr12 m c]
  unfold res Pipeline.afterTail₀
  simp only [hostOps1, List.flatten_cons, List.flatten_nil, List.append_nil]
  after_results_simp
  try rfl

theorem v55_eq (c : Dev nD) : (res m c main_v55 : FVec Ideal S128x4x64 .f32) = (extractStridedSlice S128x4x64 ![0, 0, 0] (shapeCast S128x4x128 (T13 m c) shapeCasts_S512x128_S128x4x128) slices_S128x4x128_S128x4x64_0_0_0 : FVec Ideal S128x4x64 .f32) := by
  rw [← arr13 m c]
  unfold res Pipeline.afterTail₀
  simp only [hostOps1, List.flatten_cons, List.flatten_nil, List.append_nil]
  after_results_simp
  try rfl

theorem v56_eq (c : Dev nD) : (res m c main_v56 : FVec Ideal S128x4x8 .f32) = (extractStridedSlice S128x4x8 ![0, 0, 64] (shapeCast S128x4x128 (T13 m c) shapeCasts_S512x128_S128x4x128) slices_S128x4x128_S128x4x8_0_0_64 : FVec Ideal S128x4x8 .f32) := by
  rw [← arr13 m c]
  unfold res Pipeline.afterTail₀
  simp only [hostOps1, List.flatten_cons, List.flatten_nil, List.append_nil]
  after_results_simp
  try rfl

theorem v57_eq (c : Dev nD) : (res m c main_v57 : FVec Ideal S128x3x512 .f32) = (extractStridedSlice S128x3x512 ![0, 1, 0] (shapeCast S128x4x512 (T5 m c) shapeCasts_S512x512_S128x4x512) slices_S128x4x512_S128x3x512_0_1_0 : FVec Ideal S128x3x512 .f32) := by
  rw [← arr5 m c]
  unfold res Pipeline.afterTail₀
  simp only [hostOps1, List.flatten_cons, List.flatten_nil, List.append_nil]
  after_results_simp
  try rfl

theorem rows_at (x : FVec Ideal S512x512 .f32) (b : Fin 128) (s : Fin 4) (e : Fin 512) :
    shapeCast S128x4x512 x shapeCasts_S512x512_S128x4x512 (ix3 b s e) = x (ix2 ⟨b.val * 4 + s.val, by omega⟩ e) := by
  pointwise
  try rfl

theorem heads_at {φ : FTy} (x : FVec Ideal S512x512 φ) (b : Fin 128) (s : Fin 4) (h : Fin 8) (d : Fin 64) :
    shapeCast S128x4x8x64 x shapeCasts_S512x512_S128x4x8x64 (ix4 b s h d) = x (ix2 ⟨b.val * 4 + s.val, by omega⟩ ⟨h.val * 64 + d.val, by omega⟩) := by
  pointwise
  try rfl

theorem tail_at (x : FVec Ideal S512x128 .f32) (b : Fin 128) (s : Fin 4) (e : Fin 128) :
    shapeCast S128x4x128 x shapeCasts_S512x128_S128x4x128 (ix3 b s e) = x (ix2 ⟨b.val * 4 + s.val, by omega⟩ e) := by
  pointwise
  try rfl

theorem v48_at (c : Dev nD) (b : Fin 128) (s : Fin 4) (e : Fin 512) : (res m c main_v48 : FVec Ideal S128x4x512 .f32) (ix3 b s e)
    = Z m c b s ⟨0 + e.val, by omega⟩ := by
  have e1 : (⟨(b.val * 4 + s.val) / 4, by omega⟩ : Fin 128) = b := Fin.ext (by simp only; omega)
  have e2 : (⟨(b.val * 4 + s.val) % 4, by omega⟩ : Fin 4) = s := Fin.ext (by simp only; omega)
  rw [v48_eq, rows_at]
  refine Eq.trans (b := Z m c ⟨(b.val * 4 + s.val) / 4, by omega⟩ ⟨(b.val * 4 + s.val) % 4, by omega⟩ ⟨0 + e.val, by omega⟩) rfl ?_
  rw [e1, e2]

theorem v50_at (c : Dev nD) (b : Fin 128) (s : Fin 4) (e : Fin 512) : (res m c main_v50 : FVec Ideal S128x4x512 .f32) (ix3 b s e)
    = Z m c b s ⟨512 + e.val, by omega⟩ := by
  have e1 : (⟨(b.val * 4 + s.val) / 4, by omega⟩ : Fin 128) = b := Fin.ext (by simp only; omega)
  have e2 : (⟨(b.val * 4 + s.val) % 4, by omega⟩ : Fin 4) = s := Fin.ext (by simp only; omega)
  rw [v50_eq, rows_at]
  refine Eq.trans (b := Z m c ⟨(b.val * 4 + s.val) / 4, by omega⟩ ⟨(b.val * 4 + s.val) % 4, by omega⟩ ⟨512 + e.val, by omega⟩) rfl ?_
  rw [e1, e2]

theorem v51_at (c : Dev nD) (b : Fin 128) (s : Fin 4) (h : Fin 8) (d : Fin 64) : (res m c main_v51 : FVec Ideal S128x4x8x64 .bf16) (ix4 b s h d)
    = R m c 1024 (by decide) b s h d * Ideal.ofBits FTy.f32 0x3E000000#32 := by
  have e1 : (⟨(b.val * 4 + s.val) / 4, by omega⟩ : Fin 128) = b := Fin.ext (by simp only; omega)
  have e2 : (⟨(b.val * 4 + s.val) % 4, by omega⟩ : Fin 4) = s := Fin.ext (by simp only; omega)
  have e3 : (⟨(h.val * 64 + d.val) / 64, by omega⟩ : Fin 8) = h := Fin.ext (by simp only; omega)
  have e4 : (⟨(h.val * 64 + d.val) % 64, by omega⟩ : Fin 64) = d := Fin.ext (by simp only; omega)
  rw [v51_eq, heads_at]
  refine Eq.trans (b := R m c 1024 (by decide) ⟨(b.val * 4 + s.val) / 4, by omega⟩ ⟨(b.val * 4 + s.val) % 4, by omega⟩ ⟨(h.val * 64 + d.val) / 64, by omega⟩ ⟨(h.val * 64 + d.val) % 64, by omega⟩ * Ideal.ofBits FTy.f32 0x3E000000#32) rfl ?_
  rw [e1, e2, e3, e4]

theorem v52_at (c : Dev nD) (b : Fin 128) (s : Fin 4) (h : Fin 8) (d : Fin 64) : (res m c main_v52 : FVec Ideal S128x4x8x64 .f32) (ix4 b s h d)
    = R m c 1536 (by decide) b s h d := by
  have e1 : (⟨(b.val * 4 + s.val) / 4, by omega⟩ : Fin 128) = b := Fin.ext (by simp only; omega)
  have e2 : (⟨(b.val * 4 + s.val) % 4, by omega⟩ : Fin 4) = s := Fin.ext (by simp only; omega)
  have e3 : (⟨(h.val * 64 + d.val) / 64, by omega⟩ : Fin 8) = h := Fin.ext (by simp only; omega)
  have e4 : (⟨(h.val * 64 + d.val) % 64, by omega⟩ : Fin 64) = d := Fin.ext (by simp only; omega)
  rw [v52_eq, heads_at]
  refine Eq.trans (b := R m c 1536 (by decide) ⟨(b.val * 4 + s.val) / 4, by omega⟩ ⟨(b.val * 4 + s.val) % 4, by omega⟩ ⟨(h.val * 64 + d.val) / 64, by omega⟩ ⟨(h.val * 64 + d.val) % 64, by omega⟩) rfl ?_
  rw [e1, e2, e3, e4]

theorem v54_at (c : Dev nD) (b : Fin 128) (s : Fin 4) (h : Fin 8) (d : Fin 64) : (res m c main_v54 : FVec Ideal S128x4x8x64 .bf16) (ix4 b s h d)
    = R m c 2560 (by decide) b s h d := by
  have e1 : (⟨(b.val * 4 + s.val) / 4, by omega⟩ : Fin 128) = b := Fin.ext (by simp only; omega)
  have e2 : (⟨(b.val * 4 + s.val) % 4, by omega⟩ : Fin 4) = s := Fin.ext (by simp only; omega)
  have e3 : (⟨(h.val * 64 + d.val) / 64, by omega⟩ : Fin 8) = h := Fin.ext (by simp only; omega)
  have e4 : (⟨(h.val * 64 + d.val) % 64, by omega⟩ : Fin 64) = d := Fin.ext (by simp only; omega)
  rw [v54_eq, heads_at]
  refine Eq.trans (b := R m c 2560 (by decide) ⟨(b.val * 4 + s.val) / 4, by omega⟩ ⟨(b.val * 4 + s.val) % 4, by omega⟩ ⟨(h.val * 64 + d.val) / 64, by omega⟩ ⟨(h.val * 64 + d.val) % 64, by omega⟩) rfl ?_
  rw [e1, e2, e3, e4]

theorem v53_at (c : Dev nD) (b : Fin 128) (s : Fin 4) (h : Fin 8) (d : Fin 64) : (res m c main_v53 : FVec Ideal S128x4x8x64 .f32) (ix4 b s h d)
    = Z m c b s ⟨2048 + (h.val * 64 + d.val), by omega⟩ := by
  have e1 : (⟨(b.val * 4 + s.val) / 4, by omega⟩ : Fin 128) = b := Fin.ext (by simp only; omega)
  have e2 : (⟨(b.val * 4 + s.val) % 4, by omega⟩ : Fin 4) = s := Fin.ext (by simp only; omega)
  rw [v53_eq, heads_at]
  refine Eq.trans (b := Z m c ⟨(b.val * 4 + s.val) / 4, by omega⟩ ⟨(b.val * 4 + s.val) % 4, by omega⟩ ⟨2048 + (h.val * 64 + d.val), by omega⟩) rfl ?_
  rw [e1, e2]

/-- The tail array of a token. -/
theorem tailT_at (c : Dev nD) (b : Fin 128) (s : Fin 4) (e : Fin 128) : shapeCast S128x4x128 (T13 m c) shapeCasts_S512x128_S128x4x128 (ix3 b s e) = tl m c b s e := by
  have e1 : (⟨(b.val * 4 + s.val) / 4, by omega⟩ : Fin 128) = b := Fin.ext (by simp only; omega)
  have e2 : (⟨(b.val * 4 + s.val) % 4, by omega⟩ : Fin 4) = s := Fin.ext (by simp only; omega)
  rw [tail_at]
  refine Eq.trans (b := tl m c ⟨(b.val * 4 + s.val) / 4, by omega⟩ ⟨(b.val * 4 + s.val) % 4, by omega⟩ e) rfl ?_
  rw [e1, e2]

theorem v55_at (c : Dev nD) (b : Fin 128) (s : Fin 4) (d : Fin 64) : (res m c main_v55 : FVec Ideal S128x4x64 .f32) (ix3 b s d) = K m c b s d := by
  rw [v55_eq]
  refine Eq.trans (b := shapeCast S128x4x128 (T13 m c) shapeCasts_S512x128_S128x4x128 (ix3 b s ⟨0 + d.val, by omega⟩)) ?_ ?_
  · generalize shapeCast S128x4x128 (T13 m c) shapeCasts_S512x128_S128x4x128 = x
    pointwise
    first | done | exact congrArg x (congrArg (ix3 b s) (Fin.ext (by simp only; omega)))
  · rw [tailT_at]
    unfold tl
    rw [dif_pos (by simp only; omega)]
    exact congrArg (K m c b s) (Fin.ext (by simp only; omega))

theorem v56_at (c : Dev nD) (b : Fin 128) (s : Fin 4) (h : Fin 8) : (res m c main_v56 : FVec Ideal S128x4x8 .f32) (ix3 b s h)
    = Z m c b s ⟨3136 + h.val, by omega⟩ := by
  rw [v56_eq]
  refine Eq.trans (b := shapeCast S128x4x128 (T13 m c) shapeCasts_S512x128_S128x4x128 (ix3 b s ⟨64 + h.val, by omega⟩)) ?_ ?_
  · generalize shapeCast S128x4x128 (T13 m c) shapeCasts_S512x128_S128x4x128 = x
    pointwise
    try rfl
  · rw [tailT_at]
    unfold tl
    rw [dif_neg (by simp only; omega), dif_pos (by simp only; omega)]
    exact congrArg (Z m c b s) (Fin.ext (by simp only; omega))

theorem v57_eq' (c : Dev nD) : (res m c main_v57 : FVec Ideal S128x3x512 .f32)
    = extractStridedSlice S128x3x512 ![0, 1, 0] (res m c main_v48 : FVec Ideal S128x4x512 .f32) slices_S128x4x512_S128x3x512_0_1_0 := by
  rw [v57_eq, v48_eq]

theorem v57_at (c : Dev nD) (b : Fin 128) (j : Fin 3) (e : Fin 512) : (res m c main_v57 : FVec Ideal S128x3x512 .f32) (ix3 b j e)
    = Z m c b ⟨1 + j.val, by omega⟩ ⟨0 + e.val, by omega⟩ := by
  rw [v57_eq', ← v48_at]
  pointwise
  try rfl

/-- The run: every result, and the arguments unchanged. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v48) = res m c main_v48
    ∧ r.2.mem ((c.tc : Thread nD τ).loc main_v50) = res m c main_v50
    ∧ r.2.mem ((c.tc : Thread nD τ).loc main_v51) = res m c main_v51
    ∧ r.2.mem ((c.tc : Thread nD τ).loc main_v52) = res m c main_v52
    ∧ r.2.mem ((c.tc : Thread nD τ).loc main_v53) = res m c main_v53
    ∧ r.2.mem ((c.tc : Thread nD τ).loc main_v54) = res m c main_v54
    ∧ r.2.mem ((c.tc : Thread nD τ).loc main_v55) = res m c main_v55
    ∧ r.2.mem ((c.tc : Thread nD τ).loc main_v56) = res m c main_v56
    ∧ r.2.mem ((c.tc : Thread nD τ).loc main_v57) = res m c main_v57
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h.1 c).2 main_v48 (by decide), (h.1 c).2 main_v50 (by decide), (h.1 c).2 main_v51 (by decide), (h.1 c).2 main_v52 (by decide), (h.1 c).2 main_v53 (by decide), (h.1 c).2 main_v54 (by decide), (h.1 c).2 main_v55 (by decide), (h.1 c).2 main_v56 (by decide), (h.1 c).2 main_v57 (by decide), h.2 c⟩)
    (θ_run_and (run_main m g) (unchanged m g))

end Cert.ProjSIdeal.Value
-- ==== Proof.ProjSRef.lean ====
module

public import proofs.«01_k».proof.Proof.Gen.ProjSRefIdeal.Run
public import Idealize.ShloMosaic.Lib.Pipeline.ValueKit
public import Idealize.ShloMosaic.Lib.Claim
public import proofs.«01_k».proof.Proof.ProjMath

/-!
The projection reference's results, entry by entry: projections on the weights' columns, rotated where the problem rotates them.
-/

@[expose] public section

set_option maxRecDepth 16384

noncomputable section

open Idealize.ShloMosaic Idealize.ShloMosaic.TcCoe Idealize.SL.Sem
open Idealize.ShloMosaic.Pipeline (Dat)

namespace Cert.ProjSRefIdeal.Value

open Cert.ProjSRefIdeal Cert.ProjSRefIdeal.Gen Cert.ProjMath

variable (m : (ℓ : Loc nD τ sig) → Buf (Elt Ideal) ℓ)

/-- The inputs and the weights. -/
def aX (c : Dev nD) : FVec Ideal S128x4x1024 .f32 := m ((c : Thread nD τ).loc main_arg0)
def aW (c : Dev nD) : FVec Ideal S1x1024x3144 .f32 := m ((c : Thread nD τ).loc main_arg1)

/-- The projection of token `(b, s)` on column `e` of the weights. -/
def Z (c : Dev nD) (b : Fin 128) (s : Fin 4) (e : Fin 3144) : EReal := ∑ k, aX m c (ix3 b s k) * aW m c (ix3 0 k e)

/-- The whole projection as an array. -/
def proj (c : Dev nD) : FVec Ideal S128x4x3144 .f32 :=
  Host.dotGeneral dot_S128x4x1024_S1024x3144_S128x4x3144_2_0_01_1_n_n none (aX m c) (shapeCast S1024x3144 (aW m c) shapeCasts_S1x1024x3144_S1024x3144)

theorem proj_at (c : Dev nD) (b : Fin 128) (s : Fin 4) (e : Fin 3144) : proj m c (ix3 b s e) = Z m c b s e := by
  pointwise [proj, Z]
  try rfl

/-- The frequencies and the angles. -/
def freqs : FVec Ideal S8 .f32 := Host.powf (broadcastInDim S8 ![] bcast_S_S8 (constant S_ .f32 0x48F42400#32))
  (Host.divf (Host.negf (sitofp .f32 (iotaInDim S8 32 0))) (broadcastInDim S8 ![] bcast_S_S8 (constant S_ .f32 0x41000000#32)))

def posv : IVec S4 32 := addi (broadcastInDim S4 ![] bcast_S_S4 (constantI S_ 32 2048#32)) (iotaInDim S4 32 0)

def angs : FVec Ideal S4x8 .f32 := mulf (broadcastInDim S4x8 ![0, 1] bcast_S4x1_S4x8_0_1 (broadcastInDim S4x1 ![0] bcast_S4_S4x1_0 (sitofp .f32 posv)))
  (broadcastInDim S4x8 ![0, 1] bcast_S1x8_S4x8_0_1 (broadcastInDim S1x8 ![1] bcast_S8_S1x8_1 freqs))

def ang8 (s : Fin 4) (i : Fin 8) : EReal := sitofp (F := Ideal) .f32 posv (ix1 s) * freqs (ix1 i)

theorem cos_at (s : Fin 4) (i : Fin 8) : (Host.cos angs : FVec Ideal S4x8 .f32) (ix2 s i) = Ideal.cos (ang8 s i) := by
  pointwise [angs, ang8]
  try rfl

theorem sin_at (s : Fin 4) (i : Fin 8) : (Host.sin angs : FVec Ideal S4x8 .f32) (ix2 s i) = Ideal.sin (ang8 s i) := by
  pointwise [angs, ang8]
  try rfl

/-- One factor of the rotation, spread over batch and heads. -/
def fac (n : FVec Ideal S4x8 .f32) : FVec Ideal S128x4x8x8 .f32 :=
  broadcastInDim S128x4x8x8 ![0, 1, 2, 3] bcast_S1x4x1x8_S128x4x8x8_0_1_2_3 (broadcastInDim S1x4x1x8 ![1, 2, 3] bcast_S4x1x8_S1x4x1x8_1_2_3
    (broadcastInDim S4x1x8 ![0, 2] bcast_S4x8_S4x1x8_0_2 n))

def fac1 (n : FVec Ideal S4x8 .f32) : FVec Ideal S128x4x1x8 .f32 :=
  broadcastInDim S128x4x1x8 ![0, 1, 2, 3] bcast_S1x4x1x8_S128x4x1x8_0_1_2_3 (broadcastInDim S1x4x1x8 ![1, 2, 3] bcast_S4x1x8_S1x4x1x8_1_2_3
    (broadcastInDim S4x1x8 ![0, 2] bcast_S4x8_S4x1x8_0_2 n))

/-- The rotation of 8 heads. -/
def ropeA (z : FVec Ideal S128x4x8x64 .f32) : FVec Ideal S128x4x8x64 .f32 :=
  concatenate S128x4x8x64 3 [⟨S128x4x8x8, (subf (mulf (extractStridedSlice S128x4x8x8 ![0, 0, 0, 0] z slices_S128x4x8x64_S128x4x8x8_0_0_0_0) (fac (Host.cos angs)))
      (mulf (extractStridedSlice S128x4x8x8 ![0, 0, 0, 8] z slices_S128x4x8x64_S128x4x8x8_0_0_0_8) (fac (Host.sin angs))) : FVec Ideal S128x4x8x8 .f32)⟩,
    ⟨S128x4x8x8, (addf (mulf (extractStridedSlice S128x4x8x8 ![0, 0, 0, 8] z slices_S128x4x8x64_S128x4x8x8_0_0_0_8) (fac (Host.cos angs)))
      (mulf (extractStridedSlice S128x4x8x8 ![0, 0, 0, 0] z slices_S128x4x8x64_S128x4x8x8_0_0_0_0) (fac (Host.sin angs))) : FVec Ideal S128x4x8x8 .f32)⟩,
    ⟨S128x4x8x48, (extractStridedSlice S128x4x8x48 ![0, 0, 0, 16] z slices_S128x4x8x64_S128x4x8x48_0_0_0_16 : FVec Ideal S128x4x8x48 .f32)⟩]
    concatenates_S128x4x8x8_S128x4x8x8_S128x4x8x48_S128x4x8x64_d3

theorem fac_at (n : FVec Ideal S4x8 .f32) (b : Fin 128) (s : Fin 4) (h : Fin 8) (i : Fin 8) : fac n (ix4 b s h i) = n (ix2 s i) := by
  pointwise [fac]
  try rfl

theorem ropeA_cat (x y : FVec Ideal S128x4x8x8 .f32) (z : FVec Ideal S128x4x8x48 .f32) (b : Fin 128) (s : Fin 4) (h : Fin 8) (d : Fin 64) :
    (concatenate S128x4x8x64 3 [⟨S128x4x8x8, x⟩, ⟨S128x4x8x8, y⟩, ⟨S128x4x8x48, z⟩] concatenates_S128x4x8x8_S128x4x8x8_S128x4x8x48_S128x4x8x64_d3 : FVec Ideal S128x4x8x64 .f32) (ix4 b s h d)
      = if h1 : d.val < 8 then x (ix4 b s h ⟨d.val, h1⟩) else if h2 : d.val < 16 then y (ix4 b s h ⟨d.val - 8, by omega⟩)
        else z (ix4 b s h ⟨d.val - 16, by omega⟩) := by
  skip
  pointwise
  have hd := d.isLt
  split_ifs <;> first | rfl | (exfalso; omega) | (rw [dif_pos (by omega)]) | (rw [dif_neg (by omega)]; exact congrArg z (congrArg (ix4 b s _) (Fin.ext (by simp only; omega))))

theorem ropeA_lo (z : FVec Ideal S128x4x8x64 .f32) (b : Fin 128) (s : Fin 4) (h : Fin 8) (i : Fin 8) :
    (extractStridedSlice S128x4x8x8 ![0, 0, 0, 0] z slices_S128x4x8x64_S128x4x8x8_0_0_0_0) (ix4 b s h i) = z (ix4 b s h ⟨i.val, by omega⟩) := by
  skip
  pointwise
  try rfl

theorem ropeA_hi (z : FVec Ideal S128x4x8x64 .f32) (b : Fin 128) (s : Fin 4) (h : Fin 8) (i : Fin 8) :
    (extractStridedSlice S128x4x8x8 ![0, 0, 0, 8] z slices_S128x4x8x64_S128x4x8x8_0_0_0_8) (ix4 b s h i) = z (ix4 b s h ⟨8 + i.val, by omega⟩) := by
  skip
  pointwise
  try rfl

theorem ropeA_rest (z : FVec Ideal S128x4x8x64 .f32) (b : Fin 128) (s : Fin 4) (h : Fin 8) (i : Fin 48) :
    (extractStridedSlice S128x4x8x48 ![0, 0, 0, 16] z slices_S128x4x8x64_S128x4x8x48_0_0_0_16) (ix4 b s h i) = z (ix4 b s h ⟨16 + i.val, by omega⟩) := by
  skip
  pointwise
  try rfl

theorem ropeA_at (z : FVec Ideal S128x4x8x64 .f32) (b : Fin 128) (s : Fin 4) (h : Fin 8) (d : Fin 64) : ropeA z (ix4 b s h d)
    = rope (fun i => Ideal.cos (ang8 s i)) (fun i => Ideal.sin (ang8 s i)) (fun d => z (ix4 b s h d)) d := by
  refine (ropeA_cat _ _ _ b s h d).trans ?_
  unfold rope
  by_cases h1 : d.val < 8
  · rw [dif_pos h1, dif_pos h1]
    change (extractStridedSlice S128x4x8x8 ![0, 0, 0, 0] z slices_S128x4x8x64_S128x4x8x8_0_0_0_0) (ix4 b s h ⟨d.val, h1⟩) * fac (Host.cos angs) (ix4 b s h ⟨d.val, h1⟩)
      - (extractStridedSlice S128x4x8x8 ![0, 0, 0, 8] z slices_S128x4x8x64_S128x4x8x8_0_0_0_8) (ix4 b s h ⟨d.val, h1⟩) * fac (Host.sin angs) (ix4 b s h ⟨d.val, h1⟩) = _
    rw [ropeA_lo, ropeA_hi, fac_at, fac_at, cos_at, sin_at]
    simp only [Nat.add_comm 8]
  · rw [dif_neg h1, dif_neg h1]
    by_cases h2 : d.val < 16
    · rw [dif_pos h2, dif_pos h2]
      change (extractStridedSlice S128x4x8x8 ![0, 0, 0, 8] z slices_S128x4x8x64_S128x4x8x8_0_0_0_8) (ix4 b s h ⟨d.val - 8, by omega⟩) * fac (Host.cos angs) (ix4 b s h ⟨d.val - 8, by omega⟩)
        + (extractStridedSlice S128x4x8x8 ![0, 0, 0, 0] z slices_S128x4x8x64_S128x4x8x8_0_0_0_0) (ix4 b s h ⟨d.val - 8, by omega⟩) * fac (Host.sin angs) (ix4 b s h ⟨d.val - 8, by omega⟩) = _
      rw [ropeA_lo, ropeA_hi, fac_at, fac_at, cos_at, sin_at]
      have e : (⟨8 + (d.val - 8), by omega⟩ : Fin 64) = d := Fin.ext (by simp only; omega)
      simp only [e]
    · rw [dif_neg h2, dif_neg h2, ropeA_rest]
      exact congrArg z (congrArg (ix4 b s h) (Fin.ext (by simp only; omega)))

/-- The rotation of 1 heads. -/
def ropeK (z : FVec Ideal S128x4x1x64 .f32) : FVec Ideal S128x4x1x64 .f32 :=
  concatenate S128x4x1x64 3 [⟨S128x4x1x8, (subf (mulf (extractStridedSlice S128x4x1x8 ![0, 0, 0, 0] z slices_S128x4x1x64_S128x4x1x8_0_0_0_0) (fac1 (Host.cos angs)))
      (mulf (extractStridedSlice S128x4x1x8 ![0, 0, 0, 8] z slices_S128x4x1x64_S128x4x1x8_0_0_0_8) (fac1 (Host.sin angs))) : FVec Ideal S128x4x1x8 .f32)⟩,
    ⟨S128x4x1x8, (addf (mulf (extractStridedSlice S128x4x1x8 ![0, 0, 0, 8] z slices_S128x4x1x64_S128x4x1x8_0_0_0_8) (fac1 (Host.cos angs)))
      (mulf (extractStridedSlice S128x4x1x8 ![0, 0, 0, 0] z slices_S128x4x1x64_S128x4x1x8_0_0_0_0) (fac1 (Host.sin angs))) : FVec Ideal S128x4x1x8 .f32)⟩,
    ⟨S128x4x1x48, (extractStridedSlice S128x4x1x48 ![0, 0, 0, 16] z slices_S128x4x1x64_S128x4x1x48_0_0_0_16 : FVec Ideal S128x4x1x48 .f32)⟩]
    concatenates_S128x4x1x8_S128x4x1x8_S128x4x1x48_S128x4x1x64_d3

theorem fac1_at (n : FVec Ideal S4x8 .f32) (b : Fin 128) (s : Fin 4) (h : Fin 1) (i : Fin 8) : fac1 n (ix4 b s h i) = n (ix2 s i) := by
  pointwise [fac1]
  try rfl

theorem ropeK_cat (x y : FVec Ideal S128x4x1x8 .f32) (z : FVec Ideal S128x4x1x48 .f32) (b : Fin 128) (s : Fin 4) (h : Fin 1) (d : Fin 64) :
    (concatenate S128x4x1x64 3 [⟨S128x4x1x8, x⟩, ⟨S128x4x1x8, y⟩, ⟨S128x4x1x48, z⟩] concatenates_S128x4x1x8_S128x4x1x8_S128x4x1x48_S128x4x1x64_d3 : FVec Ideal S128x4x1x64 .f32) (ix4 b s h d)
      = if h1 : d.val < 8 then x (ix4 b s h ⟨d.val, h1⟩) else if h2 : d.val < 16 then y (ix4 b s h ⟨d.val - 8, by omega⟩)
        else z (ix4 b s h ⟨d.val - 16, by omega⟩) := by
  obtain rfl : h = 0 := Subsingleton.elim _ _
  pointwise
  have hd := d.isLt
  split_ifs <;> first | rfl | (exfalso; omega) | (rw [dif_pos (by omega)]) | (rw [dif_neg (by omega)]; exact congrArg z (congrArg (ix4 b s _) (Fin.ext (by simp only; omega))))

theorem ropeK_lo (z : FVec Ideal S128x4x1x64 .f32) (b : Fin 128) (s : Fin 4) (h : Fin 1) (i : Fin 8) :
    (extractStridedSlice S128x4x1x8 ![0, 0, 0, 0] z slices_S128x4x1x64_S128x4x1x8_0_0_0_0) (ix4 b s h i) = z (ix4 b s h ⟨i.val, by omega⟩) := by
  obtain rfl : h = 0 := Subsingleton.elim _ _
  pointwise
  try rfl

theorem ropeK_hi (z : FVec Ideal S128x4x1x64 .f32) (b : Fin 128) (s : Fin 4) (h : Fin 1) (i : Fin 8) :
    (extractStridedSlice S128x4x1x8 ![0, 0, 0, 8] z slices_S128x4x1x64_S128x4x1x8_0_0_0_8) (ix4 b s h i) = z (ix4 b s h ⟨8 + i.val, by omega⟩) := by
  obtain rfl : h = 0 := Subsingleton.elim _ _
  pointwise
  try rfl

theorem ropeK_rest (z : FVec Ideal S128x4x1x64 .f32) (b : Fin 128) (s : Fin 4) (h : Fin 1) (i : Fin 48) :
    (extractStridedSlice S128x4x1x48 ![0, 0, 0, 16] z slices_S128x4x1x64_S128x4x1x48_0_0_0_16) (ix4 b s h i) = z (ix4 b s h ⟨16 + i.val, by omega⟩) := by
  obtain rfl : h = 0 := Subsingleton.elim _ _
  pointwise
  try rfl

theorem ropeK_at (z : FVec Ideal S128x4x1x64 .f32) (b : Fin 128) (s : Fin 4) (h : Fin 1) (d : Fin 64) : ropeK z (ix4 b s h d)
    = rope (fun i => Ideal.cos (ang8 s i)) (fun i => Ideal.sin (ang8 s i)) (fun d => z (ix4 b s h d)) d := by
  refine (ropeK_cat _ _ _ b s h d).trans ?_
  unfold rope
  by_cases h1 : d.val < 8
  · rw [dif_pos h1, dif_pos h1]
    change (extractStridedSlice S128x4x1x8 ![0, 0, 0, 0] z slices_S128x4x1x64_S128x4x1x8_0_0_0_0) (ix4 b s h ⟨d.val, h1⟩) * fac1 (Host.cos angs) (ix4 b s h ⟨d.val, h1⟩)
      - (extractStridedSlice S128x4x1x8 ![0, 0, 0, 8] z slices_S128x4x1x64_S128x4x1x8_0_0_0_8) (ix4 b s h ⟨d.val, h1⟩) * fac1 (Host.sin angs) (ix4 b s h ⟨d.val, h1⟩) = _
    rw [ropeK_lo, ropeK_hi, fac1_at, fac1_at, cos_at, sin_at]
    simp only [Nat.add_comm 8]
  · rw [dif_neg h1, dif_neg h1]
    by_cases h2 : d.val < 16
    · rw [dif_pos h2, dif_pos h2]
      change (extractStridedSlice S128x4x1x8 ![0, 0, 0, 8] z slices_S128x4x1x64_S128x4x1x8_0_0_0_8) (ix4 b s h ⟨d.val - 8, by omega⟩) * fac1 (Host.cos angs) (ix4 b s h ⟨d.val - 8, by omega⟩)
        + (extractStridedSlice S128x4x1x8 ![0, 0, 0, 0] z slices_S128x4x1x64_S128x4x1x8_0_0_0_0) (ix4 b s h ⟨d.val - 8, by omega⟩) * fac1 (Host.sin angs) (ix4 b s h ⟨d.val - 8, by omega⟩) = _
      rw [ropeK_lo, ropeK_hi, fac1_at, fac1_at, cos_at, sin_at]
      have e : (⟨8 + (d.val - 8), by omega⟩ : Fin 64) = d := Fin.ext (by simp only; omega)
      simp only [e]
    · rw [dif_neg h2, dif_neg h2, ropeK_rest]
      exact congrArg z (congrArg (ix4 b s h) (Fin.ext (by simp only; omega)))

/-- The results. -/
theorem q_eq (c : Dev nD) : res_out2 m c = truncf (F := Ideal) .bf16 (mulf (ropeA (shapeCast S128x4x8x64 (extractStridedSlice S128x4x512 ![0, 0, 1024] (proj m c) slices_S128x4x3144_S128x4x512_0_0_1024) shapeCasts_S128x4x512_S128x4x8x64))
    (broadcastInDim S128x4x8x64 ![] bcast_S_S128x4x8x64 (constant S_ .f32 0x3E000000#32))) bitsLt_bf16_f32 := rfl

theorem k_eq (c : Dev nD) : res_out3 m c = ropeA (shapeCast S128x4x8x64 (extractStridedSlice S128x4x512 ![0, 0, 1536] (proj m c) slices_S128x4x3144_S128x4x512_0_0_1536) shapeCasts_S128x4x512_S128x4x8x64) := rfl

theorem qi_eq (c : Dev nD) : res_out5 m c = truncf (F := Ideal) .bf16 (ropeA (shapeCast S128x4x8x64 (extractStridedSlice S128x4x512 ![0, 0, 2560] (proj m c) slices_S128x4x3144_S128x4x512_0_0_2560) shapeCasts_S128x4x512_S128x4x8x64)) bitsLt_bf16_f32 := rfl

theorem ki_eq (c : Dev nD) : res_out6 m c = shapeCast S128x4x64 (ropeK (broadcastInDim S128x4x1x64 ![0, 1, 3] bcast_S128x4x64_S128x4x1x64_0_1_3 (extractStridedSlice S128x4x64 ![0, 0, 3072] (proj m c) slices_S128x4x3144_S128x4x64_0_0_3072))) shapeCasts_S128x4x1x64_S128x4x64 := rfl

theorem heads_at (c : Dev nD) (lo : ℕ) (hlo : lo + 512 ≤ 3144) (h : S128x4x3144.Slices ![0, 0, lo] S128x4x512) (b : Fin 128) (s : Fin 4) (g : Fin 8) (d : Fin 64) :
    (shapeCast S128x4x8x64 (extractStridedSlice S128x4x512 ![0, 0, lo] (proj m c) h) shapeCasts_S128x4x512_S128x4x8x64) (ix4 b s g d)
      = Z m c b s ⟨lo + (g.val * 64 + d.val), by omega⟩ := by
  rw [← proj_at]
  pointwise

/-- The rotated head at columns `lo + 64 h`. -/
def R (c : Dev nD) (lo : ℕ) (hlo : lo + 512 ≤ 3144) (b : Fin 128) (s : Fin 4) (h : Fin 8) (d : Fin 64) : EReal :=
  rope (fun i => Ideal.cos (ang8 s i)) (fun i => Ideal.sin (ang8 s i)) (fun d => Z m c b s ⟨lo + (h.val * 64 + d.val), by omega⟩) d

/-- The rotated index key. -/
def K (c : Dev nD) (b : Fin 128) (s : Fin 4) (d : Fin 64) : EReal :=
  rope (fun i => Ideal.cos (ang8 s i)) (fun i => Ideal.sin (ang8 s i)) (fun d => Z m c b s ⟨3072 + d.val, by omega⟩) d

theorem q_at (c : Dev nD) (b : Fin 128) (s : Fin 4) (h : Fin 8) (d : Fin 64) : (res_out2 m c : FVec Ideal S128x4x8x64 .bf16) (ix4 b s h d)
    = R m c 1024 (by decide) b s h d * Ideal.ofBits FTy.f32 0x3E000000#32 := by
  rw [q_eq]
  change ropeA _ (ix4 b s h d) * _ = _
  rw [ropeA_at]
  simp only [heads_at m c 1024 (by decide)]
  rfl

theorem k_at (c : Dev nD) (b : Fin 128) (s : Fin 4) (h : Fin 8) (d : Fin 64) : (res_out3 m c : FVec Ideal S128x4x8x64 .f32) (ix4 b s h d)
    = R m c 1536 (by decide) b s h d := by
  rw [k_eq, ropeA_at]
  simp only [heads_at m c 1536 (by decide)]
  rfl

theorem qi_at (c : Dev nD) (b : Fin 128) (s : Fin 4) (h : Fin 8) (d : Fin 64) : (res_out5 m c : FVec Ideal S128x4x8x64 .bf16) (ix4 b s h d)
    = R m c 2560 (by decide) b s h d := by
  rw [qi_eq]
  change ropeA _ (ix4 b s h d) = _
  rw [ropeA_at]
  simp only [heads_at m c 2560 (by decide)]
  rfl

theorem key_at (c : Dev nD) (b : Fin 128) (s : Fin 4) (d : Fin 64) :
    (broadcastInDim S128x4x1x64 ![0, 1, 3] bcast_S128x4x64_S128x4x1x64_0_1_3 (extractStridedSlice S128x4x64 ![0, 0, 3072] (proj m c) slices_S128x4x3144_S128x4x64_0_0_3072)) (ix4 b s 0 d)
      = Z m c b s ⟨3072 + d.val, by omega⟩ := by
  rw [← proj_at]
  pointwise
  try rfl

theorem ki_at (c : Dev nD) (b : Fin 128) (s : Fin 4) (d : Fin 64) : (res_out6 m c : FVec Ideal S128x4x64 .f32) (ix3 b s d) = K m c b s d := by
  rw [ki_eq]
  refine Eq.trans (b := ropeK (broadcastInDim S128x4x1x64 ![0, 1, 3] bcast_S128x4x64_S128x4x1x64_0_1_3 (extractStridedSlice S128x4x64 ![0, 0, 3072] (proj m c) slices_S128x4x3144_S128x4x64_0_0_3072)) (ix4 b s 0 d)) ?_ ?_
  · pointwise
  · rw [ropeK_at]
    unfold K
    congr 1
    funext d
    exact key_at m c b s d

abbrev xlRes (c : Dev nD) : FVec Ideal S128x4x512 .f32 := extractStridedSlice S128x4x512 ![0, 0, 0] (proj m c) slices_S128x4x3144_S128x4x512_0_0_0
abbrev gateRes (c : Dev nD) : FVec Ideal S128x4x512 .f32 := extractStridedSlice S128x4x512 ![0, 0, 512] (proj m c) slices_S128x4x3144_S128x4x512_0_0_512
abbrev qRes (c : Dev nD) : FVec Ideal S128x4x8x64 .bf16 := res_out2 m c
abbrev kRes (c : Dev nD) : FVec Ideal S128x4x8x64 .f32 := res_out3 m c
abbrev vRes (c : Dev nD) : FVec Ideal S128x4x8x64 .f32 :=
  shapeCast S128x4x8x64 (extractStridedSlice S128x4x512 ![0, 0, 2048] (proj m c) slices_S128x4x3144_S128x4x512_0_0_2048) shapeCasts_S128x4x512_S128x4x8x64
abbrev qiRes (c : Dev nD) : FVec Ideal S128x4x8x64 .bf16 := res_out5 m c
abbrev kiRes (c : Dev nD) : FVec Ideal S128x4x64 .f32 := res_out6 m c
abbrev wiRes (c : Dev nD) : FVec Ideal S128x4x8 .f32 := extractStridedSlice S128x4x8 ![0, 0, 3136] (proj m c) slices_S128x4x3144_S128x4x8_0_0_3136
abbrev convRes (c : Dev nD) : FVec Ideal S128x3x512 .f32 := extractStridedSlice S128x3x512 ![0, 1, 0] (xlRes m c) slices_S128x4x512_S128x3x512_0_1_0

theorem xl_at (c : Dev nD) (b : Fin 128) (s : Fin 4) (e : Fin 512) : xlRes m c (ix3 b s e) = Z m c b s ⟨0 + e.val, by omega⟩ := by
  rw [← proj_at]
  pointwise [xlRes]
  first | done | exact congrArg (proj m c) (congrArg (ix3 b s) (Fin.ext (by simp only; omega)))

theorem gate_at (c : Dev nD) (b : Fin 128) (s : Fin 4) (e : Fin 512) : gateRes m c (ix3 b s e) = Z m c b s ⟨512 + e.val, by omega⟩ := by
  rw [← proj_at]
  pointwise [gateRes]
  try rfl

theorem v_at (c : Dev nD) (b : Fin 128) (s : Fin 4) (h : Fin 8) (d : Fin 64) : vRes m c (ix4 b s h d)
    = Z m c b s ⟨2048 + (h.val * 64 + d.val), by omega⟩ := heads_at m c 2048 (by decide) _ b s h d

theorem wi_at (c : Dev nD) (b : Fin 128) (s : Fin 4) (h : Fin 8) : wiRes m c (ix3 b s h) = Z m c b s ⟨3136 + h.val, by omega⟩ := by
  rw [← proj_at]
  pointwise [wiRes]
  try rfl

theorem conv_at (c : Dev nD) (b : Fin 128) (j : Fin 3) (e : Fin 512) : convRes m c (ix3 b j e)
    = Z m c b ⟨1 + j.val, by omega⟩ ⟨0 + e.val, by omega⟩ := by
  refine Eq.trans ?_ (xl_at m c b _ e)
  unfold convRes
  generalize xlRes m c = x
  pointwise
  try rfl

end Cert.ProjSRefIdeal.Value
-- ==== Proof.ProjSClaim.lean ====
module

public import proofs.«01_k».proof.Defs
public import proofs.«01_k».proof.Proof.Gen.ProjS.Frame
public import proofs.«01_k».proof.Proof.ProjSTail
public import proofs.«01_k».proof.Proof.ProjSRef
public import Idealize.ShloMosaic.Lib.Claim
public import Idealize.ShloMosaic.Adequacy
public import Idealize.ShloMosaic.Init

/-!
The claims of the projection call on the new tokens: every run keeps its arguments and leaves the counters at zero, and the kernel's results are
the reference's.
-/

@[expose] public section

noncomputable section

namespace Cert.ProjSClaim

open Idealize.ShloMosaic Idealize.ShloMosaic.TcCoe Idealize.SL.Sem

theorem frame : Cert.quiescent_ProjS := fun m g _ => Cert.ProjS.Gen.frame m g

theorem frameIdeal : Cert.quiescent_ProjSIdeal := fun m g _ => Cert.ProjSIdeal.Gen.frame m g

theorem frameRef : Cert.quiescent_ProjSRefIdeal := fun m g _ => (θ_run Cert.ProjSRefIdeal.defs _ _).mono
  (fun r h => ⟨fun c => (h c).2.2.2.2.2.2.2.2.2, sem_eq_zero_of_no_sems (by decide) r.2⟩) (Cert.ProjSRefIdeal.Value.run m g)

/-- The two programs' projections, rotations and keys agree on equal arguments. -/
theorem Z_eq (m : (ℓ : Loc Cert.ProjSIdeal.nD Cert.ProjSIdeal.τ Cert.ProjSIdeal.sig) → Buf (Elt Ideal) ℓ)
    (m' : (ℓ : Loc Cert.ProjSRefIdeal.nD Cert.ProjSRefIdeal.τ Cert.ProjSRefIdeal.sig) → Buf (Elt Ideal) ℓ) (c : Dev Cert.ProjSIdeal.nD)
    (h0 : Cert.ProjSRefIdeal.Value.aX m' c = Cert.ProjSIdeal.Value.aX m c) (h1 : Cert.ProjSRefIdeal.Value.aW m' c = Cert.ProjSIdeal.Value.aW m c) :
    Cert.ProjSRefIdeal.Value.Z m' c = Cert.ProjSIdeal.Value.Z m c := by
  unfold Cert.ProjSRefIdeal.Value.Z Cert.ProjSIdeal.Value.Z
  rw [h0, h1]
  try rfl

theorem R_eq (m : (ℓ : Loc Cert.ProjSIdeal.nD Cert.ProjSIdeal.τ Cert.ProjSIdeal.sig) → Buf (Elt Ideal) ℓ)
    (m' : (ℓ : Loc Cert.ProjSRefIdeal.nD Cert.ProjSRefIdeal.τ Cert.ProjSRefIdeal.sig) → Buf (Elt Ideal) ℓ) (c : Dev Cert.ProjSIdeal.nD)
    (hZ : Cert.ProjSRefIdeal.Value.Z m' c = Cert.ProjSIdeal.Value.Z m c) : @Cert.ProjSRefIdeal.Value.R m' c = @Cert.ProjSIdeal.Value.R m c := by
  unfold Cert.ProjSRefIdeal.Value.R Cert.ProjSIdeal.Value.R
  rw [hZ]
  rfl

theorem K_eq (m : (ℓ : Loc Cert.ProjSIdeal.nD Cert.ProjSIdeal.τ Cert.ProjSIdeal.sig) → Buf (Elt Ideal) ℓ)
    (m' : (ℓ : Loc Cert.ProjSRefIdeal.nD Cert.ProjSRefIdeal.τ Cert.ProjSRefIdeal.sig) → Buf (Elt Ideal) ℓ) (c : Dev Cert.ProjSIdeal.nD)
    (hZ : Cert.ProjSRefIdeal.Value.Z m' c = Cert.ProjSIdeal.Value.Z m c) : Cert.ProjSRefIdeal.Value.K m' c = Cert.ProjSIdeal.Value.K m c := by
  unfold Cert.ProjSRefIdeal.Value.K Cert.ProjSIdeal.Value.K
  rw [hZ]
  rfl

theorem xl_eq (m : (ℓ : Loc Cert.ProjSIdeal.nD Cert.ProjSIdeal.τ Cert.ProjSIdeal.sig) → Buf (Elt Ideal) ℓ)
    (m' : (ℓ : Loc Cert.ProjSRefIdeal.nD Cert.ProjSRefIdeal.τ Cert.ProjSRefIdeal.sig) → Buf (Elt Ideal) ℓ) (c : Dev Cert.ProjSIdeal.nD)
    (hZ : Cert.ProjSRefIdeal.Value.Z m' c = Cert.ProjSIdeal.Value.Z m c) :
    Cert.ProjSRefIdeal.Value.xlRes m' c = Cert.ProjSIdeal.Value.res m c Cert.ProjSIdeal.main_v48 := by
  funext y
  idx_vars y
  refine (Cert.ProjSRefIdeal.Value.xl_at m' c _ _ _).trans (Eq.trans ?_ (Cert.ProjSIdeal.Value.v48_at m c _ _ _).symm)
  rw [hZ]
  try rfl

theorem gate_eq (m : (ℓ : Loc Cert.ProjSIdeal.nD Cert.ProjSIdeal.τ Cert.ProjSIdeal.sig) → Buf (Elt Ideal) ℓ)
    (m' : (ℓ : Loc Cert.ProjSRefIdeal.nD Cert.ProjSRefIdeal.τ Cert.ProjSRefIdeal.sig) → Buf (Elt Ideal) ℓ) (c : Dev Cert.ProjSIdeal.nD)
    (hZ : Cert.ProjSRefIdeal.Value.Z m' c = Cert.ProjSIdeal.Value.Z m c) :
    Cert.ProjSRefIdeal.Value.gateRes m' c = Cert.ProjSIdeal.Value.res m c Cert.ProjSIdeal.main_v50 := by
  funext y
  idx_vars y
  refine (Cert.ProjSRefIdeal.Value.gate_at m' c _ _ _).trans (Eq.trans ?_ (Cert.ProjSIdeal.Value.v50_at m c _ _ _).symm)
  rw [hZ]
  try rfl

theorem q_eq (m : (ℓ : Loc Cert.ProjSIdeal.nD Cert.ProjSIdeal.τ Cert.ProjSIdeal.sig) → Buf (Elt Ideal) ℓ)
    (m' : (ℓ : Loc Cert.ProjSRefIdeal.nD Cert.ProjSRefIdeal.τ Cert.ProjSRefIdeal.sig) → Buf (Elt Ideal) ℓ) (c : Dev Cert.ProjSIdeal.nD)
    (hZ : Cert.ProjSRefIdeal.Value.Z m' c = Cert.ProjSIdeal.Value.Z m c) :
    Cert.ProjSRefIdeal.Value.qRes m' c = Cert.ProjSIdeal.Value.res m c Cert.ProjSIdeal.main_v51 := by
  funext y
  idx_vars y
  refine (Cert.ProjSRefIdeal.Value.q_at m' c _ _ _ _).trans (Eq.trans ?_ (Cert.ProjSIdeal.Value.v51_at m c _ _ _ _).symm)
  rw [R_eq m m' c hZ]
  try rfl

theorem k_eq (m : (ℓ : Loc Cert.ProjSIdeal.nD Cert.ProjSIdeal.τ Cert.ProjSIdeal.sig) → Buf (Elt Ideal) ℓ)
    (m' : (ℓ : Loc Cert.ProjSRefIdeal.nD Cert.ProjSRefIdeal.τ Cert.ProjSRefIdeal.sig) → Buf (Elt Ideal) ℓ) (c : Dev Cert.ProjSIdeal.nD)
    (hZ : Cert.ProjSRefIdeal.Value.Z m' c = Cert.ProjSIdeal.Value.Z m c) :
    Cert.ProjSRefIdeal.Value.kRes m' c = Cert.ProjSIdeal.Value.res m c Cert.ProjSIdeal.main_v52 := by
  funext y
  idx_vars y
  refine (Cert.ProjSRefIdeal.Value.k_at m' c _ _ _ _).trans (Eq.trans ?_ (Cert.ProjSIdeal.Value.v52_at m c _ _ _ _).symm)
  rw [R_eq m m' c hZ]
  try rfl

theorem v_eq (m : (ℓ : Loc Cert.ProjSIdeal.nD Cert.ProjSIdeal.τ Cert.ProjSIdeal.sig) → Buf (Elt Ideal) ℓ)
    (m' : (ℓ : Loc Cert.ProjSRefIdeal.nD Cert.ProjSRefIdeal.τ Cert.ProjSRefIdeal.sig) → Buf (Elt Ideal) ℓ) (c : Dev Cert.ProjSIdeal.nD)
    (hZ : Cert.ProjSRefIdeal.Value.Z m' c = Cert.ProjSIdeal.Value.Z m c) :
    Cert.ProjSRefIdeal.Value.vRes m' c = Cert.ProjSIdeal.Value.res m c Cert.ProjSIdeal.main_v53 := by
  funext y
  idx_vars y
  refine (Cert.ProjSRefIdeal.Value.v_at m' c _ _ _ _).trans (Eq.trans ?_ (Cert.ProjSIdeal.Value.v53_at m c _ _ _ _).symm)
  rw [hZ]
  try rfl

theorem qi_eq (m : (ℓ : Loc Cert.ProjSIdeal.nD Cert.ProjSIdeal.τ Cert.ProjSIdeal.sig) → Buf (Elt Ideal) ℓ)
    (m' : (ℓ : Loc Cert.ProjSRefIdeal.nD Cert.ProjSRefIdeal.τ Cert.ProjSRefIdeal.sig) → Buf (Elt Ideal) ℓ) (c : Dev Cert.ProjSIdeal.nD)
    (hZ : Cert.ProjSRefIdeal.Value.Z m' c = Cert.ProjSIdeal.Value.Z m c) :
    Cert.ProjSRefIdeal.Value.qiRes m' c = Cert.ProjSIdeal.Value.res m c Cert.ProjSIdeal.main_v54 := by
  funext y
  idx_vars y
  refine (Cert.ProjSRefIdeal.Value.qi_at m' c _ _ _ _).trans (Eq.trans ?_ (Cert.ProjSIdeal.Value.v54_at m c _ _ _ _).symm)
  rw [R_eq m m' c hZ]
  try rfl

theorem ki_eq (m : (ℓ : Loc Cert.ProjSIdeal.nD Cert.ProjSIdeal.τ Cert.ProjSIdeal.sig) → Buf (Elt Ideal) ℓ)
    (m' : (ℓ : Loc Cert.ProjSRefIdeal.nD Cert.ProjSRefIdeal.τ Cert.ProjSRefIdeal.sig) → Buf (Elt Ideal) ℓ) (c : Dev Cert.ProjSIdeal.nD)
    (hZ : Cert.ProjSRefIdeal.Value.Z m' c = Cert.ProjSIdeal.Value.Z m c) :
    Cert.ProjSRefIdeal.Value.kiRes m' c = Cert.ProjSIdeal.Value.res m c Cert.ProjSIdeal.main_v55 := by
  funext y
  idx_vars y
  refine (Cert.ProjSRefIdeal.Value.ki_at m' c _ _ _).trans (Eq.trans ?_ (Cert.ProjSIdeal.Value.v55_at m c _ _ _).symm)
  rw [K_eq m m' c hZ]
  try rfl

theorem wi_eq (m : (ℓ : Loc Cert.ProjSIdeal.nD Cert.ProjSIdeal.τ Cert.ProjSIdeal.sig) → Buf (Elt Ideal) ℓ)
    (m' : (ℓ : Loc Cert.ProjSRefIdeal.nD Cert.ProjSRefIdeal.τ Cert.ProjSRefIdeal.sig) → Buf (Elt Ideal) ℓ) (c : Dev Cert.ProjSIdeal.nD)
    (hZ : Cert.ProjSRefIdeal.Value.Z m' c = Cert.ProjSIdeal.Value.Z m c) :
    Cert.ProjSRefIdeal.Value.wiRes m' c = Cert.ProjSIdeal.Value.res m c Cert.ProjSIdeal.main_v56 := by
  funext y
  idx_vars y
  refine (Cert.ProjSRefIdeal.Value.wi_at m' c _ _ _).trans (Eq.trans ?_ (Cert.ProjSIdeal.Value.v56_at m c _ _ _).symm)
  rw [hZ]
  try rfl

theorem conv_eq (m : (ℓ : Loc Cert.ProjSIdeal.nD Cert.ProjSIdeal.τ Cert.ProjSIdeal.sig) → Buf (Elt Ideal) ℓ)
    (m' : (ℓ : Loc Cert.ProjSRefIdeal.nD Cert.ProjSRefIdeal.τ Cert.ProjSRefIdeal.sig) → Buf (Elt Ideal) ℓ) (c : Dev Cert.ProjSIdeal.nD)
    (hZ : Cert.ProjSRefIdeal.Value.Z m' c = Cert.ProjSIdeal.Value.Z m c) :
    Cert.ProjSRefIdeal.Value.convRes m' c = Cert.ProjSIdeal.Value.res m c Cert.ProjSIdeal.main_v57 := by
  funext y
  idx_vars y
  refine (Cert.ProjSRefIdeal.Value.conv_at m' c _ _ _).trans (Eq.trans ?_ (Cert.ProjSIdeal.Value.v57_at m c _ _ _).symm)
  rw [hZ]
  try rfl

theorem algebraic : Cert.algebraic_ProjSIdeal_ProjSRefIdeal := by
  pair_intro
  · run_from Cert.ProjSIdeal.Value.run m g
  · run_from Cert.ProjSRefIdeal.Value.run m' g'
    all_goals have hZ := Z_eq m m' c (hagree c).1 (hagree c).2
    · rw [← (hagree c).1, ← (hagree c).2]; exact xl_eq m m' c hZ
    · rw [← (hagree c).1, ← (hagree c).2]; exact gate_eq m m' c hZ
    · exact q_eq m m' c hZ
    · exact k_eq m m' c hZ
    · rw [← (hagree c).1, ← (hagree c).2]; exact v_eq m m' c hZ
    · exact qi_eq m m' c hZ
    · exact ki_eq m m' c hZ
    · rw [← (hagree c).1, ← (hagree c).2]; exact wi_eq m m' c hZ
    · rw [← (hagree c).1, ← (hagree c).2]; exact conv_eq m m' c hZ

end Cert.ProjSClaim

end
-- ==== Proof.LruMath.lean ====
module

public import Idealize.ShloMosaic.Lib.Pipeline.ValueKit

/-!
The gated linear recurrence on one sequence, as plain arithmetic over the extended reals: a causal convolution of four
taps, two gates made by block-diagonal matrices, the recurrence itself, and the gated, normalised output row.
-/

@[expose] public section

noncomputable section

namespace Cert.LruMath

open Idealize.ShloMosaic

/-- The softplus of `-y`, in the form that never overflows. -/
def sp (y : EReal) : EReal := max (0 - y) 0 + Ideal.log1p (Ideal.exp (0 - max (0 - y) (-(0 - y))))

/-- The logarithm of the decay: minus eight times the recurrence gate times the softplus. -/
def lga (s lam : EReal) : EReal := (Ideal.ofBits FTy.f32 0xC1000000#32 * Ideal.logistic s) * sp lam

/-- The factor of the input, as the reference writes it: the root of `1 - a²` for the decay `a = exp L`. -/
def fac (L : EReal) : EReal := Ideal.sqrt (-Ideal.expm1 (Ideal.ofBits FTy.f32 0x40000000#32 * L))

/-- The factor of the input, written with the hyperbolic tangent. -/
def facT (L : EReal) : EReal :=
  Ideal.sqrt (Ideal.div (Ideal.ofBits FTy.f32 0xC0000000#32 * Ideal.tanh L) (Ideal.ofBits FTy.f32 0x3F800000#32 - Ideal.tanh L))

/-- The convolution with four taps. -/
def tap (b w0 x0 w1 x1 w2 x2 w3 x3 : EReal) : EReal := b + (w0 * x0 + w1 * x1 + w2 * x2 + w3 * x3)

/-- One step of the recurrence on a channel: the input `u`, the two gates before their sigmoids, the decay parameter and
    the state. -/
def stp (u sr si lam h : EReal) : EReal :=
  Ideal.exp (lga sr lam) * h + fac (lga sr lam) * (Ideal.logistic si * u)

/-- The same step with the factor written by the hyperbolic tangent. -/
def stpT (u sr si lam h : EReal) : EReal :=
  Ideal.exp (lga sr lam) * h + facT (lga sr lam) * (Ideal.logistic si * u)

/-- The output's gate: the tanh form of GELU. -/
def gel (g : EReal) : EReal :=
  g * (Ideal.ofBits FTy.f32 0x3F000000#32 * (Ideal.ofBits FTy.f32 0x3F800000#32
    + Ideal.tanh (Ideal.ofBits FTy.f32 0x3F4C422A#32 * (g + Ideal.ofBits FTy.f32 0x3D372713#32 * (g * g * g)))))

/-- A row divided by the root of its mean square, and scaled. -/
def nrm (y : Fin 512 → EReal) (gn : EReal) (q : Fin 512) : EReal :=
  y q * Ideal.rsqrt (Ideal.div (∑ k, y k * y k) (Ideal.ofBits FTy.f32 0x44000000#32) + Ideal.ofBits FTy.f32 0x358637BD#32) * gn

/-- A product with a block-diagonal matrix of eight blocks. -/
def blk (u : Fin 512 → EReal) (w : Fin 8 → Fin 64 → Fin 64 → EReal) (q : Fin 512) : EReal :=
  ∑ d : Fin 64, u ⟨q.val / 64 * 64 + d.val, by omega⟩ * w ⟨q.val / 64, by omega⟩ d ⟨q.val % 64, by omega⟩

/-- The input's seven rows of one sequence: three kept ones and four new ones. -/
def rows (cp : Fin 3 → Fin 512 → EReal) (xl : Fin 4 → Fin 512 → EReal) (j : Fin 7) (q : Fin 512) : EReal :=
  if h : j.val < 3 then cp ⟨j.val, h⟩ q else xl ⟨j.val - 3, by omega⟩ q

/-- The convolved input of token `t`. -/
def cnv (cw : Fin 4 → Fin 512 → EReal) (cb : Fin 512 → EReal) (xs : Fin 7 → Fin 512 → EReal) (t : Fin 4) (q : Fin 512) : EReal :=
  tap (cb q) (cw 0 q) (xs ⟨t.val, by omega⟩ q) (cw 1 q) (xs ⟨t.val + 1, by omega⟩ q) (cw 2 q) (xs ⟨t.val + 2, by omega⟩ q)
    (cw 3 q) (xs ⟨t.val + 3, by omega⟩ q)

/-- The state after one more token of convolved input `u`. -/
def nxt (wa wx : Fin 8 → Fin 64 → Fin 64 → EReal) (ba bx lam : Fin 512 → EReal) (u h : Fin 512 → EReal) (q : Fin 512) : EReal :=
  stp (u q) (blk u wa q + ba q) (blk u wx q + bx q) (lam q) (h q)

/-- The same with whole matrices and the hyperbolic tangent. -/
def nxtT (wa wx : Fin 512 → Fin 512 → EReal) (ba bx lam : Fin 512 → EReal) (u h : Fin 512 → EReal) (q : Fin 512) : EReal :=
  stpT (u q) (∑ k, u k * wa k q + ba q) (∑ k, u k * wx k q + bx q) (lam q) (h q)

/-- The output row of a state and a gate row. -/
def mix (gn h g : Fin 512 → EReal) (q : Fin 512) : EReal := nrm (fun k => h k * gel (g k)) (gn q) q

/-! Equal operands give equal values. -/

theorem tap_congr {b w0 x0 w1 x1 w2 x2 w3 x3 b' w0' x0' w1' x1' w2' x2' w3' x3' : EReal} (hb : b = b') (h0 : w0 = w0') (k0 : x0 = x0')
    (h1 : w1 = w1') (k1 : x1 = x1') (h2 : w2 = w2') (k2 : x2 = x2') (h3 : w3 = w3') (k3 : x3 = x3') :
    tap b w0 x0 w1 x1 w2 x2 w3 x3 = tap b' w0' x0' w1' x1' w2' x2' w3' x3' := by
  rw [hb, h0, k0, h1, k1, h2, k2, h3, k3]

theorem nxtT_congr {wa wx wa' wx' : Fin 512 → Fin 512 → EReal} {ba bx lam u h ba' bx' lam' u' h' : Fin 512 → EReal}
    (ha : ∀ k q, wa k q = wa' k q) (hx : ∀ k q, wx k q = wx' k q) (h1 : ∀ q, ba q = ba' q) (h2 : ∀ q, bx q = bx' q)
    (h3 : ∀ q, lam q = lam' q) (hu : ∀ q, u q = u' q) (hh : ∀ q, h q = h' q) (q : Fin 512) :
    nxtT wa wx ba bx lam u h q = nxtT wa' wx' ba' bx' lam' u' h' q := by
  obtain rfl : wa = wa' := funext fun k => funext (ha k)
  obtain rfl : wx = wx' := funext fun k => funext (hx k)
  obtain rfl : ba = ba' := funext h1
  obtain rfl : bx = bx' := funext h2
  obtain rfl : lam = lam' := funext h3
  obtain rfl : u = u' := funext hu
  obtain rfl : h = h' := funext hh
  rfl

theorem mix_congr {gn h g gn' h' g' : Fin 512 → EReal} (hn : ∀ q, gn q = gn' q) (hh : ∀ q, h q = h' q) (hg : ∀ q, g q = g' q)
    (q : Fin 512) : mix gn h g q = mix gn' h' g' q := by
  obtain rfl : gn = gn' := funext hn
  obtain rfl : h = h' := funext hh
  obtain rfl : g = g' := funext hg
  rfl

/-! The literals. -/

theorem lit0 : (Ideal.ofBits FTy.f32 0x00000000#32 : EReal) = 0 := by
  simp [Ideal.ofBits, Ideal.ieee]

theorem lit1 : (Ideal.ofBits FTy.f32 0x3F800000#32 : EReal) = 1 := by
  simp [Ideal.ofBits, Ideal.ieee]
  rw [← EReal.coe_mul]
  norm_num

theorem lit2 : (Ideal.ofBits FTy.f32 0x40000000#32 : EReal) = ((2 : ℝ) : EReal) := by
  simp [Ideal.ofBits, Ideal.ieee]
  rw [← EReal.coe_mul]
  norm_num

theorem litm2 : (Ideal.ofBits FTy.f32 0xC0000000#32 : EReal) = ((-2 : ℝ) : EReal) := by
  simp [Ideal.ofBits, Ideal.ieee]
  rw [← EReal.coe_mul]
  norm_num

theorem litm8 : (Ideal.ofBits FTy.f32 0xC1000000#32 : EReal) = ((-8 : ℝ) : EReal) := by
  simp [Ideal.ofBits, Ideal.ieee]
  rw [← EReal.coe_mul]
  norm_num

/-! The decay is at most one. -/

theorem exp_nonneg (x : EReal) : 0 ≤ Ideal.exp x := by
  induction x with
  | bot => exact le_refl _
  | top => exact le_top
  | coe r => exact EReal.coe_nonneg.mpr (Real.exp_pos r).le

theorem log_nonneg (x : EReal) (h : 1 ≤ x) : 0 ≤ Ideal.log x := by
  induction x with
  | bot => exact absurd h (by decide)
  | top => exact le_top
  | coe r =>
    have hr : (1 : ℝ) ≤ r := by exact_mod_cast h
    change (0 : EReal) ≤ if r ≤ 0 then ⊥ else (Real.log r : EReal)
    rw [if_neg (by linarith)]
    exact EReal.coe_nonneg.mpr (Real.log_nonneg hr)

theorem sp_nonneg (y : EReal) : 0 ≤ sp y := by
  refine add_nonneg (le_max_right _ _) (log_nonneg _ ?_)
  exact le_add_of_nonneg_right (exp_nonneg _)

theorem logistic_nonneg (s : EReal) : 0 ≤ Ideal.logistic s := by
  have h : 1 ≤ 1 + Ideal.exp (-s) := le_add_of_nonneg_right (exp_nonneg _)
  have h0 : (0 : EReal) < 1 + Ideal.exp (-s) := lt_of_lt_of_le zero_lt_one h
  unfold Ideal.logistic Ideal.div
  rw [if_neg h0.ne', one_mul]
  exact EReal.inv_nonneg_of_nonneg h0.le

theorem lga_nonpos (s lam : EReal) : lga s lam ≤ 0 := by
  unfold lga
  rw [litm8, EReal.coe_neg, EReal.neg_mul, EReal.neg_mul]
  refine (EReal.neg_le_neg_iff (a := _) (b := 0)).mpr ?_ |>.trans_eq neg_zero
  exact mul_nonneg (mul_nonneg (EReal.coe_nonneg.mpr (by norm_num)) (logistic_nonneg s)) (sp_nonneg lam)

/-- The two forms of the factor are equal wherever the decay is at most one. -/
theorem facT_eq (L : EReal) (h : L ≤ 0) : facT L = fac L := by
  unfold facT fac
  congr 1
  rw [lit1, lit2, litm2]
  induction L with
  | top => exact absurd h (by decide)
  | bot =>
    rw [EReal.coe_mul_bot_of_pos (by norm_num)]
    change Ideal.div (((-2 : ℝ) : EReal) * (-1)) (1 - -1) = -(0 - 1 : EReal)
    have e1 : (((-2 : ℝ) : EReal) * (-1)) = ((2 : ℝ) : EReal) := by
      rw [show (-1 : EReal) = ((-1 : ℝ) : EReal) from rfl, ← EReal.coe_mul]; norm_num
    have e2 : (1 - -1 : EReal) = ((2 : ℝ) : EReal) := by
      rw [show (-1 : EReal) = ((-1 : ℝ) : EReal) from rfl, show (1 : EReal) = ((1 : ℝ) : EReal) from rfl, ← EReal.coe_sub]; norm_num
    rw [e1, e2]
    unfold Ideal.div
    rw [if_neg (by exact_mod_cast (two_ne_zero : (2 : ℝ) ≠ 0)), ← EReal.coe_inv, ← EReal.coe_mul]
    norm_num
  | coe r =>
    change Ideal.div (((-2 : ℝ) : EReal) * ((Real.tanh r : ℝ) : EReal)) (1 - ((Real.tanh r : ℝ) : EReal))
      = -(Ideal.exp (((2 : ℝ) : EReal) * (r : EReal)) - 1)
    rw [← EReal.coe_mul, ← EReal.coe_mul]
    change Ideal.div (((-2 * Real.tanh r : ℝ)) : EReal) (((1 : ℝ) : EReal) - ((Real.tanh r : ℝ) : EReal))
      = -(((Real.exp (2 * r) : ℝ) : EReal) - ((1 : ℝ) : EReal))
    rw [← EReal.coe_sub, ← EReal.coe_sub, ← EReal.coe_neg]
    have hc : 0 < Real.cosh r := Real.cosh_pos r
    have he : Real.exp (2 * r) = Real.exp r * Real.exp r := by rw [two_mul, Real.exp_add]
    have hi : Real.exp r * Real.exp (-r) = 1 := by rw [← Real.exp_add]; simp
    have hp := Real.exp_pos (-r)
    have hp' := Real.exp_pos r
    have ht : Real.tanh r = (Real.exp r - Real.exp (-r)) / (Real.exp r + Real.exp (-r)) := by
      rw [Real.tanh_eq_sinh_div_cosh, Real.sinh_eq, Real.cosh_eq]
      field_simp
    have h1 : 1 - Real.tanh r = 2 * Real.exp (-r) / (Real.exp r + Real.exp (-r)) := by
      rw [ht]; field_simp; ring
    have hn : (1 - Real.tanh r) ≠ 0 := by
      rw [h1]; positivity
    unfold Ideal.div
    rw [if_neg (by exact_mod_cast hn), ← EReal.coe_inv, ← EReal.coe_mul]
    congr 1
    rw [h1, ht, he]
    field_simp
    nlinarith [hi]

theorem stpT_eq (u sr si lam h : EReal) : stpT u sr si lam h = stp u sr si lam h := by
  unfold stpT stp
  rw [facT_eq _ (lga_nonpos _ _)]

/-- GELU with the half multiplied in first. -/
theorem gel_eq (g : EReal) : (Ideal.ofBits FTy.f32 0x3F000000#32 * g) * (Ideal.ofBits FTy.f32 0x3F800000#32
    + Ideal.tanh (Ideal.ofBits FTy.f32 0x3F4C422A#32 * (g + Ideal.ofBits FTy.f32 0x3D372713#32 * (g * g * g)))) = gel g := by
  unfold gel
  rw [mul_comm _ g, mul_assoc]

/-- A product with a matrix that is zero off its eight diagonal blocks. -/
theorem blk_eq (u : Fin 512 → EReal) (w : Fin 8 → Fin 64 → Fin 64 → EReal) (W : Fin 512 → Fin 512 → EReal) (q : Fin 512)
    (h0 : ∀ k : Fin 512, k.val / 64 ≠ q.val / 64 → W k q = 0)
    (h1 : ∀ d : Fin 64, W ⟨q.val / 64 * 64 + d.val, by omega⟩ q = w ⟨q.val / 64, by omega⟩ d ⟨q.val % 64, by omega⟩) :
    ∑ k, u k * W k q = blk u w q := by
  unfold blk
  simp only [← h1]
  rw [Fin.sum_univ_tiles 8 64 rfl (fun k => u k * W k q)]
  rw [Finset.sum_eq_single (⟨q.val / 64, by omega⟩ : Fin 8)]
  · intro j _ hj
    refine Finset.sum_eq_zero fun d _ => ?_
    refine (congrArg (_ * ·) (h0 _ ?_)).trans (mul_zero _)
    intro e
    apply hj
    apply Fin.ext
    simp only at e ⊢
    omega
  · intro h; exact absurd (Finset.mem_univ _) h

theorem nxtT_eq (wa wx : Fin 8 → Fin 64 → Fin 64 → EReal) (Wa Wx : Fin 512 → Fin 512 → EReal) (ba bx lam u h : Fin 512 → EReal) (q : Fin 512)
    (ha : ∀ u : Fin 512 → EReal, ∀ q, ∑ k, u k * Wa k q = blk u wa q) (hx : ∀ u : Fin 512 → EReal, ∀ q, ∑ k, u k * Wx k q = blk u wx q) :
    nxtT Wa Wx ba bx lam u h q = nxt wa wx ba bx lam u h q := by
  unfold nxtT nxt
  rw [stpT_eq, ha, hx]

end Cert.LruMath
-- ==== Proof.LruSKernel.lean ====
module

public import proofs.«01_k».proof.Proof.Gen.LruSIdeal.Frame
public import proofs.«01_k».proof.Proof.LruMath

/-!
What the recurrence call on the new tokens stores, from its input blocks: four steps of `LruMath.nxtT` on every sequence and
the output row `LruMath.mix` of every state.
-/

@[expose] public section

set_option maxRecDepth 16384

noncomputable section

open Idealize.ShloMosaic Idealize.ShloMosaic.TcCoe Idealize.SL.Sem
open Idealize.ShloMosaic.Pipeline (Dat)

namespace Cert.LruSIdeal.Value

open Cert.LruSIdeal Cert.LruSIdeal.Gen Cert.LruMath

section pieces

variable (P0 P1 P2 P3 : Vec Ideal S1x128x512 .bf16)

theorem at0 (p : Fin 128) (q : Fin 512) : r0_8.emb (ix3 0 p q) = (ix3 0 p q : S4x128x512.Idx) := by
  funext a
  match a with
  | 0 => rfl
  | 1 => exact Fin.ext (by change 0 + 1 * p.val = p.val; omega)
  | 2 => exact Fin.ext (by change 0 + 1 * q.val = q.val; omega)

theorem off0 (j : Fin 4) (hj : j.val ≠ 0) (p : Fin 128) (q : Fin 512) : (ix3 j p q : S4x128x512.Idx) ∉ r0_8.set := by
  intro h
  obtain ⟨x, hx⟩ := r0_8.exists_idx_of_mem h
  have e : 0 + 1 * (x 0).val = j.val := congrArg (fun z : S4x128x512.Idx => (z 0).val) hx
  have hl : (x 0).val < 1 := (x 0).isLt
  omega

theorem at1 (p : Fin 128) (q : Fin 512) : r0_9.emb (ix3 0 p q) = (ix3 1 p q : S4x128x512.Idx) := by
  funext a
  match a with
  | 0 => rfl
  | 1 => exact Fin.ext (by change 0 + 1 * p.val = p.val; omega)
  | 2 => exact Fin.ext (by change 0 + 1 * q.val = q.val; omega)

theorem off1 (j : Fin 4) (hj : j.val ≠ 1) (p : Fin 128) (q : Fin 512) : (ix3 j p q : S4x128x512.Idx) ∉ r0_9.set := by
  intro h
  obtain ⟨x, hx⟩ := r0_9.exists_idx_of_mem h
  have e : 1 + 1 * (x 0).val = j.val := congrArg (fun z : S4x128x512.Idx => (z 0).val) hx
  have hl : (x 0).val < 1 := (x 0).isLt
  omega

theorem at2 (p : Fin 128) (q : Fin 512) : r0_10.emb (ix3 0 p q) = (ix3 2 p q : S4x128x512.Idx) := by
  funext a
  match a with
  | 0 => rfl
  | 1 => exact Fin.ext (by change 0 + 1 * p.val = p.val; omega)
  | 2 => exact Fin.ext (by change 0 + 1 * q.val = q.val; omega)

theorem off2 (j : Fin 4) (hj : j.val ≠ 2) (p : Fin 128) (q : Fin 512) : (ix3 j p q : S4x128x512.Idx) ∉ r0_10.set := by
  intro h
  obtain ⟨x, hx⟩ := r0_10.exists_idx_of_mem h
  have e : 2 + 1 * (x 0).val = j.val := congrArg (fun z : S4x128x512.Idx => (z 0).val) hx
  have hl : (x 0).val < 1 := (x 0).isLt
  omega

theorem at3 (p : Fin 128) (q : Fin 512) : r0_11.emb (ix3 0 p q) = (ix3 3 p q : S4x128x512.Idx) := by
  funext a
  match a with
  | 0 => rfl
  | 1 => exact Fin.ext (by change 0 + 1 * p.val = p.val; omega)
  | 2 => exact Fin.ext (by change 0 + 1 * q.val = q.val; omega)

theorem off3 (j : Fin 4) (hj : j.val ≠ 3) (p : Fin 128) (q : Fin 512) : (ix3 j p q : S4x128x512.Idx) ∉ r0_11.set := by
  intro h
  obtain ⟨x, hx⟩ := r0_11.exists_idx_of_mem h
  have e : 3 + 1 * (x 0).val = j.val := congrArg (fun z : S4x128x512.Idx => (z 0).val) hx
  have hl : (x 0).val < 1 := (x 0).isLt
  omega

/-- An index outside the last piece reads the earlier ones. -/
theorem skip (L : List (View.Piece (Elt Ideal) S4x128x512 .bf16)) (r : Rect S4x128x512) (P : r.shape.Idx → Elt Ideal .bf16) (y : S4x128x512.Idx)
    (h : y ∉ r.set) : View.canon (⟨r, P⟩ :: L) y = View.canon L y := View.canon_cons_of_not_mem _ L h

/-- An index of the last piece reads it. -/
theorem take (L : List (View.Piece (Elt Ideal) S4x128x512 .bf16)) (r : Rect S4x128x512) (P : r.shape.Idx → Elt Ideal .bf16) (x : r.shape.Idx)
    (y : S4x128x512.Idx) (h : r.emb x = y) : View.canon (⟨r, P⟩ :: L) y = P x := by
  subst h
  exact View.canon_cons_emb r P L x

theorem piece0 (p : Fin 128) (q : Fin 512) :
    (View.canon [⟨r0_11, P3⟩, ⟨r0_10, P2⟩, ⟨r0_9, P1⟩, ⟨r0_8, P0⟩] : Vec Ideal S4x128x512 .bf16) (ix3 0 p q) = P0 (ix3 0 p q) := by
  refine (skip [⟨r0_10, P2⟩, ⟨r0_9, P1⟩, ⟨r0_8, P0⟩] r0_11 P3 (ix3 0 p q) (off3 0 (by decide) p q)).trans ?_
  refine (skip [⟨r0_9, P1⟩, ⟨r0_8, P0⟩] r0_10 P2 (ix3 0 p q) (off2 0 (by decide) p q)).trans ?_
  refine (skip [⟨r0_8, P0⟩] r0_9 P1 (ix3 0 p q) (off1 0 (by decide) p q)).trans ?_
  exact take [] r0_8 P0 (ix3 0 p q) (ix3 0 p q) (at0 p q)

theorem piece1 (p : Fin 128) (q : Fin 512) :
    (View.canon [⟨r0_11, P3⟩, ⟨r0_10, P2⟩, ⟨r0_9, P1⟩, ⟨r0_8, P0⟩] : Vec Ideal S4x128x512 .bf16) (ix3 1 p q) = P1 (ix3 0 p q) := by
  refine (skip [⟨r0_10, P2⟩, ⟨r0_9, P1⟩, ⟨r0_8, P0⟩] r0_11 P3 (ix3 1 p q) (off3 1 (by decide) p q)).trans ?_
  refine (skip [⟨r0_9, P1⟩, ⟨r0_8, P0⟩] r0_10 P2 (ix3 1 p q) (off2 1 (by decide) p q)).trans ?_
  exact take [⟨r0_8, P0⟩] r0_9 P1 (ix3 0 p q) (ix3 1 p q) (at1 p q)

theorem piece2 (p : Fin 128) (q : Fin 512) :
    (View.canon [⟨r0_11, P3⟩, ⟨r0_10, P2⟩, ⟨r0_9, P1⟩, ⟨r0_8, P0⟩] : Vec Ideal S4x128x512 .bf16) (ix3 2 p q) = P2 (ix3 0 p q) := by
  refine (skip [⟨r0_10, P2⟩, ⟨r0_9, P1⟩, ⟨r0_8, P0⟩] r0_11 P3 (ix3 2 p q) (off3 2 (by decide) p q)).trans ?_
  exact take [⟨r0_9, P1⟩, ⟨r0_8, P0⟩] r0_10 P2 (ix3 0 p q) (ix3 2 p q) (at2 p q)

theorem piece3 (p : Fin 128) (q : Fin 512) :
    (View.canon [⟨r0_11, P3⟩, ⟨r0_10, P2⟩, ⟨r0_9, P1⟩, ⟨r0_8, P0⟩] : Vec Ideal S4x128x512 .bf16) (ix3 3 p q) = P3 (ix3 0 p q) := by
  exact take [⟨r0_10, P2⟩, ⟨r0_9, P1⟩, ⟨r0_8, P0⟩] r0_11 P3 (ix3 0 p q) (ix3 3 p q) (at3 p q)

end pieces

section steps

variable (v1 v3 v5 v7 v9 w0 w1 w2 w3 : FVec Ideal S1x512 .f32) (a b c d h : FVec Ideal S128x512 .f32) (W : Vec Ideal S512x512 .bf16)
variable (g : Vec Ideal S1x128x512 .f32)

theorem pay15 (p : Fin 128) (q : Fin 512) : k0_pay15 v1 a b c d w0 w1 w2 w3 (ix2 p q)
    = tap (v1 (ix2 0 q)) (w0 (ix2 0 q)) (a (ix2 p q)) (w1 (ix2 0 q)) (b (ix2 p q)) (w2 (ix2 0 q)) (c (ix2 p q)) (w3 (ix2 0 q)) (d (ix2 p q)) := by
  pointwise [k0_pay15, tap]
  try rfl

theorem pay25 (p : Fin 128) (q : Fin 512) : k0_pay25 v1 a b c d w0 w1 w2 w3 (ix2 p q)
    = tap (v1 (ix2 0 q)) (w0 (ix2 0 q)) (a (ix2 p q)) (w1 (ix2 0 q)) (b (ix2 p q)) (w2 (ix2 0 q)) (c (ix2 p q)) (w3 (ix2 0 q)) (d (ix2 p q)) := by
  pointwise [k0_pay25, tap]
  try rfl

theorem pay34 (p : Fin 128) (q : Fin 512) : k0_pay34 v1 a b c d w0 w1 w2 w3 (ix2 p q)
    = tap (v1 (ix2 0 q)) (w0 (ix2 0 q)) (a (ix2 p q)) (w1 (ix2 0 q)) (b (ix2 p q)) (w2 (ix2 0 q)) (c (ix2 p q)) (w3 (ix2 0 q)) (d (ix2 p q)) := by
  pointwise [k0_pay34, tap]
  try rfl

theorem pay43 (p : Fin 128) (q : Fin 512) : k0_pay43 v1 a b c d w0 w1 w2 w3 (ix2 p q)
    = tap (v1 (ix2 0 q)) (w0 (ix2 0 q)) (a (ix2 p q)) (w1 (ix2 0 q)) (b (ix2 p q)) (w2 (ix2 0 q)) (c (ix2 p q)) (w3 (ix2 0 q)) (d (ix2 p q)) := by
  pointwise [k0_pay43, tap]
  try rfl

theorem step0 (W' : Vec Ideal S512x512 .bf16) (p : Fin 128) (q : Fin 512) : k0_pay22 h (k0_pay15 v1 a b c d w0 w1 w2 w3) (k0_pay17 v1 v5 a b c d w0 w1 w2 w3 W) (k0_pay18 v1 v3 a b c d w0 w1 w2 w3 W') (k0_pay20 v7) (k0_pay21 v7) (ix2 p q)
    = nxtT (fun k q => W' (ix2 k q)) (fun k q => W (ix2 k q)) (fun q => v3 (ix2 0 q)) (fun q => v5 (ix2 0 q)) (fun q => v7 (ix2 0 q))
        (fun k => k0_pay15 v1 a b c d w0 w1 w2 w3 (ix2 p k)) (fun k => h (ix2 p k)) q := by
  pointwise [k0_pay22, k0_pay17, k0_pay16, k0_pay18, k0_pay19, k0_pay20, k0_pay21, nxtT, stpT, facT, lga, sp]
  try rfl

theorem step1 (W' : Vec Ideal S512x512 .bf16) (p : Fin 128) (q : Fin 512) : k0_pay30 h (k0_pay25 v1 a b c d w0 w1 w2 w3) (k0_pay27 v1 v5 a b c d w0 w1 w2 w3 W) (k0_pay28 v1 v3 a b c d w0 w1 w2 w3 W') (k0_pay29 v7) (Scalar.ofBits .f32 0x00000000#32) (ix2 p q)
    = nxtT (fun k q => W' (ix2 k q)) (fun k q => W (ix2 k q)) (fun q => v3 (ix2 0 q)) (fun q => v5 (ix2 0 q)) (fun q => v7 (ix2 0 q))
        (fun k => k0_pay25 v1 a b c d w0 w1 w2 w3 (ix2 p k)) (fun k => h (ix2 p k)) q := by
  pointwise [k0_pay30, k0_pay26, k0_pay27, k0_pay28, k0_pay29, nxtT, stpT, facT, lga, sp]
  try rfl

theorem step2 (W' : Vec Ideal S512x512 .bf16) (p : Fin 128) (q : Fin 512) : k0_pay38 v7 h (k0_pay34 v1 a b c d w0 w1 w2 w3) (k0_pay36 v1 v3 a b c d w0 w1 w2 w3 W') (k0_pay37 v1 v5 a b c d w0 w1 w2 w3 W) (Scalar.ofBits .f32 0xC1000000#32) (ix2 p q)
    = nxtT (fun k q => W' (ix2 k q)) (fun k q => W (ix2 k q)) (fun q => v3 (ix2 0 q)) (fun q => v5 (ix2 0 q)) (fun q => v7 (ix2 0 q))
        (fun k => k0_pay34 v1 a b c d w0 w1 w2 w3 (ix2 p k)) (fun k => h (ix2 p k)) q := by
  pointwise [k0_pay38, k0_pay35, k0_pay36, k0_pay37, nxtT, stpT, facT, lga, sp]
  try rfl

theorem step3 (W' : Vec Ideal S512x512 .bf16) (p : Fin 128) (q : Fin 512) : k0_pay47 v5 v7 h (k0_pay43 v1 a b c d w0 w1 w2 w3) (k0_pay44 v1 a b c d w0 w1 w2 w3) (k0_pay45 v1 v3 a b c d w0 w1 w2 w3 W') (k0_pay46 W) (ix2 p q)
    = nxtT (fun k q => W' (ix2 k q)) (fun k q => W (ix2 k q)) (fun q => v3 (ix2 0 q)) (fun q => v5 (ix2 0 q)) (fun q => v7 (ix2 0 q))
        (fun k => k0_pay43 v1 a b c d w0 w1 w2 w3 (ix2 p k)) (fun k => h (ix2 p k)) q := by
  pointwise [k0_pay47, k0_pay44, k0_pay45, k0_pay46, nxtT, stpT, facT, lga, sp]
  try rfl

end steps

section rowsOut

variable (v5 v7 v9 : FVec Ideal S1x512 .f32) (h a b c d : FVec Ideal S128x512 .f32) (e f : FVec Ideal S1x512 .f32) (z : Ideal .f32)
variable (u : FVec Ideal S128x512 .bf16) (W : FVec Ideal S512x512 .bf16) (g : Vec Ideal S1x128x512 .f32)

theorem out0 (p : Fin 128) (q : Fin 512) : k0_pay24 (k0_pay23 v9 h a b c e f g) (ix3 0 p q)
    = mix (fun q => v9 (ix2 0 q)) (fun k => k0_pay22 h a b c e f (ix2 p k)) (fun k => g (ix3 0 p k)) q := by
  unfold mix nrm
  simp only [← gel_eq]
  pointwise [k0_pay24, k0_pay23]
  try rfl

theorem out1 (p : Fin 128) (q : Fin 512) : k0_pay33 v9 (k0_pay31 h a b c e z g) (k0_pay32 h a b c e z g) (ix3 0 p q)
    = mix (fun q => v9 (ix2 0 q)) (fun k => k0_pay30 h a b c e z (ix2 p k)) (fun k => g (ix3 0 p k)) q := by
  unfold mix nrm
  simp only [← gel_eq]
  pointwise [k0_pay33, k0_pay31, k0_pay32]
  try rfl

theorem out2 (p : Fin 128) (q : Fin 512) : k0_pay42 v9 (k0_pay39 v7 h a b c z g) (k0_pay40 v7 h a b c z g) k0_pay41 (ix3 0 p q)
    = mix (fun q => v9 (ix2 0 q)) (fun k => k0_pay38 v7 h a b c z (ix2 p k)) (fun k => g (ix3 0 p k)) q := by
  unfold mix nrm
  simp only [← gel_eq]
  pointwise [k0_pay42, k0_pay39, k0_pay40, k0_pay41]
  try rfl

theorem out3 (p : Fin 128) (q : Fin 512) : k0_pay1 v9 (k0_pay48 v5 v7 h a u b W g) (ix3 0 p q)
    = mix (fun q => v9 (ix2 0 q)) (fun k => k0_pay47 v5 v7 h a u b W (ix2 p k)) (fun k => g (ix3 0 p k)) q := by
  unfold mix nrm
  simp only [← gel_eq]
  pointwise [k0_pay1, k0_pay48]
  try rfl

end rowsOut

section blocks

variable (x0 x1 : Vec Ideal S4x128x512 .f32) (x2 : Vec Ideal S3x128x512 .f32) (x3 : Vec Ideal S128x512 .f32)
  (x4 : Vec Ideal S4x512 .f32) (x5 : Vec Ideal S8x512 .f32) (x6 x7 : Vec Ideal S512x512 .bf16)

/-- The convolved input of sequence `p` and token `t`. -/
def U (t : Fin 4) (p : Fin 128) (q : Fin 512) : EReal :=
  cnv (fun j q => x4 (ix2 j q)) (fun q => x5 (ix2 0 q)) (rows (fun j q => x2 (ix3 j p q)) (fun j q => x0 (ix3 j p q))) t q

/-- One step from the blocks. -/
def nx (u h : Fin 512 → EReal) (q : Fin 512) : EReal :=
  nxtT (fun k q => x6 (ix2 k q)) (fun k q => x7 (ix2 k q)) (fun q => x5 (ix2 1 q)) (fun q => x5 (ix2 2 q)) (fun q => x5 (ix2 3 q)) u h q

/-- The state after one, two, three and four tokens. -/
def S1 (p : Fin 128) : Fin 512 → EReal := nx x5 x6 x7 (U x0 x2 x4 x5 0 p) (fun q => x3 (ix2 p q))
def S2 (p : Fin 128) : Fin 512 → EReal := nx x5 x6 x7 (U x0 x2 x4 x5 1 p) (S1 x0 x2 x3 x4 x5 x6 x7 p)
def S3 (p : Fin 128) : Fin 512 → EReal := nx x5 x6 x7 (U x0 x2 x4 x5 2 p) (S2 x0 x2 x3 x4 x5 x6 x7 p)
def S4 (p : Fin 128) : Fin 512 → EReal := nx x5 x6 x7 (U x0 x2 x4 x5 3 p) (S3 x0 x2 x3 x4 x5 x6 x7 p)

theorem rd49 (q : Fin 512) : k0_pay49 x0 x1 x2 x3 x4 x5 x6 x7 (ix2 0 q) = x5 (ix2 0 q) := by
  pointwise [k0_pay49, k0_pay2]
  try rfl

theorem rd50 (q : Fin 512) : k0_pay50 x0 x1 x2 x3 x4 x5 x6 x7 (ix2 0 q) = x5 (ix2 1 q) := by
  pointwise [k0_pay50, k0_pay3]
  try rfl

theorem rd51 (q : Fin 512) : k0_pay51 x0 x1 x2 x3 x4 x5 x6 x7 (ix2 0 q) = x5 (ix2 2 q) := by
  pointwise [k0_pay51, k0_pay4]
  try rfl

theorem rd52 (q : Fin 512) : k0_pay52 x0 x1 x2 x3 x4 x5 x6 x7 (ix2 0 q) = x5 (ix2 3 q) := by
  pointwise [k0_pay52, k0_pay5]
  try rfl

theorem rd53 (q : Fin 512) : k0_pay53 x0 x1 x2 x3 x4 x5 x6 x7 (ix2 0 q) = x5 (ix2 4 q) := by
  pointwise [k0_pay53, k0_pay6]
  try rfl

theorem rd54 (p : Fin 128) (q : Fin 512) : k0_pay54 x0 x1 x2 x3 x4 x5 x6 x7 (ix2 p q) = x2 (ix3 0 p q) := by
  pointwise [k0_pay54, k0_pay7]
  try rfl

theorem rd55 (p : Fin 128) (q : Fin 512) : k0_pay55 x0 x1 x2 x3 x4 x5 x6 x7 (ix2 p q) = x2 (ix3 1 p q) := by
  pointwise [k0_pay55, k0_pay8]
  try rfl

theorem rd56 (p : Fin 128) (q : Fin 512) : k0_pay56 x0 x1 x2 x3 x4 x5 x6 x7 (ix2 p q) = x2 (ix3 2 p q) := by
  pointwise [k0_pay56, k0_pay9]
  try rfl

theorem rd57 (p : Fin 128) (q : Fin 512) : k0_pay57 x0 x1 x2 x3 x4 x5 x6 x7 (ix2 p q) = x0 (ix3 0 p q) := by
  pointwise [k0_pay57, k0_pay10]
  try rfl

theorem rd58 (p : Fin 128) (q : Fin 512) : k0_pay58 x0 x1 x2 x3 x4 x5 x6 x7 (ix2 p q) = x0 (ix3 1 p q) := by
  pointwise [k0_pay58, k0_pay11]
  try rfl

theorem rd59 (p : Fin 128) (q : Fin 512) : k0_pay59 x0 x1 x2 x3 x4 x5 x6 x7 (ix2 p q) = x0 (ix3 2 p q) := by
  pointwise [k0_pay59, k0_pay12]
  try rfl

theorem rd60 (p : Fin 128) (q : Fin 512) : k0_pay60 x0 x1 x2 x3 x4 x5 x6 x7 (ix2 p q) = x0 (ix3 3 p q) := by
  pointwise [k0_pay60, k0_pay13]
  try rfl

theorem rd61 (p : Fin 128) (q : Fin 512) : k0_pay61 x0 x1 x2 x3 x4 x5 x6 x7 (ix2 p q) = x3 (ix2 p q) := by
  pointwise [k0_pay61, k0_pay14]
  try rfl

theorem rdw0 (q : Fin 512) : View.ld x4 r0_13 (ix2 0 q) = x4 (ix2 0 q) := by
  pointwise []
  try rfl

theorem rdw1 (q : Fin 512) : View.ld x4 r0_14 (ix2 0 q) = x4 (ix2 1 q) := by
  pointwise []
  try rfl

theorem rdw2 (q : Fin 512) : View.ld x4 r0_15 (ix2 0 q) = x4 (ix2 2 q) := by
  pointwise []
  try rfl

theorem rdw3 (q : Fin 512) : View.ld x4 r0_16 (ix2 0 q) = x4 (ix2 3 q) := by
  pointwise []
  try rfl

theorem rdW (x : Vec Ideal S512x512 .bf16) (k q : Fin 512) : View.ld x r0_17 (ix2 k q) = x (ix2 k q) := by
  pointwise []
  try rfl

theorem rdg0 (p : Fin 128) (q : Fin 512) : View.ld x1 r0_8 (ix3 0 p q) = x1 (ix3 0 p q) := by
  pointwise []
  try rfl

theorem rdg1 (p : Fin 128) (q : Fin 512) : View.ld x1 r0_9 (ix3 0 p q) = x1 (ix3 1 p q) := by
  pointwise []
  try rfl

theorem rdg2 (p : Fin 128) (q : Fin 512) : View.ld x1 r0_10 (ix3 0 p q) = x1 (ix3 2 p q) := by
  pointwise []
  try rfl

theorem rdg3 (p : Fin 128) (q : Fin 512) : View.ld x1 r0_11 (ix3 0 p q) = x1 (ix3 3 p q) := by
  pointwise []
  try rfl

theorem conv0 (p : Fin 128) (q : Fin 512) : k0_pay62 x0 x1 x2 x3 x4 x5 x6 x7 (ix2 p q) = U x0 x2 x4 x5 0 p q :=
  (pay15 (k0_pay49 x0 x1 x2 x3 x4 x5 x6 x7) (View.ld x4 r0_13) (View.ld x4 r0_14) (View.ld x4 r0_15) (View.ld x4 r0_16) (k0_pay54 x0 x1 x2 x3 x4 x5 x6 x7) (k0_pay55 x0 x1 x2 x3 x4 x5 x6 x7) (k0_pay56 x0 x1 x2 x3 x4 x5 x6 x7) (k0_pay57 x0 x1 x2 x3 x4 x5 x6 x7) p q).trans
    (tap_congr (rd49 x0 x1 x2 x3 x4 x5 x6 x7 q) (rdw0 x4 q) (rd54 x0 x1 x2 x3 x4 x5 x6 x7 p q) (rdw1 x4 q) (rd55 x0 x1 x2 x3 x4 x5 x6 x7 p q) (rdw2 x4 q) (rd56 x0 x1 x2 x3 x4 x5 x6 x7 p q) (rdw3 x4 q) (rd57 x0 x1 x2 x3 x4 x5 x6 x7 p q))

theorem conv1 (p : Fin 128) (q : Fin 512) : k0_pay68 x0 x1 x2 x3 x4 x5 x6 x7 (ix2 p q) = U x0 x2 x4 x5 1 p q :=
  (pay25 (k0_pay49 x0 x1 x2 x3 x4 x5 x6 x7) (View.ld x4 r0_13) (View.ld x4 r0_14) (View.ld x4 r0_15) (View.ld x4 r0_16) (k0_pay55 x0 x1 x2 x3 x4 x5 x6 x7) (k0_pay56 x0 x1 x2 x3 x4 x5 x6 x7) (k0_pay57 x0 x1 x2 x3 x4 x5 x6 x7) (k0_pay58 x0 x1 x2 x3 x4 x5 x6 x7) p q).trans
    (tap_congr (rd49 x0 x1 x2 x3 x4 x5 x6 x7 q) (rdw0 x4 q) (rd55 x0 x1 x2 x3 x4 x5 x6 x7 p q) (rdw1 x4 q) (rd56 x0 x1 x2 x3 x4 x5 x6 x7 p q) (rdw2 x4 q) (rd57 x0 x1 x2 x3 x4 x5 x6 x7 p q) (rdw3 x4 q) (rd58 x0 x1 x2 x3 x4 x5 x6 x7 p q))

theorem conv2 (p : Fin 128) (q : Fin 512) : k0_pay73 x0 x1 x2 x3 x4 x5 x6 x7 (ix2 p q) = U x0 x2 x4 x5 2 p q :=
  (pay34 (k0_pay49 x0 x1 x2 x3 x4 x5 x6 x7) (View.ld x4 r0_13) (View.ld x4 r0_14) (View.ld x4 r0_15) (View.ld x4 r0_16) (k0_pay56 x0 x1 x2 x3 x4 x5 x6 x7) (k0_pay57 x0 x1 x2 x3 x4 x5 x6 x7) (k0_pay58 x0 x1 x2 x3 x4 x5 x6 x7) (k0_pay59 x0 x1 x2 x3 x4 x5 x6 x7) p q).trans
    (tap_congr (rd49 x0 x1 x2 x3 x4 x5 x6 x7 q) (rdw0 x4 q) (rd56 x0 x1 x2 x3 x4 x5 x6 x7 p q) (rdw1 x4 q) (rd57 x0 x1 x2 x3 x4 x5 x6 x7 p q) (rdw2 x4 q) (rd58 x0 x1 x2 x3 x4 x5 x6 x7 p q) (rdw3 x4 q) (rd59 x0 x1 x2 x3 x4 x5 x6 x7 p q))

theorem conv3 (p : Fin 128) (q : Fin 512) : k0_pay77 x0 x1 x2 x3 x4 x5 x6 x7 (ix2 p q) = U x0 x2 x4 x5 3 p q :=
  (pay43 (k0_pay49 x0 x1 x2 x3 x4 x5 x6 x7) (View.ld x4 r0_13) (View.ld x4 r0_14) (View.ld x4 r0_15) (View.ld x4 r0_16) (k0_pay57 x0 x1 x2 x3 x4 x5 x6 x7) (k0_pay58 x0 x1 x2 x3 x4 x5 x6 x7) (k0_pay59 x0 x1 x2 x3 x4 x5 x6 x7) (k0_pay60 x0 x1 x2 x3 x4 x5 x6 x7) p q).trans
    (tap_congr (rd49 x0 x1 x2 x3 x4 x5 x6 x7 q) (rdw0 x4 q) (rd57 x0 x1 x2 x3 x4 x5 x6 x7 p q) (rdw1 x4 q) (rd58 x0 x1 x2 x3 x4 x5 x6 x7 p q) (rdw2 x4 q) (rd59 x0 x1 x2 x3 x4 x5 x6 x7 p q) (rdw3 x4 q) (rd60 x0 x1 x2 x3 x4 x5 x6 x7 p q))

theorem st1 (p : Fin 128) (q : Fin 512) : (k0_pay67 x0 x1 x2 x3 x4 x5 x6 x7 : FVec Ideal S128x512 .f32) (ix2 p q) = S1 x0 x2 x3 x4 x5 x6 x7 p q :=
  (step0 (k0_pay49 x0 x1 x2 x3 x4 x5 x6 x7) (k0_pay50 x0 x1 x2 x3 x4 x5 x6 x7) (k0_pay51 x0 x1 x2 x3 x4 x5 x6 x7) (k0_pay52 x0 x1 x2 x3 x4 x5 x6 x7) (View.ld x4 r0_13) (View.ld x4 r0_14) (View.ld x4 r0_15) (View.ld x4 r0_16) (k0_pay54 x0 x1 x2 x3 x4 x5 x6 x7) (k0_pay55 x0 x1 x2 x3 x4 x5 x6 x7) (k0_pay56 x0 x1 x2 x3 x4 x5 x6 x7) (k0_pay57 x0 x1 x2 x3 x4 x5 x6 x7) (k0_pay61 x0 x1 x2 x3 x4 x5 x6 x7)
    (View.ld x7 r0_17) (View.ld x6 r0_17) p q).trans
    (nxtT_congr (fun k q => rdW x6 k q) (fun k q => rdW x7 k q) (fun q => rd50 x0 x1 x2 x3 x4 x5 x6 x7 q) (fun q => rd51 x0 x1 x2 x3 x4 x5 x6 x7 q) (fun q => rd52 x0 x1 x2 x3 x4 x5 x6 x7 q)
      (conv0 x0 x1 x2 x3 x4 x5 x6 x7 p) (fun k => rd61 x0 x1 x2 x3 x4 x5 x6 x7 p k) q)

theorem st2 (p : Fin 128) (q : Fin 512) : (k0_pay72 x0 x1 x2 x3 x4 x5 x6 x7 : FVec Ideal S128x512 .f32) (ix2 p q) = S2 x0 x2 x3 x4 x5 x6 x7 p q :=
  (step1 (k0_pay49 x0 x1 x2 x3 x4 x5 x6 x7) (k0_pay50 x0 x1 x2 x3 x4 x5 x6 x7) (k0_pay51 x0 x1 x2 x3 x4 x5 x6 x7) (k0_pay52 x0 x1 x2 x3 x4 x5 x6 x7) (View.ld x4 r0_13) (View.ld x4 r0_14) (View.ld x4 r0_15) (View.ld x4 r0_16) (k0_pay55 x0 x1 x2 x3 x4 x5 x6 x7) (k0_pay56 x0 x1 x2 x3 x4 x5 x6 x7) (k0_pay57 x0 x1 x2 x3 x4 x5 x6 x7) (k0_pay58 x0 x1 x2 x3 x4 x5 x6 x7) (k0_pay67 x0 x1 x2 x3 x4 x5 x6 x7)
    (View.ld x7 r0_17) (View.ld x6 r0_17) p q).trans
    (nxtT_congr (fun k q => rdW x6 k q) (fun k q => rdW x7 k q) (fun q => rd50 x0 x1 x2 x3 x4 x5 x6 x7 q) (fun q => rd51 x0 x1 x2 x3 x4 x5 x6 x7 q) (fun q => rd52 x0 x1 x2 x3 x4 x5 x6 x7 q)
      (conv1 x0 x1 x2 x3 x4 x5 x6 x7 p) (st1 x0 x1 x2 x3 x4 x5 x6 x7 p) q)

theorem st3 (p : Fin 128) (q : Fin 512) : (k0_pay76 x0 x1 x2 x3 x4 x5 x6 x7 : FVec Ideal S128x512 .f32) (ix2 p q) = S3 x0 x2 x3 x4 x5 x6 x7 p q :=
  (step2 (k0_pay49 x0 x1 x2 x3 x4 x5 x6 x7) (k0_pay50 x0 x1 x2 x3 x4 x5 x6 x7) (k0_pay51 x0 x1 x2 x3 x4 x5 x6 x7) (k0_pay52 x0 x1 x2 x3 x4 x5 x6 x7) (View.ld x4 r0_13) (View.ld x4 r0_14) (View.ld x4 r0_15) (View.ld x4 r0_16) (k0_pay56 x0 x1 x2 x3 x4 x5 x6 x7) (k0_pay57 x0 x1 x2 x3 x4 x5 x6 x7) (k0_pay58 x0 x1 x2 x3 x4 x5 x6 x7) (k0_pay59 x0 x1 x2 x3 x4 x5 x6 x7) (k0_pay72 x0 x1 x2 x3 x4 x5 x6 x7)
    (View.ld x7 r0_17) (View.ld x6 r0_17) p q).trans
    (nxtT_congr (fun k q => rdW x6 k q) (fun k q => rdW x7 k q) (fun q => rd50 x0 x1 x2 x3 x4 x5 x6 x7 q) (fun q => rd51 x0 x1 x2 x3 x4 x5 x6 x7 q) (fun q => rd52 x0 x1 x2 x3 x4 x5 x6 x7 q)
      (conv2 x0 x1 x2 x3 x4 x5 x6 x7 p) (st2 x0 x1 x2 x3 x4 x5 x6 x7 p) q)

theorem st4 (p : Fin 128) (q : Fin 512) : (k0_pay47 (k0_pay51 x0 x1 x2 x3 x4 x5 x6 x7) (k0_pay52 x0 x1 x2 x3 x4 x5 x6 x7) (k0_pay76 x0 x1 x2 x3 x4 x5 x6 x7) (k0_pay77 x0 x1 x2 x3 x4 x5 x6 x7) (k0_pay78 x0 x1 x2 x3 x4 x5 x6 x7) (k0_pay79 x0 x1 x2 x3 x4 x5 x6 x7) (k0_pay80 x0 x1 x2 x3 x4 x5 x6 x7) : FVec Ideal S128x512 .f32) (ix2 p q) = S4 x0 x2 x3 x4 x5 x6 x7 p q :=
  (step3 (k0_pay49 x0 x1 x2 x3 x4 x5 x6 x7) (k0_pay50 x0 x1 x2 x3 x4 x5 x6 x7) (k0_pay51 x0 x1 x2 x3 x4 x5 x6 x7) (k0_pay52 x0 x1 x2 x3 x4 x5 x6 x7) (View.ld x4 r0_13) (View.ld x4 r0_14) (View.ld x4 r0_15) (View.ld x4 r0_16) (k0_pay57 x0 x1 x2 x3 x4 x5 x6 x7) (k0_pay58 x0 x1 x2 x3 x4 x5 x6 x7) (k0_pay59 x0 x1 x2 x3 x4 x5 x6 x7) (k0_pay60 x0 x1 x2 x3 x4 x5 x6 x7) (k0_pay76 x0 x1 x2 x3 x4 x5 x6 x7)
    (View.ld x7 r0_17) (View.ld x6 r0_17) p q).trans
    (nxtT_congr (fun k q => rdW x6 k q) (fun k q => rdW x7 k q) (fun q => rd50 x0 x1 x2 x3 x4 x5 x6 x7 q) (fun q => rd51 x0 x1 x2 x3 x4 x5 x6 x7 q) (fun q => rd52 x0 x1 x2 x3 x4 x5 x6 x7 q)
      (conv3 x0 x1 x2 x3 x4 x5 x6 x7 p) (st3 x0 x1 x2 x3 x4 x5 x6 x7 p) q)

/-- The state a run stores. -/
theorem stored9 (p : Fin 128) (q : Fin 512) : (out0_9 x0 x1 x2 x3 x4 x5 x6 x7 : FVec Ideal S128x512 .f32) (ix2 p q) = S4 x0 x2 x3 x4 x5 x6 x7 p q := by
  frame_out
  exact st4 x0 x1 x2 x3 x4 x5 x6 x7 p q

theorem o0 (p : Fin 128) (q : Fin 512) : (k0_pay24 (k0_pay23 (k0_pay53 x0 x1 x2 x3 x4 x5 x6 x7) (k0_pay61 x0 x1 x2 x3 x4 x5 x6 x7) (k0_pay62 x0 x1 x2 x3 x4 x5 x6 x7) (k0_pay63 x0 x1 x2 x3 x4 x5 x6 x7) (k0_pay64 x0 x1 x2 x3 x4 x5 x6 x7) (k0_pay65 x0 x1 x2 x3 x4 x5 x6 x7) (k0_pay66 x0 x1 x2 x3 x4 x5 x6 x7) (View.ld x1 r0_8)) : FVec Ideal S1x128x512 .bf16) (ix3 0 p q)
    = mix (fun q => x5 (ix2 4 q)) (S1 x0 x2 x3 x4 x5 x6 x7 p) (fun q => x1 (ix3 0 p q)) q :=
  (out0 (v9 := k0_pay53 x0 x1 x2 x3 x4 x5 x6 x7) (h := k0_pay61 x0 x1 x2 x3 x4 x5 x6 x7) (a := k0_pay62 x0 x1 x2 x3 x4 x5 x6 x7) (b := k0_pay63 x0 x1 x2 x3 x4 x5 x6 x7) (c := k0_pay64 x0 x1 x2 x3 x4 x5 x6 x7) (e := k0_pay65 x0 x1 x2 x3 x4 x5 x6 x7) (f := k0_pay66 x0 x1 x2 x3 x4 x5 x6 x7)  (g := View.ld x1 r0_8) (p := p) (q := q)).trans
    (mix_congr (fun q => rd53 x0 x1 x2 x3 x4 x5 x6 x7 q) (st1 x0 x1 x2 x3 x4 x5 x6 x7 p) (fun q => rdg0 x1 p q) q)

/-- The output rows of token 0. -/
theorem stored8_0 (p : Fin 128) (q : Fin 512) : (out0_8 x0 x1 x2 x3 x4 x5 x6 x7 : FVec Ideal S4x128x512 .bf16) (ix3 0 p q)
    = mix (fun q => x5 (ix2 4 q)) (S1 x0 x2 x3 x4 x5 x6 x7 p) (fun q => x1 (ix3 0 p q)) q := by
  unfold out0_8
  exact (piece0 _ _ _ _ p q).trans (o0 x0 x1 x2 x3 x4 x5 x6 x7 p q)

theorem o1 (p : Fin 128) (q : Fin 512) : (k0_pay33 (k0_pay53 x0 x1 x2 x3 x4 x5 x6 x7) (k0_pay31 (k0_pay67 x0 x1 x2 x3 x4 x5 x6 x7) (k0_pay68 x0 x1 x2 x3 x4 x5 x6 x7) (k0_pay69 x0 x1 x2 x3 x4 x5 x6 x7) (k0_pay70 x0 x1 x2 x3 x4 x5 x6 x7) (k0_pay71 x0 x1 x2 x3 x4 x5 x6 x7) (Scalar.ofBits .f32 0x00000000#32) (View.ld x1 r0_9)) (k0_pay32 (k0_pay67 x0 x1 x2 x3 x4 x5 x6 x7) (k0_pay68 x0 x1 x2 x3 x4 x5 x6 x7) (k0_pay69 x0 x1 x2 x3 x4 x5 x6 x7) (k0_pay70 x0 x1 x2 x3 x4 x5 x6 x7) (k0_pay71 x0 x1 x2 x3 x4 x5 x6 x7) (Scalar.ofBits .f32 0x00000000#32) (View.ld x1 r0_9)) : FVec Ideal S1x128x512 .bf16) (ix3 0 p q)
    = mix (fun q => x5 (ix2 4 q)) (S2 x0 x2 x3 x4 x5 x6 x7 p) (fun q => x1 (ix3 1 p q)) q :=
  (out1 (v9 := k0_pay53 x0 x1 x2 x3 x4 x5 x6 x7) (h := k0_pay67 x0 x1 x2 x3 x4 x5 x6 x7) (a := k0_pay68 x0 x1 x2 x3 x4 x5 x6 x7) (b := k0_pay69 x0 x1 x2 x3 x4 x5 x6 x7) (c := k0_pay70 x0 x1 x2 x3 x4 x5 x6 x7) (e := k0_pay71 x0 x1 x2 x3 x4 x5 x6 x7) (z := Scalar.ofBits .f32 0x00000000#32) (g := View.ld x1 r0_9) (p := p) (q := q)).trans
    (mix_congr (fun q => rd53 x0 x1 x2 x3 x4 x5 x6 x7 q) (st2 x0 x1 x2 x3 x4 x5 x6 x7 p) (fun q => rdg1 x1 p q) q)

/-- The output rows of token 1. -/
theorem stored8_1 (p : Fin 128) (q : Fin 512) : (out0_8 x0 x1 x2 x3 x4 x5 x6 x7 : FVec Ideal S4x128x512 .bf16) (ix3 1 p q)
    = mix (fun q => x5 (ix2 4 q)) (S2 x0 x2 x3 x4 x5 x6 x7 p) (fun q => x1 (ix3 1 p q)) q := by
  unfold out0_8
  exact (piece1 _ _ _ _ p q).trans (o1 x0 x1 x2 x3 x4 x5 x6 x7 p q)

theorem o2 (p : Fin 128) (q : Fin 512) : (k0_pay42 (k0_pay53 x0 x1 x2 x3 x4 x5 x6 x7) (k0_pay39 (k0_pay52 x0 x1 x2 x3 x4 x5 x6 x7) (k0_pay72 x0 x1 x2 x3 x4 x5 x6 x7) (k0_pay73 x0 x1 x2 x3 x4 x5 x6 x7) (k0_pay74 x0 x1 x2 x3 x4 x5 x6 x7) (k0_pay75 x0 x1 x2 x3 x4 x5 x6 x7) (Scalar.ofBits .f32 0xC1000000#32) (View.ld x1 r0_10)) (k0_pay40 (k0_pay52 x0 x1 x2 x3 x4 x5 x6 x7) (k0_pay72 x0 x1 x2 x3 x4 x5 x6 x7) (k0_pay73 x0 x1 x2 x3 x4 x5 x6 x7) (k0_pay74 x0 x1 x2 x3 x4 x5 x6 x7) (k0_pay75 x0 x1 x2 x3 x4 x5 x6 x7) (Scalar.ofBits .f32 0xC1000000#32) (View.ld x1 r0_10)) k0_pay41 : FVec Ideal S1x128x512 .bf16) (ix3 0 p q)
    = mix (fun q => x5 (ix2 4 q)) (S3 x0 x2 x3 x4 x5 x6 x7 p) (fun q => x1 (ix3 2 p q)) q :=
  (out2 (v7 := k0_pay52 x0 x1 x2 x3 x4 x5 x6 x7) (v9 := k0_pay53 x0 x1 x2 x3 x4 x5 x6 x7) (h := k0_pay72 x0 x1 x2 x3 x4 x5 x6 x7) (a := k0_pay73 x0 x1 x2 x3 x4 x5 x6 x7) (b := k0_pay74 x0 x1 x2 x3 x4 x5 x6 x7) (c := k0_pay75 x0 x1 x2 x3 x4 x5 x6 x7) (z := Scalar.ofBits .f32 0xC1000000#32) (g := View.ld x1 r0_10) (p := p) (q := q)).trans
    (mix_congr (fun q => rd53 x0 x1 x2 x3 x4 x5 x6 x7 q) (st3 x0 x1 x2 x3 x4 x5 x6 x7 p) (fun q => rdg2 x1 p q) q)

/-- The output rows of token 2. -/
theorem stored8_2 (p : Fin 128) (q : Fin 512) : (out0_8 x0 x1 x2 x3 x4 x5 x6 x7 : FVec Ideal S4x128x512 .bf16) (ix3 2 p q)
    = mix (fun q => x5 (ix2 4 q)) (S3 x0 x2 x3 x4 x5 x6 x7 p) (fun q => x1 (ix3 2 p q)) q := by
  unfold out0_8
  exact (piece2 _ _ _ _ p q).trans (o2 x0 x1 x2 x3 x4 x5 x6 x7 p q)

theorem o3 (p : Fin 128) (q : Fin 512) : (k0_pay1 (k0_pay53 x0 x1 x2 x3 x4 x5 x6 x7) (k0_pay48 (k0_pay51 x0 x1 x2 x3 x4 x5 x6 x7) (k0_pay52 x0 x1 x2 x3 x4 x5 x6 x7) (k0_pay76 x0 x1 x2 x3 x4 x5 x6 x7) (k0_pay77 x0 x1 x2 x3 x4 x5 x6 x7) (k0_pay78 x0 x1 x2 x3 x4 x5 x6 x7) (k0_pay79 x0 x1 x2 x3 x4 x5 x6 x7) (k0_pay80 x0 x1 x2 x3 x4 x5 x6 x7) (View.ld x1 r0_11)) : FVec Ideal S1x128x512 .bf16) (ix3 0 p q)
    = mix (fun q => x5 (ix2 4 q)) (S4 x0 x2 x3 x4 x5 x6 x7 p) (fun q => x1 (ix3 3 p q)) q :=
  (out3 (v5 := k0_pay51 x0 x1 x2 x3 x4 x5 x6 x7) (v7 := k0_pay52 x0 x1 x2 x3 x4 x5 x6 x7) (v9 := k0_pay53 x0 x1 x2 x3 x4 x5 x6 x7) (h := k0_pay76 x0 x1 x2 x3 x4 x5 x6 x7) (a := k0_pay77 x0 x1 x2 x3 x4 x5 x6 x7) (b := k0_pay79 x0 x1 x2 x3 x4 x5 x6 x7) (u := k0_pay78 x0 x1 x2 x3 x4 x5 x6 x7) (W := k0_pay80 x0 x1 x2 x3 x4 x5 x6 x7)  (g := View.ld x1 r0_11) (p := p) (q := q)).trans
    (mix_congr (fun q => rd53 x0 x1 x2 x3 x4 x5 x6 x7 q) (st4 x0 x1 x2 x3 x4 x5 x6 x7 p) (fun q => rdg3 x1 p q) q)

/-- The output rows of token 3. -/
theorem stored8_3 (p : Fin 128) (q : Fin 512) : (out0_8 x0 x1 x2 x3 x4 x5 x6 x7 : FVec Ideal S4x128x512 .bf16) (ix3 3 p q)
    = mix (fun q => x5 (ix2 4 q)) (S4 x0 x2 x3 x4 x5 x6 x7 p) (fun q => x1 (ix3 3 p q)) q := by
  unfold out0_8
  exact (piece3 _ _ _ _ p q).trans (o3 x0 x1 x2 x3 x4 x5 x6 x7 p q)

end blocks

end Cert.LruSIdeal.Value
-- ==== Proof.LruSEntry.lean ====
module

public import proofs.«01_k».proof.Proof.LruSKernel

/-!
What the blocks of the recurrence call on the new tokens hold: the transposed inputs, the stacked parameters and the block-diagonal gate weights.
-/

@[expose] public section

set_option maxRecDepth 16384

noncomputable section

open Idealize.ShloMosaic Idealize.ShloMosaic.TcCoe Idealize.SL.Sem
open Idealize.ShloMosaic.Pipeline (Dat)

namespace Cert.LruSIdeal.Value

open Cert.LruSIdeal Cert.LruSIdeal.Gen Cert.LruMath

variable (m : (ℓ : Loc nD τ sig) → Buf (Elt Ideal) ℓ)

/-- The arguments: the inputs, the gates, the kept inputs, the kept state and the parameters. -/
def a0 (c : Dev nD) : FVec Ideal S128x4x512 .f32 := m ((c : Thread nD τ).loc main_arg0)
def a1 (c : Dev nD) : FVec Ideal S128x4x512 .f32 := m ((c : Thread nD τ).loc main_arg1)
def a2 (c : Dev nD) : FVec Ideal S1x128x3x512 .f32 := m ((c : Thread nD τ).loc main_arg2)
def a3 (c : Dev nD) : FVec Ideal S1x128x512 .f32 := m ((c : Thread nD τ).loc main_arg3)
def a4 (c : Dev nD) : FVec Ideal S1x4x512 .f32 := m ((c : Thread nD τ).loc main_arg4)
def a5 (c : Dev nD) : FVec Ideal S1x512 .f32 := m ((c : Thread nD τ).loc main_arg5)
def a6 (c : Dev nD) : FVec Ideal S1x8x64x64 .f32 := m ((c : Thread nD τ).loc main_arg6)
def a7 (c : Dev nD) : FVec Ideal S1x512 .f32 := m ((c : Thread nD τ).loc main_arg7)
def a8 (c : Dev nD) : FVec Ideal S1x8x64x64 .f32 := m ((c : Thread nD τ).loc main_arg8)
def a9 (c : Dev nD) : FVec Ideal S1x512 .f32 := m ((c : Thread nD τ).loc main_arg9)
def a10 (c : Dev nD) : FVec Ideal S1x512 .f32 := m ((c : Thread nD τ).loc main_arg10)
def a11 (c : Dev nD) : FVec Ideal S1x512 .f32 := m ((c : Thread nD τ).loc main_arg11)

/-- The identity of size eight, as the host makes it. -/
def eye : FVec Ideal S8x8 .f32 :=
  uitofp (F := Ideal) .f32 (cmpi .eq (addi (iotaInDim S8x8 32 0) (broadcastInDim S8x8 ![] bcast_S_S8x8 (constantI S_ 32 0#32))) (iotaInDim S8x8 32 1))

/-- The block-diagonal matrix of eight gate weights, as the host makes it. -/
def bd (w : FVec Ideal S1x8x64x64 .f32) : FVec Ideal S512x512 .bf16 :=
  truncf (F := Ideal) .bf16 (shapeCast S512x512 (mulf
    (broadcastInDim S8x64x8x64 ![0, 1, 2, 3] bcast_S8x64x1x64_S8x64x8x64_0_1_2_3 (broadcastInDim S8x64x1x64 ![0, 1, 3] bcast_S8x64x64_S8x64x1x64_0_1_3 (shapeCast S8x64x64 w shapeCasts_S1x8x64x64_S8x64x64)))
    (broadcastInDim S8x64x8x64 ![0, 1, 2, 3] bcast_S8x1x8x1_S8x64x8x64_0_1_2_3 (broadcastInDim S8x1x8x1 ![0, 2] bcast_S8x8_S8x1x8x1_0_2 eye)))
    shapeCasts_S8x64x8x64_S512x512) bitsLt_bf16_f32

theorem eye_at (i j : Fin 8) : eye (ix2 i j) = if i = j then (1 : EReal) else 0 := by
  have h : eye (ix2 i j) = ((((BitVec.ofBool (decide (BitVec.ofNat 32 i.val + 0#32 = BitVec.ofNat 32 j.val))).toNat : ℝ)) : EReal) := by
    pointwise [eye]
    try rfl
  rw [h]
  have hi := i.isLt
  have hj := j.isLt
  have e : (BitVec.ofNat 32 i.val + 0#32 = BitVec.ofNat 32 j.val) ↔ i = j := by
    rw [BitVec.add_zero]
    constructor
    · intro h
      have h' := congrArg BitVec.toNat h
      simp only [BitVec.toNat_ofNat] at h'
      exact Fin.ext (by omega)
    · intro h
      rw [h]
  by_cases hij : i = j
  · rw [if_pos hij, decide_eq_true (e.mpr hij)]
    simp
  · rw [if_neg hij, decide_eq_false (fun h => hij (e.mp h))]
    simp

theorem bd_at (w : FVec Ideal S1x8x64x64 .f32) (k q : Fin 512) : bd w (ix2 k q)
    = w (ix4 0 ⟨k.val / 64, by omega⟩ ⟨k.val % 64, by omega⟩ ⟨q.val % 64, by omega⟩)
      * eye (ix2 ⟨k.val / 64, by omega⟩ ⟨q.val / 64, by omega⟩) := by
  pointwise [bd]
  try rfl

/-- A row times the block-diagonal matrix is the row's blocks times the gate weights. -/
theorem bd_dot (w : FVec Ideal S1x8x64x64 .f32) (W : Fin 512 → Fin 512 → EReal) (hW : ∀ k q, W k q = bd w (ix2 k q))
    (u : Fin 512 → EReal) (q : Fin 512) :
    ∑ k, u k * W k q = blk u (fun n d e => w (ix4 0 n d e)) q := by
  refine blk_eq u _ W q (fun k hk => ?_) fun d => ?_
  · rw [hW, bd_at, eye_at, if_neg (fun h => hk (congrArg Fin.val h)), mul_zero]
  · have e1 : (⟨(q.val / 64 * 64 + d.val) / 64, by omega⟩ : Fin 8) = ⟨q.val / 64, by omega⟩ := Fin.ext (by simp only; omega)
    have e2 : (⟨(q.val / 64 * 64 + d.val) % 64, by omega⟩ : Fin 64) = d := Fin.ext (by simp only; omega)
    rw [hW, bd_at, eye_at]
    simp only [e1, e2, if_true, mul_one]

/-- A parameter's row. -/
abbrev prow (x : FVec Ideal S1x512 .f32) : FVec Ideal S1x512 .f32 :=
  broadcastInDim S1x512 ![1] bcast_S512_S1x512_1 (shapeCast S512 x shapeCasts_S1x512_S512)

/-- A row of zeros. -/
abbrev zrow : FVec Ideal S1x512 .f32 :=
  broadcastInDim S1x512 ![1] bcast_S512_S1x512_1 (broadcastInDim S512 ![] bcast_S_S512 (constant (F := Ideal) S_ .f32 0x00000000#32))

/-- The stacked parameters. -/
def stk (y0 y1 y2 y3 y4 y5 y6 y7 : FVec Ideal S1x512 .f32) : FVec Ideal S8x512 .f32 :=
  concatenate S8x512 0 [⟨S1x512, y0⟩, ⟨S1x512, y1⟩, ⟨S1x512, y2⟩, ⟨S1x512, y3⟩, ⟨S1x512, y4⟩, ⟨S1x512, y5⟩, ⟨S1x512, y6⟩, ⟨S1x512, y7⟩] concatenates_S1x512_S1x512_S1x512_S1x512_S1x512_S1x512_S1x512_S1x512_S8x512_d0

theorem prow_at (x : FVec Ideal S1x512 .f32) (q : Fin 512) : prow x (ix2 0 q) = x (ix2 0 q) := by
  pointwise
  try rfl

theorem stk0 (y0 y1 y2 y3 y4 y5 y6 y7 : FVec Ideal S1x512 .f32) (q : Fin 512) : stk y0 y1 y2 y3 y4 y5 y6 y7 (ix2 0 q) = y0 (ix2 0 q) := by
  pointwise [stk]
  try rfl

theorem stk1 (y0 y1 y2 y3 y4 y5 y6 y7 : FVec Ideal S1x512 .f32) (q : Fin 512) : stk y0 y1 y2 y3 y4 y5 y6 y7 (ix2 1 q) = y1 (ix2 0 q) := by
  pointwise [stk]
  try rfl

theorem stk2 (y0 y1 y2 y3 y4 y5 y6 y7 : FVec Ideal S1x512 .f32) (q : Fin 512) : stk y0 y1 y2 y3 y4 y5 y6 y7 (ix2 2 q) = y2 (ix2 0 q) := by
  pointwise [stk]
  try rfl

theorem stk3 (y0 y1 y2 y3 y4 y5 y6 y7 : FVec Ideal S1x512 .f32) (q : Fin 512) : stk y0 y1 y2 y3 y4 y5 y6 y7 (ix2 3 q) = y3 (ix2 0 q) := by
  pointwise [stk]
  try rfl

theorem stk4 (y0 y1 y2 y3 y4 y5 y6 y7 : FVec Ideal S1x512 .f32) (q : Fin 512) : stk y0 y1 y2 y3 y4 y5 y6 y7 (ix2 4 q) = y4 (ix2 0 q) := by
  pointwise [stk]
  try rfl

/-! The blocks. -/

theorem ent0 (c : Dev nD) : (V m c main_v44 : FVec Ideal S4x128x512 .f32) = transpose S4x128x512 [1, 0, 2] (a0 m c) transposes_S128x4x512_S4x128x512_1_0_2 := by
  simp only [V, V0, hostOps0, List.flatten_cons, List.flatten_nil, List.append_nil, List.cons_append, List.nil_append]
  after_results_simp
  rfl

theorem ent1 (c : Dev nD) : (V m c main_v45 : FVec Ideal S4x128x512 .f32) = transpose S4x128x512 [1, 0, 2] (a1 m c) transposes_S128x4x512_S4x128x512_1_0_2 := by
  simp only [V, V0, hostOps0, List.flatten_cons, List.flatten_nil, List.append_nil, List.cons_append, List.nil_append]
  after_results_simp
  rfl

theorem ent2 (c : Dev nD) : (V m c main_v47 : FVec Ideal S3x128x512 .f32) = transpose S3x128x512 [1, 0, 2] (shapeCast S128x3x512 (a2 m c) shapeCasts_S1x128x3x512_S128x3x512) transposes_S128x3x512_S3x128x512_1_0_2 := by
  simp only [V, V0, hostOps0, List.flatten_cons, List.flatten_nil, List.append_nil, List.cons_append, List.nil_append]
  after_results_simp
  rfl

theorem ent3 (c : Dev nD) : (V m c main_v48 : FVec Ideal S128x512 .f32) = shapeCast S128x512 (a3 m c) shapeCasts_S1x128x512_S128x512 := by
  simp only [V, V0, hostOps0, List.flatten_cons, List.flatten_nil, List.append_nil, List.cons_append, List.nil_append]
  after_results_simp
  rfl

theorem ent4 (c : Dev nD) : (V m c main_v49 : FVec Ideal S4x512 .f32) = shapeCast S4x512 (a4 m c) shapeCasts_S1x4x512_S4x512 := by
  simp only [V, V0, hostOps0, List.flatten_cons, List.flatten_nil, List.append_nil, List.cons_append, List.nil_append]
  after_results_simp
  rfl

theorem ent5 (c : Dev nD) : (V m c main_v43 : FVec Ideal S8x512 .f32) = stk (prow (a5 m c)) (prow (a7 m c)) (prow (a9 m c)) (prow (a10 m c)) (prow (a11 m c)) zrow zrow zrow := by
  simp only [V, V0, hostOps0, List.flatten_cons, List.flatten_nil, List.append_nil, List.cons_append, List.nil_append]
  after_results_simp
  rfl

theorem ent6 (c : Dev nD) : (V m c main_v13 : FVec Ideal S512x512 .bf16) = bd (a6 m c) := by
  simp only [V, V0, hostOps0, List.flatten_cons, List.flatten_nil, List.append_nil, List.cons_append, List.nil_append]
  after_results_simp
  rfl

theorem ent7 (c : Dev nD) : (V m c main_v27 : FVec Ideal S512x512 .bf16) = bd (a8 m c) := by
  simp only [V, V0, hostOps0, List.flatten_cons, List.flatten_nil, List.append_nil, List.cons_append, List.nil_append]
  after_results_simp
  rfl

theorem idx0 : ∀ t : Fin cfg0.N, win0_0.index t = ![0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0] := (by decide +kernel : ∀ t : Fin grid0.N, _)

theorem emb0 (t : Fin cfg0.N) (i : Fin 4) (j : Fin 128) (k : Fin 512) : ((cfg0.win 0).blk t).view.emb (ix3 i j k) = (ix3 i j k : S4x128x512.Idx) := by
  blk_ext [idx0 t]

theorem emb1 (t : Fin cfg0.N) (i : Fin 4) (j : Fin 128) (k : Fin 512) : ((cfg0.win 1).blk t).view.emb (ix3 i j k) = (ix3 i j k : S4x128x512.Idx) := by
  blk_ext [idx1 t]

theorem emb2 (t : Fin cfg0.N) (i : Fin 3) (j : Fin 128) (k : Fin 512) : ((cfg0.win 2).blk t).view.emb (ix3 i j k) = (ix3 i j k : S3x128x512.Idx) := by
  blk_ext [idx2 t]

theorem emb3 (t : Fin cfg0.N) (i : Fin 128) (j : Fin 512) : ((cfg0.win 3).blk t).view.emb (ix2 i j) = (ix2 i j : S128x512.Idx) := by
  blk_ext [idx3 t]

theorem emb4 (t : Fin cfg0.N) (i : Fin 4) (j : Fin 512) : ((cfg0.win 4).blk t).view.emb (ix2 i j) = (ix2 i j : S4x512.Idx) := by
  blk_ext [idx4 t]

theorem emb5 (t : Fin cfg0.N) (i : Fin 8) (j : Fin 512) : ((cfg0.win 5).blk t).view.emb (ix2 i j) = (ix2 i j : S8x512.Idx) := by
  blk_ext [idx5 t]

theorem emb6 (t : Fin cfg0.N) (i : Fin 512) (j : Fin 512) : ((cfg0.win 6).blk t).view.emb (ix2 i j) = (ix2 i j : S512x512.Idx) := by
  blk_ext [idx6 t]

theorem emb7 (t : Fin cfg0.N) (i : Fin 512) (j : Fin 512) : ((cfg0.win 7).blk t).view.emb (ix2 i j) = (ix2 i j : S512x512.Idx) := by
  blk_ext [idx7 t]

theorem emb8 (t : Fin cfg0.N) (i : Fin 4) (j : Fin 128) (k : Fin 512) : ((cfg0.win 8).blk t).view.emb (ix3 i j k) = (ix3 i j k : S4x128x512.Idx) := by
  blk_ext [idx8 t]

theorem emb9 (t : Fin cfg0.N) (i : Fin 128) (j : Fin 512) : ((cfg0.win 9).blk t).view.emb (ix2 i j) = (ix2 i j : S128x512.Idx) := by
  blk_ext [idx9 t]

theorem rd0 (c : Dev nD) (t : Fin cfg0.N) (j : Fin 4) (p : Fin 128) (q : Fin 512) : iblk m c 0 t (ix3 j p q) = a0 m c (ix3 p j q) := by
  refine (congrArg (V m c main_v44) (emb0 t j p q)).trans ((congrFun (ent0 m c) _).trans ?_)
  generalize a0 m c = x
  pointwise
  try rfl

theorem rd1 (c : Dev nD) (t : Fin cfg0.N) (j : Fin 4) (p : Fin 128) (q : Fin 512) : iblk m c 1 t (ix3 j p q) = a1 m c (ix3 p j q) := by
  refine (congrArg (V m c main_v45) (emb1 t j p q)).trans ((congrFun (ent1 m c) _).trans ?_)
  generalize a1 m c = x
  pointwise
  try rfl

theorem rd2 (c : Dev nD) (t : Fin cfg0.N) (j : Fin 3) (p : Fin 128) (q : Fin 512) : iblk m c 2 t (ix3 j p q) = a2 m c (ix4 0 p j q) := by
  refine (congrArg (V m c main_v47) (emb2 t j p q)).trans ((congrFun (ent2 m c) _).trans ?_)
  generalize a2 m c = x
  pointwise
  try rfl

theorem rd3 (c : Dev nD) (t : Fin cfg0.N) (p : Fin 128) (q : Fin 512) : iblk m c 3 t (ix2 p q) = a3 m c (ix3 0 p q) := by
  refine (congrArg (V m c main_v48) (emb3 t p q)).trans ((congrFun (ent3 m c) _).trans ?_)
  generalize a3 m c = x
  pointwise
  try rfl

theorem rd4 (c : Dev nD) (t : Fin cfg0.N) (j : Fin 4) (q : Fin 512) : iblk m c 4 t (ix2 j q) = a4 m c (ix3 0 j q) := by
  refine (congrArg (V m c main_v49) (emb4 t j q)).trans ((congrFun (ent4 m c) _).trans ?_)
  generalize a4 m c = x
  pointwise
  try rfl

theorem rd5_0 (c : Dev nD) (t : Fin cfg0.N) (q : Fin 512) : iblk m c 5 t (ix2 0 q) = a5 m c (ix2 0 q) :=
  (congrArg (V m c main_v43) (emb5 t 0 q)).trans ((congrFun (ent5 m c) _).trans ((stk0 _ _ _ _ _ _ _ _ q).trans (prow_at _ q)))

theorem rd5_1 (c : Dev nD) (t : Fin cfg0.N) (q : Fin 512) : iblk m c 5 t (ix2 1 q) = a7 m c (ix2 0 q) :=
  (congrArg (V m c main_v43) (emb5 t 1 q)).trans ((congrFun (ent5 m c) _).trans ((stk1 _ _ _ _ _ _ _ _ q).trans (prow_at _ q)))

theorem rd5_2 (c : Dev nD) (t : Fin cfg0.N) (q : Fin 512) : iblk m c 5 t (ix2 2 q) = a9 m c (ix2 0 q) :=
  (congrArg (V m c main_v43) (emb5 t 2 q)).trans ((congrFun (ent5 m c) _).trans ((stk2 _ _ _ _ _ _ _ _ q).trans (prow_at _ q)))

theorem rd5_3 (c : Dev nD) (t : Fin cfg0.N) (q : Fin 512) : iblk m c 5 t (ix2 3 q) = a10 m c (ix2 0 q) :=
  (congrArg (V m c main_v43) (emb5 t 3 q)).trans ((congrFun (ent5 m c) _).trans ((stk3 _ _ _ _ _ _ _ _ q).trans (prow_at _ q)))

theorem rd5_4 (c : Dev nD) (t : Fin cfg0.N) (q : Fin 512) : iblk m c 5 t (ix2 4 q) = a11 m c (ix2 0 q) :=
  (congrArg (V m c main_v43) (emb5 t 4 q)).trans ((congrFun (ent5 m c) _).trans ((stk4 _ _ _ _ _ _ _ _ q).trans (prow_at _ q)))

theorem rd6 (c : Dev nD) (t : Fin cfg0.N) (k q : Fin 512) : iblk m c 6 t (ix2 k q) = bd (a6 m c) (ix2 k q) :=
  (congrArg (V m c main_v13) (emb6 t k q)).trans (congrFun (ent6 m c) _)

theorem rd7 (c : Dev nD) (t : Fin cfg0.N) (k q : Fin 512) : iblk m c 7 t (ix2 k q) = bd (a8 m c) (ix2 k q) :=
  (congrArg (V m c main_v27) (emb7 t k q)).trans (congrFun (ent7 m c) _)

end Cert.LruSIdeal.Value
-- ==== Proof.LruSFinal.lean ====
module

public import proofs.«01_k».proof.Proof.LruSEntry

/-!
The results of the recurrence call on the new tokens: the states token by token and the mixed output, from the launch's arguments.
-/

@[expose] public section

set_option maxRecDepth 16384

noncomputable section

open Idealize.ShloMosaic Idealize.ShloMosaic.TcCoe Idealize.SL.Sem
open Idealize.ShloMosaic.Pipeline (Dat)

namespace Cert.LruSIdeal.Value

open Cert.LruSIdeal Cert.LruSIdeal.Gen Cert.LruMath

variable (m : (ℓ : Loc nD τ sig) → Buf (Elt Ideal) ℓ)

/-- The convolved input of sequence `b` and token `t`. -/
def cv (c : Dev nD) (t : Fin 4) (b : Fin 128) (q : Fin 512) : EReal :=
  cnv (fun j q => a4 m c (ix3 0 j q)) (fun q => a5 m c (ix2 0 q)) (rows (fun j q => a2 m c (ix4 0 b j q)) (fun j q => a0 m c (ix3 b j q))) t q

/-- One token of the recurrence of sequence `b`. -/
def nt (c : Dev nD) (t : Fin 4) (b : Fin 128) (h : Fin 512 → EReal) (q : Fin 512) : EReal :=
  nxt (fun n d e => a6 m c (ix4 0 n d e)) (fun n d e => a8 m c (ix4 0 n d e)) (fun q => a7 m c (ix2 0 q)) (fun q => a9 m c (ix2 0 q))
    (fun q => a10 m c (ix2 0 q)) (cv m c t b) h q

/-- The states after each token. -/
def G1 (c : Dev nD) (b : Fin 128) : Fin 512 → EReal := nt m c 0 b fun q => a3 m c (ix3 0 b q)
def G2 (c : Dev nD) (b : Fin 128) : Fin 512 → EReal := nt m c 1 b (G1 m c b)
def G3 (c : Dev nD) (b : Fin 128) : Fin 512 → EReal := nt m c 2 b (G2 m c b)
def G4 (c : Dev nD) (b : Fin 128) : Fin 512 → EReal := nt m c 3 b (G3 m c b)

/-- The state after token `t`. -/
def GG (c : Dev nD) (t : Fin 4) (b : Fin 128) : Fin 512 → EReal := ![G1 m c b, G2 m c b, G3 m c b, G4 m c b] t

/-- The mixed output's row. -/
def MX (c : Dev nD) (t : Fin 4) (b : Fin 128) : Fin 512 → EReal :=
  mix (fun q => a11 m c (ix2 0 q)) (GG m c t b) (fun q => a1 m c (ix3 b t q))

theorem cv_eq (c : Dev nD) (t : Fin cfg0.N) (s : Fin 4) (b : Fin 128) :
    U (iblk m c 0 t) (iblk m c 2 t) (iblk m c 4 t) (iblk m c 5 t) s b = cv m c s b := by
  have e4 : (fun (j : Fin 4) (q : Fin 512) => (iblk m c 4 t (ix2 j q) : EReal)) = fun j q => a4 m c (ix3 0 j q) :=
    funext fun j => funext fun q => rd4 m c t j q
  have e5 : (fun (q : Fin 512) => (iblk m c 5 t (ix2 0 q) : EReal)) = fun q => a5 m c (ix2 0 q) := funext fun q => rd5_0 m c t q
  have e2 : (fun (j : Fin 3) (q : Fin 512) => (iblk m c 2 t (ix3 j b q) : EReal)) = fun j q => a2 m c (ix4 0 b j q) :=
    funext fun j => funext fun q => rd2 m c t j b q
  have e0 : (fun (j : Fin 4) (q : Fin 512) => (iblk m c 0 t (ix3 j b q) : EReal)) = fun j q => a0 m c (ix3 b j q) :=
    funext fun j => funext fun q => rd0 m c t j b q
  funext q
  unfold cv
  rw [← e4, ← e5, ← e2, ← e0]
  rfl

theorem nt_eq (c : Dev nD) (t : Fin cfg0.N) (s : Fin 4) (b : Fin 128) (h : Fin 512 → EReal) :
    nx (iblk m c 5 t) (iblk m c 6 t) (iblk m c 7 t) (cv m c s b) h = nt m c s b h := by
  have e1 : (fun (q : Fin 512) => (iblk m c 5 t (ix2 1 q) : EReal)) = fun q => a7 m c (ix2 0 q) := funext fun q => rd5_1 m c t q
  have e2 : (fun (q : Fin 512) => (iblk m c 5 t (ix2 2 q) : EReal)) = fun q => a9 m c (ix2 0 q) := funext fun q => rd5_2 m c t q
  have e3 : (fun (q : Fin 512) => (iblk m c 5 t (ix2 3 q) : EReal)) = fun q => a10 m c (ix2 0 q) := funext fun q => rd5_3 m c t q
  funext q
  unfold nt
  rw [← e1, ← e2, ← e3]
  exact nxtT_eq (fun n d e => a6 m c (ix4 0 n d e)) (fun n d e => a8 m c (ix4 0 n d e)) (fun k q => (iblk m c 6 t (ix2 k q) : EReal))
    (fun k q => (iblk m c 7 t (ix2 k q) : EReal)) _ _ _ (cv m c s b) h q
    (bd_dot (a6 m c) (fun k q => (iblk m c 6 t (ix2 k q) : EReal)) fun k q => rd6 m c t k q)
    (bd_dot (a8 m c) (fun k q => (iblk m c 7 t (ix2 k q) : EReal)) fun k q => rd7 m c t k q)

theorem g1 (c : Dev nD) (t : Fin cfg0.N) (b : Fin 128) : S1 (iblk m c 0 t) (iblk m c 2 t) (iblk m c 3 t) (iblk m c 4 t) (iblk m c 5 t) (iblk m c 6 t) (iblk m c 7 t) b = G1 m c b := by
  have e3 : (fun (q : Fin 512) => (iblk m c 3 t (ix2 b q) : EReal)) = fun q => a3 m c (ix3 0 b q) := funext fun q => rd3 m c t b q
  unfold S1 G1
  rw [cv_eq, nt_eq]
  exact congrArg (nt m c 0 b) e3

theorem g2 (c : Dev nD) (t : Fin cfg0.N) (b : Fin 128) : S2 (iblk m c 0 t) (iblk m c 2 t) (iblk m c 3 t) (iblk m c 4 t) (iblk m c 5 t) (iblk m c 6 t) (iblk m c 7 t) b = G2 m c b := by
  unfold S2 G2
  rw [cv_eq, nt_eq, g1]

theorem g3 (c : Dev nD) (t : Fin cfg0.N) (b : Fin 128) : S3 (iblk m c 0 t) (iblk m c 2 t) (iblk m c 3 t) (iblk m c 4 t) (iblk m c 5 t) (iblk m c 6 t) (iblk m c 7 t) b = G3 m c b := by
  unfold S3 G3
  rw [cv_eq, nt_eq, g2]

theorem g4 (c : Dev nD) (t : Fin cfg0.N) (b : Fin 128) : S4 (iblk m c 0 t) (iblk m c 2 t) (iblk m c 3 t) (iblk m c 4 t) (iblk m c 5 t) (iblk m c 6 t) (iblk m c 7 t) b = G4 m c b := by
  unfold S4 G4
  rw [cv_eq, nt_eq, g3]

theorem mx_eq (c : Dev nD) (t : Fin cfg0.N) (s : Fin 4) (b : Fin 128) :
    mix (fun q => (iblk m c 5 t (ix2 4 q) : EReal)) (GG m c s b) (fun q => (iblk m c 1 t (ix3 s b q) : EReal)) = MX m c s b := by
  have e4 : (fun (q : Fin 512) => (iblk m c 5 t (ix2 4 q) : EReal)) = fun q => a11 m c (ix2 0 q) := funext fun q => rd5_4 m c t q
  have e1 : (fun (q : Fin 512) => (iblk m c 1 t (ix3 s b q) : EReal)) = fun q => a1 m c (ix3 b s q) := funext fun q => rd1 m c t s b q
  rw [e4, e1]
  rfl

/-- The arrays. -/
def T8 (c : Dev nD) : FVec Ideal S4x128x512 .bf16 := fun i => MX m c (i 0) (i 1) (i 2)

def T9 (c : Dev nD) : FVec Ideal S128x512 .f32 := fun i => G4 m c (i 0) (i 1)

theorem point8_0 (c : Dev nD) (t : Fin cfg0.N) (p : Fin 128) (q : Fin 512) : (out0_8 (iblk m c 0 t) (iblk m c 1 t) (iblk m c 2 t) (iblk m c 3 t) (iblk m c 4 t) (iblk m c 5 t) (iblk m c 6 t) (iblk m c 7 t) : FVec Ideal S4x128x512 .bf16) (ix3 0 p q) = MX m c 0 p q := by
  refine (stored8_0 (iblk m c 0 t) (iblk m c 1 t) (iblk m c 2 t) (iblk m c 3 t) (iblk m c 4 t) (iblk m c 5 t) (iblk m c 6 t) (iblk m c 7 t) p q).trans ?_
  rw [g1, ← mx_eq m c t 0 p]
  rfl

theorem point8_1 (c : Dev nD) (t : Fin cfg0.N) (p : Fin 128) (q : Fin 512) : (out0_8 (iblk m c 0 t) (iblk m c 1 t) (iblk m c 2 t) (iblk m c 3 t) (iblk m c 4 t) (iblk m c 5 t) (iblk m c 6 t) (iblk m c 7 t) : FVec Ideal S4x128x512 .bf16) (ix3 1 p q) = MX m c 1 p q := by
  refine (stored8_1 (iblk m c 0 t) (iblk m c 1 t) (iblk m c 2 t) (iblk m c 3 t) (iblk m c 4 t) (iblk m c 5 t) (iblk m c 6 t) (iblk m c 7 t) p q).trans ?_
  rw [g2, ← mx_eq m c t 1 p]
  rfl

theorem point8_2 (c : Dev nD) (t : Fin cfg0.N) (p : Fin 128) (q : Fin 512) : (out0_8 (iblk m c 0 t) (iblk m c 1 t) (iblk m c 2 t) (iblk m c 3 t) (iblk m c 4 t) (iblk m c 5 t) (iblk m c 6 t) (iblk m c 7 t) : FVec Ideal S4x128x512 .bf16) (ix3 2 p q) = MX m c 2 p q := by
  refine (stored8_2 (iblk m c 0 t) (iblk m c 1 t) (iblk m c 2 t) (iblk m c 3 t) (iblk m c 4 t) (iblk m c 5 t) (iblk m c 6 t) (iblk m c 7 t) p q).trans ?_
  rw [g3, ← mx_eq m c t 2 p]
  rfl

theorem point8_3 (c : Dev nD) (t : Fin cfg0.N) (p : Fin 128) (q : Fin 512) : (out0_8 (iblk m c 0 t) (iblk m c 1 t) (iblk m c 2 t) (iblk m c 3 t) (iblk m c 4 t) (iblk m c 5 t) (iblk m c 6 t) (iblk m c 7 t) : FVec Ideal S4x128x512 .bf16) (ix3 3 p q) = MX m c 3 p q := by
  refine (stored8_3 (iblk m c 0 t) (iblk m c 1 t) (iblk m c 2 t) (iblk m c 3 t) (iblk m c 4 t) (iblk m c 5 t) (iblk m c 6 t) (iblk m c 7 t) p q).trans ?_
  rw [g4, ← mx_eq m c t 3 p]
  rfl

theorem point8 (c : Dev nD) (t : Fin cfg0.N) (n : Fin 4) (p : Fin 128) (q : Fin 512) : (out0_8 (iblk m c 0 t) (iblk m c 1 t) (iblk m c 2 t) (iblk m c 3 t) (iblk m c 4 t) (iblk m c 5 t) (iblk m c 6 t) (iblk m c 7 t) : FVec Ideal S4x128x512 .bf16) (ix3 n p q)
    = T8 m c (((cfg0.win 8).blk t).view.emb (ix3 n p q)) := by
  refine Eq.trans ?_ (congrArg (T8 m c) (emb8 t n p q)).symm
  match n with
  | 0 => exact point8_0 m c t p q
  | 1 => exact point8_1 m c t p q
  | 2 => exact point8_2 m c t p q
  | 3 => exact point8_3 m c t p q

theorem final8 (c : Dev nD) : (dats m 0 c).arrAt 8 (cfgs 0).N = T8 m c := by
  refine (dats m 0 c).arrAt_eq_of_covers 8 _ (by decide +kernel) fun t _ y => ?_
  blk_simp
  rw [after0_8]
  idx_vars y
  exact point8 m c t _ _ _

theorem point9 (c : Dev nD) (t : Fin cfg0.N) (p : Fin 128) (q : Fin 512) : (out0_9 (iblk m c 0 t) (iblk m c 1 t) (iblk m c 2 t) (iblk m c 3 t) (iblk m c 4 t) (iblk m c 5 t) (iblk m c 6 t) (iblk m c 7 t) : FVec Ideal S128x512 .f32) (ix2 p q)
    = T9 m c (((cfg0.win 9).blk t).view.emb (ix2 p q)) := by
  refine Eq.trans ?_ (congrArg (T9 m c) (emb9 t p q)).symm
  refine (stored9 (iblk m c 0 t) (iblk m c 1 t) (iblk m c 2 t) (iblk m c 3 t) (iblk m c 4 t) (iblk m c 5 t) (iblk m c 6 t) (iblk m c 7 t) p q).trans ?_
  rw [g4]
  rfl

theorem final9 (c : Dev nD) : (dats m 0 c).arrAt 9 (cfgs 0).N = T9 m c := by
  refine (dats m 0 c).arrAt_eq_of_covers 9 _ (by decide +kernel) fun t _ y => ?_
  blk_simp
  rw [after0_9]
  idx_vars y
  exact point9 m c t _ _

/-- A buffer after the host's line that follows the call. -/
def res (c : Dev nD) (b : Ref sig .tc) : Buf (Elt Ideal) ((c.tc : Thread nD τ).loc b) :=
  Pipeline.afterTail₀ cfgs (dats m) 0 (V0 m) [hostOps1] c b

theorem arr8 (c : Dev nD) : (Pipeline.withArrays (cfgs 0).spec c (V0 m c) fun w => (dats m 0 c).arrAt w (cfgs 0).N) (Proc.devRef .tc main_v50_0) = T8 m c :=
  (Pipeline.withArrays_arr (cfgs 0).spec (by decide) c (V0 m c) _ 8).trans (final8 m c)

theorem v51_eq (c : Dev nD) : (res m c main_v51 : FVec Ideal S128x4x512 .bf16)
    = transpose S128x4x512 [1, 0, 2] (T8 m c) transposes_S4x128x512_S128x4x512_1_0_2 := by
  rw [← arr8 m c]
  unfold res Pipeline.afterTail₀
  simp only [hostOps1, List.flatten_cons, List.flatten_nil, List.append_nil]
  after_results_simp
  try rfl

theorem v51_at (c : Dev nD) (b : Fin 128) (s : Fin 4) (q : Fin 512) : (res m c main_v51 : FVec Ideal S128x4x512 .bf16) (ix3 b s q) = MX m c s b q := by
  rw [v51_eq]
  refine Eq.trans (b := T8 m c (ix3 s b q)) ?_ rfl
  generalize T8 m c = x
  pointwise
  try rfl

/-- The run: both results, and the arguments unchanged. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v51) = res m c main_v51
    ∧ r.2.mem ((c.tc : Thread nD τ).loc main_v50_1) = T9 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)) :=
  (θ_run defs _ _).mono (fun r h c => ⟨(h.1 c).2 main_v51 (by decide), ((h.1 c).1 9).trans (final9 m c), h.2 c⟩)
    (θ_run_and (run_main m g) (unchanged m g))

end Cert.LruSIdeal.Value
-- ==== Proof.LruSRef.lean ====
module

public import proofs.«01_k».proof.Proof.Gen.LruSRefIdeal.Run
public import proofs.«01_k».proof.Proof.LruMath

/-!
What the reference of the recurrence on the new tokens computes: `LruMath.nxt` token by token and `LruMath.mix` of every state.
-/

@[expose] public section

set_option maxRecDepth 16384

noncomputable section

open Idealize.ShloMosaic Idealize.ShloMosaic.TcCoe Idealize.SL.Sem
open Idealize.ShloMosaic.Pipeline (Dat)

namespace Cert.LruSRefIdeal.Value

open Cert.LruSRefIdeal Cert.LruSRefIdeal.Gen Cert.LruMath

variable (V0 : Valuation τ sig (Elt Ideal))

/-- The arguments: the inputs, the gates, the kept inputs, the kept state and the parameters. -/
def A0 : FVec Ideal S128x4x512 .f32 := V0 (Proc.devRef .tc main_arg0)
def A1 : FVec Ideal S128x4x512 .f32 := V0 (Proc.devRef .tc main_arg1)
def A2 : FVec Ideal S1x128x3x512 .f32 := V0 (Proc.devRef .tc main_arg2)
def A3 : FVec Ideal S1x128x512 .f32 := V0 (Proc.devRef .tc main_arg3)
def A4 : FVec Ideal S1x4x512 .f32 := V0 (Proc.devRef .tc main_arg4)
def A5 : FVec Ideal S1x512 .f32 := V0 (Proc.devRef .tc main_arg5)
def A6 : FVec Ideal S1x8x64x64 .f32 := V0 (Proc.devRef .tc main_arg6)
def A7 : FVec Ideal S1x512 .f32 := V0 (Proc.devRef .tc main_arg7)
def A8 : FVec Ideal S1x8x64x64 .f32 := V0 (Proc.devRef .tc main_arg8)
def A9 : FVec Ideal S1x512 .f32 := V0 (Proc.devRef .tc main_arg9)
def A10 : FVec Ideal S1x512 .f32 := V0 (Proc.devRef .tc main_arg10)
def A11 : FVec Ideal S1x512 .f32 := V0 (Proc.devRef .tc main_arg11)

/-- The input's rows of sequence `b`. -/
def xs (b : Fin 128) : Fin 7 → Fin 512 → EReal := rows (fun j q => A2 V0 (ix4 0 b j q)) (fun j q => A0 V0 (ix3 b j q))

/-- The convolved input of sequence `b` and token `t`. -/
def U (t : Fin 4) (b : Fin 128) (q : Fin 512) : EReal :=
  cnv (fun j q => A4 V0 (ix3 0 j q)) (fun q => A5 V0 (ix2 0 q)) (xs V0 b) t q

/-- The kept inputs and the inputs, one after another. -/
def X : FVec Ideal S128x7x512 .f32 := res_main_v8 V0

theorem v8 (b : Fin 128) (j : Fin 7) (q : Fin 512) : X V0 (ix3 b j q) = xs V0 b j q := by
  unfold xs rows
  unfold X
  pointwise [res_main_v8, A0, A2]
  try rfl

theorem v40raw (b : Fin 128) (t : Fin 4) (q : Fin 512) : (res_main_v40 V0 : FVec Ideal S128x4x512 .f32) (ix3 b t q)
    = A5 V0 (ix2 0 q) + (X V0 (ix3 b ⟨t.val, by omega⟩ q) * A4 V0 (ix3 0 0 q)
        + X V0 (ix3 b ⟨1 + t.val, by omega⟩ q) * A4 V0 (ix3 0 1 q)
        + X V0 (ix3 b ⟨2 + t.val, by omega⟩ q) * A4 V0 (ix3 0 2 q)
        + X V0 (ix3 b ⟨3 + t.val, by omega⟩ q) * A4 V0 (ix3 0 3 q)) := by
  unfold X
  pointwise [res_main_v40, res_main_v0, A5, A4]
  try rfl

theorem v40 (b : Fin 128) (t : Fin 4) (q : Fin 512) : (res_main_v40 V0 : FVec Ideal S128x4x512 .f32) (ix3 b t q) = U V0 t b q := by
  rw [v40raw, v8, v8, v8, v8]
  unfold U cnv tap
  have e1 : (⟨1 + t.val, by omega⟩ : Fin 7) = ⟨t.val + 1, by omega⟩ := Fin.ext (Nat.add_comm _ _)
  have e2 : (⟨2 + t.val, by omega⟩ : Fin 7) = ⟨t.val + 2, by omega⟩ := Fin.ext (Nat.add_comm _ _)
  have e3 : (⟨3 + t.val, by omega⟩ : Fin 7) = ⟨t.val + 3, by omega⟩ := Fin.ext (Nat.add_comm _ _)
  rw [e1, e2, e3, mul_comm (A4 V0 (ix3 0 0 q)), mul_comm (A4 V0 (ix3 0 1 q)), mul_comm (A4 V0 (ix3 0 2 q)), mul_comm (A4 V0 (ix3 0 3 q))]

theorem v41 (b : Fin 128) (t : Fin 4) (n : Fin 8) (d : Fin 64) : (res_main_v41 V0 : FVec Ideal S128x4x8x64 .f32) (ix4 b t n d)
    = U V0 t b ⟨n.val * 64 + d.val, by omega⟩ := by
  rw [← v40]
  pointwise [res_main_v41]
  try rfl

/-- The logarithm of the decay. -/
def L (t : Fin 4) (b : Fin 128) (q : Fin 512) : EReal :=
  lga (blk (U V0 t b) (fun n d e => A6 V0 (ix4 0 n d e)) q + A7 V0 (ix2 0 q)) (A10 V0 (ix2 0 q))

/-- The intermediate values of the reference. -/
def P68 : FVec Ideal S512 .f32 := res_main_v68 V0
def P3 : FVec Ideal S512 .f32 := res_main_call0_v3 V0
def P72 : FVec Ideal S128x4x512 .f32 := res_main_v72 V0
def P73 : FVec Ideal S128x4x512 .f32 := res_main_v73 V0
def P80 : FVec Ideal S128x4x512 .f32 := res_main_v80 V0
def P87 : FVec Ideal S128x512 .f32 := res_main_v87 V0
def P93 : FVec Ideal S128x512 .f32 := res_main_v93 V0
def P99 : FVec Ideal S128x512 .f32 := res_main_v99 V0
def P124 : FVec Ideal S128x4x512 .f32 := res_main_v124 V0

theorem v68 (q : Fin 512) : P68 V0 (ix1 q) = -A10 V0 (ix2 0 q) := by
  unfold P68
  pointwise [res_main_v68, A10]
  try rfl

theorem v3 (q : Fin 512) : P3 V0 (ix1 q) = -A10 V0 (ix2 0 q) - 0 := by
  rw [← v68]
  unfold P3 P68
  pointwise [res_main_call0_v3, res_main_call0_cst]
  try rfl

theorem gate (w : FVec Ideal S1x8x64x64 .f32) (b : Fin 128) (t : Fin 4) (q : Fin 512) :
    ∑ x : Fin 64, w (ix4 0 ⟨q.val / 64, by omega⟩ x ⟨q.val % 64, by omega⟩)
        * (res_main_v41 V0 : FVec Ideal S128x4x8x64 .f32) (ix4 b t ⟨q.val / 64, by omega⟩ x)
      = blk (U V0 t b) (fun n d e => w (ix4 0 n d e)) q :=
  Finset.sum_congr rfl fun x _ => by rw [v41, mul_comm]

theorem softplus (q : Fin 512) :
    (if P3 V0 (ix1 q) ≠ P3 V0 (ix1 q)
      then P68 V0 (ix1 q)
      else max (P68 V0 (ix1 q)) 0
        + Ideal.log1p (Ideal.exp (-(max (P3 V0 (ix1 q)) (-P3 V0 (ix1 q))))))
      = sp (A10 V0 (ix2 0 q)) := by
  rw [if_neg (fun h => h rfl), v3, v68]
  unfold sp
  simp only [zero_sub, sub_zero]

theorem v72 (b : Fin 128) (t : Fin 4) (q : Fin 512) : P72 V0 (ix3 b t q) = L V0 t b q := by
  unfold L lga
  rw [← softplus, ← gate]
  unfold P72 P3 P68
  pointwise [res_main_v72, res_main_call0_cst, A6, A7, A10]
  try rfl

theorem v73 (b : Fin 128) (t : Fin 4) (q : Fin 512) : P73 V0 (ix3 b t q) = Ideal.exp (L V0 t b q) := by
  rw [← v72]
  unfold P73 P72
  pointwise [res_main_v73]
  try rfl

theorem v80 (b : Fin 128) (t : Fin 4) (q : Fin 512) : P80 V0 (ix3 b t q)
    = fac (L V0 t b q)
      * (Ideal.logistic (blk (U V0 t b) (fun n d e => A8 V0 (ix4 0 n d e)) q + A9 V0 (ix2 0 q)) * U V0 t b q) := by
  unfold fac
  rw [← gate, ← v40, ← v72]
  unfold P80 P72
  pointwise [res_main_v80, A8, A9]
  try rfl

/-- One token of the recurrence of sequence `b`. -/
def N (t : Fin 4) (b : Fin 128) (h : Fin 512 → EReal) (q : Fin 512) : EReal :=
  nxt (fun n d e => A6 V0 (ix4 0 n d e)) (fun n d e => A8 V0 (ix4 0 n d e)) (fun q => A7 V0 (ix2 0 q)) (fun q => A9 V0 (ix2 0 q))
    (fun q => A10 V0 (ix2 0 q)) (U V0 t b) h q

theorem step (b : Fin 128) (t : Fin 4) (h : Fin 512 → EReal) (q : Fin 512) :
    P73 V0 (ix3 b t q) * h q + P80 V0 (ix3 b t q)
      = N V0 t b h q := by
  rw [v73, v80]
  rfl

/-- The states after each token. -/
def H1 (b : Fin 128) : Fin 512 → EReal := N V0 0 b fun q => A3 V0 (ix3 0 b q)
def H2 (b : Fin 128) : Fin 512 → EReal := N V0 1 b (H1 V0 b)
def H3 (b : Fin 128) : Fin 512 → EReal := N V0 2 b (H2 V0 b)
def H4 (b : Fin 128) : Fin 512 → EReal := N V0 3 b (H3 V0 b)

theorem v87 (b : Fin 128) (q : Fin 512) : P87 V0 (ix2 b q) = H1 V0 b q := by
  unfold H1
  rw [← step]
  unfold P87 P73 P80
  pointwise [res_main_v87, A3]
  try rfl

theorem v93 (b : Fin 128) (q : Fin 512) : P93 V0 (ix2 b q) = H2 V0 b q := by
  unfold H2
  rw [← step, ← v87]
  unfold P93 P87 P73 P80
  pointwise [res_main_v93]
  try rfl

theorem v99 (b : Fin 128) (q : Fin 512) : P99 V0 (ix2 b q) = H3 V0 b q := by
  unfold H3
  rw [← step, ← v93]
  unfold P99 P93 P73 P80
  pointwise [res_main_v99]
  try rfl

/-- The last state, and the mixed output, as they compose. -/
abbrev last : FVec Ideal S128x512 .f32 :=
  addf (mulf (shapeCast _ (extractStridedSlice S128x1x512 ![0, 3, 0] (res_main_v73 V0) slices_S128x4x512_S128x1x512_0_3_0) shapeCasts_S128x1x512_S128x512) (res_main_v99 V0)) (shapeCast _ (extractStridedSlice S128x1x512 ![0, 3, 0] (res_main_v80 V0) slices_S128x4x512_S128x1x512_0_3_0) shapeCasts_S128x1x512_S128x512)

abbrev mixed : FVec Ideal S128x4x512 .bf16 :=
  truncf .bf16 (mulf (mulf (res_main_v124 V0) (broadcastInDim S128x4x512 ![0, 1, 2] bcast_S128x4x1_S128x4x512_0_1_2 (Host.rsqrt (addf (Host.divf (broadcastInDim S128x4x1 ![0, 1] bcast_S128x4_S128x4x1_0_1 (Host.reduceAdd (mulf (res_main_v124 V0) (res_main_v124 V0)) (constant S_ .f32 0x00000000#32) reducesTo_S128x4x512_S128x4_d2 h_S_)) (broadcastInDim S128x4x1 ![] bcast_S_S128x4x1 (constant S_ .f32 0x44000000#32))) (broadcastInDim S128x4x1 ![] bcast_S_S128x4x1 (constant S_ .f32 0x358637BD#32)))))) (broadcastInDim S128x4x512 ![0, 1, 2] bcast_S1x1x512_S128x4x512_0_1_2 (broadcastInDim S1x1x512 ![2] bcast_S512_S1x1x512_2 (shapeCast _ (V0 (Proc.devRef .tc main_arg11)) shapeCasts_S1x512_S512)))) bitsLt_bf16_f32

theorem v105 (b : Fin 128) (q : Fin 512) : last V0 (ix2 b q) = H4 V0 b q := by
  unfold H4
  rw [← step, ← v99]
  unfold P99 P73 P80
  pointwise [last]
  try rfl

/-- The state after token `t`. -/
def HH (t : Fin 4) (b : Fin 128) : Fin 512 → EReal := ![H1 V0 b, H2 V0 b, H3 V0 b, H4 V0 b] t

/-- The four states as one array. -/
def states : FVec Ideal S128x4x512 .f32 :=
  concatenate S128x4x512 1 [⟨S128x1x512, ((broadcastInDim S128x1x512 ![0, 2] bcast_S128x512_S128x1x512_0_2 (res_main_v87 V0)) : (⟨S128x1x512, .f32⟩ : BufTy).Contents (Elt Ideal))⟩, ⟨S128x1x512, ((broadcastInDim S128x1x512 ![0, 2] bcast_S128x512_S128x1x512_0_2 (res_main_v93 V0)) : (⟨S128x1x512, .f32⟩ : BufTy).Contents (Elt Ideal))⟩, ⟨S128x1x512, ((broadcastInDim S128x1x512 ![0, 2] bcast_S128x512_S128x1x512_0_2 (res_main_v99 V0)) : (⟨S128x1x512, .f32⟩ : BufTy).Contents (Elt Ideal))⟩, ⟨S128x1x512, ((broadcastInDim S128x1x512 ![0, 2] bcast_S128x512_S128x1x512_0_2 (last V0)) : (⟨S128x1x512, .f32⟩ : BufTy).Contents (Elt Ideal))⟩] concatenates_S128x1x512_S128x1x512_S128x1x512_S128x1x512_S128x4x512_d1

theorem st0 (b : Fin 128) (q : Fin 512) : states V0 (ix3 b 0 q) = H1 V0 b q := by
  rw [← v87]
  unfold P87
  pointwise [states]
  try rfl

theorem st1 (b : Fin 128) (q : Fin 512) : states V0 (ix3 b 1 q) = H2 V0 b q := by
  rw [← v93]
  unfold P93
  pointwise [states]
  try rfl

theorem st2 (b : Fin 128) (q : Fin 512) : states V0 (ix3 b 2 q) = H3 V0 b q := by
  rw [← v99]
  unfold P99
  pointwise [states]
  try rfl

theorem st3 (b : Fin 128) (q : Fin 512) : states V0 (ix3 b 3 q) = H4 V0 b q := by
  rw [← v105]
  unfold states
  generalize last V0 = y
  pointwise
  try rfl

theorem st (b : Fin 128) (t : Fin 4) (q : Fin 512) : states V0 (ix3 b t q) = HH V0 t b q := by
  match t with
  | 0 => exact st0 V0 b q
  | 1 => exact st1 V0 b q
  | 2 => exact st2 V0 b q
  | 3 => exact st3 V0 b q

theorem v124 (b : Fin 128) (t : Fin 4) (q : Fin 512) : P124 V0 (ix3 b t q) = HH V0 t b q * gel (A1 V0 (ix3 b t q)) := by
  rw [← st]
  unfold gel P124
  have e : res_main_v124 V0 = mulf (states V0) (mulf (V0 (Proc.devRef .tc main_arg1)) (mulf (broadcastInDim S128x4x512 ![] bcast_S_S128x4x512 (constant S_ .f32 0x3F000000#32)) (addf (broadcastInDim S128x4x512 ![] bcast_S_S128x4x512 (constant S_ .f32 0x3F800000#32)) (Host.tanh (mulf (broadcastInDim S128x4x512 ![] bcast_S_S128x4x512 (constant S_ .f32 0x3F4C422A#32)) (addf (V0 (Proc.devRef .tc main_arg1)) (mulf (broadcastInDim S128x4x512 ![] bcast_S_S128x4x512 (constant S_ .f32 0x3D372713#32)) (mulf (mulf (V0 (Proc.devRef .tc main_arg1)) (V0 (Proc.devRef .tc main_arg1))) (V0 (Proc.devRef .tc main_arg1)))))))))) := rfl
  rw [e]
  pointwise [A1]
  try rfl

theorem v139 (b : Fin 128) (t : Fin 4) (q : Fin 512) : mixed V0 (ix3 b t q)
    = mix (fun q => A11 V0 (ix2 0 q)) (HH V0 t b) (fun q => A1 V0 (ix3 b t q)) q := by
  unfold mix nrm
  simp only [← v124]
  unfold P124
  pointwise [mixed, A11]
  try rfl

end Cert.LruSRefIdeal.Value
-- ==== Proof.LruSClaim.lean ====
module

public import proofs.«01_k».proof.Defs
public import proofs.«01_k».proof.Proof.Gen.LruS.Frame
public import proofs.«01_k».proof.Proof.LruSFinal
public import proofs.«01_k».proof.Proof.LruSRef
public import Idealize.ShloMosaic.Lib.Claim
public import Idealize.ShloMosaic.Adequacy
public import Idealize.ShloMosaic.Init

/-!
The claims of the recurrence call on the new tokens: every run keeps its arguments and leaves the counters at zero, and the kernel's results are
the reference's.
-/

@[expose] public section

noncomputable section

namespace Cert.LruSClaim

open Idealize.ShloMosaic Idealize.ShloMosaic.TcCoe Idealize.SL.Sem

theorem frame : Cert.quiescent_LruS := fun m g _ => Cert.LruS.Gen.frame m g

theorem frameIdeal : Cert.quiescent_LruSIdeal := fun m g _ => Cert.LruSIdeal.Gen.frame m g

theorem frameRef : Cert.quiescent_LruSRefIdeal := fun m g _ => (θ_run Cert.LruSRefIdeal.defs _ _).mono
  (fun r h => ⟨fun c => (h c).2.2, sem_eq_zero_of_no_sems (by decide) r.2⟩) (Cert.LruSRefIdeal.Value.run m g)

section agree

variable (m : (ℓ : Loc Cert.LruSIdeal.nD Cert.LruSIdeal.τ Cert.LruSIdeal.sig) → Buf (Elt Ideal) ℓ)
  (V : Valuation Cert.LruSRefIdeal.τ Cert.LruSRefIdeal.sig (Elt Ideal)) (c : Dev Cert.LruSIdeal.nD)

/-- The reference's arguments are the kernel's. -/
structure Agree : Prop where
  h0 : Cert.LruSRefIdeal.Value.A0 V = Cert.LruSIdeal.Value.a0 m c
  h1 : Cert.LruSRefIdeal.Value.A1 V = Cert.LruSIdeal.Value.a1 m c
  h2 : Cert.LruSRefIdeal.Value.A2 V = Cert.LruSIdeal.Value.a2 m c
  h3 : Cert.LruSRefIdeal.Value.A3 V = Cert.LruSIdeal.Value.a3 m c
  h4 : Cert.LruSRefIdeal.Value.A4 V = Cert.LruSIdeal.Value.a4 m c
  h5 : Cert.LruSRefIdeal.Value.A5 V = Cert.LruSIdeal.Value.a5 m c
  h6 : Cert.LruSRefIdeal.Value.A6 V = Cert.LruSIdeal.Value.a6 m c
  h7 : Cert.LruSRefIdeal.Value.A7 V = Cert.LruSIdeal.Value.a7 m c
  h8 : Cert.LruSRefIdeal.Value.A8 V = Cert.LruSIdeal.Value.a8 m c
  h9 : Cert.LruSRefIdeal.Value.A9 V = Cert.LruSIdeal.Value.a9 m c
  h10 : Cert.LruSRefIdeal.Value.A10 V = Cert.LruSIdeal.Value.a10 m c
  h11 : Cert.LruSRefIdeal.Value.A11 V = Cert.LruSIdeal.Value.a11 m c

variable {m V c} (h : Agree m V c)
include h

theorem U_eq (t : Fin 4) (b : Fin 128) : Cert.LruSRefIdeal.Value.U V t b = Cert.LruSIdeal.Value.cv m c t b := by
  funext q
  unfold Cert.LruSRefIdeal.Value.U Cert.LruSRefIdeal.Value.xs Cert.LruSIdeal.Value.cv
  rw [h.h0, h.h2, h.h4, h.h5]
  try rfl

theorem N_eq (t : Fin 4) (b : Fin 128) : Cert.LruSRefIdeal.Value.N V t b = Cert.LruSIdeal.Value.nt m c t b := by
  funext s q
  unfold Cert.LruSRefIdeal.Value.N Cert.LruSIdeal.Value.nt
  rw [U_eq h, h.h6, h.h7, h.h8, h.h9, h.h10]
  try rfl

theorem H1_eq (b : Fin 128) : Cert.LruSRefIdeal.Value.H1 V b = Cert.LruSIdeal.Value.G1 m c b := by
  unfold Cert.LruSRefIdeal.Value.H1 Cert.LruSIdeal.Value.G1
  rw [N_eq h, h.h3]
  try rfl

theorem H2_eq (b : Fin 128) : Cert.LruSRefIdeal.Value.H2 V b = Cert.LruSIdeal.Value.G2 m c b := by
  unfold Cert.LruSRefIdeal.Value.H2 Cert.LruSIdeal.Value.G2
  rw [N_eq h, H1_eq h]

theorem H3_eq (b : Fin 128) : Cert.LruSRefIdeal.Value.H3 V b = Cert.LruSIdeal.Value.G3 m c b := by
  unfold Cert.LruSRefIdeal.Value.H3 Cert.LruSIdeal.Value.G3
  rw [N_eq h, H2_eq h]

theorem H4_eq (b : Fin 128) : Cert.LruSRefIdeal.Value.H4 V b = Cert.LruSIdeal.Value.G4 m c b := by
  unfold Cert.LruSRefIdeal.Value.H4 Cert.LruSIdeal.Value.G4
  rw [N_eq h, H3_eq h]

theorem HH_eq (t : Fin 4) (b : Fin 128) : Cert.LruSRefIdeal.Value.HH V t b = Cert.LruSIdeal.Value.GG m c t b := by
  unfold Cert.LruSRefIdeal.Value.HH Cert.LruSIdeal.Value.GG
  rw [H1_eq h, H2_eq h, H3_eq h, H4_eq h]

theorem mixed_eq : Cert.LruSRefIdeal.Value.mixed V = Cert.LruSIdeal.Value.res m c Cert.LruSIdeal.main_v51 := by
  funext y
  idx_vars y
  refine (Cert.LruSRefIdeal.Value.v139 V _ _ _).trans (Eq.trans ?_ (Cert.LruSIdeal.Value.v51_at m c _ _ _).symm)
  unfold Cert.LruSIdeal.Value.MX
  rw [HH_eq h, h.h1, h.h11]
  try rfl

theorem last_eq : Cert.LruSRefIdeal.Value.last V = Cert.LruSIdeal.Value.T9 m c := by
  funext y
  idx_vars y
  refine (Cert.LruSRefIdeal.Value.v105 V _ _).trans ?_
  rw [H4_eq h]
  rfl

end agree

theorem algebraic : Cert.algebraic_LruSIdeal_LruSRefIdeal := by
  pair_intro
  · run_from Cert.LruSIdeal.Value.run m g
  · run_from Cert.LruSRefIdeal.Value.run m' g'
    all_goals have h : Agree m (StableHlo.launchContents m' c) c := match hagree c with | ⟨g0, g1, g2, g3, g4, g5, g6, g7, g8, g9, g10, g11⟩ => ⟨g0, g1, g2, g3, g4, g5, g6, g7, g8, g9, g10, g11⟩
    · rw [← (hagree c).2.2.2.2.2.2.2.2.2.2.2]
      exact mixed_eq h
    · exact last_eq h

end Cert.LruSClaim

end
-- ==== Proof.lean ====
module

public import proofs.«01_k».proof.Defs
public import proofs.«01_k».proof.Proof.Gen.Finish
public import proofs.«01_k».proof.Proof.Gen.FinishIdeal
public import proofs.«01_k».proof.Proof.Gen.FinishRefIdeal
public import proofs.«01_k».proof.Proof.Gen.Finish.Frame
public import proofs.«01_k».proof.Proof.Gen.FinishIdeal.Value
public import proofs.«01_k».proof.Proof.Gen.FinishRefIdeal.Run
public import proofs.«01_k».proof.Proof.Gen.FinishS
public import proofs.«01_k».proof.Proof.Gen.FinishSIdeal
public import proofs.«01_k».proof.Proof.Gen.FinishSRefIdeal
public import proofs.«01_k».proof.Proof.Gen.FinishS.Frame
public import proofs.«01_k».proof.Proof.Gen.FinishSIdeal.Value
public import proofs.«01_k».proof.Proof.Gen.FinishSRefIdeal.Run
public import proofs.«01_k».proof.Proof.Gen.Proj
public import proofs.«01_k».proof.Proof.Gen.ProjIdeal
public import proofs.«01_k».proof.Proof.Gen.ProjRefIdeal
public import proofs.«01_k».proof.Proof.Gen.Proj.Frame
public import proofs.«01_k».proof.Proof.Gen.ProjIdeal.Frame
public import proofs.«01_k».proof.Proof.Gen.ProjRefIdeal.Run
public import proofs.«01_k».proof.Proof.Gen.ProjS
public import proofs.«01_k».proof.Proof.Gen.ProjSIdeal
public import proofs.«01_k».proof.Proof.Gen.ProjSRefIdeal
public import proofs.«01_k».proof.Proof.Gen.ProjS.Frame
public import proofs.«01_k».proof.Proof.Gen.ProjSIdeal.Frame
public import proofs.«01_k».proof.Proof.Gen.ProjSRefIdeal.Run
public import proofs.«01_k».proof.Proof.Gen.LruS
public import proofs.«01_k».proof.Proof.Gen.LruSIdeal
public import proofs.«01_k».proof.Proof.Gen.LruSRefIdeal
public import proofs.«01_k».proof.Proof.Gen.LruS.Frame
public import proofs.«01_k».proof.Proof.Gen.LruSIdeal.Frame
public import proofs.«01_k».proof.Proof.Gen.LruSRefIdeal.Run
public import proofs.«01_k».proof.Proof.FinishClaim
public import proofs.«01_k».proof.Proof.FinishSClaim
public import proofs.«01_k».proof.Proof.ProjClaim
public import proofs.«01_k».proof.Proof.ProjSClaim
public import proofs.«01_k».proof.Proof.LruSClaim
public import Idealize.ShloMosaic.Lib.Claim
public import Idealize.ShloMosaic.Adequacy
public import Idealize.ShloMosaic.Init

/-!
The certificate: each program's run, and for each kernel the equality of its results with its reference's.
-/

@[expose] public section

noncomputable section

namespace Cert.Proof

open Idealize.ShloMosaic Idealize.SL.Sem

theorem claim : Cert.Claim :=
  ⟨Cert.Finish.Gen.facts,
   Cert.FinishIdeal.Gen.facts,
   Cert.FinishRefIdeal.Gen.facts,
   Cert.FinishS.Gen.facts,
   Cert.FinishSIdeal.Gen.facts,
   Cert.FinishSRefIdeal.Gen.facts,
   Cert.Proj.Gen.facts,
   Cert.ProjIdeal.Gen.facts,
   Cert.ProjRefIdeal.Gen.facts,
   Cert.ProjS.Gen.facts,
   Cert.ProjSIdeal.Gen.facts,
   Cert.ProjSRefIdeal.Gen.facts,
   Cert.LruS.Gen.facts,
   Cert.LruSIdeal.Gen.facts,
   Cert.LruSRefIdeal.Gen.facts,
   Cert.FinishClaim.frame,
   Cert.FinishClaim.frameIdeal,
   Cert.FinishClaim.frameRef,
   Cert.FinishSClaim.frame,
   Cert.FinishSClaim.frameIdeal,
   Cert.FinishSClaim.frameRef,
   Cert.ProjClaim.frame,
   Cert.ProjClaim.frameIdeal,
   Cert.ProjClaim.frameRef,
   Cert.ProjSClaim.frame,
   Cert.ProjSClaim.frameIdeal,
   Cert.ProjSClaim.frameRef,
   Cert.LruSClaim.frame,
   Cert.LruSClaim.frameIdeal,
   Cert.LruSClaim.frameRef,
   trivial,
   Cert.FinishClaim.algebraic,
   trivial,
   Cert.FinishSClaim.algebraic,
   trivial,
   Cert.ProjClaim.algebraic,
   trivial,
   Cert.ProjSClaim.algebraic,
   trivial,
   Cert.LruSClaim.algebraic⟩

end Cert.Proof

end
